-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_decay [hPre_finite_decay : Cert.Pre_finite_decay.Facts] (m : (ℓ : Loc Cert.KernelIdeal.nD Cert.KernelIdeal.τ Cert.KernelIdeal.sig) → Buf (Elt Ideal) ℓ) : Prop :=
  ∀ c : Dev Cert.KernelIdeal.nD,
    (Cert.Pre_finite_decay.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_decay [hPre_finite_decay : Cert.Pre_finite_decay.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_decay.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite_product [hPre_finite_product : Cert.Pre_finite_product.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite_product.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite_product [hPre_finite_product : Cert.Pre_finite_product.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite_product.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_decay [hKernelIdeal : Cert.KernelIdeal.Facts] [hPre_finite_decay : Cert.Pre_finite_decay.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_decay m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_decay [hReferenceIdeal : Cert.ReferenceIdeal.Facts] [hPre_finite_decay : Cert.Pre_finite_decay.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_decay m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Kernel23Ideal_pre_finite_product [hKernel23Ideal : Cert.Kernel23Ideal.Facts] [hPre_finite_product : Cert.Pre_finite_product.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite_product m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Reference23Ideal_pre_finite_product [hReference23Ideal : Cert.Reference23Ideal.Facts] [hPre_finite_product : Cert.Pre_finite_product.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite_product m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def preserves_Kernel_KernelIdeal : Prop :=
  True

def algebraic_KernelIdeal_ReferenceIdeal_pre_finite_decay [hKernelIdeal : Cert.KernelIdeal.Facts] [hReferenceIdeal : Cert.ReferenceIdeal.Facts] [hPre_finite_decay : Cert.Pre_finite_decay.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_decay m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v7)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)) (v3 : (c : Dev Cert.Kernel14Ideal.nD) → Buf (Elt Ideal) ((c.tc : Thread Cert.Kernel14Ideal.nD Cert.Kernel14Ideal.τ).loc Cert.Kernel14Ideal.main_v3_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_v3_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v28) = v0 c
          ∧ r.2.mem ((c.tc : Thread Cert.Reference14Ideal.nD Cert.Reference14Ideal.τ).loc Cert.Reference14Ideal.main_v29) = v1 c
          ∧ r.2.mem ((c.tc : Thread Cert.Reference14Ideal.nD Cert.Reference14Ideal.τ).loc Cert.Reference14Ideal.main_v30) = v2 c
          ∧ r.2.mem ((c.tc : Thread Cert.Reference14Ideal.nD Cert.Reference14Ideal.τ).loc Cert.Reference14Ideal.main_v31) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)) (v2 : (c : Dev Cert.Kernel15Ideal.nD) → Buf (Elt Ideal) ((c.tc : Thread Cert.Kernel15Ideal.nD Cert.Kernel15Ideal.τ).loc Cert.Kernel15Ideal.main_v3_2)) (v3 : (c : Dev Cert.Kernel15Ideal.nD) → Buf (Elt Ideal) ((c.tc : Thread Cert.Kernel15Ideal.nD Cert.Kernel15Ideal.τ).loc Cert.Kernel15Ideal.main_v3_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_v3_2) = v2 c
          ∧ r.2.mem ((c.tc : Thread Cert.Kernel15Ideal.nD Cert.Kernel15Ideal.τ).loc Cert.Kernel15Ideal.main_v3_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v28) = v0 c
          ∧ r.2.mem ((c.tc : Thread Cert.Reference15Ideal.nD Cert.Reference15Ideal.τ).loc Cert.Reference15Ideal.main_v29) = v1 c
          ∧ r.2.mem ((c.tc : Thread Cert.Reference15Ideal.nD Cert.Reference15Ideal.τ).loc Cert.Reference15Ideal.main_v30) = v2 c
          ∧ r.2.mem ((c.tc : Thread Cert.Reference15Ideal.nD Cert.Reference15Ideal.τ).loc Cert.Reference15Ideal.main_v31) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)) (v3 : (c : Dev Cert.Kernel16Ideal.nD) → Buf (Elt Ideal) ((c.tc : Thread Cert.Kernel16Ideal.nD Cert.Kernel16Ideal.τ).loc Cert.Kernel16Ideal.main_v4_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_v4_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v26) = v0 c
          ∧ r.2.mem ((c.tc : Thread Cert.Reference16Ideal.nD Cert.Reference16Ideal.τ).loc Cert.Reference16Ideal.main_v27) = v1 c
          ∧ r.2.mem ((c.tc : Thread Cert.Reference16Ideal.nD Cert.Reference16Ideal.τ).loc Cert.Reference16Ideal.main_v28) = v2 c
          ∧ r.2.mem ((c.tc : Thread Cert.Reference16Ideal.nD Cert.Reference16Ideal.τ).loc Cert.Reference16Ideal.main_v29) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)) (v3 : (c : Dev Cert.Kernel17Ideal.nD) → Buf (Elt Ideal) ((c.tc : Thread Cert.Kernel17Ideal.nD Cert.Kernel17Ideal.τ).loc Cert.Kernel17Ideal.main_v4_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_v4_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v26) = v0 c
          ∧ r.2.mem ((c.tc : Thread Cert.Reference17Ideal.nD Cert.Reference17Ideal.τ).loc Cert.Reference17Ideal.main_v27) = v1 c
          ∧ r.2.mem ((c.tc : Thread Cert.Reference17Ideal.nD Cert.Reference17Ideal.τ).loc Cert.Reference17Ideal.main_v28) = v2 c
          ∧ r.2.mem ((c.tc : Thread Cert.Reference17Ideal.nD Cert.Reference17Ideal.τ).loc Cert.Reference17Ideal.main_v29) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)) (v3 : (c : Dev Cert.Kernel18Ideal.nD) → Buf (Elt Ideal) ((c.tc : Thread Cert.Kernel18Ideal.nD Cert.Kernel18Ideal.τ).loc Cert.Kernel18Ideal.main_v4_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_v4_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v26) = v0 c
          ∧ r.2.mem ((c.tc : Thread Cert.Reference18Ideal.nD Cert.Reference18Ideal.τ).loc Cert.Reference18Ideal.main_v27) = v1 c
          ∧ r.2.mem ((c.tc : Thread Cert.Reference18Ideal.nD Cert.Reference18Ideal.τ).loc Cert.Reference18Ideal.main_v28) = v2 c
          ∧ r.2.mem ((c.tc : Thread Cert.Reference18Ideal.nD Cert.Reference18Ideal.τ).loc Cert.Reference18Ideal.main_v29) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)) (v2 : (c : Dev Cert.Kernel19Ideal.nD) → Buf (Elt Ideal) ((c.tc : Thread Cert.Kernel19Ideal.nD Cert.Kernel19Ideal.τ).loc Cert.Kernel19Ideal.main_v3_2)) (v3 : (c : Dev Cert.Kernel19Ideal.nD) → Buf (Elt Ideal) ((c.tc : Thread Cert.Kernel19Ideal.nD Cert.Kernel19Ideal.τ).loc Cert.Kernel19Ideal.main_v3_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_v3_2) = v2 c
          ∧ r.2.mem ((c.tc : Thread Cert.Kernel19Ideal.nD Cert.Kernel19Ideal.τ).loc Cert.Kernel19Ideal.main_v3_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v26) = v0 c
          ∧ r.2.mem ((c.tc : Thread Cert.Reference19Ideal.nD Cert.Reference19Ideal.τ).loc Cert.Reference19Ideal.main_v27) = v1 c
          ∧ r.2.mem ((c.tc : Thread Cert.Reference19Ideal.nD Cert.Reference19Ideal.τ).loc Cert.Reference19Ideal.main_v28) = v2 c
          ∧ r.2.mem ((c.tc : Thread Cert.Reference19Ideal.nD Cert.Reference19Ideal.τ).loc Cert.Reference19Ideal.main_v29) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v2) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v16) = v0 c
          ∧ r.2.mem ((c.tc : Thread Cert.Reference21Ideal.nD Cert.Reference21Ideal.τ).loc Cert.Reference21Ideal.main_v9) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v2) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v36) = v0 c
          ∧ r.2.mem ((c.tc : Thread Cert.Reference22Ideal.nD Cert.Reference22Ideal.τ).loc Cert.Reference22Ideal.main_v21) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal_pre_finite_product [hKernel23Ideal : Cert.Kernel23Ideal.Facts] [hReference23Ideal : Cert.Reference23Ideal.Facts] [hPre_finite_product : Cert.Pre_finite_product.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite_product m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v14) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v8) = v0 c
          ∧ r.2.mem ((c.tc : Thread Cert.Reference24Ideal.nD Cert.Reference24Ideal.τ).loc Cert.Reference24Ideal.main_v9) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v13) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v1_0)) (v1 : (c : Dev Cert.Kernel26Ideal.nD) → Buf (Elt Ideal) ((c.tc : Thread Cert.Kernel26Ideal.nD Cert.Kernel26Ideal.τ).loc Cert.Kernel26Ideal.main_v1_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1_0) = v0 c
          ∧ r.2.mem ((c.tc : Thread Cert.Kernel26Ideal.nD Cert.Kernel26Ideal.τ).loc Cert.Kernel26Ideal.main_v1_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v13) = v0 c
          ∧ r.2.mem ((c.tc : Thread Cert.Reference26Ideal.nD Cert.Reference26Ideal.τ).loc Cert.Reference26Ideal.main_v14) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v8) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v1_0)) (v1 : (c : Dev Cert.Kernel28Ideal.nD) → Buf (Elt Ideal) ((c.tc : Thread Cert.Kernel28Ideal.nD Cert.Kernel28Ideal.τ).loc Cert.Kernel28Ideal.main_v1_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1_0) = v0 c
          ∧ r.2.mem ((c.tc : Thread Cert.Kernel28Ideal.nD Cert.Kernel28Ideal.τ).loc Cert.Kernel28Ideal.main_v1_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v18) = v0 c
          ∧ r.2.mem ((c.tc : Thread Cert.Reference28Ideal.nD Cert.Reference28Ideal.τ).loc Cert.Reference28Ideal.main_v19) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v2_0)) (v1 : (c : Dev Cert.Kernel29Ideal.nD) → Buf (Elt Ideal) ((c.tc : Thread Cert.Kernel29Ideal.nD Cert.Kernel29Ideal.τ).loc Cert.Kernel29Ideal.main_v2_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v2_0) = v0 c
          ∧ r.2.mem ((c.tc : Thread Cert.Kernel29Ideal.nD Cert.Kernel29Ideal.τ).loc Cert.Kernel29Ideal.main_v2_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v7) = v0 c
          ∧ r.2.mem ((c.tc : Thread Cert.Reference29Ideal.nD Cert.Reference29Ideal.τ).loc Cert.Reference29Ideal.main_v15) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)) (v2 : (c : Dev Cert.Kernel30Ideal.nD) → Buf (Elt Ideal) ((c.tc : Thread Cert.Kernel30Ideal.nD Cert.Kernel30Ideal.τ).loc Cert.Kernel30Ideal.main_v1_2)) (v3 : (c : Dev Cert.Kernel30Ideal.nD) → Buf (Elt Ideal) ((c.tc : Thread Cert.Kernel30Ideal.nD Cert.Kernel30Ideal.τ).loc Cert.Kernel30Ideal.main_v1_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_v1_2) = v2 c
          ∧ r.2.mem ((c.tc : Thread Cert.Kernel30Ideal.nD Cert.Kernel30Ideal.τ).loc Cert.Kernel30Ideal.main_v1_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v36) = v0 c
          ∧ r.2.mem ((c.tc : Thread Cert.Reference30Ideal.nD Cert.Reference30Ideal.τ).loc Cert.Reference30Ideal.main_v35) = v1 c
          ∧ r.2.mem ((c.tc : Thread Cert.Reference30Ideal.nD Cert.Reference30Ideal.τ).loc Cert.Reference30Ideal.main_v37) = v2 c
          ∧ r.2.mem ((c.tc : Thread Cert.Reference30Ideal.nD Cert.Reference30Ideal.τ).loc Cert.Reference30Ideal.main_v38) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v15) = v0 c
          ∧ r.2.mem ((c.tc : Thread Cert.Reference31Ideal.nD Cert.Reference31Ideal.τ).loc Cert.Reference31Ideal.main_v12) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v37) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite_decay : Cert.Pre_finite_decay.Facts) (hPre_finite_product : Cert.Pre_finite_product.Facts),
    quiescent_Kernel (hKernel := hKernel)
    ∧ quiescent_KernelIdeal (hKernelIdeal := hKernelIdeal)
    ∧ quiescent_KernelIdeal_pre_finite_decay (hKernelIdeal := hKernelIdeal) (hPre_finite_decay := hPre_finite_decay)
    ∧ quiescent_ReferenceIdeal (hReferenceIdeal := hReferenceIdeal)
    ∧ quiescent_ReferenceIdeal_pre_finite_decay (hReferenceIdeal := hReferenceIdeal) (hPre_finite_decay := hPre_finite_decay)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite_product (hKernel23Ideal := hKernel23Ideal) (hPre_finite_product := hPre_finite_product)
    ∧ quiescent_Reference23Ideal (hReference23Ideal := hReference23Ideal)
    ∧ quiescent_Reference23Ideal_pre_finite_product (hReference23Ideal := hReference23Ideal) (hPre_finite_product := hPre_finite_product)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite_decay (hKernelIdeal := hKernelIdeal) (hReferenceIdeal := hReferenceIdeal) (hPre_finite_decay := hPre_finite_decay)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite_product (hKernel23Ideal := hKernel23Ideal) (hReference23Ideal := hReference23Ideal) (hPre_finite_product := hPre_finite_product)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite_decay.lean ====
abbrev S2304x6144 : Shape := ⟨2, ![2304, 6144]⟩
abbrev S2304x64 : Shape := ⟨2, ![2304, 64]⟩
abbrev S64 : Shape := ⟨1, ![64]⟩
abbrev S9x8x512x128 : Shape := ⟨4, ![9, 8, 512, 128]⟩
abbrev S2304x4096 : Shape := ⟨2, ![2304, 4096]⟩
abbrev S1x64 : Shape := ⟨2, ![1, 64]⟩
abbrev S_ : Shape := ⟨0, ![]⟩

class Facts : Prop where
  bcast_S64_S1x64_1 : S64.BroadcastsInDim S1x64 (![1] : Fin 1 → Fin S1x64.rank)
  bcast_S1x64_S2304x64_0_1 : S1x64.BroadcastsInDim S2304x64 (![0, 1] : Fin 2 → Fin S2304x64.rank)
  bcast_S_S2304x64 : S_.BroadcastsInDim S2304x64 (![] : Fin 0 → Fin S2304x64.rank)
  reducesTo_S2304x64_S_d0_1 : S2304x64.ReducesTo [0, 1] S_
  h_S_ : 0 < S_.numel

variable [Facts]

def fn {F : FTy → Type} [FloatOps F] (main_arg0 : FVec F S2304x6144 .f32) (main_arg1 : FVec F S2304x64 .f32) (main_arg2 : FVec F S64 .f32) (main_arg3 : FVec F S64 .f32) (main_arg4 : FVec F S9x8x512x128 .f32) (main_arg5 : FVec F S2304x4096 .f32) : IVec S_ 1 :=
  let main_v0 : FVec F S1x64 .f32 := broadcastInDim S1x64 ![1] bcast_S64_S1x64_1 main_arg2
  let main_v1 : FVec F S2304x64 .f32 := broadcastInDim S2304x64 ![0, 1] bcast_S1x64_S2304x64_0_1 main_v0
  let main_v2 : FVec F S2304x64 .f32 := mulf main_arg1 main_v1
  let main_v3 : FVec F S2304x64 .f32 := Host.absf main_v2
  let main_cst : FVec F S_ .f32 := constant S_ .f32 0x7F800000#32
  let main_v4 : FVec F S2304x64 .f32 := broadcastInDim S2304x64 ![] bcast_S_S2304x64 main_cst
  let main_v5 : IVec S2304x64 1 := cmpf .olt main_v3 main_v4
  let main_c : IVec S_ 1 := constantI S_ 1 1#1
  let main_v6 : IVec S_ 1 := (fun x v => Host.reduce IntOp.andi x v reducesTo_S2304x64_S_d0_1 h_S_) main_v5 main_c
  main_v6
-- ==== Pre_finite_product.lean ====
abbrev S8x2x2304x704 : Shape := ⟨4, ![8, 2, 2304, 704]⟩
abbrev S8x2304x704 : Shape := ⟨3, ![8, 2304, 704]⟩
abbrev S8x1x2304x704 : Shape := ⟨4, ![8, 1, 2304, 704]⟩
abbrev S_ : Shape := ⟨0, ![]⟩

class Facts : Prop where
  slices_S8x2x2304x704_S8x1x2304x704_0_1_0_0 : S8x2x2304x704.Slices ![0, 1, 0, 0] S8x1x2304x704
  shapeCasts_S8x1x2304x704_S8x2304x704 : S8x1x2304x704.ShapeCasts S8x2304x704
  bitsLt_bf16_f32 : FTy.bits .bf16 < FTy.bits .f32
  bcast_S_S8x2304x704 : S_.BroadcastsInDim S8x2304x704 (![] : Fin 0 → Fin S8x2304x704.rank)
  reducesTo_S8x2304x704_S_d0_1_2 : S8x2304x704.ReducesTo [0, 1, 2] S_
  h_S_ : 0 < S_.numel

variable [Facts]

def fn {F : FTy → Type} [FloatOps F] (main_arg0 : FVec F S8x2x2304x704 .bf16) (main_arg1 : FVec F S8x2304x704 .f32) : IVec S_ 1 :=
  let main_v0 : FVec F S8x1x2304x704 .bf16 := (extractStridedSlice S8x1x2304x704 ![0, 1, 0, 0] · slices_S8x2x2304x704_S8x1x2304x704_0_1_0_0) main_arg0
  let main_v1 : FVec F S8x2304x704 .bf16 := shapeCast S8x2304x704 main_v0 shapeCasts_S8x1x2304x704_S8x2304x704
  let main_v2 : FVec F S8x2304x704 .f32 := (extf .f32 · bitsLt_bf16_f32) main_v1
  let main_v3 : FVec F S8x2304x704 .f32 := mulf main_arg1 main_v2
  let main_v4 : FVec F S8x2304x704 .f32 := Host.absf main_v3
  let main_cst : FVec F S_ .f32 := constant S_ .f32 0x7F800000#32
  let main_v5 : FVec F S8x2304x704 .f32 := broadcastInDim S8x2304x704 ![] bcast_S_S8x2304x704 main_cst
  let main_v6 : IVec S8x2304x704 1 := cmpf .olt main_v4 main_v5
  let main_c : IVec S_ 1 := constantI S_ 1 1#1
  let main_v7 : IVec S_ 1 := (fun x v => Host.reduce IntOp.andi x v reducesTo_S8x2304x704_S_d0_1_2 h_S_) main_v6 main_c
  main_v7
-- ==== Kernel.lean ====
abbrev S2304x6144 : Shape := ⟨2, ![2304, 6144]⟩
abbrev S2304x64 : Shape := ⟨2, ![2304, 64]⟩
abbrev S64 : Shape := ⟨1, ![64]⟩
abbrev S9x8x512x128 : Shape := ⟨4, ![9, 8, 512, 128]⟩
abbrev S2304x4096 : Shape := ⟨2, ![2304, 4096]⟩
abbrev S2304x8x8 : Shape := ⟨3, ![2304, 8, 8]⟩
abbrev S8x2304x8 : Shape := ⟨3, ![8, 2304, 8]⟩
abbrev S_ : Shape := ⟨0, ![]⟩
abbrev S8x2304x128 : Shape := ⟨3, ![8, 2304, 128]⟩
abbrev S8x8x2304 : Shape := ⟨3, ![8, 8, 2304]⟩
abbrev S8x8 : Shape := ⟨2, ![8, 8]⟩
abbrev S8x128 : Shape := ⟨2, ![8, 128]⟩
abbrev S8x1x128 : Shape := ⟨3, ![8, 1, 128]⟩
abbrev S8x8x1 : Shape := ⟨3, ![8, 8, 1]⟩
abbrev S2304x1024 : Shape := ⟨2, ![2304, 1024]⟩
abbrev S256x512 : Shape := ⟨2, ![256, 512]⟩
abbrev S256x128 : Shape := ⟨2, ![256, 128]⟩
abbrev S1x256x128 : Shape := ⟨3, ![1, 256, 128]⟩
abbrev S1x8x256 : Shape := ⟨3, ![1, 8, 256]⟩
abbrev S1x1x128 : Shape := ⟨3, ![1, 1, 128]⟩
abbrev S1x8x1 : Shape := ⟨3, ![1, 8, 1]⟩
abbrev S1x1x512x128 : Shape := ⟨4, ![1, 1, 512, 128]⟩
abbrev S512x128 : Shape := ⟨2, ![512, 128]⟩
abbrev S1x128 : Shape := ⟨2, ![1, 128]⟩
abbrev S8x1 : Shape := ⟨2, ![8, 1]⟩
abbrev S256x256 : Shape := ⟨2, ![256, 256]⟩
abbrev S8x256 : Shape := ⟨2, ![8, 256]⟩
abbrev S128 : Shape := ⟨1, ![128]⟩
abbrev S128x1 : Shape := ⟨2, ![128, 1]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S1x1x128x128 : Shape := ⟨4, ![1, 1, 128, 128]⟩
abbrev S128x128 : Shape := ⟨2, ![128, 128]⟩
abbrev S8 : Shape := ⟨1, ![8]⟩

abbrev nBuf : Space → Nat
  | .hbm => 41
  | .vmem => 37
  | .smem => 0
  | _ => 0

abbrev bufTy : (tb : Table) → Fin (tcTables nBuf tb) → BufTy
  | .hbm, ⟨0, _⟩ => ⟨S2304x6144, .f32⟩
  | .hbm, ⟨1, _⟩ => ⟨S2304x64, .f32⟩
  | .hbm, ⟨2, _⟩ => ⟨S64, .f32⟩
  | .hbm, ⟨3, _⟩ => ⟨S64, .f32⟩
  | .hbm, ⟨4, _⟩ => ⟨S9x8x512x128, .f32⟩
  | .hbm, ⟨5, _⟩ => ⟨S2304x4096, .f32⟩
  | .hbm, ⟨6, _⟩ => ⟨S2304x8x8, .f32⟩
  | .hbm, ⟨7, _⟩ => ⟨S8x2304x8, .f32⟩
  | .hbm, ⟨8, _⟩ => ⟨S_, .i32⟩
  | .hbm, ⟨9, _⟩ => ⟨S_, .f32⟩
  | .hbm, ⟨10, _⟩ => ⟨S8x2304x128, .f32⟩
  | .hbm, ⟨11, _⟩ => ⟨S8x8x2304, .f32⟩
  | .hbm, ⟨12, _⟩ => ⟨S_, .i32⟩
  | .hbm, ⟨13, _⟩ => ⟨S_, .f32⟩
  | .hbm, ⟨14, _⟩ => ⟨S8x8x2304, .f32⟩
  | .hbm, ⟨15, _⟩ => ⟨S8x8, .f32⟩
  | .hbm, ⟨16, _⟩ => ⟨S_, .i32⟩
  | .hbm, ⟨17, _⟩ => ⟨S_, .f32⟩
  | .hbm, ⟨18, _⟩ => ⟨S8x128, .f32⟩
  | .hbm, ⟨19, _⟩ => ⟨S8x1x128, .f32⟩
  | .hbm, ⟨20, _⟩ => ⟨S_, .i32⟩
  | .hbm, ⟨21, _⟩ => ⟨S_, .f32⟩
  | .hbm, ⟨22, _⟩ => ⟨S8x8, .f32⟩
  | .hbm, ⟨23, _⟩ => ⟨S8x8x1, .f32⟩
  | .hbm, ⟨24, _⟩ => ⟨S8x8, .f32⟩
  | .hbm, ⟨25, _⟩ => ⟨S_, .i32⟩
  | .hbm, ⟨26, _⟩ => ⟨S_, .f32⟩
  | .hbm, ⟨27, _⟩ => ⟨S8x128, .f32⟩
  | .hbm, ⟨28, _⟩ => ⟨S8x1x128, .f32⟩
  | .hbm, ⟨29, _⟩ => ⟨S_, .i32⟩
  | .hbm, ⟨30, _⟩ => ⟨S_, .f32⟩
  | .hbm, ⟨31, _⟩ => ⟨S8x8, .f32⟩
  | .hbm, ⟨32, _⟩ => ⟨S8x8x1, .f32⟩
  | .hbm, ⟨33, _⟩ => ⟨S2304x4096, .f32⟩
  | .hbm, ⟨34, _⟩ => ⟨S2304x1024, .f32⟩
  | .hbm, ⟨35, _⟩ => ⟨S2304x1024, .f32⟩
  | .hbm, ⟨36, _⟩ => ⟨S8x2304x128, .f32⟩
  | .hbm, ⟨37, _⟩ => ⟨S8x8x2304, .f32⟩
  | .hbm, ⟨38, _⟩ => ⟨S8x1x128, .f32⟩
  | .hbm, ⟨39, _⟩ => ⟨S8x8x1, .f32⟩
  | .hbm, ⟨40, _⟩ => ⟨S8x1x128, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x256x128, .f32⟩
  | .local _ .vmem, ⟨7, _⟩ => ⟨S1x256x128, .f32⟩
  | .local _ .vmem, ⟨8, _⟩ => ⟨S1x8x256, .f32⟩
  | .local _ .vmem, ⟨9, _⟩ => ⟨S1x8x256, .f32⟩
  | .local _ .vmem, ⟨10, _⟩ => ⟨S1x1x128, .f32⟩
  | .local _ .vmem, ⟨11, _⟩ => ⟨S1x1x128, .f32⟩
  | .local _ .vmem, ⟨12, _⟩ => ⟨S1x8x1, .f32⟩
  | .local _ .vmem, ⟨13, _⟩ => ⟨S1x8x1, .f32⟩
  | .local _ .vmem, ⟨14, _⟩ => ⟨S1x1x128, .f32⟩
  | .local _ .vmem, ⟨15, _⟩ => ⟨S1x1x128, .f32⟩
  | .local _ .vmem, ⟨16, _⟩ => ⟨S1x1x512x128, .f32⟩
  | .local _ .vmem, ⟨17, _⟩ => ⟨S1x1x512x128, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S1x256x128, .f32⟩
  | .local _ .vmem, ⟨27, _⟩ => ⟨S1x256x128, .f32⟩
  | .local _ .vmem, ⟨28, _⟩ => ⟨S1x8x256, .f32⟩
  | .local _ .vmem, ⟨29, _⟩ => ⟨S1x8x256, .f32⟩
  | .local _ .vmem, ⟨30, _⟩ => ⟨S1x1x128, .f32⟩
  | .local _ .vmem, ⟨31, _⟩ => ⟨S1x1x128, .f32⟩
  | .local _ .vmem, ⟨32, _⟩ => ⟨S1x8x1, .f32⟩
  | .local _ .vmem, ⟨33, _⟩ => ⟨S1x8x1, .f32⟩
  | .local _ .vmem, ⟨34, _⟩ => ⟨S1x1x128, .f32⟩
  | .local _ .vmem, ⟨35, _⟩ => ⟨S1x1x128, .f32⟩
  | .local _ .vmem, ⟨36, _⟩ => ⟨S512x128, .f32⟩
  | _, _ => ⟨S2304x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_call3_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_call4_v0 : Ref sig .tc := ⟨.hbm, 26, rfl⟩
abbrev main_v11 : Ref sig .tc := ⟨.hbm, 27, rfl⟩
abbrev main_v12 : Ref sig .tc := ⟨.hbm, 28, rfl⟩
abbrev main_c_4 : Ref sig .tc := ⟨.hbm, 29, rfl⟩
abbrev main_call5_v0 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v15_2 : Ref sig .tc := ⟨.hbm, 35, rfl⟩
abbrev main_v15_3 : Ref sig .tc := ⟨.hbm, 36, rfl⟩
abbrev main_v15_4 : Ref sig .tc := ⟨.hbm, 37, rfl⟩
abbrev main_v15_5 : Ref sig .tc := ⟨.hbm, 38, rfl⟩
abbrev main_v15_6 : Ref sig .tc := ⟨.hbm, 39, rfl⟩
abbrev main_v15_7 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c32_i32 : BitVec 32 := 32#32
  let v1 : BitVec 32 := Scalar.addi c32_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c40_i32 : BitVec 32 := 40#32
  let v1 : BitVec 32 := Scalar.addi c40_i32 arg0
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  ![v0.toNat, arg0.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  let c0_i32_0 : BitVec 32 := 0#32
  ![arg0.toNat, v0.toNat, c0_i32.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  let c0_i32_0 : BitVec 32 := 0#32
  ![arg0.toNat, c0_i32.toNat, v0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== ReferenceIdeal.lean ====
abbrev S2304x6144 : Shape := ⟨2, ![2304, 6144]⟩
abbrev S2304x64 : Shape := ⟨2, ![2304, 64]⟩
abbrev S64 : Shape := ⟨1, ![64]⟩
abbrev S9x8x512x128 : Shape := ⟨4, ![9, 8, 512, 128]⟩
abbrev S2304x4096 : Shape := ⟨2, ![2304, 4096]⟩
abbrev S2304x1024 : Shape := ⟨2, ![2304, 1024]⟩
abbrev S2304x64x64 : Shape := ⟨3, ![2304, 64, 64]⟩
abbrev S2304x8x128 : Shape := ⟨3, ![2304, 8, 128]⟩
abbrev S2304x64x1 : Shape := ⟨3, ![2304, 64, 1]⟩
abbrev S9x256x8x8x64 : Shape := ⟨5, ![9, 256, 8, 8, 64]⟩
abbrev S1x64 : Shape := ⟨2, ![1, 64]⟩
abbrev S9x256x8x8 : Shape := ⟨4, ![9, 256, 8, 8]⟩
abbrev S9x8x8x256 : Shape := ⟨4, ![9, 8, 8, 256]⟩
abbrev S_ : Shape := ⟨0, ![]⟩
abbrev S9x256x8x128 : Shape := ⟨4, ![9, 256, 8, 128]⟩
abbrev S256x256 : Shape := ⟨2, ![256, 256]⟩
abbrev S9x8x8x256x1 : Shape := ⟨5, ![9, 8, 8, 256, 1]⟩
abbrev S9x8x8x1x256 : Shape := ⟨5, ![9, 8, 8, 1, 256]⟩
abbrev S9x8x8x256x256 : Shape := ⟨5, ![9, 8, 8, 256, 256]⟩
abbrev S9x8x256x256 : Shape := ⟨4, ![9, 8, 256, 256]⟩
abbrev S9x8x1x256x256 : Shape := ⟨5, ![9, 8, 1, 256, 256]⟩
abbrev S9x8x8x64x256 : Shape := ⟨5, ![9, 8, 8, 64, 256]⟩
abbrev S9x8x8x64x128 : Shape := ⟨5, ![9, 8, 8, 64, 128]⟩
abbrev S9x256x8x8x1 : Shape := ⟨5, ![9, 256, 8, 8, 1]⟩
abbrev S64x1 : Shape := ⟨2, ![64, 1]⟩
abbrev S1x64x1 : Shape := ⟨3, ![1, 64, 1]⟩
abbrev S9x8x256x128 : Shape := ⟨4, ![9, 8, 256, 128]⟩

abbrev nBuf : Space → Nat
  | .hbm => 90
  | .vmem => 0
  | .smem => 0
  | _ => 0

abbrev bufTy : (tb : Table) → Fin (tcTables nBuf tb) → BufTy
  | .hbm, ⟨0, _⟩ => ⟨S2304x6144, .f32⟩
  | .hbm, ⟨1, _⟩ => ⟨S2304x64, .f32⟩
  | .hbm, ⟨2, _⟩ => ⟨S64, .f32⟩
  | .hbm, ⟨3, _⟩ => ⟨S64, .f32⟩
  | .hbm, ⟨4, _⟩ => ⟨S9x8x512x128, .f32⟩
  | .hbm, ⟨5, _⟩ => ⟨S2304x4096, .f32⟩
  | .hbm, ⟨6, _⟩ => ⟨S2304x4096, .f32⟩
  | .hbm, ⟨7, _⟩ => ⟨S2304x1024, .f32⟩
  | .hbm, ⟨8, _⟩ => ⟨S2304x1024, .f32⟩
  | .hbm, ⟨9, _⟩ => ⟨S2304x64x64, .f32⟩
  | .hbm, ⟨10, _⟩ => ⟨S2304x8x128, .f32⟩
  | .hbm, ⟨11, _⟩ => ⟨S2304x8x128, .f32⟩
  | .hbm, ⟨12, _⟩ => ⟨S2304x64x1, .f32⟩
  | .hbm, ⟨13, _⟩ => ⟨S2304x64x64, .f32⟩
  | .hbm, ⟨14, _⟩ => ⟨S2304x64x64, .f32⟩
  | .hbm, ⟨15, _⟩ => ⟨S9x256x8x8x64, .f32⟩
  | .hbm, ⟨16, _⟩ => ⟨S1x64, .f32⟩
  | .hbm, ⟨17, _⟩ => ⟨S2304x64, .f32⟩
  | .hbm, ⟨18, _⟩ => ⟨S2304x64, .f32⟩
  | .hbm, ⟨19, _⟩ => ⟨S9x256x8x8, .f32⟩
  | .hbm, ⟨20, _⟩ => ⟨S9x8x8x256, .f32⟩
  | .hbm, ⟨21, _⟩ => ⟨S_, .f32⟩
  | .hbm, ⟨22, _⟩ => ⟨S_, .f32⟩
  | .hbm, ⟨23, _⟩ => ⟨S9x8x8x256, .f32⟩
  | .hbm, ⟨24, _⟩ => ⟨S9x256x8x128, .f32⟩
  | .hbm, ⟨25, _⟩ => ⟨S9x256x8x128, .f32⟩
  | .hbm, ⟨26, _⟩ => ⟨S_, .i1⟩
  | .hbm, ⟨27, _⟩ => ⟨S256x256, .i1⟩
  | .hbm, ⟨28, _⟩ => ⟨S256x256, .i32⟩
  | .hbm, ⟨29, _⟩ => ⟨S_, .i32⟩
  | .hbm, ⟨30, _⟩ => ⟨S256x256, .i32⟩
  | .hbm, ⟨31, _⟩ => ⟨S256x256, .i32⟩
  | .hbm, ⟨32, _⟩ => ⟨S256x256, .i32⟩
  | .hbm, ⟨33, _⟩ => ⟨S256x256, .i1⟩
  | .hbm, ⟨34, _⟩ => ⟨S_, .i1⟩
  | .hbm, ⟨35, _⟩ => ⟨S256x256, .i1⟩
  | .hbm, ⟨36, _⟩ => ⟨S256x256, .i1⟩
  | .hbm, ⟨37, _⟩ => ⟨S9x8x8x256x1, .f32⟩
  | .hbm, ⟨38, _⟩ => ⟨S9x8x8x1x256, .f32⟩
  | .hbm, ⟨39, _⟩ => ⟨S9x8x8x256x256, .f32⟩
  | .hbm, ⟨40, _⟩ => ⟨S9x8x8x256x256, .f32⟩
  | .hbm, ⟨41, _⟩ => ⟨S9x8x8x256x256, .f32⟩
  | .hbm, ⟨42, _⟩ => ⟨S_, .f32⟩
  | .hbm, ⟨43, _⟩ => ⟨S_, .f32⟩
  | .hbm, ⟨44, _⟩ => ⟨S9x8x8x256x256, .i1⟩
  | .hbm, ⟨45, _⟩ => ⟨S9x8x8x256x256, .f32⟩
  | .hbm, ⟨46, _⟩ => ⟨S9x8x8x256x256, .f32⟩
  | .hbm, ⟨47, _⟩ => ⟨S9x8x8x256x256, .f32⟩
  | .hbm, ⟨48, _⟩ => ⟨S9x8x256x256, .f32⟩
  | .hbm, ⟨49, _⟩ => ⟨S9x8x1x256x256, .f32⟩
  | .hbm, ⟨50, _⟩ => ⟨S9x8x8x256x256, .f32⟩
  | .hbm, ⟨51, _⟩ => ⟨S9x8x8x256x256, .f32⟩
  | .hbm, ⟨52, _⟩ => ⟨S9x8x8x64x256, .f32⟩
  | .hbm, ⟨53, _⟩ => ⟨S9x256x8x8x64, .f32⟩
  | .hbm, ⟨54, _⟩ => ⟨S9x8x8x64x128, .f32⟩
  | .hbm, ⟨55, _⟩ => ⟨S9x8x8x64x256, .f32⟩
  | .hbm, ⟨56, _⟩ => ⟨S9x256x8x8x64, .f32⟩
  | .hbm, ⟨57, _⟩ => ⟨S9x8x8x256, .f32⟩
  | .hbm, ⟨58, _⟩ => ⟨S9x256x8x8, .f32⟩
  | .hbm, ⟨59, _⟩ => ⟨S9x256x8x8x1, .f32⟩
  | .hbm, ⟨60, _⟩ => ⟨S9x256x8x8x64, .f32⟩
  | .hbm, ⟨61, _⟩ => ⟨S9x256x8x8x64, .f32⟩
  | .hbm, ⟨62, _⟩ => ⟨S9x256x8x8x64, .f32⟩
  | .hbm, ⟨63, _⟩ => ⟨S2304x64x64, .f32⟩
  | .hbm, ⟨64, _⟩ => ⟨S64x1, .f32⟩
  | .hbm, ⟨65, _⟩ => ⟨S1x64x1, .f32⟩
  | .hbm, ⟨66, _⟩ => ⟨S2304x64x64, .f32⟩
  | .hbm, ⟨67, _⟩ => ⟨S2304x64x64, .f32⟩
  | .hbm, ⟨68, _⟩ => ⟨S2304x64x64, .f32⟩
  | .hbm, ⟨69, _⟩ => ⟨S2304x4096, .f32⟩
  | .hbm, ⟨70, _⟩ => ⟨S2304x64x64, .f32⟩
  | .hbm, ⟨71, _⟩ => ⟨S9x256x8x8x64, .f32⟩
  | .hbm, ⟨72, _⟩ => ⟨S9x256x8x8x64, .f32⟩
  | .hbm, ⟨73, _⟩ => ⟨S9x256x8x8x64, .f32⟩
  | .hbm, ⟨74, _⟩ => ⟨S9x8x8x64x256, .f32⟩
  | .hbm, ⟨75, _⟩ => ⟨S9x8x256x128, .f32⟩
  | .hbm, ⟨76, _⟩ => ⟨S9x256x8x128, .f32⟩
  | .hbm, ⟨77, _⟩ => ⟨S9x8x8x64x256, .f32⟩
  | .hbm, ⟨78, _⟩ => ⟨S9x8x8x256x256, .f32⟩
  | .hbm, ⟨79, _⟩ => ⟨S9x8x8x256x256, .f32⟩
  | .hbm, ⟨80, _⟩ => ⟨S_, .f32⟩
  | .hbm, ⟨81, _⟩ => ⟨S9x8x256x256, .f32⟩
  | .hbm, ⟨82, _⟩ => ⟨S9x8x1x256x256, .f32⟩
  | .hbm, ⟨83, _⟩ => ⟨S_, .f32⟩
  | .hbm, ⟨84, _⟩ => ⟨S9x8x256x256, .f32⟩
  | .hbm, ⟨85, _⟩ => ⟨S9x8x256x128, .f32⟩
  | .hbm, ⟨86, _⟩ => ⟨S9x256x8x128, .f32⟩
  | .hbm, ⟨87, _⟩ => ⟨S9x256x8x128, .f32⟩
  | .hbm, ⟨88, _⟩ => ⟨S2304x8x128, .f32⟩
  | .hbm, ⟨89, _⟩ => ⟨S2304x1024, .f32⟩
  | _, _ => ⟨S2304x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_call0_cst : Ref sig .tc := ⟨.hbm, 21, rfl⟩
abbrev main_call0_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_0 : Ref sig .tc := ⟨.hbm, 34, rfl⟩
abbrev main_call1_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_0 : Ref sig .tc := ⟨.hbm, 80, rfl⟩
abbrev main_v59 : Ref sig .tc := ⟨.hbm, 81, rfl⟩
abbrev main_v60 : Ref sig .tc := ⟨.hbm, 82, rfl⟩
abbrev main_cst_1 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]
-- ==== Kernel2.lean ====
abbrev S2304x5632 : Shape := ⟨2, ![2304, 5632]⟩
abbrev S5632x2048 : Shape := ⟨2, ![5632, 2048]⟩
abbrev S2304x2048 : Shape := ⟨2, ![2304, 2048]⟩
abbrev S8x704x2048 : Shape := ⟨3, ![8, 704, 2048]⟩
abbrev S8x2304x704 : Shape := ⟨3, ![8, 2304, 704]⟩
abbrev S1x704x2048 : Shape := ⟨3, ![1, 704, 2048]⟩
abbrev S1x2304x704 : Shape := ⟨3, ![1, 2304, 704]⟩
abbrev S704x2048 : Shape := ⟨2, ![704, 2048]⟩
abbrev S2304x704 : Shape := ⟨2, ![2304, 704]⟩

abbrev nBuf : Space → Nat
  | .hbm => 7
  | .vmem => 5
  | .smem => 0
  | _ => 0

abbrev bufTy : (tb : Table) → Fin (tcTables nBuf tb) → BufTy
  | .hbm, ⟨0, _⟩ => ⟨S2304x5632, .f32⟩
  | .hbm, ⟨1, _⟩ => ⟨S5632x2048, .f32⟩
  | .hbm, ⟨2, _⟩ => ⟨S2304x2048, .f32⟩
  | .hbm, ⟨3, _⟩ => ⟨S2304x2048, .bf16⟩
  | .hbm, ⟨4, _⟩ => ⟨S5632x2048, .bf16⟩
  | .hbm, ⟨5, _⟩ => ⟨S8x704x2048, .bf16⟩
  | .hbm, ⟨6, _⟩ => ⟨S8x2304x704, .f32⟩
  | .local _ .vmem, ⟨0, _⟩ => ⟨S2304x2048, .bf16⟩
  | .local _ .vmem, ⟨1, _⟩ => ⟨S1x704x2048, .bf16⟩
  | .local _ .vmem, ⟨2, _⟩ => ⟨S1x704x2048, .bf16⟩
  | .local _ .vmem, ⟨3, _⟩ => ⟨S1x2304x704, .f32⟩
  | .local _ .vmem, ⟨4, _⟩ => ⟨S1x2304x704, .f32⟩
  | _, _ => ⟨S2304x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2304x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S2304x5632 : Shape := ⟨2, ![2304, 5632]⟩
abbrev S5632x2048 : Shape := ⟨2, ![5632, 2048]⟩
abbrev S2304x2048 : Shape := ⟨2, ![2304, 2048]⟩
abbrev S2304x8x704 : Shape := ⟨3, ![2304, 8, 704]⟩
abbrev S8x2304x704 : Shape := ⟨3, ![8, 2304, 704]⟩

abbrev nBuf : Space → Nat
  | .hbm => 7
  | .vmem => 0
  | .smem => 0
  | _ => 0

abbrev bufTy : (tb : Table) → Fin (tcTables nBuf tb) → BufTy
  | .hbm, ⟨0, _⟩ => ⟨S2304x5632, .f32⟩
  | .hbm, ⟨1, _⟩ => ⟨S5632x2048, .f32⟩
  | .hbm, ⟨2, _⟩ => ⟨S2304x2048, .f32⟩
  | .hbm, ⟨3, _⟩ => ⟨S2304x2048, .f32⟩
  | .hbm, ⟨4, _⟩ => ⟨S2304x5632, .f32⟩
  | .hbm, ⟨5, _⟩ => ⟨S2304x8x704, .f32⟩
  | .hbm, ⟨6, _⟩ => ⟨S8x2304x704, .f32⟩
  | _, _ => ⟨S2304x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S2304x5632 : Shape := ⟨2, ![2304, 5632]⟩
abbrev S5632x2048 : Shape := ⟨2, ![5632, 2048]⟩
abbrev S2304x2048 : Shape := ⟨2, ![2304, 2048]⟩
abbrev S2304x8x704 : Shape := ⟨3, ![2304, 8, 704]⟩
abbrev S8x2304x704 : Shape := ⟨3, ![8, 2304, 704]⟩
abbrev S8x704x2304 : Shape := ⟨3, ![8, 704, 2304]⟩
abbrev S8x704x2048 : Shape := ⟨3, ![8, 704, 2048]⟩
abbrev S1x704x2304 : Shape := ⟨3, ![1, 704, 2304]⟩
abbrev S1x704x2048 : Shape := ⟨3, ![1, 704, 2048]⟩
abbrev S704x2304 : Shape := ⟨2, ![704, 2304]⟩
abbrev S704x2048 : Shape := ⟨2, ![704, 2048]⟩

abbrev nBuf : Space → Nat
  | .hbm => 9
  | .vmem => 5
  | .smem => 0
  | _ => 0

abbrev bufTy : (tb : Table) → Fin (tcTables nBuf tb) → BufTy
  | .hbm, ⟨0, _⟩ => ⟨S2304x5632, .f32⟩
  | .hbm, ⟨1, _⟩ => ⟨S5632x2048, .f32⟩
  | .hbm, ⟨2, _⟩ => ⟨S2304x2048, .f32⟩
  | .hbm, ⟨3, _⟩ => ⟨S2304x8x704, .f32⟩
  | .hbm, ⟨4, _⟩ => ⟨S8x2304x704, .f32⟩
  | .hbm, ⟨5, _⟩ => ⟨S8x704x2304, .f32⟩
  | .hbm, ⟨6, _⟩ => ⟨S8x704x2304, .bf16⟩
  | .hbm, ⟨7, _⟩ => ⟨S2304x2048, .bf16⟩
  | .hbm, ⟨8, _⟩ => ⟨S8x704x2048, .bf16⟩
  | .local _ .vmem, ⟨0, _⟩ => ⟨S1x704x2304, .bf16⟩
  | .local _ .vmem, ⟨1, _⟩ => ⟨S1x704x2304, .bf16⟩
  | .local _ .vmem, ⟨2, _⟩ => ⟨S2304x2048, .bf16⟩
  | .local _ .vmem, ⟨3, _⟩ => ⟨S1x704x2048, .bf16⟩
  | .local _ .vmem, ⟨4, _⟩ => ⟨S1x704x2048, .bf16⟩
  | _, _ => ⟨S2304x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x704x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2304x5632 : Shape := ⟨2, ![2304, 5632]⟩
abbrev S5632x2048 : Shape := ⟨2, ![5632, 2048]⟩
abbrev S2304x2048 : Shape := ⟨2, ![2304, 2048]⟩
abbrev S2048x5632 : Shape := ⟨2, ![2048, 5632]⟩
abbrev S8x704x2048 : Shape := ⟨3, ![8, 704, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2304x5632, .f32⟩
  | .hbm, ⟨1, _⟩ => ⟨S5632x2048, .f32⟩
  | .hbm, ⟨2, _⟩ => ⟨S2304x2048, .f32⟩
  | .hbm, ⟨3, _⟩ => ⟨S2304x2048, .f32⟩
  | .hbm, ⟨4, _⟩ => ⟨S2048x5632, .f32⟩
  | .hbm, ⟨5, _⟩ => ⟨S5632x2048, .f32⟩
  | .hbm, ⟨6, _⟩ => ⟨S8x704x2048, .f32⟩
  | .hbm, ⟨7, _⟩ => ⟨S8x704x2048, .bf16⟩
  | _, _ => ⟨S2304x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2304x2048 : Shape := ⟨2, ![2304, 2048]⟩
abbrev S2048x5632 : Shape := ⟨2, ![2048, 5632]⟩
abbrev S2304x5632 : Shape := ⟨2, ![2304, 5632]⟩
abbrev S2048x2304 : Shape := ⟨2, ![2048, 2304]⟩
abbrev S2304x8x704 : Shape := ⟨3, ![2304, 8, 704]⟩
abbrev S8x2304x704 : Shape := ⟨3, ![8, 2304, 704]⟩
abbrev S8x1x2304x704 : Shape := ⟨4, ![8, 1, 2304, 704]⟩
abbrev S8x2x2304x704 : Shape := ⟨4, ![8, 2, 2304, 704]⟩
abbrev S8x2x2048x704 : Shape := ⟨4, ![8, 2, 2048, 704]⟩
abbrev S1x1x2304x704 : Shape := ⟨4, ![1, 1, 2304, 704]⟩
abbrev S1x1x2048x704 : Shape := ⟨4, ![1, 1, 2048, 704]⟩
abbrev S2304x704 : Shape := ⟨2, ![2304, 704]⟩
abbrev S2048x704 : Shape := ⟨2, ![2048, 704]⟩

abbrev nBuf : Space → Nat
  | .hbm => 16
  | .vmem => 5
  | .smem => 0
  | _ => 0

abbrev bufTy : (tb : Table) → Fin (tcTables nBuf tb) → BufTy
  | .hbm, ⟨0, _⟩ => ⟨S2304x2048, .f32⟩
  | .hbm, ⟨1, _⟩ => ⟨S2048x5632, .f32⟩
  | .hbm, ⟨2, _⟩ => ⟨S2048x5632, .f32⟩
  | .hbm, ⟨3, _⟩ => ⟨S2304x5632, .f32⟩
  | .hbm, ⟨4, _⟩ => ⟨S2304x5632, .f32⟩
  | .hbm, ⟨5, _⟩ => ⟨S2048x2304, .f32⟩
  | .hbm, ⟨6, _⟩ => ⟨S2048x2304, .bf16⟩
  | .hbm, ⟨7, _⟩ => ⟨S2304x8x704, .f32⟩
  | .hbm, ⟨8, _⟩ => ⟨S8x2304x704, .f32⟩
  | .hbm, ⟨9, _⟩ => ⟨S2304x8x704, .f32⟩
  | .hbm, ⟨10, _⟩ => ⟨S8x2304x704, .f32⟩
  | .hbm, ⟨11, _⟩ => ⟨S8x1x2304x704, .f32⟩
  | .hbm, ⟨12, _⟩ => ⟨S8x1x2304x704, .f32⟩
  | .hbm, ⟨13, _⟩ => ⟨S8x2x2304x704, .f32⟩
  | .hbm, ⟨14, _⟩ => ⟨S8x2x2304x704, .bf16⟩
  | .hbm, ⟨15, _⟩ => ⟨S8x2x2048x704, .bf16⟩
  | .local _ .vmem, ⟨0, _⟩ => ⟨S2048x2304, .bf16⟩
  | .local _ .vmem, ⟨1, _⟩ => ⟨S1x1x2304x704, .bf16⟩
  | .local _ .vmem, ⟨2, _⟩ => ⟨S1x1x2304x704, .bf16⟩
  | .local _ .vmem, ⟨3, _⟩ => ⟨S1x1x2048x704, .bf16⟩
  | .local _ .vmem, ⟨4, _⟩ => ⟨S1x1x2048x704, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S2048x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x2304x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2304x2048 : Shape := ⟨2, ![2304, 2048]⟩
abbrev S2048x5632 : Shape := ⟨2, ![2048, 5632]⟩
abbrev S2304x5632 : Shape := ⟨2, ![2304, 5632]⟩
abbrev S5632x2048 : Shape := ⟨2, ![5632, 2048]⟩
abbrev S2048x8x704 : Shape := ⟨3, ![2048, 8, 704]⟩
abbrev S8x2048x704 : Shape := ⟨3, ![8, 2048, 704]⟩
abbrev S8x1x2048x704 : Shape := ⟨4, ![8, 1, 2048, 704]⟩
abbrev S8x2x2048x704 : Shape := ⟨4, ![8, 2, 2048, 704]⟩

abbrev nBuf : Space → Nat
  | .hbm => 19
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x5632, .f32⟩
  | .hbm, ⟨2, _⟩ => ⟨S2048x5632, .f32⟩
  | .hbm, ⟨3, _⟩ => ⟨S2304x5632, .f32⟩
  | .hbm, ⟨4, _⟩ => ⟨S2304x5632, .f32⟩
  | .hbm, ⟨5, _⟩ => ⟨S2304x5632, .f32⟩
  | .hbm, ⟨6, _⟩ => ⟨S2304x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S2048x5632, .f32⟩
  | .hbm, ⟨11, _⟩ => ⟨S2048x8x704, .f32⟩
  | .hbm, ⟨12, _⟩ => ⟨S8x2048x704, .f32⟩
  | .hbm, ⟨13, _⟩ => ⟨S2048x8x704, .f32⟩
  | .hbm, ⟨14, _⟩ => ⟨S8x2048x704, .f32⟩
  | .hbm, ⟨15, _⟩ => ⟨S8x1x2048x704, .f32⟩
  | .hbm, ⟨16, _⟩ => ⟨S8x1x2048x704, .f32⟩
  | .hbm, ⟨17, _⟩ => ⟨S8x2x2048x704, .f32⟩
  | .hbm, ⟨18, _⟩ => ⟨S8x2x2048x704, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S2304x2048 : Shape := ⟨2, ![2304, 2048]⟩
abbrev S2048x5632 : Shape := ⟨2, ![2048, 5632]⟩
abbrev S2304x5632 : Shape := ⟨2, ![2304, 5632]⟩
abbrev S2304x8x704 : Shape := ⟨3, ![2304, 8, 704]⟩
abbrev S8x2304x704 : Shape := ⟨3, ![8, 2304, 704]⟩
abbrev S8x1x2304x704 : Shape := ⟨4, ![8, 1, 2304, 704]⟩
abbrev S8x2x2304x704 : Shape := ⟨4, ![8, 2, 2304, 704]⟩
abbrev S2048x8x704 : Shape := ⟨3, ![2048, 8, 704]⟩
abbrev S8x2048x704 : Shape := ⟨3, ![8, 2048, 704]⟩
abbrev S8x1x2048x704 : Shape := ⟨4, ![8, 1, 2048, 704]⟩
abbrev S8x2x2048x704 : Shape := ⟨4, ![8, 2, 2048, 704]⟩
abbrev S1x2x1152x704 : Shape := ⟨4, ![1, 2, 1152, 704]⟩
abbrev S1x2x1024x704 : Shape := ⟨4, ![1, 2, 1024, 704]⟩
abbrev S1152x1024 : Shape := ⟨2, ![1152, 1024]⟩
abbrev S1x1x1152x704 : Shape := ⟨4, ![1, 1, 1152, 704]⟩
abbrev S1152x704 : Shape := ⟨2, ![1152, 704]⟩
abbrev S1x1x1024x704 : Shape := ⟨4, ![1, 1, 1024, 704]⟩
abbrev S1024x704 : Shape := ⟨2, ![1024, 704]⟩

abbrev nBuf : Space → Nat
  | .hbm => 22
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2048x5632, .f32⟩
  | .hbm, ⟨2, _⟩ => ⟨S2048x5632, .f32⟩
  | .hbm, ⟨3, _⟩ => ⟨S2304x5632, .f32⟩
  | .hbm, ⟨4, _⟩ => ⟨S2304x5632, .f32⟩
  | .hbm, ⟨5, _⟩ => ⟨S2304x8x704, .f32⟩
  | .hbm, ⟨6, _⟩ => ⟨S8x2304x704, .f32⟩
  | .hbm, ⟨7, _⟩ => ⟨S2304x8x704, .f32⟩
  | .hbm, ⟨8, _⟩ => ⟨S8x2304x704, .f32⟩
  | .hbm, ⟨9, _⟩ => ⟨S8x1x2304x704, .f32⟩
  | .hbm, ⟨10, _⟩ => ⟨S8x1x2304x704, .f32⟩
  | .hbm, ⟨11, _⟩ => ⟨S8x2x2304x704, .f32⟩
  | .hbm, ⟨12, _⟩ => ⟨S8x2x2304x704, .bf16⟩
  | .hbm, ⟨13, _⟩ => ⟨S2048x8x704, .f32⟩
  | .hbm, ⟨14, _⟩ => ⟨S8x2048x704, .f32⟩
  | .hbm, ⟨15, _⟩ => ⟨S2048x8x704, .f32⟩
  | .hbm, ⟨16, _⟩ => ⟨S8x2048x704, .f32⟩
  | .hbm, ⟨17, _⟩ => ⟨S8x1x2048x704, .f32⟩
  | .hbm, ⟨18, _⟩ => ⟨S8x1x2048x704, .f32⟩
  | .hbm, ⟨19, _⟩ => ⟨S8x2x2048x704, .f32⟩
  | .hbm, ⟨20, _⟩ => ⟨S8x2x2048x704, .bf16⟩
  | .hbm, ⟨21, _⟩ => ⟨S2304x2048, .f32⟩
  | .local _ .vmem, ⟨0, _⟩ => ⟨S1x2x1152x704, .bf16⟩
  | .local _ .vmem, ⟨1, _⟩ => ⟨S1x2x1152x704, .bf16⟩
  | .local _ .vmem, ⟨2, _⟩ => ⟨S1x2x1024x704, .bf16⟩
  | .local _ .vmem, ⟨3, _⟩ => ⟨S1x2x1024x704, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_20 : BitVec 32 := 0#32
  let v21 : BitVec 1 := Scalar.cmpi .ne v20 c0_i32_20
  v21

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2x1152x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2304x2048 : Shape := ⟨2, ![2304, 2048]⟩
abbrev S2048x5632 : Shape := ⟨2, ![2048, 5632]⟩
abbrev S2304x5632 : Shape := ⟨2, ![2304, 5632]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x5632, .f32⟩
  | .hbm, ⟨2, _⟩ => ⟨S2048x5632, .f32⟩
  | .hbm, ⟨3, _⟩ => ⟨S2304x5632, .f32⟩
  | .hbm, ⟨4, _⟩ => ⟨S2304x5632, .f32⟩
  | .hbm, ⟨5, _⟩ => ⟨S2304x5632, .f32⟩
  | .hbm, ⟨6, _⟩ => ⟨S2304x5632, .f32⟩
  | .hbm, ⟨7, _⟩ => ⟨S2304x2048, .f32⟩
  | .hbm, ⟨8, _⟩ => ⟨S2304x2048, .f32⟩
  | .hbm, ⟨9, _⟩ => ⟨S2304x2048, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel6.lean ====
abbrev S2304x4096 : Shape := ⟨2, ![2304, 4096]⟩
abbrev S4096x2048 : Shape := ⟨2, ![4096, 2048]⟩
abbrev S2304x2048 : Shape := ⟨2, ![2304, 2048]⟩
abbrev S512x2048 : Shape := ⟨2, ![512, 2048]⟩
abbrev S2304x512 : Shape := ⟨2, ![2304, 512]⟩

abbrev nBuf : Space → Nat
  | .hbm => 6
  | .vmem => 5
  | .smem => 0
  | _ => 0

abbrev bufTy : (tb : Table) → Fin (tcTables nBuf tb) → BufTy
  | .hbm, ⟨0, _⟩ => ⟨S2304x4096, .f32⟩
  | .hbm, ⟨1, _⟩ => ⟨S4096x2048, .f32⟩
  | .hbm, ⟨2, _⟩ => ⟨S2304x2048, .f32⟩
  | .hbm, ⟨3, _⟩ => ⟨S2304x2048, .bf16⟩
  | .hbm, ⟨4, _⟩ => ⟨S4096x2048, .bf16⟩
  | .hbm, ⟨5, _⟩ => ⟨S2304x4096, .f32⟩
  | .local _ .vmem, ⟨0, _⟩ => ⟨S2304x2048, .bf16⟩
  | .local _ .vmem, ⟨1, _⟩ => ⟨S512x2048, .bf16⟩
  | .local _ .vmem, ⟨2, _⟩ => ⟨S512x2048, .bf16⟩
  | .local _ .vmem, ⟨3, _⟩ => ⟨S2304x512, .f32⟩
  | .local _ .vmem, ⟨4, _⟩ => ⟨S2304x512, .f32⟩
  | _, _ => ⟨S2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2304x4096 : Shape := ⟨2, ![2304, 4096]⟩
abbrev S4096x2048 : Shape := ⟨2, ![4096, 2048]⟩
abbrev S2304x2048 : Shape := ⟨2, ![2304, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2304x4096, .f32⟩
  | .hbm, ⟨1, _⟩ => ⟨S4096x2048, .f32⟩
  | .hbm, ⟨2, _⟩ => ⟨S2304x2048, .f32⟩
  | .hbm, ⟨3, _⟩ => ⟨S2304x2048, .f32⟩
  | .hbm, ⟨4, _⟩ => ⟨S2304x4096, .f32⟩
  | _, _ => ⟨S2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel7.lean ====
abbrev S2304x4096 : Shape := ⟨2, ![2304, 4096]⟩
abbrev S4096x2048 : Shape := ⟨2, ![4096, 2048]⟩
abbrev S2304x2048 : Shape := ⟨2, ![2304, 2048]⟩
abbrev S4096x2304 : Shape := ⟨2, ![4096, 2304]⟩
abbrev S512x2304 : Shape := ⟨2, ![512, 2304]⟩
abbrev S512x2048 : Shape := ⟨2, ![512, 2048]⟩

abbrev nBuf : Space → Nat
  | .hbm => 7
  | .vmem => 5
  | .smem => 0
  | _ => 0

abbrev bufTy : (tb : Table) → Fin (tcTables nBuf tb) → BufTy
  | .hbm, ⟨0, _⟩ => ⟨S2304x4096, .f32⟩
  | .hbm, ⟨1, _⟩ => ⟨S4096x2048, .f32⟩
  | .hbm, ⟨2, _⟩ => ⟨S2304x2048, .f32⟩
  | .hbm, ⟨3, _⟩ => ⟨S4096x2304, .f32⟩
  | .hbm, ⟨4, _⟩ => ⟨S4096x2304, .bf16⟩
  | .hbm, ⟨5, _⟩ => ⟨S2304x2048, .bf16⟩
  | .hbm, ⟨6, _⟩ => ⟨S4096x2048, .bf16⟩
  | .local _ .vmem, ⟨0, _⟩ => ⟨S512x2304, .bf16⟩
  | .local _ .vmem, ⟨1, _⟩ => ⟨S512x2304, .bf16⟩
  | .local _ .vmem, ⟨2, _⟩ => ⟨S2304x2048, .bf16⟩
  | .local _ .vmem, ⟨3, _⟩ => ⟨S512x2048, .bf16⟩
  | .local _ .vmem, ⟨4, _⟩ => ⟨S512x2048, .bf16⟩
  | _, _ => ⟨S2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2304x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2304x4096 : Shape := ⟨2, ![2304, 4096]⟩
abbrev S4096x2048 : Shape := ⟨2, ![4096, 2048]⟩
abbrev S2304x2048 : Shape := ⟨2, ![2304, 2048]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2304x4096, .f32⟩
  | .hbm, ⟨1, _⟩ => ⟨S4096x2048, .f32⟩
  | .hbm, ⟨2, _⟩ => ⟨S2304x2048, .f32⟩
  | .hbm, ⟨3, _⟩ => ⟨S2304x2048, .f32⟩
  | .hbm, ⟨4, _⟩ => ⟨S2048x4096, .f32⟩
  | .hbm, ⟨5, _⟩ => ⟨S4096x2048, .f32⟩
  | .hbm, ⟨6, _⟩ => ⟨S4096x2048, .bf16⟩
  | _, _ => ⟨S2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S2304x2048 : Shape := ⟨2, ![2304, 2048]⟩
abbrev S2048x10304 : Shape := ⟨2, ![2048, 10304]⟩
abbrev S2304x10304 : Shape := ⟨2, ![2304, 10304]⟩
abbrev S2048x2304 : Shape := ⟨2, ![2048, 2304]⟩
abbrev S_ : Shape := ⟨0, ![]⟩
abbrev S2304x10368 : Shape := ⟨2, ![2304, 10368]⟩
abbrev S2048x10368 : Shape := ⟨2, ![2048, 10368]⟩
abbrev S2304x384 : Shape := ⟨2, ![2304, 384]⟩
abbrev S2048x384 : Shape := ⟨2, ![2048, 384]⟩

abbrev nBuf : Space → Nat
  | .hbm => 10
  | .vmem => 5
  | .smem => 0
  | _ => 0

abbrev bufTy : (tb : Table) → Fin (tcTables nBuf tb) → BufTy
  | .hbm, ⟨0, _⟩ => ⟨S2304x2048, .f32⟩
  | .hbm, ⟨1, _⟩ => ⟨S2048x10304, .f32⟩
  | .hbm, ⟨2, _⟩ => ⟨S2304x10304, .f32⟩
  | .hbm, ⟨3, _⟩ => ⟨S2048x2304, .f32⟩
  | .hbm, ⟨4, _⟩ => ⟨S2048x2304, .bf16⟩
  | .hbm, ⟨5, _⟩ => ⟨S_, .i32⟩
  | .hbm, ⟨6, _⟩ => ⟨S_, .f32⟩
  | .hbm, ⟨7, _⟩ => ⟨S2304x10368, .f32⟩
  | .hbm, ⟨8, _⟩ => ⟨S2304x10368, .bf16⟩
  | .hbm, ⟨9, _⟩ => ⟨S2048x10368, .bf16⟩
  | .local _ .vmem, ⟨0, _⟩ => ⟨S2048x2304, .bf16⟩
  | .local _ .vmem, ⟨1, _⟩ => ⟨S2304x384, .bf16⟩
  | .local _ .vmem, ⟨2, _⟩ => ⟨S2304x384, .bf16⟩
  | .local _ .vmem, ⟨3, _⟩ => ⟨S2048x384, .bf16⟩
  | .local _ .vmem, ⟨4, _⟩ => ⟨S2048x384, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 27, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2304x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2304x2048 : Shape := ⟨2, ![2304, 2048]⟩
abbrev S2048x10304 : Shape := ⟨2, ![2048, 10304]⟩
abbrev S2304x10304 : Shape := ⟨2, ![2304, 10304]⟩
abbrev S10304x2048 : Shape := ⟨2, ![10304, 2048]⟩
abbrev S_ : Shape := ⟨0, ![]⟩
abbrev S2048x10368 : Shape := ⟨2, ![2048, 10368]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x10304, .f32⟩
  | .hbm, ⟨2, _⟩ => ⟨S2304x10304, .f32⟩
  | .hbm, ⟨3, _⟩ => ⟨S2304x10304, .f32⟩
  | .hbm, ⟨4, _⟩ => ⟨S10304x2048, .f32⟩
  | .hbm, ⟨5, _⟩ => ⟨S2048x10304, .f32⟩
  | .hbm, ⟨6, _⟩ => ⟨S_, .i32⟩
  | .hbm, ⟨7, _⟩ => ⟨S_, .f32⟩
  | .hbm, ⟨8, _⟩ => ⟨S2048x10368, .f32⟩
  | .hbm, ⟨9, _⟩ => ⟨S2048x10368, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel9.lean ====
abbrev S2304x2048 : Shape := ⟨2, ![2304, 2048]⟩
abbrev S2048x10304 : Shape := ⟨2, ![2048, 10304]⟩
abbrev S2304x10304 : Shape := ⟨2, ![2304, 10304]⟩
abbrev S_ : Shape := ⟨0, ![]⟩
abbrev S2304x10368 : Shape := ⟨2, ![2304, 10368]⟩
abbrev S2048x10368 : Shape := ⟨2, ![2048, 10368]⟩
abbrev S1152x1152 : Shape := ⟨2, ![1152, 1152]⟩
abbrev S1024x1152 : Shape := ⟨2, ![1024, 1152]⟩
abbrev S1152x1024 : Shape := ⟨2, ![1152, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2048x10304, .f32⟩
  | .hbm, ⟨2, _⟩ => ⟨S2304x10304, .f32⟩
  | .hbm, ⟨3, _⟩ => ⟨S_, .i32⟩
  | .hbm, ⟨4, _⟩ => ⟨S_, .f32⟩
  | .hbm, ⟨5, _⟩ => ⟨S2304x10368, .f32⟩
  | .hbm, ⟨6, _⟩ => ⟨S2304x10368, .bf16⟩
  | .hbm, ⟨7, _⟩ => ⟨S_, .i32⟩
  | .hbm, ⟨8, _⟩ => ⟨S_, .f32⟩
  | .hbm, ⟨9, _⟩ => ⟨S2048x10368, .f32⟩
  | .hbm, ⟨10, _⟩ => ⟨S2048x10368, .bf16⟩
  | .hbm, ⟨11, _⟩ => ⟨S2304x2048, .f32⟩
  | .local _ .vmem, ⟨0, _⟩ => ⟨S1152x1152, .bf16⟩
  | .local _ .vmem, ⟨1, _⟩ => ⟨S1152x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 9], ![false, false, false]⟩

def k0_cond2 (i : grid0.Coords) : BitVec 1 :=
  let arg2 : BitVec 32 := BitVec.ofNat 32 (i 2).val
  let c8_i32 : BitVec 32 := 8#32
  let v13 : BitVec 1 := Scalar.cmpi .eq arg2 c8_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2304x2048 : Shape := ⟨2, ![2304, 2048]⟩
abbrev S2048x10304 : Shape := ⟨2, ![2048, 10304]⟩
abbrev S2304x10304 : Shape := ⟨2, ![2304, 10304]⟩

abbrev nBuf : Space → Nat
  | .hbm => 5
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x10304, .f32⟩
  | .hbm, ⟨2, _⟩ => ⟨S2304x10304, .f32⟩
  | .hbm, ⟨3, _⟩ => ⟨S2304x10304, .f32⟩
  | .hbm, ⟨4, _⟩ => ⟨S2304x2048, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S2304x2048 : Shape := ⟨2, ![2304, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S8x1x2048x704 : Shape := ⟨4, ![8, 1, 2048, 704]⟩
abbrev S8x2x2048x704 : Shape := ⟨4, ![8, 2, 2048, 704]⟩
abbrev S8x2x2304x704 : Shape := ⟨4, ![8, 2, 2304, 704]⟩
abbrev S1x1x2048x704 : Shape := ⟨4, ![1, 1, 2048, 704]⟩
abbrev S1x1x2304x704 : Shape := ⟨4, ![1, 1, 2304, 704]⟩
abbrev S2048x704 : Shape := ⟨2, ![2048, 704]⟩
abbrev S2304x704 : Shape := ⟨2, ![2304, 704]⟩

abbrev nBuf : Space → Nat
  | .hbm => 13
  | .vmem => 5
  | .smem => 0
  | _ => 0

abbrev bufTy : (tb : Table) → Fin (tcTables nBuf tb) → BufTy
  | .hbm, ⟨0, _⟩ => ⟨S2304x2048, .f32⟩
  | .hbm, ⟨1, _⟩ => ⟨S2048x5632, .f32⟩
  | .hbm, ⟨2, _⟩ => ⟨S2048x5632, .f32⟩
  | .hbm, ⟨3, _⟩ => ⟨S2304x2048, .bf16⟩
  | .hbm, ⟨4, _⟩ => ⟨S2048x8x704, .f32⟩
  | .hbm, ⟨5, _⟩ => ⟨S8x2048x704, .f32⟩
  | .hbm, ⟨6, _⟩ => ⟨S2048x8x704, .f32⟩
  | .hbm, ⟨7, _⟩ => ⟨S8x2048x704, .f32⟩
  | .hbm, ⟨8, _⟩ => ⟨S8x1x2048x704, .f32⟩
  | .hbm, ⟨9, _⟩ => ⟨S8x1x2048x704, .f32⟩
  | .hbm, ⟨10, _⟩ => ⟨S8x2x2048x704, .f32⟩
  | .hbm, ⟨11, _⟩ => ⟨S8x2x2048x704, .bf16⟩
  | .hbm, ⟨12, _⟩ => ⟨S8x2x2304x704, .bf16⟩
  | .local _ .vmem, ⟨0, _⟩ => ⟨S2304x2048, .bf16⟩
  | .local _ .vmem, ⟨1, _⟩ => ⟨S1x1x2048x704, .bf16⟩
  | .local _ .vmem, ⟨2, _⟩ => ⟨S1x1x2048x704, .bf16⟩
  | .local _ .vmem, ⟨3, _⟩ => ⟨S1x1x2304x704, .bf16⟩
  | .local _ .vmem, ⟨4, _⟩ => ⟨S1x1x2304x704, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2304x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2304x2048 : Shape := ⟨2, ![2304, 2048]⟩
abbrev S2048x5632 : Shape := ⟨2, ![2048, 5632]⟩
abbrev S2304x5632 : Shape := ⟨2, ![2304, 5632]⟩
abbrev S2304x8x704 : Shape := ⟨3, ![2304, 8, 704]⟩
abbrev S8x2304x704 : Shape := ⟨3, ![8, 2304, 704]⟩
abbrev S8x1x2304x704 : Shape := ⟨4, ![8, 1, 2304, 704]⟩
abbrev S8x2x2304x704 : Shape := ⟨4, ![8, 2, 2304, 704]⟩

abbrev nBuf : Space → Nat
  | .hbm => 13
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x5632, .f32⟩
  | .hbm, ⟨2, _⟩ => ⟨S2048x5632, .f32⟩
  | .hbm, ⟨3, _⟩ => ⟨S2304x5632, .f32⟩
  | .hbm, ⟨4, _⟩ => ⟨S2304x5632, .f32⟩
  | .hbm, ⟨5, _⟩ => ⟨S2304x8x704, .f32⟩
  | .hbm, ⟨6, _⟩ => ⟨S8x2304x704, .f32⟩
  | .hbm, ⟨7, _⟩ => ⟨S2304x8x704, .f32⟩
  | .hbm, ⟨8, _⟩ => ⟨S8x2304x704, .f32⟩
  | .hbm, ⟨9, _⟩ => ⟨S8x1x2304x704, .f32⟩
  | .hbm, ⟨10, _⟩ => ⟨S8x1x2304x704, .f32⟩
  | .hbm, ⟨11, _⟩ => ⟨S8x2x2304x704, .f32⟩
  | .hbm, ⟨12, _⟩ => ⟨S8x2x2304x704, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel11.lean ====
abbrev S2304x5632 : Shape := ⟨2, ![2304, 5632]⟩
abbrev S5632x2048 : Shape := ⟨2, ![5632, 2048]⟩
abbrev S2304x8x704 : Shape := ⟨3, ![2304, 8, 704]⟩
abbrev S8x2304x704 : Shape := ⟨3, ![8, 2304, 704]⟩
abbrev S8x704x2048 : Shape := ⟨3, ![8, 704, 2048]⟩
abbrev S4x2x2304x704 : Shape := ⟨4, ![4, 2, 2304, 704]⟩
abbrev S4x2x704x2048 : Shape := ⟨4, ![4, 2, 704, 2048]⟩
abbrev S2304x2048 : Shape := ⟨2, ![2304, 2048]⟩
abbrev S1x2x1152x704 : Shape := ⟨4, ![1, 2, 1152, 704]⟩
abbrev S1x2x704x1024 : Shape := ⟨4, ![1, 2, 704, 1024]⟩
abbrev S1152x1024 : Shape := ⟨2, ![1152, 1024]⟩
abbrev S1x1x1152x704 : Shape := ⟨4, ![1, 1, 1152, 704]⟩
abbrev S1152x704 : Shape := ⟨2, ![1152, 704]⟩
abbrev S1x1x704x1024 : Shape := ⟨4, ![1, 1, 704, 1024]⟩
abbrev S704x1024 : Shape := ⟨2, ![704, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2304x5632, .f32⟩
  | .hbm, ⟨1, _⟩ => ⟨S5632x2048, .f32⟩
  | .hbm, ⟨2, _⟩ => ⟨S2304x8x704, .f32⟩
  | .hbm, ⟨3, _⟩ => ⟨S8x2304x704, .f32⟩
  | .hbm, ⟨4, _⟩ => ⟨S8x2304x704, .bf16⟩
  | .hbm, ⟨5, _⟩ => ⟨S5632x2048, .bf16⟩
  | .hbm, ⟨6, _⟩ => ⟨S8x704x2048, .bf16⟩
  | .hbm, ⟨7, _⟩ => ⟨S4x2x2304x704, .bf16⟩
  | .hbm, ⟨8, _⟩ => ⟨S4x2x704x2048, .bf16⟩
  | .hbm, ⟨9, _⟩ => ⟨S2304x2048, .f32⟩
  | .local _ .vmem, ⟨0, _⟩ => ⟨S1x2x1152x704, .bf16⟩
  | .local _ .vmem, ⟨1, _⟩ => ⟨S1x2x1152x704, .bf16⟩
  | .local _ .vmem, ⟨2, _⟩ => ⟨S1x2x704x1024, .bf16⟩
  | .local _ .vmem, ⟨3, _⟩ => ⟨S1x2x704x1024, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S2304x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_20 : BitVec 32 := 0#32
  let v21 : BitVec 1 := Scalar.cmpi .ne v20 c0_i32_20
  v21

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2x1152x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2304x5632 : Shape := ⟨2, ![2304, 5632]⟩
abbrev S5632x2048 : Shape := ⟨2, ![5632, 2048]⟩
abbrev S2304x2048 : Shape := ⟨2, ![2304, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2304x5632, .f32⟩
  | .hbm, ⟨1, _⟩ => ⟨S5632x2048, .f32⟩
  | .hbm, ⟨2, _⟩ => ⟨S2304x2048, .f32⟩
  | _, _ => ⟨S2304x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S2304x2048 : Shape := ⟨2, ![2304, 2048]⟩
abbrev S2048x10304 : Shape := ⟨2, ![2048, 10304]⟩
abbrev S_ : Shape := ⟨0, ![]⟩
abbrev S2048x10368 : Shape := ⟨2, ![2048, 10368]⟩
abbrev S2304x10368 : Shape := ⟨2, ![2304, 10368]⟩
abbrev S2048x384 : Shape := ⟨2, ![2048, 384]⟩
abbrev S2304x384 : Shape := ⟨2, ![2304, 384]⟩

abbrev nBuf : Space → Nat
  | .hbm => 8
  | .vmem => 5
  | .smem => 0
  | _ => 0

abbrev bufTy : (tb : Table) → Fin (tcTables nBuf tb) → BufTy
  | .hbm, ⟨0, _⟩ => ⟨S2304x2048, .f32⟩
  | .hbm, ⟨1, _⟩ => ⟨S2048x10304, .f32⟩
  | .hbm, ⟨2, _⟩ => ⟨S_, .i32⟩
  | .hbm, ⟨3, _⟩ => ⟨S_, .f32⟩
  | .hbm, ⟨4, _⟩ => ⟨S2048x10368, .f32⟩
  | .hbm, ⟨5, _⟩ => ⟨S2048x10368, .bf16⟩
  | .hbm, ⟨6, _⟩ => ⟨S2304x2048, .bf16⟩
  | .hbm, ⟨7, _⟩ => ⟨S2304x10368, .f32⟩
  | .local _ .vmem, ⟨0, _⟩ => ⟨S2304x2048, .bf16⟩
  | .local _ .vmem, ⟨1, _⟩ => ⟨S2048x384, .bf16⟩
  | .local _ .vmem, ⟨2, _⟩ => ⟨S2048x384, .bf16⟩
  | .local _ .vmem, ⟨3, _⟩ => ⟨S2304x384, .f32⟩
  | .local _ .vmem, ⟨4, _⟩ => ⟨S2304x384, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 27, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2304x2048 : Shape := ⟨2, ![2304, 2048]⟩
abbrev S2048x10304 : Shape := ⟨2, ![2048, 10304]⟩
abbrev S2304x10304 : Shape := ⟨2, ![2304, 10304]⟩
abbrev S_ : Shape := ⟨0, ![]⟩
abbrev S2304x10368 : Shape := ⟨2, ![2304, 10368]⟩

abbrev nBuf : Space → Nat
  | .hbm => 6
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x10304, .f32⟩
  | .hbm, ⟨2, _⟩ => ⟨S2304x10304, .f32⟩
  | .hbm, ⟨3, _⟩ => ⟨S_, .i32⟩
  | .hbm, ⟨4, _⟩ => ⟨S_, .f32⟩
  | .hbm, ⟨5, _⟩ => ⟨S2304x10368, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel13.lean ====
abbrev S2304x4096 : Shape := ⟨2, ![2304, 4096]⟩
abbrev S4096x2048 : Shape := ⟨2, ![4096, 2048]⟩
abbrev S2304x2048 : Shape := ⟨2, ![2304, 2048]⟩
abbrev S1152x512 : Shape := ⟨2, ![1152, 512]⟩
abbrev S512x1024 : Shape := ⟨2, ![512, 1024]⟩
abbrev S1152x1024 : Shape := ⟨2, ![1152, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2304x4096, .f32⟩
  | .hbm, ⟨1, _⟩ => ⟨S4096x2048, .f32⟩
  | .hbm, ⟨2, _⟩ => ⟨S2304x4096, .bf16⟩
  | .hbm, ⟨3, _⟩ => ⟨S4096x2048, .bf16⟩
  | .hbm, ⟨4, _⟩ => ⟨S2304x2048, .f32⟩
  | .local _ .vmem, ⟨0, _⟩ => ⟨S1152x512, .bf16⟩
  | .local _ .vmem, ⟨1, _⟩ => ⟨S1152x512, .bf16⟩
  | .local _ .vmem, ⟨2, _⟩ => ⟨S512x1024, .bf16⟩
  | .local _ .vmem, ⟨3, _⟩ => ⟨S512x1024, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2304x4096 : Shape := ⟨2, ![2304, 4096]⟩
abbrev S4096x2048 : Shape := ⟨2, ![4096, 2048]⟩
abbrev S2304x2048 : Shape := ⟨2, ![2304, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2304x4096, .f32⟩
  | .hbm, ⟨1, _⟩ => ⟨S4096x2048, .f32⟩
  | .hbm, ⟨2, _⟩ => ⟨S2304x2048, .f32⟩
  | _, _ => ⟨S2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S8x4x2x2048x704 : Shape := ⟨5, ![8, 4, 2, 2048, 704]⟩
abbrev S4x2048x704 : Shape := ⟨3, ![4, 2048, 704]⟩
abbrev S4x704x2048 : Shape := ⟨3, ![4, 704, 2048]⟩
abbrev S8x1x1x256x704 : Shape := ⟨5, ![8, 1, 1, 256, 704]⟩
abbrev S1x704x256 : Shape := ⟨3, ![1, 704, 256]⟩
abbrev S1x1x1x256x704 : Shape := ⟨5, ![1, 1, 1, 256, 704]⟩
abbrev S256x704 : Shape := ⟨2, ![256, 704]⟩
abbrev S704x256 : Shape := ⟨2, ![704, 256]⟩

abbrev nBuf : Space → Nat
  | .hbm => 11
  | .vmem => 16
  | .smem => 0
  | _ => 0

abbrev bufTy : (tb : Table) → Fin (tcTables nBuf tb) → BufTy
  | .hbm, ⟨0, _⟩ => ⟨S8x4x2x2048x704, .bf16⟩
  | .hbm, ⟨1, _⟩ => ⟨S4x2048x704, .f32⟩
  | .hbm, ⟨2, _⟩ => ⟨S4x2048x704, .f32⟩
  | .hbm, ⟨3, _⟩ => ⟨S4x2048x704, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .local _ .vmem, ⟨0, _⟩ => ⟨S8x1x1x256x704, .bf16⟩
  | .local _ .vmem, ⟨1, _⟩ => ⟨S8x1x1x256x704, .bf16⟩
  | .local _ .vmem, ⟨2, _⟩ => ⟨S1x704x256, .f32⟩
  | .local _ .vmem, ⟨3, _⟩ => ⟨S1x704x256, .f32⟩
  | .local _ .vmem, ⟨4, _⟩ => ⟨S1x704x256, .f32⟩
  | .local _ .vmem, ⟨5, _⟩ => ⟨S1x704x256, .f32⟩
  | .local _ .vmem, ⟨6, _⟩ => ⟨S1x704x256, .f32⟩
  | .local _ .vmem, ⟨7, _⟩ => ⟨S1x704x256, .f32⟩
  | .local _ .vmem, ⟨8, _⟩ => ⟨S1x704x256, .f32⟩
  | .local _ .vmem, ⟨9, _⟩ => ⟨S1x704x256, .f32⟩
  | .local _ .vmem, ⟨10, _⟩ => ⟨S1x704x256, .f32⟩
  | .local _ .vmem, ⟨11, _⟩ => ⟨S1x704x256, .f32⟩
  | .local _ .vmem, ⟨12, _⟩ => ⟨S1x704x256, .f32⟩
  | .local _ .vmem, ⟨13, _⟩ => ⟨S1x704x256, .f32⟩
  | .local _ .vmem, ⟨14, _⟩ => ⟨S1x704x256, .f32⟩
  | .local _ .vmem, ⟨15, _⟩ => ⟨S1x704x256, .f32⟩
  | _, _ => ⟨S8x4x2x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x1x1x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x704x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S8x4x2x2048x704 : Shape := ⟨5, ![8, 4, 2, 2048, 704]⟩
abbrev S4x2048x704 : Shape := ⟨3, ![4, 2048, 704]⟩
abbrev S8x4x1x2048x704 : Shape := ⟨5, ![8, 4, 1, 2048, 704]⟩
abbrev S8x4x2048x704 : Shape := ⟨4, ![8, 4, 2048, 704]⟩
abbrev S_ : Shape := ⟨0, ![]⟩
abbrev S4x704x2048 : Shape := ⟨3, ![4, 704, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8x4x2x2048x704, .bf16⟩
  | .hbm, ⟨1, _⟩ => ⟨S4x2048x704, .f32⟩
  | .hbm, ⟨2, _⟩ => ⟨S4x2048x704, .f32⟩
  | .hbm, ⟨3, _⟩ => ⟨S4x2048x704, .f32⟩
  | .hbm, ⟨4, _⟩ => ⟨S8x4x1x2048x704, .bf16⟩
  | .hbm, ⟨5, _⟩ => ⟨S8x4x2048x704, .bf16⟩
  | .hbm, ⟨6, _⟩ => ⟨S8x4x2048x704, .f32⟩
  | .hbm, ⟨7, _⟩ => ⟨S_, .f32⟩
  | .hbm, ⟨8, _⟩ => ⟨S4x2048x704, .f32⟩
  | .hbm, ⟨9, _⟩ => ⟨S_, .f32⟩
  | .hbm, ⟨10, _⟩ => ⟨S4x2048x704, .f32⟩
  | .hbm, ⟨11, _⟩ => ⟨S4x2048x704, .f32⟩
  | .hbm, ⟨12, _⟩ => ⟨S_, .f32⟩
  | .hbm, ⟨13, _⟩ => ⟨S4x2048x704, .f32⟩
  | .hbm, ⟨14, _⟩ => ⟨S4x2048x704, .f32⟩
  | .hbm, ⟨15, _⟩ => ⟨S4x2048x704, .f32⟩
  | .hbm, ⟨16, _⟩ => ⟨S_, .f32⟩
  | .hbm, ⟨17, _⟩ => ⟨S4x2048x704, .f32⟩
  | .hbm, ⟨18, _⟩ => ⟨S4x2048x704, .f32⟩
  | .hbm, ⟨19, _⟩ => ⟨S4x2048x704, .f32⟩
  | .hbm, ⟨20, _⟩ => ⟨S_, .f32⟩
  | .hbm, ⟨21, _⟩ => ⟨S4x2048x704, .f32⟩
  | .hbm, ⟨22, _⟩ => ⟨S4x2048x704, .f32⟩
  | .hbm, ⟨23, _⟩ => ⟨S4x2048x704, .f32⟩
  | .hbm, ⟨24, _⟩ => ⟨S_, .f32⟩
  | .hbm, ⟨25, _⟩ => ⟨S4x2048x704, .f32⟩
  | .hbm, ⟨26, _⟩ => ⟨S4x2048x704, .f32⟩
  | .hbm, ⟨27, _⟩ => ⟨S_, .f32⟩
  | .hbm, ⟨28, _⟩ => ⟨S4x2048x704, .f32⟩
  | .hbm, ⟨29, _⟩ => ⟨S4x2048x704, .f32⟩
  | .hbm, ⟨30, _⟩ => ⟨S4x2048x704, .f32⟩
  | .hbm, ⟨31, _⟩ => ⟨S_, .f32⟩
  | .hbm, ⟨32, _⟩ => ⟨S4x2048x704, .f32⟩
  | .hbm, ⟨33, _⟩ => ⟨S4x2048x704, .f32⟩
  | .hbm, ⟨34, _⟩ => ⟨S4x2048x704, .f32⟩
  | .hbm, ⟨35, _⟩ => ⟨S_, .f32⟩
  | .hbm, ⟨36, _⟩ => ⟨S4x2048x704, .f32⟩
  | .hbm, ⟨37, _⟩ => ⟨S4x2048x704, .f32⟩
  | .hbm, ⟨38, _⟩ => ⟨S4x2048x704, .f32⟩
  | .hbm, ⟨39, _⟩ => ⟨S_, .f32⟩
  | .hbm, ⟨40, _⟩ => ⟨S4x2048x704, .f32⟩
  | .hbm, ⟨41, _⟩ => ⟨S4x2048x704, .f32⟩
  | .hbm, ⟨42, _⟩ => ⟨S4x704x2048, .f32⟩
  | .hbm, ⟨43, _⟩ => ⟨S4x704x2048, .f32⟩
  | .hbm, ⟨44, _⟩ => ⟨S4x704x2048, .f32⟩
  | .hbm, ⟨45, _⟩ => ⟨S4x704x2048, .f32⟩
  | _, _ => ⟨S8x4x2x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel15.lean ====
abbrev S8x4x2x2048x704 : Shape := ⟨5, ![8, 4, 2, 2048, 704]⟩
abbrev S4x2048x704 : Shape := ⟨3, ![4, 2048, 704]⟩
abbrev S4x704x2048 : Shape := ⟨3, ![4, 704, 2048]⟩
abbrev S8x1x1x256x704 : Shape := ⟨5, ![8, 1, 1, 256, 704]⟩
abbrev S1x704x256 : Shape := ⟨3, ![1, 704, 256]⟩
abbrev S1x1x1x256x704 : Shape := ⟨5, ![1, 1, 1, 256, 704]⟩
abbrev S256x704 : Shape := ⟨2, ![256, 704]⟩
abbrev S704x256 : Shape := ⟨2, ![704, 256]⟩

abbrev nBuf : Space → Nat
  | .hbm => 11
  | .vmem => 16
  | .smem => 0
  | _ => 0

abbrev bufTy : (tb : Table) → Fin (tcTables nBuf tb) → BufTy
  | .hbm, ⟨0, _⟩ => ⟨S8x4x2x2048x704, .bf16⟩
  | .hbm, ⟨1, _⟩ => ⟨S4x2048x704, .f32⟩
  | .hbm, ⟨2, _⟩ => ⟨S4x2048x704, .f32⟩
  | .hbm, ⟨3, _⟩ => ⟨S4x2048x704, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .local _ .vmem, ⟨0, _⟩ => ⟨S8x1x1x256x704, .bf16⟩
  | .local _ .vmem, ⟨1, _⟩ => ⟨S8x1x1x256x704, .bf16⟩
  | .local _ .vmem, ⟨2, _⟩ => ⟨S1x704x256, .f32⟩
  | .local _ .vmem, ⟨3, _⟩ => ⟨S1x704x256, .f32⟩
  | .local _ .vmem, ⟨4, _⟩ => ⟨S1x704x256, .f32⟩
  | .local _ .vmem, ⟨5, _⟩ => ⟨S1x704x256, .f32⟩
  | .local _ .vmem, ⟨6, _⟩ => ⟨S1x704x256, .f32⟩
  | .local _ .vmem, ⟨7, _⟩ => ⟨S1x704x256, .f32⟩
  | .local _ .vmem, ⟨8, _⟩ => ⟨S1x704x256, .f32⟩
  | .local _ .vmem, ⟨9, _⟩ => ⟨S1x704x256, .f32⟩
  | .local _ .vmem, ⟨10, _⟩ => ⟨S1x704x256, .f32⟩
  | .local _ .vmem, ⟨11, _⟩ => ⟨S1x704x256, .f32⟩
  | .local _ .vmem, ⟨12, _⟩ => ⟨S1x704x256, .f32⟩
  | .local _ .vmem, ⟨13, _⟩ => ⟨S1x704x256, .f32⟩
  | .local _ .vmem, ⟨14, _⟩ => ⟨S1x704x256, .f32⟩
  | .local _ .vmem, ⟨15, _⟩ => ⟨S1x704x256, .f32⟩
  | _, _ => ⟨S8x4x2x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, arg0.toNat, c1_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x1x1x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x704x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference15Ideal.lean ====
abbrev S8x4x2x2048x704 : Shape := ⟨5, ![8, 4, 2, 2048, 704]⟩
abbrev S4x2048x704 : Shape := ⟨3, ![4, 2048, 704]⟩
abbrev S8x4x1x2048x704 : Shape := ⟨5, ![8, 4, 1, 2048, 704]⟩
abbrev S8x4x2048x704 : Shape := ⟨4, ![8, 4, 2048, 704]⟩
abbrev S_ : Shape := ⟨0, ![]⟩
abbrev S4x704x2048 : Shape := ⟨3, ![4, 704, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8x4x2x2048x704, .bf16⟩
  | .hbm, ⟨1, _⟩ => ⟨S4x2048x704, .f32⟩
  | .hbm, ⟨2, _⟩ => ⟨S4x2048x704, .f32⟩
  | .hbm, ⟨3, _⟩ => ⟨S4x2048x704, .f32⟩
  | .hbm, ⟨4, _⟩ => ⟨S8x4x1x2048x704, .bf16⟩
  | .hbm, ⟨5, _⟩ => ⟨S8x4x2048x704, .bf16⟩
  | .hbm, ⟨6, _⟩ => ⟨S8x4x2048x704, .f32⟩
  | .hbm, ⟨7, _⟩ => ⟨S_, .f32⟩
  | .hbm, ⟨8, _⟩ => ⟨S4x2048x704, .f32⟩
  | .hbm, ⟨9, _⟩ => ⟨S_, .f32⟩
  | .hbm, ⟨10, _⟩ => ⟨S4x2048x704, .f32⟩
  | .hbm, ⟨11, _⟩ => ⟨S4x2048x704, .f32⟩
  | .hbm, ⟨12, _⟩ => ⟨S_, .f32⟩
  | .hbm, ⟨13, _⟩ => ⟨S4x2048x704, .f32⟩
  | .hbm, ⟨14, _⟩ => ⟨S4x2048x704, .f32⟩
  | .hbm, ⟨15, _⟩ => ⟨S4x2048x704, .f32⟩
  | .hbm, ⟨16, _⟩ => ⟨S_, .f32⟩
  | .hbm, ⟨17, _⟩ => ⟨S4x2048x704, .f32⟩
  | .hbm, ⟨18, _⟩ => ⟨S4x2048x704, .f32⟩
  | .hbm, ⟨19, _⟩ => ⟨S4x2048x704, .f32⟩
  | .hbm, ⟨20, _⟩ => ⟨S_, .f32⟩
  | .hbm, ⟨21, _⟩ => ⟨S4x2048x704, .f32⟩
  | .hbm, ⟨22, _⟩ => ⟨S4x2048x704, .f32⟩
  | .hbm, ⟨23, _⟩ => ⟨S4x2048x704, .f32⟩
  | .hbm, ⟨24, _⟩ => ⟨S_, .f32⟩
  | .hbm, ⟨25, _⟩ => ⟨S4x2048x704, .f32⟩
  | .hbm, ⟨26, _⟩ => ⟨S4x2048x704, .f32⟩
  | .hbm, ⟨27, _⟩ => ⟨S_, .f32⟩
  | .hbm, ⟨28, _⟩ => ⟨S4x2048x704, .f32⟩
  | .hbm, ⟨29, _⟩ => ⟨S4x2048x704, .f32⟩
  | .hbm, ⟨30, _⟩ => ⟨S4x2048x704, .f32⟩
  | .hbm, ⟨31, _⟩ => ⟨S_, .f32⟩
  | .hbm, ⟨32, _⟩ => ⟨S4x2048x704, .f32⟩
  | .hbm, ⟨33, _⟩ => ⟨S4x2048x704, .f32⟩
  | .hbm, ⟨34, _⟩ => ⟨S4x2048x704, .f32⟩
  | .hbm, ⟨35, _⟩ => ⟨S_, .f32⟩
  | .hbm, ⟨36, _⟩ => ⟨S4x2048x704, .f32⟩
  | .hbm, ⟨37, _⟩ => ⟨S4x2048x704, .f32⟩
  | .hbm, ⟨38, _⟩ => ⟨S4x2048x704, .f32⟩
  | .hbm, ⟨39, _⟩ => ⟨S_, .f32⟩
  | .hbm, ⟨40, _⟩ => ⟨S4x2048x704, .f32⟩
  | .hbm, ⟨41, _⟩ => ⟨S4x2048x704, .f32⟩
  | .hbm, ⟨42, _⟩ => ⟨S4x704x2048, .f32⟩
  | .hbm, ⟨43, _⟩ => ⟨S4x704x2048, .f32⟩
  | .hbm, ⟨44, _⟩ => ⟨S4x704x2048, .f32⟩
  | .hbm, ⟨45, _⟩ => ⟨S4x704x2048, .f32⟩
  | _, _ => ⟨S8x4x2x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel16.lean ====
abbrev S8x4x704x2048 : Shape := ⟨4, ![8, 4, 704, 2048]⟩
abbrev S4x704x2048 : Shape := ⟨3, ![4, 704, 2048]⟩
abbrev S8x2816x2048 : Shape := ⟨3, ![8, 2816, 2048]⟩
abbrev S2816x2048 : Shape := ⟨2, ![2816, 2048]⟩
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x4x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S8x2816x2048, .bf16⟩
  | .hbm, ⟨5, _⟩ => ⟨S2816x2048, .f32⟩
  | .hbm, ⟨6, _⟩ => ⟨S2816x2048, .f32⟩
  | .hbm, ⟨7, _⟩ => ⟨S2816x2048, .f32⟩
  | .hbm, ⟨8, _⟩ => ⟨S2816x2048, .f32⟩
  | .hbm, ⟨9, _⟩ => ⟨S2816x2048, .f32⟩
  | .hbm, ⟨10, _⟩ => ⟨S2816x2048, .f32⟩
  | .hbm, ⟨11, _⟩ => ⟨S2816x2048, .f32⟩
  | .local _ .vmem, ⟨0, _⟩ => ⟨S8x256x2048, .bf16⟩
  | .local _ .vmem, ⟨1, _⟩ => ⟨S8x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S8x4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S8x4x704x2048 : Shape := ⟨4, ![8, 4, 704, 2048]⟩
abbrev S4x704x2048 : Shape := ⟨3, ![4, 704, 2048]⟩
abbrev S_ : Shape := ⟨0, ![]⟩
abbrev S2816x2048 : Shape := ⟨2, ![2816, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x4x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S8x4x704x2048, .f32⟩
  | .hbm, ⟨5, _⟩ => ⟨S_, .f32⟩
  | .hbm, ⟨6, _⟩ => ⟨S4x704x2048, .f32⟩
  | .hbm, ⟨7, _⟩ => ⟨S_, .f32⟩
  | .hbm, ⟨8, _⟩ => ⟨S4x704x2048, .f32⟩
  | .hbm, ⟨9, _⟩ => ⟨S4x704x2048, .f32⟩
  | .hbm, ⟨10, _⟩ => ⟨S_, .f32⟩
  | .hbm, ⟨11, _⟩ => ⟨S4x704x2048, .f32⟩
  | .hbm, ⟨12, _⟩ => ⟨S4x704x2048, .f32⟩
  | .hbm, ⟨13, _⟩ => ⟨S4x704x2048, .f32⟩
  | .hbm, ⟨14, _⟩ => ⟨S_, .f32⟩
  | .hbm, ⟨15, _⟩ => ⟨S4x704x2048, .f32⟩
  | .hbm, ⟨16, _⟩ => ⟨S4x704x2048, .f32⟩
  | .hbm, ⟨17, _⟩ => ⟨S4x704x2048, .f32⟩
  | .hbm, ⟨18, _⟩ => ⟨S_, .f32⟩
  | .hbm, ⟨19, _⟩ => ⟨S4x704x2048, .f32⟩
  | .hbm, ⟨20, _⟩ => ⟨S4x704x2048, .f32⟩
  | .hbm, ⟨21, _⟩ => ⟨S4x704x2048, .f32⟩
  | .hbm, ⟨22, _⟩ => ⟨S_, .f32⟩
  | .hbm, ⟨23, _⟩ => ⟨S4x704x2048, .f32⟩
  | .hbm, ⟨24, _⟩ => ⟨S4x704x2048, .f32⟩
  | .hbm, ⟨25, _⟩ => ⟨S_, .f32⟩
  | .hbm, ⟨26, _⟩ => ⟨S4x704x2048, .f32⟩
  | .hbm, ⟨27, _⟩ => ⟨S4x704x2048, .f32⟩
  | .hbm, ⟨28, _⟩ => ⟨S4x704x2048, .f32⟩
  | .hbm, ⟨29, _⟩ => ⟨S_, .f32⟩
  | .hbm, ⟨30, _⟩ => ⟨S4x704x2048, .f32⟩
  | .hbm, ⟨31, _⟩ => ⟨S4x704x2048, .f32⟩
  | .hbm, ⟨32, _⟩ => ⟨S4x704x2048, .f32⟩
  | .hbm, ⟨33, _⟩ => ⟨S_, .f32⟩
  | .hbm, ⟨34, _⟩ => ⟨S4x704x2048, .f32⟩
  | .hbm, ⟨35, _⟩ => ⟨S4x704x2048, .f32⟩
  | .hbm, ⟨36, _⟩ => ⟨S4x704x2048, .f32⟩
  | .hbm, ⟨37, _⟩ => ⟨S_, .f32⟩
  | .hbm, ⟨38, _⟩ => ⟨S4x704x2048, .f32⟩
  | .hbm, ⟨39, _⟩ => ⟨S4x704x2048, .f32⟩
  | .hbm, ⟨40, _⟩ => ⟨S2816x2048, .f32⟩
  | .hbm, ⟨41, _⟩ => ⟨S2816x2048, .f32⟩
  | .hbm, ⟨42, _⟩ => ⟨S2816x2048, .f32⟩
  | .hbm, ⟨43, _⟩ => ⟨S2816x2048, .f32⟩
  | _, _ => ⟨S8x4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel17.lean ====
abbrev S8x2x4x64x512 : Shape := ⟨5, ![8, 2, 4, 64, 512]⟩
abbrev S2x4x64x512 : Shape := ⟨4, ![2, 4, 64, 512]⟩
abbrev S8x512x512 : Shape := ⟨3, ![8, 512, 512]⟩
abbrev S512x512 : Shape := ⟨2, ![512, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 12
  | .vmem => 16
  | .smem => 0
  | _ => 0

abbrev bufTy : (tb : Table) → Fin (tcTables nBuf tb) → BufTy
  | .hbm, ⟨0, _⟩ => ⟨S8x2x4x64x512, .bf16⟩
  | .hbm, ⟨1, _⟩ => ⟨S2x4x64x512, .f32⟩
  | .hbm, ⟨2, _⟩ => ⟨S2x4x64x512, .f32⟩
  | .hbm, ⟨3, _⟩ => ⟨S2x4x64x512, .f32⟩
  | .hbm, ⟨4, _⟩ => ⟨S8x512x512, .bf16⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x2x4x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S8x2x4x64x512 : Shape := ⟨5, ![8, 2, 4, 64, 512]⟩
abbrev S2x4x64x512 : Shape := ⟨4, ![2, 4, 64, 512]⟩
abbrev S_ : Shape := ⟨0, ![]⟩
abbrev S512x512 : Shape := ⟨2, ![512, 512]⟩

abbrev nBuf : Space → Nat
  | .hbm => 44
  | .vmem => 0
  | .smem => 0
  | _ => 0

abbrev bufTy : (tb : Table) → Fin (tcTables nBuf tb) → BufTy
  | .hbm, ⟨0, _⟩ => ⟨S8x2x4x64x512, .bf16⟩
  | .hbm, ⟨1, _⟩ => ⟨S2x4x64x512, .f32⟩
  | .hbm, ⟨2, _⟩ => ⟨S2x4x64x512, .f32⟩
  | .hbm, ⟨3, _⟩ => ⟨S2x4x64x512, .f32⟩
  | .hbm, ⟨4, _⟩ => ⟨S8x2x4x64x512, .f32⟩
  | .hbm, ⟨5, _⟩ => ⟨S_, .f32⟩
  | .hbm, ⟨6, _⟩ => ⟨S2x4x64x512, .f32⟩
  | .hbm, ⟨7, _⟩ => ⟨S_, .f32⟩
  | .hbm, ⟨8, _⟩ => ⟨S2x4x64x512, .f32⟩
  | .hbm, ⟨9, _⟩ => ⟨S2x4x64x512, .f32⟩
  | .hbm, ⟨10, _⟩ => ⟨S_, .f32⟩
  | .hbm, ⟨11, _⟩ => ⟨S2x4x64x512, .f32⟩
  | .hbm, ⟨12, _⟩ => ⟨S2x4x64x512, .f32⟩
  | .hbm, ⟨13, _⟩ => ⟨S2x4x64x512, .f32⟩
  | .hbm, ⟨14, _⟩ => ⟨S_, .f32⟩
  | .hbm, ⟨15, _⟩ => ⟨S2x4x64x512, .f32⟩
  | .hbm, ⟨16, _⟩ => ⟨S2x4x64x512, .f32⟩
  | .hbm, ⟨17, _⟩ => ⟨S2x4x64x512, .f32⟩
  | .hbm, ⟨18, _⟩ => ⟨S_, .f32⟩
  | .hbm, ⟨19, _⟩ => ⟨S2x4x64x512, .f32⟩
  | .hbm, ⟨20, _⟩ => ⟨S2x4x64x512, .f32⟩
  | .hbm, ⟨21, _⟩ => ⟨S2x4x64x512, .f32⟩
  | .hbm, ⟨22, _⟩ => ⟨S_, .f32⟩
  | .hbm, ⟨23, _⟩ => ⟨S2x4x64x512, .f32⟩
  | .hbm, ⟨24, _⟩ => ⟨S2x4x64x512, .f32⟩
  | .hbm, ⟨25, _⟩ => ⟨S_, .f32⟩
  | .hbm, ⟨26, _⟩ => ⟨S2x4x64x512, .f32⟩
  | .hbm, ⟨27, _⟩ => ⟨S2x4x64x512, .f32⟩
  | .hbm, ⟨28, _⟩ => ⟨S2x4x64x512, .f32⟩
  | .hbm, ⟨29, _⟩ => ⟨S_, .f32⟩
  | .hbm, ⟨30, _⟩ => ⟨S2x4x64x512, .f32⟩
  | .hbm, ⟨31, _⟩ => ⟨S2x4x64x512, .f32⟩
  | .hbm, ⟨32, _⟩ => ⟨S2x4x64x512, .f32⟩
  | .hbm, ⟨33, _⟩ => ⟨S_, .f32⟩
  | .hbm, ⟨34, _⟩ => ⟨S2x4x64x512, .f32⟩
  | .hbm, ⟨35, _⟩ => ⟨S2x4x64x512, .f32⟩
  | .hbm, ⟨36, _⟩ => ⟨S2x4x64x512, .f32⟩
  | .hbm, ⟨37, _⟩ => ⟨S_, .f32⟩
  | .hbm, ⟨38, _⟩ => ⟨S2x4x64x512, .f32⟩
  | .hbm, ⟨39, _⟩ => ⟨S2x4x64x512, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S512x512, .f32⟩
  | _, _ => ⟨S8x2x4x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel18.lean ====
abbrev S8x2x512x2048 : Shape := ⟨4, ![8, 2, 512, 2048]⟩
abbrev S2x512x2048 : Shape := ⟨3, ![2, 512, 2048]⟩
abbrev S8x1024x2048 : Shape := ⟨3, ![8, 1024, 2048]⟩
abbrev S1024x2048 : Shape := ⟨2, ![1024, 2048]⟩
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x2x512x2048, .bf16⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S8x1024x2048, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .local _ .vmem, ⟨0, _⟩ => ⟨S8x256x2048, .bf16⟩
  | .local _ .vmem, ⟨1, _⟩ => ⟨S8x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S8x2x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x2x512x2048 : Shape := ⟨4, ![8, 2, 512, 2048]⟩
abbrev S2x512x2048 : Shape := ⟨3, ![2, 512, 2048]⟩
abbrev S_ : Shape := ⟨0, ![]⟩
abbrev S1024x2048 : Shape := ⟨2, ![1024, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x2x512x2048, .bf16⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S8x2x512x2048, .f32⟩
  | .hbm, ⟨5, _⟩ => ⟨S_, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S_, .f32⟩
  | .hbm, ⟨11, _⟩ => ⟨S2x512x2048, .f32⟩
  | .hbm, ⟨12, _⟩ => ⟨S2x512x2048, .f32⟩
  | .hbm, ⟨13, _⟩ => ⟨S2x512x2048, .f32⟩
  | .hbm, ⟨14, _⟩ => ⟨S_, .f32⟩
  | .hbm, ⟨15, _⟩ => ⟨S2x512x2048, .f32⟩
  | .hbm, ⟨16, _⟩ => ⟨S2x512x2048, .f32⟩
  | .hbm, ⟨17, _⟩ => ⟨S2x512x2048, .f32⟩
  | .hbm, ⟨18, _⟩ => ⟨S_, .f32⟩
  | .hbm, ⟨19, _⟩ => ⟨S2x512x2048, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S_, .f32⟩
  | .hbm, ⟨26, _⟩ => ⟨S2x512x2048, .f32⟩
  | .hbm, ⟨27, _⟩ => ⟨S2x512x2048, .f32⟩
  | .hbm, ⟨28, _⟩ => ⟨S2x512x2048, .f32⟩
  | .hbm, ⟨29, _⟩ => ⟨S_, .f32⟩
  | .hbm, ⟨30, _⟩ => ⟨S2x512x2048, .f32⟩
  | .hbm, ⟨31, _⟩ => ⟨S2x512x2048, .f32⟩
  | .hbm, ⟨32, _⟩ => ⟨S2x512x2048, .f32⟩
  | .hbm, ⟨33, _⟩ => ⟨S_, .f32⟩
  | .hbm, ⟨34, _⟩ => ⟨S2x512x2048, .f32⟩
  | .hbm, ⟨35, _⟩ => ⟨S2x512x2048, .f32⟩
  | .hbm, ⟨36, _⟩ => ⟨S2x512x2048, .f32⟩
  | .hbm, ⟨37, _⟩ => ⟨S_, .f32⟩
  | .hbm, ⟨38, _⟩ => ⟨S2x512x2048, .f32⟩
  | .hbm, ⟨39, _⟩ => ⟨S2x512x2048, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S1024x2048, .f32⟩
  | _, _ => ⟨S8x2x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel19.lean ====
abbrev S8x2x2048x1288 : Shape := ⟨4, ![8, 2, 2048, 1288]⟩
abbrev S2x2048x1288 : Shape := ⟨3, ![2, 2048, 1288]⟩
abbrev S2x1288x2048 : Shape := ⟨3, ![2, 1288, 2048]⟩
abbrev S8x1x256x1288 : Shape := ⟨4, ![8, 1, 256, 1288]⟩
abbrev S1x1288x256 : Shape := ⟨3, ![1, 1288, 256]⟩
abbrev S1x1x256x1288 : Shape := ⟨4, ![1, 1, 256, 1288]⟩
abbrev S256x1288 : Shape := ⟨2, ![256, 1288]⟩
abbrev S1288x256 : Shape := ⟨2, ![1288, 256]⟩

abbrev nBuf : Space → Nat
  | .hbm => 11
  | .vmem => 16
  | .smem => 0
  | _ => 0

abbrev bufTy : (tb : Table) → Fin (tcTables nBuf tb) → BufTy
  | .hbm, ⟨0, _⟩ => ⟨S8x2x2048x1288, .bf16⟩
  | .hbm, ⟨1, _⟩ => ⟨S2x2048x1288, .f32⟩
  | .hbm, ⟨2, _⟩ => ⟨S2x2048x1288, .f32⟩
  | .hbm, ⟨3, _⟩ => ⟨S2x2048x1288, .f32⟩
  | .hbm, ⟨4, _⟩ => ⟨S2x1288x2048, .f32⟩
  | .hbm, ⟨5, _⟩ => ⟨S2x1288x2048, .f32⟩
  | .hbm, ⟨6, _⟩ => ⟨S2x1288x2048, .f32⟩
  | .hbm, ⟨7, _⟩ => ⟨S2x1288x2048, .f32⟩
  | .hbm, ⟨8, _⟩ => ⟨S2x1288x2048, .f32⟩
  | .hbm, ⟨9, _⟩ => ⟨S2x1288x2048, .f32⟩
  | .hbm, ⟨10, _⟩ => ⟨S2x1288x2048, .f32⟩
  | .local _ .vmem, ⟨0, _⟩ => ⟨S8x1x256x1288, .bf16⟩
  | .local _ .vmem, ⟨1, _⟩ => ⟨S8x1x256x1288, .bf16⟩
  | .local _ .vmem, ⟨2, _⟩ => ⟨S1x1288x256, .f32⟩
  | .local _ .vmem, ⟨3, _⟩ => ⟨S1x1288x256, .f32⟩
  | .local _ .vmem, ⟨4, _⟩ => ⟨S1x1288x256, .f32⟩
  | .local _ .vmem, ⟨5, _⟩ => ⟨S1x1288x256, .f32⟩
  | .local _ .vmem, ⟨6, _⟩ => ⟨S1x1288x256, .f32⟩
  | .local _ .vmem, ⟨7, _⟩ => ⟨S1x1288x256, .f32⟩
  | .local _ .vmem, ⟨8, _⟩ => ⟨S1x1288x256, .f32⟩
  | .local _ .vmem, ⟨9, _⟩ => ⟨S1x1288x256, .f32⟩
  | .local _ .vmem, ⟨10, _⟩ => ⟨S1x1288x256, .f32⟩
  | .local _ .vmem, ⟨11, _⟩ => ⟨S1x1288x256, .f32⟩
  | .local _ .vmem, ⟨12, _⟩ => ⟨S1x1288x256, .f32⟩
  | .local _ .vmem, ⟨13, _⟩ => ⟨S1x1288x256, .f32⟩
  | .local _ .vmem, ⟨14, _⟩ => ⟨S1x1288x256, .f32⟩
  | .local _ .vmem, ⟨15, _⟩ => ⟨S1x1288x256, .f32⟩
  | _, _ => ⟨S8x2x2048x1288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x1x256x1288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1288x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1288x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1288x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1288x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1288x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1288x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1288x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference19Ideal.lean ====
abbrev S8x2x2048x1288 : Shape := ⟨4, ![8, 2, 2048, 1288]⟩
abbrev S2x2048x1288 : Shape := ⟨3, ![2, 2048, 1288]⟩
abbrev S_ : Shape := ⟨0, ![]⟩
abbrev S2x1288x2048 : Shape := ⟨3, ![2, 1288, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x2x2048x1288, .bf16⟩
  | .hbm, ⟨1, _⟩ => ⟨S2x2048x1288, .f32⟩
  | .hbm, ⟨2, _⟩ => ⟨S2x2048x1288, .f32⟩
  | .hbm, ⟨3, _⟩ => ⟨S2x2048x1288, .f32⟩
  | .hbm, ⟨4, _⟩ => ⟨S8x2x2048x1288, .f32⟩
  | .hbm, ⟨5, _⟩ => ⟨S_, .f32⟩
  | .hbm, ⟨6, _⟩ => ⟨S2x2048x1288, .f32⟩
  | .hbm, ⟨7, _⟩ => ⟨S_, .f32⟩
  | .hbm, ⟨8, _⟩ => ⟨S2x2048x1288, .f32⟩
  | .hbm, ⟨9, _⟩ => ⟨S2x2048x1288, .f32⟩
  | .hbm, ⟨10, _⟩ => ⟨S_, .f32⟩
  | .hbm, ⟨11, _⟩ => ⟨S2x2048x1288, .f32⟩
  | .hbm, ⟨12, _⟩ => ⟨S2x2048x1288, .f32⟩
  | .hbm, ⟨13, _⟩ => ⟨S2x2048x1288, .f32⟩
  | .hbm, ⟨14, _⟩ => ⟨S_, .f32⟩
  | .hbm, ⟨15, _⟩ => ⟨S2x2048x1288, .f32⟩
  | .hbm, ⟨16, _⟩ => ⟨S2x2048x1288, .f32⟩
  | .hbm, ⟨17, _⟩ => ⟨S2x2048x1288, .f32⟩
  | .hbm, ⟨18, _⟩ => ⟨S_, .f32⟩
  | .hbm, ⟨19, _⟩ => ⟨S2x2048x1288, .f32⟩
  | .hbm, ⟨20, _⟩ => ⟨S2x2048x1288, .f32⟩
  | .hbm, ⟨21, _⟩ => ⟨S2x2048x1288, .f32⟩
  | .hbm, ⟨22, _⟩ => ⟨S_, .f32⟩
  | .hbm, ⟨23, _⟩ => ⟨S2x2048x1288, .f32⟩
  | .hbm, ⟨24, _⟩ => ⟨S2x2048x1288, .f32⟩
  | .hbm, ⟨25, _⟩ => ⟨S_, .f32⟩
  | .hbm, ⟨26, _⟩ => ⟨S2x2048x1288, .f32⟩
  | .hbm, ⟨27, _⟩ => ⟨S2x2048x1288, .f32⟩
  | .hbm, ⟨28, _⟩ => ⟨S2x2048x1288, .f32⟩
  | .hbm, ⟨29, _⟩ => ⟨S_, .f32⟩
  | .hbm, ⟨30, _⟩ => ⟨S2x2048x1288, .f32⟩
  | .hbm, ⟨31, _⟩ => ⟨S2x2048x1288, .f32⟩
  | .hbm, ⟨32, _⟩ => ⟨S2x2048x1288, .f32⟩
  | .hbm, ⟨33, _⟩ => ⟨S_, .f32⟩
  | .hbm, ⟨34, _⟩ => ⟨S2x2048x1288, .f32⟩
  | .hbm, ⟨35, _⟩ => ⟨S2x2048x1288, .f32⟩
  | .hbm, ⟨36, _⟩ => ⟨S2x2048x1288, .f32⟩
  | .hbm, ⟨37, _⟩ => ⟨S_, .f32⟩
  | .hbm, ⟨38, _⟩ => ⟨S2x2048x1288, .f32⟩
  | .hbm, ⟨39, _⟩ => ⟨S2x2048x1288, .f32⟩
  | .hbm, ⟨40, _⟩ => ⟨S2x1288x2048, .f32⟩
  | .hbm, ⟨41, _⟩ => ⟨S2x1288x2048, .f32⟩
  | .hbm, ⟨42, _⟩ => ⟨S2x1288x2048, .f32⟩
  | .hbm, ⟨43, _⟩ => ⟨S2x1288x2048, .f32⟩
  | _, _ => ⟨S8x2x2048x1288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel20.lean ====
abbrev S8x1280x128 : Shape := ⟨3, ![8, 1280, 128]⟩
abbrev S1280x128 : Shape := ⟨2, ![1280, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S1280x128, .f32⟩
  | .hbm, ⟨5, _⟩ => ⟨S1280x128, .f32⟩
  | .hbm, ⟨6, _⟩ => ⟨S1280x128, .f32⟩
  | .hbm, ⟨7, _⟩ => ⟨S1280x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x1280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x1280x128 : Shape := ⟨3, ![8, 1280, 128]⟩
abbrev S1280x128 : Shape := ⟨2, ![1280, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S_, .f32⟩
  | .hbm, ⟨5, _⟩ => ⟨S1280x128, .f32⟩
  | .hbm, ⟨6, _⟩ => ⟨S_, .f32⟩
  | .hbm, ⟨7, _⟩ => ⟨S1280x128, .f32⟩
  | .hbm, ⟨8, _⟩ => ⟨S1280x128, .f32⟩
  | .hbm, ⟨9, _⟩ => ⟨S_, .f32⟩
  | .hbm, ⟨10, _⟩ => ⟨S1280x128, .f32⟩
  | .hbm, ⟨11, _⟩ => ⟨S1280x128, .f32⟩
  | .hbm, ⟨12, _⟩ => ⟨S1280x128, .f32⟩
  | .hbm, ⟨13, _⟩ => ⟨S_, .f32⟩
  | .hbm, ⟨14, _⟩ => ⟨S1280x128, .f32⟩
  | .hbm, ⟨15, _⟩ => ⟨S1280x128, .f32⟩
  | .hbm, ⟨16, _⟩ => ⟨S1280x128, .f32⟩
  | .hbm, ⟨17, _⟩ => ⟨S_, .f32⟩
  | .hbm, ⟨18, _⟩ => ⟨S1280x128, .f32⟩
  | .hbm, ⟨19, _⟩ => ⟨S1280x128, .f32⟩
  | .hbm, ⟨20, _⟩ => ⟨S1280x128, .f32⟩
  | .hbm, ⟨21, _⟩ => ⟨S_, .f32⟩
  | .hbm, ⟨22, _⟩ => ⟨S1280x128, .f32⟩
  | .hbm, ⟨23, _⟩ => ⟨S1280x128, .f32⟩
  | .hbm, ⟨24, _⟩ => ⟨S_, .f32⟩
  | .hbm, ⟨25, _⟩ => ⟨S1280x128, .f32⟩
  | .hbm, ⟨26, _⟩ => ⟨S1280x128, .f32⟩
  | .hbm, ⟨27, _⟩ => ⟨S1280x128, .f32⟩
  | .hbm, ⟨28, _⟩ => ⟨S_, .f32⟩
  | .hbm, ⟨29, _⟩ => ⟨S1280x128, .f32⟩
  | .hbm, ⟨30, _⟩ => ⟨S1280x128, .f32⟩
  | .hbm, ⟨31, _⟩ => ⟨S1280x128, .f32⟩
  | .hbm, ⟨32, _⟩ => ⟨S_, .f32⟩
  | .hbm, ⟨33, _⟩ => ⟨S1280x128, .f32⟩
  | .hbm, ⟨34, _⟩ => ⟨S1280x128, .f32⟩
  | .hbm, ⟨35, _⟩ => ⟨S1280x128, .f32⟩
  | .hbm, ⟨36, _⟩ => ⟨S_, .f32⟩
  | .hbm, ⟨37, _⟩ => ⟨S1280x128, .f32⟩
  | .hbm, ⟨38, _⟩ => ⟨S1280x128, .f32⟩
  | _, _ => ⟨S8x1280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S2304x2048 : Shape := ⟨2, ![2304, 2048]⟩
abbrev S2048x2048 : Shape := ⟨2, ![2048, 2048]⟩
abbrev S8x128 : Shape := ⟨2, ![8, 128]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2048x2048, .f32⟩
  | .hbm, ⟨2, _⟩ => ⟨S2304x2048, .f32⟩
  | .hbm, ⟨3, _⟩ => ⟨S8x128, .f32⟩
  | .hbm, ⟨4, _⟩ => ⟨S1x1, .f32⟩
  | .hbm, ⟨5, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x128, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference21Ideal.lean ====
abbrev S2304x2048 : Shape := ⟨2, ![2304, 2048]⟩
abbrev S2048x2048 : Shape := ⟨2, ![2048, 2048]⟩
abbrev S_ : Shape := ⟨0, ![]⟩
abbrev S2048 : Shape := ⟨1, ![2048]⟩

abbrev nBuf : Space → Nat
  | .hbm => 28
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2304x2048, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Kernel22.lean ====
abbrev S2304x2048 : Shape := ⟨2, ![2304, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S2304x2048, .f32⟩
  | .hbm, ⟨1, _⟩ => ⟨S2048, .f32⟩
  | .hbm, ⟨2, _⟩ => ⟨S2304x2048, .f32⟩
  | .hbm, ⟨3, _⟩ => ⟨S2304x2048, .f32⟩
  | .hbm, ⟨4, _⟩ => ⟨S1x2048, .f32⟩
  | .hbm, ⟨5, _⟩ => ⟨S2304x2048, .f32⟩
  | .hbm, ⟨6, _⟩ => ⟨S1x2048, .f32⟩
  | .hbm, ⟨7, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference22Ideal.lean ====
abbrev S2304x2048 : Shape := ⟨2, ![2304, 2048]⟩
abbrev S2048 : Shape := ⟨1, ![2048]⟩
abbrev S_ : Shape := ⟨0, ![]⟩
abbrev S2304 : Shape := ⟨1, ![2304]⟩
abbrev S2304x1 : Shape := ⟨2, ![2304, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048, .f32⟩
  | .hbm, ⟨2, _⟩ => ⟨S2304x2048, .f32⟩
  | .hbm, ⟨3, _⟩ => ⟨S2304x2048, .f32⟩
  | .hbm, ⟨4, _⟩ => ⟨S2304x2048, .f32⟩
  | .hbm, ⟨5, _⟩ => ⟨S_, .f32⟩
  | .hbm, ⟨6, _⟩ => ⟨S2304, .f32⟩
  | .hbm, ⟨7, _⟩ => ⟨S2304x1, .f32⟩
  | .hbm, ⟨8, _⟩ => ⟨S_, .f32⟩
  | .hbm, ⟨9, _⟩ => ⟨S2304x1, .f32⟩
  | .hbm, ⟨10, _⟩ => ⟨S2304x1, .f32⟩
  | .hbm, ⟨11, _⟩ => ⟨S_, .f32⟩
  | .hbm, ⟨12, _⟩ => ⟨S2304x1, .f32⟩
  | .hbm, ⟨13, _⟩ => ⟨S2304x1, .f32⟩
  | .hbm, ⟨14, _⟩ => ⟨S2304x1, .f32⟩
  | .hbm, ⟨15, _⟩ => ⟨S2304x1, .f32⟩
  | .hbm, ⟨16, _⟩ => ⟨S_, .f32⟩
  | .hbm, ⟨17, _⟩ => ⟨S2304x1, .f32⟩
  | .hbm, ⟨18, _⟩ => ⟨S2304x1, .f32⟩
  | .hbm, ⟨19, _⟩ => ⟨S2304x2048, .f32⟩
  | .hbm, ⟨20, _⟩ => ⟨S2304x2048, .f32⟩
  | .hbm, ⟨21, _⟩ => ⟨S1x2048, .f32⟩
  | .hbm, ⟨22, _⟩ => ⟨S2304x2048, .f32⟩
  | .hbm, ⟨23, _⟩ => ⟨S2304x2048, .f32⟩
  | .hbm, ⟨24, _⟩ => ⟨S2304x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2304x2048, .f32⟩
  | .hbm, ⟨29, _⟩ => ⟨S2304x2048, .f32⟩
  | .hbm, ⟨30, _⟩ => ⟨S_, .f32⟩
  | .hbm, ⟨31, _⟩ => ⟨S2048, .f32⟩
  | .hbm, ⟨32, _⟩ => ⟨S2304x2048, .f32⟩
  | .hbm, ⟨33, _⟩ => ⟨S_, .f32⟩
  | .hbm, ⟨34, _⟩ => ⟨S2304, .f32⟩
  | .hbm, ⟨35, _⟩ => ⟨S2304x1, .f32⟩
  | .hbm, ⟨36, _⟩ => ⟨S2304x2048, .f32⟩
  | .hbm, ⟨37, _⟩ => ⟨S2304x2048, .f32⟩
  | .hbm, ⟨38, _⟩ => ⟨S2304x1, .f32⟩
  | .hbm, ⟨39, _⟩ => ⟨S_, .f32⟩
  | .hbm, ⟨40, _⟩ => ⟨S2304x1, .f32⟩
  | .hbm, ⟨41, _⟩ => ⟨S2304x1, .f32⟩
  | .hbm, ⟨42, _⟩ => ⟨S_, .f32⟩
  | .hbm, ⟨43, _⟩ => ⟨S2304, .f32⟩
  | .hbm, ⟨44, _⟩ => ⟨S2304x2048, .f32⟩
  | .hbm, ⟨45, _⟩ => ⟨S2304x2048, .f32⟩
  | .hbm, ⟨46, _⟩ => ⟨S2304x2048, .f32⟩
  | .hbm, ⟨47, _⟩ => ⟨S2304x2048, .f32⟩
  | .hbm, ⟨48, _⟩ => ⟨S2304x2048, .f32⟩
  | .hbm, ⟨49, _⟩ => ⟨S2304x2048, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel23.lean ====
abbrev S8x2x2304x704 : Shape := ⟨4, ![8, 2, 2304, 704]⟩
abbrev S8x2304x704 : Shape := ⟨3, ![8, 2304, 704]⟩
abbrev S1x2x768x704 : Shape := ⟨4, ![1, 2, 768, 704]⟩
abbrev S1x768x704 : Shape := ⟨3, ![1, 768, 704]⟩
abbrev S1x1x768x704 : Shape := ⟨4, ![1, 1, 768, 704]⟩
abbrev S768x704 : Shape := ⟨2, ![768, 704]⟩

abbrev nBuf : Space → Nat
  | .hbm => 3
  | .vmem => 6
  | .smem => 0
  | _ => 0

abbrev bufTy : (tb : Table) → Fin (tcTables nBuf tb) → BufTy
  | .hbm, ⟨0, _⟩ => ⟨S8x2x2304x704, .bf16⟩
  | .hbm, ⟨1, _⟩ => ⟨S8x2304x704, .f32⟩
  | .hbm, ⟨2, _⟩ => ⟨S8x2x2304x704, .bf16⟩
  | .local _ .vmem, ⟨0, _⟩ => ⟨S1x2x768x704, .bf16⟩
  | .local _ .vmem, ⟨1, _⟩ => ⟨S1x2x768x704, .bf16⟩
  | .local _ .vmem, ⟨2, _⟩ => ⟨S1x768x704, .f32⟩
  | .local _ .vmem, ⟨3, _⟩ => ⟨S1x768x704, .f32⟩
  | .local _ .vmem, ⟨4, _⟩ => ⟨S1x2x768x704, .bf16⟩
  | .local _ .vmem, ⟨5, _⟩ => ⟨S1x2x768x704, .bf16⟩
  | _, _ => ⟨S8x2x2304x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x768x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x768x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S8x2x2304x704 : Shape := ⟨4, ![8, 2, 2304, 704]⟩
abbrev S8x2304x704 : Shape := ⟨3, ![8, 2304, 704]⟩
abbrev S8x1x2304x704 : Shape := ⟨4, ![8, 1, 2304, 704]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8x2x2304x704, .bf16⟩
  | .hbm, ⟨1, _⟩ => ⟨S8x2304x704, .f32⟩
  | .hbm, ⟨2, _⟩ => ⟨S8x1x2304x704, .bf16⟩
  | .hbm, ⟨3, _⟩ => ⟨S8x2304x704, .bf16⟩
  | .hbm, ⟨4, _⟩ => ⟨S8x2304x704, .f32⟩
  | .hbm, ⟨5, _⟩ => ⟨S8x1x2304x704, .bf16⟩
  | .hbm, ⟨6, _⟩ => ⟨S8x2304x704, .bf16⟩
  | .hbm, ⟨7, _⟩ => ⟨S8x2304x704, .f32⟩
  | .hbm, ⟨8, _⟩ => ⟨S8x2304x704, .f32⟩
  | .hbm, ⟨9, _⟩ => ⟨S8x2304x704, .f32⟩
  | .hbm, ⟨10, _⟩ => ⟨S_, .f32⟩
  | .hbm, ⟨11, _⟩ => ⟨S8x2304x704, .f32⟩
  | .hbm, ⟨12, _⟩ => ⟨S8x2304x704, .f32⟩
  | .hbm, ⟨13, _⟩ => ⟨S_, .f32⟩
  | .hbm, ⟨14, _⟩ => ⟨S8x2304x704, .f32⟩
  | .hbm, ⟨15, _⟩ => ⟨S8x2304x704, .f32⟩
  | .hbm, ⟨16, _⟩ => ⟨S_, .f32⟩
  | .hbm, ⟨17, _⟩ => ⟨S8x2304x704, .f32⟩
  | .hbm, ⟨18, _⟩ => ⟨S8x2304x704, .f32⟩
  | .hbm, ⟨19, _⟩ => ⟨S8x2304x704, .f32⟩
  | .hbm, ⟨20, _⟩ => ⟨S8x2304x704, .f32⟩
  | .hbm, ⟨21, _⟩ => ⟨S8x2304x704, .f32⟩
  | .hbm, ⟨22, _⟩ => ⟨S8x2304x704, .f32⟩
  | .hbm, ⟨23, _⟩ => ⟨S8x2304x704, .f32⟩
  | .hbm, ⟨24, _⟩ => ⟨S8x2304x704, .f32⟩
  | .hbm, ⟨25, _⟩ => ⟨S8x2304x704, .f32⟩
  | .hbm, ⟨26, _⟩ => ⟨S8x2304x704, .f32⟩
  | .hbm, ⟨27, _⟩ => ⟨S8x2304x704, .f32⟩
  | .hbm, ⟨28, _⟩ => ⟨S8x1x2304x704, .f32⟩
  | .hbm, ⟨29, _⟩ => ⟨S8x1x2304x704, .f32⟩
  | .hbm, ⟨30, _⟩ => ⟨S8x2x2304x704, .f32⟩
  | .hbm, ⟨31, _⟩ => ⟨S8x2x2304x704, .bf16⟩
  | _, _ => ⟨S8x2x2304x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v6_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v6_1 : Ref sig .tc := ⟨.hbm, 19, rfl⟩
abbrev main_v6_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩

abbrev nD : Nat := 1
abbrev τ : Topo := Topo.v7x

variable {F : FTy → Type} [FloatOps F]
-- ==== Kernel24.lean ====
abbrev S8x2x2304x704 : Shape := ⟨4, ![8, 2, 2304, 704]⟩
abbrev S8x2304x704 : Shape := ⟨3, ![8, 2304, 704]⟩
abbrev S8x704x2304 : Shape := ⟨3, ![8, 704, 2304]⟩
abbrev S1x2x768x704 : Shape := ⟨4, ![1, 2, 768, 704]⟩
abbrev S1x768x704 : Shape := ⟨3, ![1, 768, 704]⟩
abbrev S1x704x768 : Shape := ⟨3, ![1, 704, 768]⟩
abbrev S1x1x768x704 : Shape := ⟨4, ![1, 1, 768, 704]⟩
abbrev S768x704 : Shape := ⟨2, ![768, 704]⟩
abbrev S704x768 : Shape := ⟨2, ![704, 768]⟩

abbrev nBuf : Space → Nat
  | .hbm => 3
  | .vmem => 6
  | .smem => 0
  | _ => 0

abbrev bufTy : (tb : Table) → Fin (tcTables nBuf tb) → BufTy
  | .hbm, ⟨0, _⟩ => ⟨S8x2x2304x704, .bf16⟩
  | .hbm, ⟨1, _⟩ => ⟨S8x2304x704, .bf16⟩
  | .hbm, ⟨2, _⟩ => ⟨S8x704x2304, .bf16⟩
  | .local _ .vmem, ⟨0, _⟩ => ⟨S1x2x768x704, .bf16⟩
  | .local _ .vmem, ⟨1, _⟩ => ⟨S1x2x768x704, .bf16⟩
  | .local _ .vmem, ⟨2, _⟩ => ⟨S1x768x704, .bf16⟩
  | .local _ .vmem, ⟨3, _⟩ => ⟨S1x768x704, .bf16⟩
  | .local _ .vmem, ⟨4, _⟩ => ⟨S1x704x768, .bf16⟩
  | .local _ .vmem, ⟨5, _⟩ => ⟨S1x704x768, .bf16⟩
  | _, _ => ⟨S8x2x2304x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x768x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S8x2x2304x704 : Shape := ⟨4, ![8, 2, 2304, 704]⟩
abbrev S8x1x2304x704 : Shape := ⟨4, ![8, 1, 2304, 704]⟩
abbrev S8x2304x704 : Shape := ⟨3, ![8, 2304, 704]⟩
abbrev S_ : Shape := ⟨0, ![]⟩
abbrev S8x704x2304 : Shape := ⟨3, ![8, 704, 2304]⟩

abbrev nBuf : Space → Nat
  | .hbm => 19
  | .vmem => 0
  | .smem => 0
  | _ => 0

abbrev bufTy : (tb : Table) → Fin (tcTables nBuf tb) → BufTy
  | .hbm, ⟨0, _⟩ => ⟨S8x2x2304x704, .bf16⟩
  | .hbm, ⟨1, _⟩ => ⟨S8x1x2304x704, .bf16⟩
  | .hbm, ⟨2, _⟩ => ⟨S8x2304x704, .bf16⟩
  | .hbm, ⟨3, _⟩ => ⟨S8x2304x704, .f32⟩
  | .hbm, ⟨4, _⟩ => ⟨S8x1x2304x704, .bf16⟩
  | .hbm, ⟨5, _⟩ => ⟨S8x2304x704, .bf16⟩
  | .hbm, ⟨6, _⟩ => ⟨S8x2304x704, .f32⟩
  | .hbm, ⟨7, _⟩ => ⟨S8x2304x704, .f32⟩
  | .hbm, ⟨8, _⟩ => ⟨S8x2304x704, .f32⟩
  | .hbm, ⟨9, _⟩ => ⟨S_, .f32⟩
  | .hbm, ⟨10, _⟩ => ⟨S8x2304x704, .f32⟩
  | .hbm, ⟨11, _⟩ => ⟨S8x2304x704, .f32⟩
  | .hbm, ⟨12, _⟩ => ⟨S_, .f32⟩
  | .hbm, ⟨13, _⟩ => ⟨S8x2304x704, .f32⟩
  | .hbm, ⟨14, _⟩ => ⟨S8x2304x704, .f32⟩
  | .hbm, ⟨15, _⟩ => ⟨S8x2304x704, .f32⟩
  | .hbm, ⟨16, _⟩ => ⟨S8x2304x704, .f32⟩
  | .hbm, ⟨17, _⟩ => ⟨S8x2304x704, .bf16⟩
  | .hbm, ⟨18, _⟩ => ⟨S8x704x2304, .bf16⟩
  | _, _ => ⟨S8x2x2304x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== Kernel25.lean ====
abbrev S2304x2048 : Shape := ⟨2, ![2304, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2048, .f32⟩
  | .hbm, ⟨2, _⟩ => ⟨S2304x2048, .f32⟩
  | .hbm, ⟨3, _⟩ => ⟨S1x2048, .f32⟩
  | .hbm, ⟨4, _⟩ => ⟨S2304x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference25Ideal.lean ====
abbrev S2304x2048 : Shape := ⟨2, ![2304, 2048]⟩
abbrev S2048 : Shape := ⟨1, ![2048]⟩
abbrev S_ : Shape := ⟨0, ![]⟩
abbrev S2304 : Shape := ⟨1, ![2304]⟩
abbrev S2304x1 : Shape := ⟨2, ![2304, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048, .f32⟩
  | .hbm, ⟨2, _⟩ => ⟨S2304x2048, .f32⟩
  | .hbm, ⟨3, _⟩ => ⟨S2304x2048, .f32⟩
  | .hbm, ⟨4, _⟩ => ⟨S_, .f32⟩
  | .hbm, ⟨5, _⟩ => ⟨S2304, .f32⟩
  | .hbm, ⟨6, _⟩ => ⟨S2304x1, .f32⟩
  | .hbm, ⟨7, _⟩ => ⟨S_, .f32⟩
  | .hbm, ⟨8, _⟩ => ⟨S2304x1, .f32⟩
  | .hbm, ⟨9, _⟩ => ⟨S2304x1, .f32⟩
  | .hbm, ⟨10, _⟩ => ⟨S_, .f32⟩
  | .hbm, ⟨11, _⟩ => ⟨S2304x1, .f32⟩
  | .hbm, ⟨12, _⟩ => ⟨S2304x1, .f32⟩
  | .hbm, ⟨13, _⟩ => ⟨S2304x1, .f32⟩
  | .hbm, ⟨14, _⟩ => ⟨S2304x2048, .f32⟩
  | .hbm, ⟨15, _⟩ => ⟨S2304x2048, .f32⟩
  | .hbm, ⟨16, _⟩ => ⟨S1x2048, .f32⟩
  | .hbm, ⟨17, _⟩ => ⟨S2304x2048, .f32⟩
  | .hbm, ⟨18, _⟩ => ⟨S2304x2048, .f32⟩
  | .hbm, ⟨19, _⟩ => ⟨S2304x2048, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel26.lean ====
abbrev S2304x2048 : Shape := ⟨2, ![2304, 2048]⟩
abbrev S2048 : Shape := ⟨1, ![2048]⟩
abbrev S1x2048 : Shape := ⟨2, ![1, 2048]⟩
abbrev S2048x2304 : Shape := ⟨2, ![2048, 2304]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2304x2048, .f32⟩
  | .hbm, ⟨1, _⟩ => ⟨S2048, .f32⟩
  | .hbm, ⟨2, _⟩ => ⟨S1x2048, .f32⟩
  | .hbm, ⟨3, _⟩ => ⟨S2304x2048, .bf16⟩
  | .hbm, ⟨4, _⟩ => ⟨S2048x2304, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x256, .bf16⟩
  | .local _ .vmem, ⟨6, _⟩ => ⟨S2048x256, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference26Ideal.lean ====
abbrev S2304x2048 : Shape := ⟨2, ![2304, 2048]⟩
abbrev S2048 : Shape := ⟨1, ![2048]⟩
abbrev S_ : Shape := ⟨0, ![]⟩
abbrev S2304 : Shape := ⟨1, ![2304]⟩
abbrev S2304x1 : Shape := ⟨2, ![2304, 1]⟩
abbrev S1x2048 : Shape := ⟨2, ![1, 2048]⟩
abbrev S2048x2304 : Shape := ⟨2, ![2048, 2304]⟩

abbrev nBuf : Space → Nat
  | .hbm => 20
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2048, .f32⟩
  | .hbm, ⟨2, _⟩ => ⟨S2304x2048, .f32⟩
  | .hbm, ⟨3, _⟩ => ⟨S_, .f32⟩
  | .hbm, ⟨4, _⟩ => ⟨S2304, .f32⟩
  | .hbm, ⟨5, _⟩ => ⟨S2304x1, .f32⟩
  | .hbm, ⟨6, _⟩ => ⟨S_, .f32⟩
  | .hbm, ⟨7, _⟩ => ⟨S2304x1, .f32⟩
  | .hbm, ⟨8, _⟩ => ⟨S2304x1, .f32⟩
  | .hbm, ⟨9, _⟩ => ⟨S_, .f32⟩
  | .hbm, ⟨10, _⟩ => ⟨S2304x1, .f32⟩
  | .hbm, ⟨11, _⟩ => ⟨S2304x1, .f32⟩
  | .hbm, ⟨12, _⟩ => ⟨S2304x1, .f32⟩
  | .hbm, ⟨13, _⟩ => ⟨S2304x2048, .f32⟩
  | .hbm, ⟨14, _⟩ => ⟨S2304x2048, .f32⟩
  | .hbm, ⟨15, _⟩ => ⟨S1x2048, .f32⟩
  | .hbm, ⟨16, _⟩ => ⟨S2304x2048, .f32⟩
  | .hbm, ⟨17, _⟩ => ⟨S2304x2048, .f32⟩
  | .hbm, ⟨18, _⟩ => ⟨S2304x2048, .bf16⟩
  | .hbm, ⟨19, _⟩ => ⟨S2048x2304, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel27.lean ====
abbrev S2304x10368 : Shape := ⟨2, ![2304, 10368]⟩
abbrev S1x128 : Shape := ⟨2, ![1, 128]⟩
abbrev S2304x128 : Shape := ⟨2, ![2304, 128]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S2304x10368, .f32⟩
  | .hbm, ⟨1, _⟩ => ⟨S1x128, .f32⟩
  | .hbm, ⟨2, _⟩ => ⟨S2304x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | _, _ => ⟨S2304x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c80_i32 : BitVec 32 := 80#32
  let c0_i32 : BitVec 32 := 0#32
  ![arg0.toNat, c80_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S2304x10368 : Shape := ⟨2, ![2304, 10368]⟩
abbrev S1x128 : Shape := ⟨2, ![1, 128]⟩
abbrev S2304x128 : Shape := ⟨2, ![2304, 128]⟩
abbrev S_ : Shape := ⟨0, ![]⟩
abbrev S2304 : Shape := ⟨1, ![2304]⟩
abbrev S2304x1 : Shape := ⟨2, ![2304, 1]⟩

abbrev nBuf : Space → Nat
  | .hbm => 29
  | .vmem => 0
  | .smem => 0
  | _ => 0

abbrev bufTy : (tb : Table) → Fin (tcTables nBuf tb) → BufTy
  | .hbm, ⟨0, _⟩ => ⟨S2304x10368, .f32⟩
  | .hbm, ⟨1, _⟩ => ⟨S1x128, .f32⟩
  | .hbm, ⟨2, _⟩ => ⟨S2304x128, .f32⟩
  | .hbm, ⟨3, _⟩ => ⟨S2304x128, .f32⟩
  | .hbm, ⟨4, _⟩ => ⟨S2304x128, .f32⟩
  | .hbm, ⟨5, _⟩ => ⟨S_, .f32⟩
  | .hbm, ⟨6, _⟩ => ⟨S2304x128, .f32⟩
  | .hbm, ⟨7, _⟩ => ⟨S2304x128, .f32⟩
  | .hbm, ⟨8, _⟩ => ⟨S2304x128, .f32⟩
  | .hbm, ⟨9, _⟩ => ⟨S2304x128, .f32⟩
  | .hbm, ⟨10, _⟩ => ⟨S2304x128, .i1⟩
  | .hbm, ⟨11, _⟩ => ⟨S2304x128, .f32⟩
  | .hbm, ⟨12, _⟩ => ⟨S2304x128, .f32⟩
  | .hbm, ⟨13, _⟩ => ⟨S2304x128, .f32⟩
  | .hbm, ⟨14, _⟩ => ⟨S2304x128, .f32⟩
  | .hbm, ⟨15, _⟩ => ⟨S2304x128, .f32⟩
  | .hbm, ⟨16, _⟩ => ⟨S2304x128, .f32⟩
  | .hbm, ⟨17, _⟩ => ⟨S2304x128, .f32⟩
  | .hbm, ⟨18, _⟩ => ⟨S2304x128, .f32⟩
  | .hbm, ⟨19, _⟩ => ⟨S2304, .i32⟩
  | .hbm, ⟨20, _⟩ => ⟨S2304x1, .i32⟩
  | .hbm, ⟨21, _⟩ => ⟨S_, .i32⟩
  | .hbm, ⟨22, _⟩ => ⟨S2304x1, .i32⟩
  | .hbm, ⟨23, _⟩ => ⟨S2304x1, .i1⟩
  | .hbm, ⟨24, _⟩ => ⟨S_, .f32⟩
  | .hbm, ⟨25, _⟩ => ⟨S_, .f32⟩
  | .hbm, ⟨26, _⟩ => ⟨S2304x128, .i1⟩
  | .hbm, ⟨27, _⟩ => ⟨S2304x128, .f32⟩
  | .hbm, ⟨28, _⟩ => ⟨S2304x128, .f32⟩
  | _, _ => ⟨S2304x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩

abbrev nD : Nat := 1
abbrev τ : Topo := Topo.v7x

variable {F : FTy → Type} [FloatOps F]
-- ==== Kernel28.lean ====
abbrev S2304x4096 : Shape := ⟨2, ![2304, 4096]⟩
abbrev S2304x10368 : Shape := ⟨2, ![2304, 10368]⟩
abbrev S4096 : Shape := ⟨1, ![4096]⟩
abbrev S1x4096 : Shape := ⟨2, ![1, 4096]⟩
abbrev S4096x2304 : Shape := ⟨2, ![4096, 2304]⟩
abbrev S256x512 : Shape := ⟨2, ![256, 512]⟩
abbrev S1x512 : Shape := ⟨2, ![1, 512]⟩
abbrev S512x256 : Shape := ⟨2, ![512, 256]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2304x4096, .f32⟩
  | .hbm, ⟨1, _⟩ => ⟨S2304x10368, .f32⟩
  | .hbm, ⟨2, _⟩ => ⟨S4096, .f32⟩
  | .hbm, ⟨3, _⟩ => ⟨S1x4096, .f32⟩
  | .hbm, ⟨4, _⟩ => ⟨S2304x4096, .bf16⟩
  | .hbm, ⟨5, _⟩ => ⟨S4096x2304, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S256x512, .bf16⟩
  | .local _ .vmem, ⟨7, _⟩ => ⟨S256x512, .bf16⟩
  | .local _ .vmem, ⟨8, _⟩ => ⟨S512x256, .bf16⟩
  | .local _ .vmem, ⟨9, _⟩ => ⟨S512x256, .bf16⟩
  | _, _ => ⟨S2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference28Ideal.lean ====
abbrev S2304x4096 : Shape := ⟨2, ![2304, 4096]⟩
abbrev S2304x10368 : Shape := ⟨2, ![2304, 10368]⟩
abbrev S4096 : Shape := ⟨1, ![4096]⟩
abbrev S_ : Shape := ⟨0, ![]⟩
abbrev S2304x8x512 : Shape := ⟨3, ![2304, 8, 512]⟩
abbrev S2304x8 : Shape := ⟨2, ![2304, 8]⟩
abbrev S2304x8x1 : Shape := ⟨3, ![2304, 8, 1]⟩
abbrev S1x4096 : Shape := ⟨2, ![1, 4096]⟩
abbrev S4096x2304 : Shape := ⟨2, ![4096, 2304]⟩

abbrev nBuf : Space → Nat
  | .hbm => 34
  | .vmem => 0
  | .smem => 0
  | _ => 0

abbrev bufTy : (tb : Table) → Fin (tcTables nBuf tb) → BufTy
  | .hbm, ⟨0, _⟩ => ⟨S2304x4096, .f32⟩
  | .hbm, ⟨1, _⟩ => ⟨S2304x10368, .f32⟩
  | .hbm, ⟨2, _⟩ => ⟨S4096, .f32⟩
  | .hbm, ⟨3, _⟩ => ⟨S2304x4096, .f32⟩
  | .hbm, ⟨4, _⟩ => ⟨S2304x4096, .f32⟩
  | .hbm, ⟨5, _⟩ => ⟨S2304x4096, .f32⟩
  | .hbm, ⟨6, _⟩ => ⟨S_, .f32⟩
  | .hbm, ⟨7, _⟩ => ⟨S2304x4096, .f32⟩
  | .hbm, ⟨8, _⟩ => ⟨S2304x4096, .f32⟩
  | .hbm, ⟨9, _⟩ => ⟨S_, .f32⟩
  | .hbm, ⟨10, _⟩ => ⟨S2304x4096, .f32⟩
  | .hbm, ⟨11, _⟩ => ⟨S2304x4096, .f32⟩
  | .hbm, ⟨12, _⟩ => ⟨S2304x4096, .f32⟩
  | .hbm, ⟨13, _⟩ => ⟨S2304x4096, .f32⟩
  | .hbm, ⟨14, _⟩ => ⟨S2304x8x512, .f32⟩
  | .hbm, ⟨15, _⟩ => ⟨S2304x8x512, .f32⟩
  | .hbm, ⟨16, _⟩ => ⟨S_, .f32⟩
  | .hbm, ⟨17, _⟩ => ⟨S2304x8, .f32⟩
  | .hbm, ⟨18, _⟩ => ⟨S2304x8x1, .f32⟩
  | .hbm, ⟨19, _⟩ => ⟨S_, .f32⟩
  | .hbm, ⟨20, _⟩ => ⟨S2304x8x1, .f32⟩
  | .hbm, ⟨21, _⟩ => ⟨S2304x8x1, .f32⟩
  | .hbm, ⟨22, _⟩ => ⟨S_, .f32⟩
  | .hbm, ⟨23, _⟩ => ⟨S2304x8x1, .f32⟩
  | .hbm, ⟨24, _⟩ => ⟨S2304x8x1, .f32⟩
  | .hbm, ⟨25, _⟩ => ⟨S2304x8x1, .f32⟩
  | .hbm, ⟨26, _⟩ => ⟨S2304x8x512, .f32⟩
  | .hbm, ⟨27, _⟩ => ⟨S2304x8x512, .f32⟩
  | .hbm, ⟨28, _⟩ => ⟨S2304x4096, .f32⟩
  | .hbm, ⟨29, _⟩ => ⟨S1x4096, .f32⟩
  | .hbm, ⟨30, _⟩ => ⟨S2304x4096, .f32⟩
  | .hbm, ⟨31, _⟩ => ⟨S2304x4096, .f32⟩
  | .hbm, ⟨32, _⟩ => ⟨S2304x4096, .bf16⟩
  | .hbm, ⟨33, _⟩ => ⟨S4096x2304, .bf16⟩
  | _, _ => ⟨S2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Kernel29.lean ====
abbrev S2304x2048 : Shape := ⟨2, ![2304, 2048]⟩
abbrev S4x512x512 : Shape := ⟨3, ![4, 512, 512]⟩
abbrev S2048 : Shape := ⟨1, ![2048]⟩
abbrev S1x2048 : Shape := ⟨2, ![1, 2048]⟩
abbrev S256x512 : Shape := ⟨2, ![256, 512]⟩
abbrev S1x512x512 : Shape := ⟨3, ![1, 512, 512]⟩
abbrev S1x512 : Shape := ⟨2, ![1, 512]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S2304x2048, .bf16⟩
  | .hbm, ⟨1, _⟩ => ⟨S4x512x512, .bf16⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S2304x2048, .f32⟩
  | .hbm, ⟨7, _⟩ => ⟨S2304x2048, .f32⟩
  | .local _ .vmem, ⟨0, _⟩ => ⟨S256x512, .bf16⟩
  | .local _ .vmem, ⟨1, _⟩ => ⟨S256x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference29Ideal.lean ====
abbrev S2304x2048 : Shape := ⟨2, ![2304, 2048]⟩
abbrev S4x512x512 : Shape := ⟨3, ![4, 512, 512]⟩
abbrev S2048 : Shape := ⟨1, ![2048]⟩
abbrev S2304x4x512 : Shape := ⟨3, ![2304, 4, 512]⟩
abbrev S4x512x2304 : Shape := ⟨3, ![4, 512, 2304]⟩
abbrev S4x512 : Shape := ⟨2, ![4, 512]⟩
abbrev S1x4x512 : Shape := ⟨3, ![1, 4, 512]⟩
abbrev S1x2048 : Shape := ⟨2, ![1, 2048]⟩
abbrev S2304 : Shape := ⟨1, ![2304]⟩
abbrev S2304x1 : Shape := ⟨2, ![2304, 1]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x512x512, .bf16⟩
  | .hbm, ⟨2, _⟩ => ⟨S2048, .f32⟩
  | .hbm, ⟨3, _⟩ => ⟨S2048, .f32⟩
  | .hbm, ⟨4, _⟩ => ⟨S2304x4x512, .bf16⟩
  | .hbm, ⟨5, _⟩ => ⟨S4x512x2304, .f32⟩
  | .hbm, ⟨6, _⟩ => ⟨S2304x4x512, .f32⟩
  | .hbm, ⟨7, _⟩ => ⟨S4x512, .f32⟩
  | .hbm, ⟨8, _⟩ => ⟨S1x4x512, .f32⟩
  | .hbm, ⟨9, _⟩ => ⟨S2304x4x512, .f32⟩
  | .hbm, ⟨10, _⟩ => ⟨S2304x4x512, .f32⟩
  | .hbm, ⟨11, _⟩ => ⟨S2304x2048, .f32⟩
  | .hbm, ⟨12, _⟩ => ⟨S1x2048, .f32⟩
  | .hbm, ⟨13, _⟩ => ⟨S2304x2048, .f32⟩
  | .hbm, ⟨14, _⟩ => ⟨S2304x2048, .f32⟩
  | .hbm, ⟨15, _⟩ => ⟨S2304, .i32⟩
  | .hbm, ⟨16, _⟩ => ⟨S2304x1, .i32⟩
  | .hbm, ⟨17, _⟩ => ⟨S_, .i32⟩
  | .hbm, ⟨18, _⟩ => ⟨S2304x1, .i32⟩
  | .hbm, ⟨19, _⟩ => ⟨S2304x1, .i1⟩
  | .hbm, ⟨20, _⟩ => ⟨S_, .f32⟩
  | .hbm, ⟨21, _⟩ => ⟨S_, .f32⟩
  | .hbm, ⟨22, _⟩ => ⟨S2304x2048, .i1⟩
  | .hbm, ⟨23, _⟩ => ⟨S2304x2048, .f32⟩
  | .hbm, ⟨24, _⟩ => ⟨S2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel30.lean ====
abbrev S2304x2048 : Shape := ⟨2, ![2304, 2048]⟩
abbrev S4x512x512 : Shape := ⟨3, ![4, 512, 512]⟩
abbrev S2048 : Shape := ⟨1, ![2048]⟩
abbrev S1x2048 : Shape := ⟨2, ![1, 2048]⟩
abbrev S256x512 : Shape := ⟨2, ![256, 512]⟩
abbrev S1x512x512 : Shape := ⟨3, ![1, 512, 512]⟩
abbrev S1x512 : Shape := ⟨2, ![1, 512]⟩
abbrev S512x512 : Shape := ⟨2, ![512, 512]⟩
abbrev S512 : Shape := ⟨1, ![512]⟩

abbrev nBuf : Space → Nat
  | .hbm => 10
  | .vmem => 18
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x2048, .bf16⟩
  | .hbm, ⟨3, _⟩ => ⟨S4x512x512, .bf16⟩
  | .hbm, ⟨4, _⟩ => ⟨S2048, .f32⟩
  | .hbm, ⟨5, _⟩ => ⟨S1x2048, .f32⟩
  | .hbm, ⟨6, _⟩ => ⟨S2304x2048, .f32⟩
  | .hbm, ⟨7, _⟩ => ⟨S4x512x512, .f32⟩
  | .hbm, ⟨8, _⟩ => ⟨S1x2048, .f32⟩
  | .hbm, ⟨9, _⟩ => ⟨S1x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | .local _ .vmem, ⟨12, _⟩ => ⟨S1x512x512, .f32⟩
  | .local _ .vmem, ⟨13, _⟩ => ⟨S1x512x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference30Ideal.lean ====
abbrev S2304x2048 : Shape := ⟨2, ![2304, 2048]⟩
abbrev S4x512x512 : Shape := ⟨3, ![4, 512, 512]⟩
abbrev S2048 : Shape := ⟨1, ![2048]⟩
abbrev S1x2048 : Shape := ⟨2, ![1, 2048]⟩
abbrev S2304 : Shape := ⟨1, ![2304]⟩
abbrev S2304x1 : Shape := ⟨2, ![2304, 1]⟩
abbrev S_ : Shape := ⟨0, ![]⟩
abbrev S2304x4x512 : Shape := ⟨3, ![2304, 4, 512]⟩
abbrev S4x512x2304 : Shape := ⟨3, ![4, 512, 2304]⟩
abbrev S4x512 : Shape := ⟨2, ![4, 512]⟩
abbrev S1x4x512 : Shape := ⟨3, ![1, 4, 512]⟩
abbrev S4x2304x512 : Shape := ⟨3, ![4, 2304, 512]⟩

abbrev nBuf : Space → Nat
  | .hbm => 58
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x2048, .bf16⟩
  | .hbm, ⟨3, _⟩ => ⟨S4x512x512, .bf16⟩
  | .hbm, ⟨4, _⟩ => ⟨S2048, .f32⟩
  | .hbm, ⟨5, _⟩ => ⟨S1x2048, .f32⟩
  | .hbm, ⟨6, _⟩ => ⟨S2304x2048, .f32⟩
  | .hbm, ⟨7, _⟩ => ⟨S2304x2048, .f32⟩
  | .hbm, ⟨8, _⟩ => ⟨S2304, .i32⟩
  | .hbm, ⟨9, _⟩ => ⟨S2304x1, .i32⟩
  | .hbm, ⟨10, _⟩ => ⟨S_, .i32⟩
  | .hbm, ⟨11, _⟩ => ⟨S2304x1, .i32⟩
  | .hbm, ⟨12, _⟩ => ⟨S2304x1, .i1⟩
  | .hbm, ⟨13, _⟩ => ⟨S_, .f32⟩
  | .hbm, ⟨14, _⟩ => ⟨S_, .f32⟩
  | .hbm, ⟨15, _⟩ => ⟨S2304x2048, .i1⟩
  | .hbm, ⟨16, _⟩ => ⟨S2304x2048, .f32⟩
  | .hbm, ⟨17, _⟩ => ⟨S2304x2048, .f32⟩
  | .hbm, ⟨18, _⟩ => ⟨S_, .f32⟩
  | .hbm, ⟨19, _⟩ => ⟨S2304x2048, .f32⟩
  | .hbm, ⟨20, _⟩ => ⟨S_, .f32⟩
  | .hbm, ⟨21, _⟩ => ⟨S2304x2048, .f32⟩
  | .hbm, ⟨22, _⟩ => ⟨S2304x2048, .f32⟩
  | .hbm, ⟨23, _⟩ => ⟨S2304x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2304x2048, .f32⟩
  | .hbm, ⟨28, _⟩ => ⟨S2304x2048, .f32⟩
  | .hbm, ⟨29, _⟩ => ⟨S_, .f32⟩
  | .hbm, ⟨30, _⟩ => ⟨S2048, .f32⟩
  | .hbm, ⟨31, _⟩ => ⟨S2304x2048, .f32⟩
  | .hbm, ⟨32, _⟩ => ⟨S4x512x512, .f32⟩
  | .hbm, ⟨33, _⟩ => ⟨S_, .f32⟩
  | .hbm, ⟨34, _⟩ => ⟨S2048, .f32⟩
  | .hbm, ⟨35, _⟩ => ⟨S2304x4x512, .f32⟩
  | .hbm, ⟨36, _⟩ => ⟨S4x512x2304, .f32⟩
  | .hbm, ⟨37, _⟩ => ⟨S2304x4x512, .f32⟩
  | .hbm, ⟨38, _⟩ => ⟨S4x512, .f32⟩
  | .hbm, ⟨39, _⟩ => ⟨S1x4x512, .f32⟩
  | .hbm, ⟨40, _⟩ => ⟨S2304x4x512, .f32⟩
  | .hbm, ⟨41, _⟩ => ⟨S2304x4x512, .f32⟩
  | .hbm, ⟨42, _⟩ => ⟨S2304x2048, .f32⟩
  | .hbm, ⟨43, _⟩ => ⟨S2304x4x512, .f32⟩
  | .hbm, ⟨44, _⟩ => ⟨S_, .f32⟩
  | .hbm, ⟨45, _⟩ => ⟨S4x512, .f32⟩
  | .hbm, ⟨46, _⟩ => ⟨S1x4x512, .f32⟩
  | .hbm, ⟨47, _⟩ => ⟨S_, .f32⟩
  | .hbm, ⟨48, _⟩ => ⟨S4x512, .f32⟩
  | .hbm, ⟨49, _⟩ => ⟨S2048, .f32⟩
  | .hbm, ⟨50, _⟩ => ⟨S4x512x2304, .f32⟩
  | .hbm, ⟨51, _⟩ => ⟨S4x2304x512, .f32⟩
  | .hbm, ⟨52, _⟩ => ⟨S2304x4x512, .f32⟩
  | .hbm, ⟨53, _⟩ => ⟨S4x512x512, .f32⟩
  | .hbm, ⟨54, _⟩ => ⟨S4x512x512, .f32⟩
  | .hbm, ⟨55, _⟩ => ⟨S2304x2048, .f32⟩
  | .hbm, ⟨56, _⟩ => ⟨S1x2048, .f32⟩
  | .hbm, ⟨57, _⟩ => ⟨S1x2048, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_v7_1 : Ref sig .tc := ⟨.hbm, 15, rfl⟩
abbrev main_call0_v2 : Ref sig .tc := ⟨.hbm, 16, rfl⟩
abbrev main_v7_0 : Ref sig .tc := ⟨.hbm, 17, rfl⟩
abbrev main_call0_cst : Ref sig .tc := ⟨.hbm, 18, rfl⟩
abbrev main_v7_2 : Ref sig .tc := ⟨.hbm, 19, rfl⟩
abbrev main_call1_cst : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Kernel31.lean ====
abbrev S2304x10368 : Shape := ⟨2, ![2304, 10368]⟩
abbrev S1x128 : Shape := ⟨2, ![1, 128]⟩
abbrev S2304x128 : Shape := ⟨2, ![2304, 128]⟩
abbrev S256x128 : Shape := ⟨2, ![256, 128]⟩
abbrev S128 : Shape := ⟨1, ![128]⟩

abbrev nBuf : Space → Nat
  | .hbm => 5
  | .vmem => 8
  | .smem => 0
  | _ => 0

abbrev bufTy : (tb : Table) → Fin (tcTables nBuf tb) → BufTy
  | .hbm, ⟨0, _⟩ => ⟨S2304x10368, .f32⟩
  | .hbm, ⟨1, _⟩ => ⟨S1x128, .f32⟩
  | .hbm, ⟨2, _⟩ => ⟨S2304x128, .f32⟩
  | .hbm, ⟨3, _⟩ => ⟨S2304x128, .bf16⟩
  | .hbm, ⟨4, _⟩ => ⟨S1x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .bf16⟩
  | .local _ .vmem, ⟨6, _⟩ => ⟨S256x128, .bf16⟩
  | .local _ .vmem, ⟨7, _⟩ => ⟨S1x128, .f32⟩
  | _, _ => ⟨S2304x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c80_i32 : BitVec 32 := 80#32
  let c0_i32 : BitVec 32 := 0#32
  ![arg0.toNat, c80_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference31Ideal.lean ====
abbrev S2304x10368 : Shape := ⟨2, ![2304, 10368]⟩
abbrev S1x128 : Shape := ⟨2, ![1, 128]⟩
abbrev S2304x128 : Shape := ⟨2, ![2304, 128]⟩
abbrev S_ : Shape := ⟨0, ![]⟩
abbrev S2304 : Shape := ⟨1, ![2304]⟩
abbrev S2304x1 : Shape := ⟨2, ![2304, 1]⟩
abbrev S128 : Shape := ⟨1, ![128]⟩

abbrev nBuf : Space → Nat
  | .hbm => 75
  | .vmem => 0
  | .smem => 0
  | _ => 0

abbrev bufTy : (tb : Table) → Fin (tcTables nBuf tb) → BufTy
  | .hbm, ⟨0, _⟩ => ⟨S2304x10368, .f32⟩
  | .hbm, ⟨1, _⟩ => ⟨S1x128, .f32⟩
  | .hbm, ⟨2, _⟩ => ⟨S2304x128, .f32⟩
  | .hbm, ⟨3, _⟩ => ⟨S2304x128, .f32⟩
  | .hbm, ⟨4, _⟩ => ⟨S2304x128, .f32⟩
  | .hbm, ⟨5, _⟩ => ⟨S2304x128, .f32⟩
  | .hbm, ⟨6, _⟩ => ⟨S_, .f32⟩
  | .hbm, ⟨7, _⟩ => ⟨S2304x128, .f32⟩
  | .hbm, ⟨8, _⟩ => ⟨S2304x128, .f32⟩
  | .hbm, ⟨9, _⟩ => ⟨S2304x128, .f32⟩
  | .hbm, ⟨10, _⟩ => ⟨S2304x128, .f32⟩
  | .hbm, ⟨11, _⟩ => ⟨S2304x128, .i1⟩
  | .hbm, ⟨12, _⟩ => ⟨S2304x128, .f32⟩
  | .hbm, ⟨13, _⟩ => ⟨S2304x128, .f32⟩
  | .hbm, ⟨14, _⟩ => ⟨S2304x128, .f32⟩
  | .hbm, ⟨15, _⟩ => ⟨S2304x128, .f32⟩
  | .hbm, ⟨16, _⟩ => ⟨S2304x128, .f32⟩
  | .hbm, ⟨17, _⟩ => ⟨S2304x128, .f32⟩
  | .hbm, ⟨18, _⟩ => ⟨S2304x128, .f32⟩
  | .hbm, ⟨19, _⟩ => ⟨S2304x128, .f32⟩
  | .hbm, ⟨20, _⟩ => ⟨S_, .f32⟩
  | .hbm, ⟨21, _⟩ => ⟨S2304x128, .f32⟩
  | .hbm, ⟨22, _⟩ => ⟨S2304x128, .i1⟩
  | .hbm, ⟨23, _⟩ => ⟨S_, .f32⟩
  | .hbm, ⟨24, _⟩ => ⟨S2304x128, .f32⟩
  | .hbm, ⟨25, _⟩ => ⟨S2304x128, .f32⟩
  | .hbm, ⟨26, _⟩ => ⟨S_, .f32⟩
  | .hbm, ⟨27, _⟩ => ⟨S2304x128, .f32⟩
  | .hbm, ⟨28, _⟩ => ⟨S2304x128, .i1⟩
  | .hbm, ⟨29, _⟩ => ⟨S_, .f32⟩
  | .hbm, ⟨30, _⟩ => ⟨S2304x128, .f32⟩
  | .hbm, ⟨31, _⟩ => ⟨S2304x128, .f32⟩
  | .hbm, ⟨32, _⟩ => ⟨S2304x128, .f32⟩
  | .hbm, ⟨33, _⟩ => ⟨S2304x128, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2304x128, .f32⟩
  | .hbm, ⟨42, _⟩ => ⟨S2304x128, .i1⟩
  | .hbm, ⟨43, _⟩ => ⟨S_, .f32⟩
  | .hbm, ⟨44, _⟩ => ⟨S2304x128, .f32⟩
  | .hbm, ⟨45, _⟩ => ⟨S2304x128, .f32⟩
  | .hbm, ⟨46, _⟩ => ⟨S2304x128, .f32⟩
  | .hbm, ⟨47, _⟩ => ⟨S2304x128, .f32⟩
  | .hbm, ⟨48, _⟩ => ⟨S2304x128, .f32⟩
  | .hbm, ⟨49, _⟩ => ⟨S_, .f32⟩
  | .hbm, ⟨50, _⟩ => ⟨S2304x128, .f32⟩
  | .hbm, ⟨51, _⟩ => ⟨S2304x128, .f32⟩
  | .hbm, ⟨52, _⟩ => ⟨S2304, .i32⟩
  | .hbm, ⟨53, _⟩ => ⟨S2304x1, .i32⟩
  | .hbm, ⟨54, _⟩ => ⟨S_, .i32⟩
  | .hbm, ⟨55, _⟩ => ⟨S2304x1, .i32⟩
  | .hbm, ⟨56, _⟩ => ⟨S2304x1, .i1⟩
  | .hbm, ⟨57, _⟩ => ⟨S_, .f32⟩
  | .hbm, ⟨58, _⟩ => ⟨S_, .f32⟩
  | .hbm, ⟨59, _⟩ => ⟨S2304x128, .i1⟩
  | .hbm, ⟨60, _⟩ => ⟨S2304x128, .f32⟩
  | .hbm, ⟨61, _⟩ => ⟨S2304x128, .f32⟩
  | .hbm, ⟨62, _⟩ => ⟨S_, .f32⟩
  | .hbm, ⟨63, _⟩ => ⟨S2304x128, .f32⟩
  | .hbm, ⟨64, _⟩ => ⟨S_, .f32⟩
  | .hbm, ⟨65, _⟩ => ⟨S2304x128, .f32⟩
  | .hbm, ⟨66, _⟩ => ⟨S2304x128, .f32⟩
  | .hbm, ⟨67, _⟩ => ⟨S2304x128, .f32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S_, .f32⟩
  | .hbm, ⟨72, _⟩ => ⟨S2304x10368, .f32⟩
  | .hbm, ⟨73, _⟩ => ⟨S2304x128, .f32⟩
  | .hbm, ⟨74, _⟩ => ⟨S2304x128, .bf16⟩
  | _, _ => ⟨S2304x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v3_0 : Ref sig .tc := ⟨.hbm, 19, rfl⟩
abbrev main_call0_cst_0 : Ref sig .tc := ⟨.hbm, 20, rfl⟩
abbrev main_call0_v13 : Ref sig .tc := ⟨.hbm, 21, rfl⟩
abbrev main_call0_v14 : Ref sig .tc := ⟨.hbm, 22, rfl⟩
abbrev main_call0_cst_1 : Ref sig .tc := ⟨.hbm, 23, rfl⟩
abbrev main_call0_v15 : Ref sig .tc := ⟨.hbm, 24, rfl⟩
abbrev main_call0_v16 : Ref sig .tc := ⟨.hbm, 25, rfl⟩
abbrev main_call0_cst_2 : Ref sig .tc := ⟨.hbm, 26, rfl⟩
abbrev main_call0_v17 : Ref sig .tc := ⟨.hbm, 27, rfl⟩
abbrev main_call0_v18 : Ref sig .tc := ⟨.hbm, 28, rfl⟩
abbrev main_call0_cst_3 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_v3_1 : Ref sig .tc := ⟨.hbm, 33, rfl⟩
abbrev main_call0_cst_4 : Ref sig .tc := ⟨.hbm, 34, rfl⟩
abbrev main_call0_cst_5 : Ref sig .tc := ⟨.hbm, 35, rfl⟩
abbrev main_call0_v23 : Ref sig .tc := ⟨.hbm, 36, rfl⟩
abbrev main_call0_cst_6 : Ref sig .tc := ⟨.hbm, 37, rfl⟩
abbrev main_call0_cst_7 : Ref sig .tc := ⟨.hbm, 38, rfl⟩
abbrev main_call0_v24 : Ref sig .tc := ⟨.hbm, 39, rfl⟩
abbrev main_call0_cst_8 : Ref sig .tc := ⟨.hbm, 40, rfl⟩
abbrev main_call0_v25 : Ref sig .tc := ⟨.hbm, 41, rfl⟩
abbrev main_call0_v26 : Ref sig .tc := ⟨.hbm, 42, rfl⟩
abbrev main_call0_cst_9 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_v31 : Ref sig .tc := ⟨.hbm, 48, rfl⟩
abbrev main_call0_cst_10 : Ref sig .tc := ⟨.hbm, 49, rfl⟩
abbrev main_call0_v32 : Ref sig .tc := ⟨.hbm, 50, rfl⟩
abbrev main_v3_2 : Ref sig .tc := ⟨.hbm, 51, rfl⟩
abbrev main_v4 : Ref sig .tc := ⟨.hbm, 52, rfl⟩
abbrev main_v5 : Ref sig .tc := ⟨.hbm, 53, rfl⟩
abbrev main_c : Ref sig .tc := ⟨.hbm, 54, rfl⟩
abbrev main_v6 : Ref sig .tc := ⟨.hbm, 55, rfl⟩
abbrev main_v7 : Ref sig .tc := ⟨.hbm, 56, rfl⟩
abbrev main_cst : Ref sig .tc := ⟨.hbm, 57, rfl⟩
abbrev main_call1_v0 : Ref sig .tc := ⟨.hbm, 58, rfl⟩
abbrev main_v8_1 : Ref sig .tc := ⟨.hbm, 59, rfl⟩
abbrev main_call1_v2 : Ref sig .tc := ⟨.hbm, 60, rfl⟩
abbrev main_v8_0 : Ref sig .tc := ⟨.hbm, 61, rfl⟩
abbrev main_call1_cst : Ref sig .tc := ⟨.hbm, 62, rfl⟩
abbrev main_v8_2 : Ref sig .tc := ⟨.hbm, 63, rfl⟩
abbrev main_call2_cst : Ref sig .tc := ⟨.hbm, 64, rfl⟩
abbrev main_call2_v0 : Ref sig .tc := ⟨.hbm, 65, rfl⟩
abbrev main_v9 : Ref sig .tc := ⟨.hbm, 66, rfl⟩
abbrev main_v10 : Ref sig .tc := ⟨.hbm, 67, rfl⟩
abbrev main_cst_0 : Ref sig .tc := ⟨.hbm, 68, rfl⟩
abbrev main_v11 : Ref sig .tc := ⟨.hbm, 69, rfl⟩
abbrev main_v12 : Ref sig .tc := ⟨.hbm, 70, rfl⟩
abbrev main_cst_1 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩

abbrev nD : Nat := 1
abbrev τ : Topo := Topo.v7x

variable {F : FTy → Type} [FloatOps F]
-- ==== Kernel32.lean ====
abbrev S2304x10368 : Shape := ⟨2, ![2304, 10368]⟩
abbrev S4x6144 : Shape := ⟨2, ![4, 6144]⟩
abbrev S6144 : Shape := ⟨1, ![6144]⟩
abbrev S1x6144 : Shape := ⟨2, ![1, 6144]⟩
abbrev S2304x6144 : Shape := ⟨2, ![2304, 6144]⟩
abbrev S2304x256 : Shape := ⟨2, ![2304, 256]⟩
abbrev S4x256 : Shape := ⟨2, ![4, 256]⟩
abbrev S1x256 : Shape := ⟨2, ![1, 256]⟩

abbrev nBuf : Space → Nat
  | .hbm => 5
  | .vmem => 8
  | .smem => 0
  | _ => 0

abbrev bufTy : (tb : Table) → Fin (tcTables nBuf tb) → BufTy
  | .hbm, ⟨0, _⟩ => ⟨S2304x10368, .f32⟩
  | .hbm, ⟨1, _⟩ => ⟨S4x6144, .f32⟩
  | .hbm, ⟨2, _⟩ => ⟨S6144, .f32⟩
  | .hbm, ⟨3, _⟩ => ⟨S1x6144, .f32⟩
  | .hbm, ⟨4, _⟩ => ⟨S2304x6144, .f32⟩
  | .local _ .vmem, ⟨0, _⟩ => ⟨S2304x256, .f32⟩
  | .local _ .vmem, ⟨1, _⟩ => ⟨S2304x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2304x256, .f32⟩
  | .local _ .vmem, ⟨7, _⟩ => ⟨S2304x256, .f32⟩
  | _, _ => ⟨S2304x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2304x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference32Ideal.lean ====
abbrev S2304x10368 : Shape := ⟨2, ![2304, 10368]⟩
abbrev S4x6144 : Shape := ⟨2, ![4, 6144]⟩
abbrev S6144 : Shape := ⟨1, ![6144]⟩
abbrev S2304x6144 : Shape := ⟨2, ![2304, 6144]⟩
abbrev S_ : Shape := ⟨0, ![]⟩
abbrev S2307x6144 : Shape := ⟨2, ![2307, 6144]⟩
abbrev S1x6144 : Shape := ⟨2, ![1, 6144]⟩
abbrev S2304 : Shape := ⟨1, ![2304]⟩
abbrev S2304x1 : Shape := ⟨2, ![2304, 1]⟩

abbrev nBuf : Space → Nat
  | .hbm => 56
  | .vmem => 0
  | .smem => 0
  | _ => 0

abbrev bufTy : (tb : Table) → Fin (tcTables nBuf tb) → BufTy
  | .hbm, ⟨0, _⟩ => ⟨S2304x10368, .f32⟩
  | .hbm, ⟨1, _⟩ => ⟨S4x6144, .f32⟩
  | .hbm, ⟨2, _⟩ => ⟨S6144, .f32⟩
  | .hbm, ⟨3, _⟩ => ⟨S2304x6144, .f32⟩
  | .hbm, ⟨4, _⟩ => ⟨S_, .i32⟩
  | .hbm, ⟨5, _⟩ => ⟨S_, .f32⟩
  | .hbm, ⟨6, _⟩ => ⟨S2307x6144, .f32⟩
  | .hbm, ⟨7, _⟩ => ⟨S1x6144, .f32⟩
  | .hbm, ⟨8, _⟩ => ⟨S6144, .f32⟩
  | .hbm, ⟨9, _⟩ => ⟨S2304x6144, .f32⟩
  | .hbm, ⟨10, _⟩ => ⟨S1x6144, .f32⟩
  | .hbm, ⟨11, _⟩ => ⟨S2304x6144, .f32⟩
  | .hbm, ⟨12, _⟩ => ⟨S2304x6144, .f32⟩
  | .hbm, ⟨13, _⟩ => ⟨S1x6144, .f32⟩
  | .hbm, ⟨14, _⟩ => ⟨S6144, .f32⟩
  | .hbm, ⟨15, _⟩ => ⟨S2304x6144, .f32⟩
  | .hbm, ⟨16, _⟩ => ⟨S1x6144, .f32⟩
  | .hbm, ⟨17, _⟩ => ⟨S2304x6144, .f32⟩
  | .hbm, ⟨18, _⟩ => ⟨S2304x6144, .f32⟩
  | .hbm, ⟨19, _⟩ => ⟨S2304x6144, .f32⟩
  | .hbm, ⟨20, _⟩ => ⟨S1x6144, .f32⟩
  | .hbm, ⟨21, _⟩ => ⟨S6144, .f32⟩
  | .hbm, ⟨22, _⟩ => ⟨S2304x6144, .f32⟩
  | .hbm, ⟨23, _⟩ => ⟨S1x6144, .f32⟩
  | .hbm, ⟨24, _⟩ => ⟨S2304x6144, .f32⟩
  | .hbm, ⟨25, _⟩ => ⟨S2304x6144, .f32⟩
  | .hbm, ⟨26, _⟩ => ⟨S2304x6144, .f32⟩
  | .hbm, ⟨27, _⟩ => ⟨S1x6144, .f32⟩
  | .hbm, ⟨28, _⟩ => ⟨S6144, .f32⟩
  | .hbm, ⟨29, _⟩ => ⟨S2304x6144, .f32⟩
  | .hbm, ⟨30, _⟩ => ⟨S1x6144, .f32⟩
  | .hbm, ⟨31, _⟩ => ⟨S2304x6144, .f32⟩
  | .hbm, ⟨32, _⟩ => ⟨S2304x6144, .f32⟩
  | .hbm, ⟨33, _⟩ => ⟨S2304x6144, .f32⟩
  | .hbm, ⟨34, _⟩ => ⟨S1x6144, .f32⟩
  | .hbm, ⟨35, _⟩ => ⟨S2304x6144, .f32⟩
  | .hbm, ⟨36, _⟩ => ⟨S2304x6144, .f32⟩
  | .hbm, ⟨37, _⟩ => ⟨S2304x6144, .f32⟩
  | .hbm, ⟨38, _⟩ => ⟨S2304x6144, .f32⟩
  | .hbm, ⟨39, _⟩ => ⟨S_, .f32⟩
  | .hbm, ⟨40, _⟩ => ⟨S2304x6144, .f32⟩
  | .hbm, ⟨41, _⟩ => ⟨S2304x6144, .f32⟩
  | .hbm, ⟨42, _⟩ => ⟨S_, .f32⟩
  | .hbm, ⟨43, _⟩ => ⟨S2304x6144, .f32⟩
  | .hbm, ⟨44, _⟩ => ⟨S2304x6144, .f32⟩
  | .hbm, ⟨45, _⟩ => ⟨S2304x6144, .f32⟩
  | .hbm, ⟨46, _⟩ => ⟨S2304, .i32⟩
  | .hbm, ⟨47, _⟩ => ⟨S2304x1, .i32⟩
  | .hbm, ⟨48, _⟩ => ⟨S_, .i32⟩
  | .hbm, ⟨49, _⟩ => ⟨S2304x1, .i32⟩
  | .hbm, ⟨50, _⟩ => ⟨S2304x1, .i1⟩
  | .hbm, ⟨51, _⟩ => ⟨S_, .f32⟩
  | .hbm, ⟨52, _⟩ => ⟨S_, .f32⟩
  | .hbm, ⟨53, _⟩ => ⟨S2304x6144, .i1⟩
  | .hbm, ⟨54, _⟩ => ⟨S2304x6144, .f32⟩
  | .hbm, ⟨55, _⟩ => ⟨S2304x6144, .f32⟩
  | _, _ => ⟨S2304x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_0 : Ref sig .tc := ⟨.hbm, 48, rfl⟩
abbrev main_v35 : Ref sig .tc := ⟨.hbm, 49, rfl⟩
abbrev main_v36 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== Proof.Conv.lean ====
module
public import proofs.«01_k».proof.Proof.Gen.Kernel32Ideal.Frame
public import proofs.«01_k».proof.Proof.Gen.Reference32Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel32Ideal.Extra
open Cert.Kernel32Ideal Cert.Kernel32Ideal.Gen Cert.Reference32Ideal.Read

/-! `conv_fwd`: the causal convolution and silu. -/

variable (m : (ℓ : Loc nD τ sig) → Buf (Elt Ideal) ℓ)

theorem idx : ∀ t : Fin cfg0.N, win0_0.index t = ![0, 16 + t.val] ∧ win0_1.index t = ![0, t.val] ∧ win0_2.index t = ![0, t.val] ∧ win0_3.index t = ![0, t.val] :=
  (by decide +kernel : ∀ t : Fin grid0.N, _)

/-- The product with the logistic function. -/
def silu (v : EReal) : EReal := v * Ideal.div 1 (1 + Ideal.exp (-v))

theorem zero : Ideal.ofBits .f32 0x00000000#32 = (0 : EReal) := by
  simp [Ideal.ofBits, Ideal.ieee]

theorem mask_k : ∀ R : Fin 2304, IntOp.cmpi CmpIPredicate.sge (IntOp.addi (BitVec.ofNat 32 R.val) 0#32) 240#32 = if 240 ≤ R.val then 1#1 else 0#1 := by
  decide +kernel

theorem mask_r : ∀ R : Fin 2304, IntOp.cmpi CmpIPredicate.sge (BitVec.ofNat 32 R.val) 240#32 = if 240 ≤ R.val then 1#1 else 0#1 := by
  decide +kernel

theorem pay1 (u : Vec Ideal S2304x256 .f32) (w3 b w2 w1 w0 : Vec Ideal S1x256 .f32) (R R1 R2 R3 : Fin 2304) (c : Fin 256) (h : 240 ≤ R.val)
    (h1 : R1.val + 1 = R.val) (h2 : R2.val + 2 = R.val) (h3 : R3.val + 3 = R.val) : (k0_pay1 (F := Ideal) u w3 b w2 w1 w0 (ix2 R c) : EReal)
    = silu (u (ix2 R c) * w3 (ix2 0 c) + b (ix2 0 c) + u (ix2 R1 c) * w2 (ix2 0 c) + u (ix2 R2 c) * w1 (ix2 0 c) + u (ix2 R3 c) * w0 (ix2 0 c)) := by
  have e1 : (⟨(R.val + 2304 - 1) % 2304, by omega⟩ : Fin 2304) = R1 := Fin.ext (by show (R.val + 2304 - 1) % 2304 = R1.val; omega)
  have e2 : (⟨(R.val + 2304 - 2) % 2304, by omega⟩ : Fin 2304) = R2 := Fin.ext (by show (R.val + 2304 - 2) % 2304 = R2.val; omega)
  have e3 : (⟨(R.val + 2304 - 3) % 2304, by omega⟩ : Fin 2304) = R3 := Fin.ext (by show (R.val + 2304 - 3) % 2304 = R3.val; omega)
  pointwise [k0_pay1]
  rw [mask_k R, if_pos h, zero_sub, e1, e2, e3]
  rfl

theorem pay0 (u : Vec Ideal S2304x256 .f32) (w3 b w2 w1 w0 : Vec Ideal S1x256 .f32) (R : Fin 2304) (c : Fin 256) (h : ¬240 ≤ R.val) : (k0_pay1 (F := Ideal) u w3 b w2 w1 w0 (ix2 R c) : EReal) = 0 := by
  pointwise [k0_pay1]
  rw [mask_k R, if_neg h]
  rfl

theorem ref1 (x : FVec Ideal S2304x10368 .f32) (R : Fin 2307) (B : Fin 6144) (Q : Fin 2304) (D : Fin 10368) (h : R.val = Q.val + 3) (hD : D.val = 4096 + B.val) : (val_main_v1 (F := Ideal) x (ix2 R B) : EReal) = x (ix2 Q D) := by
  have e1 : (⟨R.val - 3, by omega⟩ : Fin 2304) = Q := Fin.ext (by show R.val - 3 = Q.val; omega)
  have e2 : (⟨4096 + B.val, by omega⟩ : Fin 10368) = D := Fin.ext hD.symm
  pointwise [val_main_v1, val_main_v0, val_main_call0_v0, val_main_c]
  rw [dif_pos (by omega), e1, e2]

theorem ref31 (x : FVec Ideal S2304x10368 .f32) (w : FVec Ideal S4x6144 .f32) (b : FVec Ideal S6144 .f32) (R R1 R2 R3 : Fin 2304) (B : Fin 6144) (D : Fin 10368) (hD : D.val = 4096 + B.val)
    (h1 : R1.val + 1 = R.val) (h2 : R2.val + 2 = R.val) (h3 : R3.val + 3 = R.val) : (val_main_v31 (F := Ideal) x w b (ix2 R B) : EReal)
    = x (ix2 R D) * w (ix2 3 B) + b (ix1 B) + x (ix2 R1 D) * w (ix2 2 B) + x (ix2 R2 D) * w (ix2 1 B) + x (ix2 R3 D) * w (ix2 0 B) := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2]
  rw [ref1 x _ B R3 D (by show R.val = R3.val + 3; omega) hD, ref1 x _ B R2 D (by show 1 + R.val = R2.val + 3; omega) hD,
    ref1 x _ B R1 D (by show 2 + R.val = R1.val + 3; omega) hD, ref1 x _ B R D (by show 3 + R.val = R.val + 3; omega) hD]
  ac_rfl

theorem ref37 (x : FVec Ideal S2304x10368 .f32) (w : FVec Ideal S4x6144 .f32) (b : FVec Ideal S6144 .f32) (R : Fin 2304) (B : Fin 6144) : (val_main_v37 (F := Ideal) x w b (ix2 R B) : EReal)
    = if 240 ≤ R.val then silu (val_main_v31 (F := Ideal) x w b (ix2 R B)) else 0 := by
  pointwise [val_main_v37, val_main_call2_v2, val_main_call2_v1, val_main_call2_v0, val_main_cst, val_main_v36, val_main_v35, val_main_c_0, val_main_v34, val_main_v33, val_main_v32, val_main_call1_v5, val_main_call1_v4, val_main_call1_cst_0, val_main_call1_v3, val_main_call1_v2, val_main_call1_cst, val_main_call1_v1, val_main_call1_v0]
  rw [mask_r R]
  by_cases h : 240 ≤ R.val
  · rw [if_pos h, if_pos h]
    rfl
  · rw [if_neg h, if_neg h]
    exact zero

theorem b_u (c : Dev nD) (t : Fin cfg0.N) (R : Fin 2304) (b : Fin 256) (D : Fin 10368) (hD : D.val = 4096 + (t.val * 256 + b.val)) :
    (X0_0 m c t : FVec Ideal S2304x256 .f32) (ix2 R b) = m ((c : Thread nD τ).loc main_arg0) (ix2 R D) := by
  unfold X0_0 Pipeline.Window.fill
  rw [dif_pos (moved0_0 t (ix2 R b))]
  blk_ext [iblk, idx t, hD]

theorem b_w (c : Dev nD) (t : Fin cfg0.N) (k : Fin 4) (b : Fin 256) (B : Fin 6144) (hB : B.val = t.val * 256 + b.val) :
    (iblk m c 1 t : FVec Ideal S4x256 .f32) (ix2 k b) = m ((c : Thread nD τ).loc main_arg1) (ix2 k B) := by
  blk_ext [iblk, idx t, hB]

theorem v_b (c : Dev nD) (b : Fin 6144) :
    (V m c main_v0 : FVec Ideal S1x6144 .f32) (ix2 0 b) = m ((c : Thread nD τ).loc main_arg2) (ix1 b) := by
  entry_read
  pointwise

theorem b_b (c : Dev nD) (t : Fin cfg0.N) (b : Fin 256) (B : Fin 6144) (h : B.val = t.val * 256 + b.val) :
    (iblk m c 2 t : FVec Ideal S1x256 .f32) (ix2 0 b) = m ((c : Thread nD τ).loc main_arg2) (ix1 B) := by
  refine Eq.trans ?_ (v_b m c B)
  blk_ext [iblk, idx t, h]

theorem b_w0 (c : Dev nD) (t : Fin cfg0.N) (b : Fin 256) (B : Fin 6144) (hB : B.val = t.val * 256 + b.val) :
    ((View.ld (iblk m c 1 t) (Rect.unit ![0, 0] ![1, 256] inb_S4x256_S1x256_0_0)) : FVec Ideal S1x256 .f32) (ix2 0 b) = m ((c : Thread nD τ).loc main_arg1) (ix2 0 B) := by
  refine Eq.trans ?_ (b_w m c t 0 b B hB)
  refine congrArg (iblk m c 1 t : FVec Ideal S4x256 .f32) (funext fun i => ?_)
  fin_cases i
  · exact Fin.ext (by simp [Rect.emb, Rect.unit, ix2])
  · exact Fin.ext (by simp [Rect.emb, Rect.unit, ix2])

theorem b_w1 (c : Dev nD) (t : Fin cfg0.N) (b : Fin 256) (B : Fin 6144) (hB : B.val = t.val * 256 + b.val) :
    ((View.ld (iblk m c 1 t) (Rect.unit ![1, 0] ![1, 256] inb_S4x256_S1x256_1_0)) : FVec Ideal S1x256 .f32) (ix2 0 b) = m ((c : Thread nD τ).loc main_arg1) (ix2 1 B) := by
  refine Eq.trans ?_ (b_w m c t 1 b B hB)
  refine congrArg (iblk m c 1 t : FVec Ideal S4x256 .f32) (funext fun i => ?_)
  fin_cases i
  · exact Fin.ext (by simp [Rect.emb, Rect.unit, ix2])
  · exact Fin.ext (by simp [Rect.emb, Rect.unit, ix2])

theorem b_w2 (c : Dev nD) (t : Fin cfg0.N) (b : Fin 256) (B : Fin 6144) (hB : B.val = t.val * 256 + b.val) :
    ((View.ld (iblk m c 1 t) (Rect.unit ![2, 0] ![1, 256] inb_S4x256_S1x256_2_0)) : FVec Ideal S1x256 .f32) (ix2 0 b) = m ((c : Thread nD τ).loc main_arg1) (ix2 2 B) := by
  refine Eq.trans ?_ (b_w m c t 2 b B hB)
  refine congrArg (iblk m c 1 t : FVec Ideal S4x256 .f32) (funext fun i => ?_)
  fin_cases i
  · exact Fin.ext (by simp [Rect.emb, Rect.unit, ix2])
  · exact Fin.ext (by simp [Rect.emb, Rect.unit, ix2])

theorem b_w3 (c : Dev nD) (t : Fin cfg0.N) (b : Fin 256) (B : Fin 6144) (hB : B.val = t.val * 256 + b.val) :
    ((View.ld (iblk m c 1 t) (Rect.unit ![3, 0] ![1, 256] inb_S4x256_S1x256_3_0)) : FVec Ideal S1x256 .f32) (ix2 0 b) = m ((c : Thread nD τ).loc main_arg1) (ix2 3 B) := by
  refine Eq.trans ?_ (b_w m c t 3 b B hB)
  refine congrArg (iblk m c 1 t : FVec Ideal S4x256 .f32) (funext fun i => ?_)
  fin_cases i
  · exact Fin.ext (by simp [Rect.emb, Rect.unit, ix2])
  · exact Fin.ext (by simp [Rect.emb, Rect.unit, ix2])

theorem point3 (c : Dev nD) (t : Fin cfg0.N) (R : Fin 2304) (b : Fin 256) (B : Fin 6144) (hB : B.val = t.val * 256 + b.val) :
    (k0_pay1 (F := Ideal) (X0_0 m c t) (View.ld (iblk m c 1 t) (Rect.unit ![3, 0] ![1, 256] inb_S4x256_S1x256_3_0)) (iblk m c 2 t) (View.ld (iblk m c 1 t) (Rect.unit ![2, 0] ![1, 256] inb_S4x256_S1x256_2_0)) (View.ld (iblk m c 1 t) (Rect.unit ![1, 0] ![1, 256] inb_S4x256_S1x256_1_0)) (View.ld (iblk m c 1 t) (Rect.unit ![0, 0] ![1, 256] inb_S4x256_S1x256_0_0)) (ix2 R b) : EReal) = val_main_v37 (F := Ideal) (m ((c : Thread nD τ).loc main_arg0)) (m ((c : Thread nD τ).loc main_arg1)) (m ((c : Thread nD τ).loc main_arg2)) (ix2 R B) := by
  refine Eq.trans ?_ (ref37 _ _ _ R B).symm
  by_cases h : 240 ≤ R.val
  · rw [if_pos h]
    refine (pay1 _ _ _ _ _ _ R ⟨R.val - 1, by omega⟩ ⟨R.val - 2, by omega⟩ ⟨R.val - 3, by omega⟩ b h (by show R.val - 1 + 1 = R.val; omega) (by show R.val - 2 + 2 = R.val; omega) (by show R.val - 3 + 3 = R.val; omega)).trans (congrArg silu ?_)
    refine Eq.trans ?_ (ref31 _ _ _ R ⟨R.val - 1, by omega⟩ ⟨R.val - 2, by omega⟩ ⟨R.val - 3, by omega⟩ B ⟨4096 + B.val, by omega⟩ rfl (by show R.val - 1 + 1 = R.val; omega) (by show R.val - 2 + 2 = R.val; omega) (by show R.val - 3 + 3 = R.val; omega)).symm
    have hD : (⟨4096 + B.val, by omega⟩ : Fin 10368).val = 4096 + (t.val * 256 + b.val) := by
      dsimp only
      omega
    rw [b_u m c t _ b _ hD, b_u m c t _ b _ hD, b_u m c t _ b _ hD, b_u m c t _ b _ hD, b_w0 m c t b B hB, b_w1 m c t b B hB, b_w2 m c t b B hB, b_w3 m c t b B hB, b_b m c t b B hB]
  · rw [if_neg h]
    exact pay0 _ _ _ _ _ _ R b h

theorem at3 (c : Dev nD) (t : Fin cfg0.N) (y : S2304x256.Idx) (z : S2304x6144.Idx) (h0 : (z 0).val = (y 0).val) (h1 : (z 1).val = t.val * 256 + (y 1).val) :
    (k0_pay1 (F := Ideal) (X0_0 m c t) (View.ld (iblk m c 1 t) (Rect.unit ![3, 0] ![1, 256] inb_S4x256_S1x256_3_0)) (iblk m c 2 t) (View.ld (iblk m c 1 t) (Rect.unit ![2, 0] ![1, 256] inb_S4x256_S1x256_2_0)) (View.ld (iblk m c 1 t) (Rect.unit ![1, 0] ![1, 256] inb_S4x256_S1x256_1_0)) (View.ld (iblk m c 1 t) (Rect.unit ![0, 0] ![1, 256] inb_S4x256_S1x256_0_0))) y = val_main_v37 (F := Ideal) (m ((c : Thread nD τ).loc main_arg0)) (m ((c : Thread nD τ).loc main_arg1)) (m ((c : Thread nD τ).loc main_arg2)) z := by
  have hy : y = ix2 (y 0) (y 1) := funext fun i => by fin_cases i <;> rfl
  have hz : z = ix2 (y 0) (z 1) := funext fun i => by
    fin_cases i
    · exact Fin.ext h0
    · rfl
  exact (congrArg (fun i => (k0_pay1 (F := Ideal) (X0_0 m c t) (View.ld (iblk m c 1 t) (Rect.unit ![3, 0] ![1, 256] inb_S4x256_S1x256_3_0)) (iblk m c 2 t) (View.ld (iblk m c 1 t) (Rect.unit ![2, 0] ![1, 256] inb_S4x256_S1x256_2_0)) (View.ld (iblk m c 1 t) (Rect.unit ![1, 0] ![1, 256] inb_S4x256_S1x256_1_0)) (View.ld (iblk m c 1 t) (Rect.unit ![0, 0] ![1, 256] inb_S4x256_S1x256_0_0))) i) hy).trans
    ((point3 m c t (y 0) (y 1) (z 1) h1).trans (congrArg (fun i => val_main_v37 (F := Ideal) (m ((c : Thread nD τ).loc main_arg0)) (m ((c : Thread nD τ).loc main_arg1)) (m ((c : Thread nD τ).loc main_arg2)) i) hz.symm))

theorem final3 (c : Dev nD) : (dats m 0 c).arrAt 3 (cfgs 0).N = val_main_v37 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  exact at3 m c t y _ (by blk_simp [idx t]) (by blk_simp [idx t])

end Cert.Kernel32Ideal.Extra
end
-- ==== Proof.DtBwd.lean ====
module
public import proofs.«01_k».proof.Proof.Gen.Kernel31Ideal.Frame
public import proofs.«01_k».proof.Proof.Gen.Reference31Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel31Ideal.Extra
open Cert.Kernel31Ideal Cert.Kernel31Ideal.Gen Cert.Reference31Ideal.Read

/-! `dt_bwd`: the gradient of the step sizes. -/

variable (m : (ℓ : Loc nD τ sig) → Buf (Elt Ideal) ℓ)

theorem idx : ∀ t : Fin cfg0.N, win0_0.index t = ![t.val, 80] ∧ win0_1.index t = ![0, 0] ∧ win0_2.index t = ![t.val, 0] ∧ win0_3.index t = ![t.val, 0] ∧ win0_4.index t = ![0, 0] :=
  (by decide +kernel : ∀ t : Fin grid0.N, _)

theorem coord : ∀ t : Fin cfg0.N, (grid0.coords t 0).val = t.val :=
  (by decide +kernel : ∀ t : Fin grid0.N, _)

/-- The logistic function. -/
def lgs (g : EReal) : EReal := Ideal.div 1 (1 + Ideal.exp (-g))

/-- The softplus. -/
def soft (v : EReal) : EReal := max v 0 + Ideal.log1p (Ideal.exp (-(max v (-v))))

/-- An entry with the infinity replaced by zero. -/
def cut (v : EReal) : EReal := if v = ⊤ then 0 else v

theorem soft_coe (x : ℝ) : soft (x : EReal) = ((max x 0 + Real.log (1 + Real.exp (-(max x (-x)))) : ℝ) : EReal) := by
  have h : ¬(1 + Real.exp (-(max x (-x))) ≤ 0) := by
    have := Real.exp_pos (-(max x (-x)))
    linarith
  have e1 : max (x : EReal) 0 = ((max x 0 : ℝ) : EReal) := (EReal.coe_strictMono.monotone.map_max (a := x) (b := 0)).symm
  have e2 : max (x : EReal) (-(x : EReal)) = ((max x (-x) : ℝ) : EReal) := (EReal.coe_strictMono.monotone.map_max (a := x) (b := -x)).symm
  have e3 : Ideal.log1p (Ideal.exp (-((max x (-x) : ℝ) : EReal))) = if 1 + Real.exp (-(max x (-x))) ≤ 0 then ⊥ else (Real.log (1 + Real.exp (-(max x (-x)))) : EReal) := rfl
  rw [soft, e1, e2, e3, if_neg h, ← EReal.coe_add]

theorem slope_real (x : ℝ) : Real.exp (x - (max x 0 + Real.log (1 + Real.exp (-(max x (-x)))))) = 1 * (1 + Real.exp (-x))⁻¹ := by
  have hp : 0 < 1 + Real.exp (-(max x (-x))) := by
    have := Real.exp_pos (-(max x (-x)))
    linarith
  have hx := Real.exp_pos x
  have hn := Real.exp_pos (-x)
  rw [Real.exp_sub, Real.exp_add, Real.exp_log hp, one_mul]
  have hm : Real.exp x * Real.exp (-x) = 1 := by rw [← Real.exp_add, add_neg_cancel, Real.exp_zero]
  by_cases q : 0 ≤ x
  · rw [max_eq_left q, max_eq_left (by linarith : -x ≤ x)]
    field_simp
  · rw [max_eq_right (by linarith : x ≤ 0), max_eq_right (by linarith : x ≤ -x), neg_neg, Real.exp_zero, one_mul, inv_eq_one_div, div_eq_div_iff (by linarith) (by linarith)]
    linarith

/-- The derivative of the softplus is the logistic function. -/
theorem slope (v : EReal) : Ideal.exp (cut v - cut (soft v)) = lgs v := by
  induction v using EReal.rec with
  | bot =>
    have h : lgs ⊥ = 0 := by
      have e : Ideal.exp (-(⊥ : EReal)) = ⊤ := by rw [EReal.neg_bot]; rfl
      have f : (1 : EReal) + ⊤ = ⊤ := rfl
      rw [lgs, e, f, Ideal.div, if_neg EReal.top_ne_zero, EReal.inv_top, mul_zero]
    rw [h, cut, if_neg bot_ne_top, EReal.bot_sub]
    rfl
  | top =>
    have h : lgs ⊤ = 1 := by
      have e : Ideal.exp (-(⊤ : EReal)) = 0 := by rw [EReal.neg_top]; rfl
      rw [lgs, e, add_zero, Ideal.div, if_neg one_ne_zero, one_mul]
      show ((1 : ℝ) : EReal)⁻¹ = ((1 : ℝ) : EReal)
      rw [← EReal.coe_inv, inv_one]
    have g : soft ⊤ = ⊤ := by
      have e : Ideal.exp (-(max (⊤ : EReal) (-⊤))) = 0 := by rw [EReal.neg_top, max_eq_left bot_le, EReal.neg_top]; rfl
      have f : Ideal.log1p 0 = ((Real.log 1 : ℝ) : EReal) := by
        rw [Ideal.log1p, add_zero]
        exact if_neg (by norm_num)
      rw [soft, e, f, max_eq_left le_top, Real.log_one]
      rfl
    rw [h, g, cut, if_pos rfl, sub_zero]
    show ((Real.exp 0 : ℝ) : EReal) = ((1 : ℝ) : EReal)
    rw [Real.exp_zero]
  | coe x =>
    have e : (1 : EReal) + Ideal.exp (-(x : EReal)) = ((1 + Real.exp (-x) : ℝ) : EReal) := rfl
    rw [soft_coe, cut, cut, if_neg (EReal.coe_ne_top _), if_neg (EReal.coe_ne_top _), ← EReal.coe_sub, lgs, e, Ideal.div, if_neg (by have := Real.exp_pos (-x); norm_cast; linarith), ← EReal.coe_inv]
    show ((Real.exp _ : ℝ) : EReal) = ((1 : ℝ) : EReal) * _
    rw [← EReal.coe_mul, slope_real]

theorem mask_k : ∀ (i : Fin 9) (r : Fin 256), IntOp.cmpi CmpIPredicate.sge (IntOp.addi (BitVec.ofNat 32 r.val) (Scalar.muli (BitVec.ofNat 32 i.val) 256#32)) 240#32 = if 240 ≤ i.val * 256 + r.val then 1#1 else 0#1 := by
  decide +kernel

theorem mask_r : ∀ R : Fin 2304, IntOp.cmpi CmpIPredicate.sge (BitVec.ofNat 32 R.val) 240#32 = if 240 ≤ R.val then 1#1 else 0#1 := by
  decide +kernel

theorem zero : Ideal.ofBits .f32 0x00000000#32 = (0 : EReal) := by
  simp [Ideal.ofBits, Ideal.ieee]

theorem b_z (c : Dev nD) (t : Fin cfg0.N) (r : Fin 256) (b : Fin 128) (R : Fin 2304) (h : R.val = t.val * 256 + r.val) (B : Fin 10368) (hB : B.val = 10240 + b.val) :
    (iblk m c 0 t : FVec Ideal S256x128 .f32) (ix2 r b) = m ((c : Thread nD τ).loc main_arg0) (ix2 R B) := by
  blk_ext [iblk, idx t, h, hB]

theorem b_b (c : Dev nD) (t : Fin cfg0.N) (b : Fin 128) :
    (iblk m c 1 t : FVec Ideal S1x128 .f32) (ix2 0 b) = m ((c : Thread nD τ).loc main_arg1) (ix2 0 b) := by
  blk_ext [iblk, idx t]

theorem b_d (c : Dev nD) (t : Fin cfg0.N) (r : Fin 256) (b : Fin 128) (R : Fin 2304) (h : R.val = t.val * 256 + r.val) :
    (iblk m c 2 t : FVec Ideal S256x128 .f32) (ix2 r b) = m ((c : Thread nD τ).loc main_arg2) (ix2 R b) := by
  blk_ext [iblk, idx t, h]

theorem pay1 (i : grid0.Coords) (v : Vec Ideal S256x128 .f32) (w : Vec Ideal S1x128 .f32) (d : Vec Ideal S256x128 .f32) (r : Fin 256) (b : Fin 128) : (k0_pay1 (F := Ideal) i v w d (ix2 r b) : EReal)
    = if 240 ≤ (i 0).val * 256 + r.val then d (ix2 r b) * lgs (v (ix2 r b) + w (ix2 0 b)) else 0 := by
  pointwise [k0_pay1]
  rw [mask_k (i 0) r, zero_sub]
  by_cases h : 240 ≤ (i 0).val * 256 + r.val
  · rw [if_pos h, if_pos h]
    rfl
  · rw [if_neg h, if_neg h]
    rfl

theorem pay2 (i : grid0.Coords) (v : Vec Ideal S256x128 .f32) (w : Vec Ideal S1x128 .f32) (d : Vec Ideal S256x128 .f32) (r : Fin 256) (b : Fin 128) : (k0_pay2 (F := Ideal) i v w d (ix2 r b) : EReal)
    = k0_pay1 (F := Ideal) i v w d (ix2 r b) := by
  pointwise [k0_pay2]

theorem pay3 (b : Fin 128) : (k0_pay3 (F := Ideal) (ix2 0 b) : EReal) = 0 := by
  pointwise [k0_pay3]

theorem pay4 (i : grid0.Coords) (v : Vec Ideal S256x128 .f32) (w : Vec Ideal S1x128 .f32) (d : Vec Ideal S256x128 .f32) (acc : Vec Ideal S1x128 .f32) (b : Fin 128) : (k0_pay4 (F := Ideal) i v w d acc (ix2 0 b) : EReal)
    = acc (ix2 0 b) + ∑ r : Fin 256, k0_pay1 (F := Ideal) i v w d (ix2 r b) := by
  pointwise [k0_pay4]

theorem ref3 (x : FVec Ideal S2304x10368 .f32) (w : FVec Ideal S1x128 .f32) (R : Fin 2304) (b : Fin 128) (B : Fin 10368) (hB : B.val = 10240 + b.val) : (val_main_v3_0 (F := Ideal) x w (ix2 R b) : EReal)
    = soft (x (ix2 R B) + w (ix2 0 b)) := by
  have e : (⟨10240 + b.val, by omega⟩ : Fin 10368) = B := Fin.ext hB.symm
  pointwise [val_main_v3_0, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v2, val_main_v1, val_main_v0]
  rw [e, if_neg (fun q => q rfl)]
  rfl

theorem ref2 (x : FVec Ideal S2304x10368 .f32) (w : FVec Ideal S1x128 .f32) (R : Fin 2304) (b : Fin 128) (B : Fin 10368) (hB : B.val = 10240 + b.val) : (val_main_v2 (F := Ideal) x w (ix2 R b) : EReal)
    = x (ix2 R B) + w (ix2 0 b) := by
  have e : (⟨10240 + b.val, by omega⟩ : Fin 10368) = B := Fin.ext hB.symm
  pointwise [val_main_v2, val_main_v1, val_main_v0]
  rw [e]

theorem ref31 (x : FVec Ideal S2304x10368 .f32) (w : FVec Ideal S1x128 .f32) (R : Fin 2304) (b : Fin 128) (B : Fin 10368) (hB : B.val = 10240 + b.val) : (val_main_v3_1 (F := Ideal) x w (ix2 R b) : EReal)
    = lgs (x (ix2 R B) + w (ix2 0 b)) := by
  refine Eq.trans ?_ (slope _)
  pointwise [val_main_v3_1, val_main_call0_v21, val_main_call0_v20, val_main_call0_v19, val_main_call0_cst_3, val_main_call0_v18, val_main_call0_v17, val_main_call0_cst_2, val_main_call0_v16, val_main_call0_v15, val_main_call0_cst_1, val_main_call0_v14, val_main_call0_v13, val_main_call0_cst_0]
  rw [ref2 x w R b B hB, ref3 x w R b B hB]
  rfl

theorem ref10 (x : FVec Ideal S2304x10368 .f32) (w : FVec Ideal S1x128 .f32) (d : FVec Ideal S2304x128 .f32) (R : Fin 2304) (b : Fin 128) (B : Fin 10368) (hB : B.val = 10240 + b.val) : (val_main_v10 (F := Ideal) x w d (ix2 R b) : EReal)
    = if 240 ≤ R.val then d (ix2 R b) * lgs (x (ix2 R B) + w (ix2 0 b)) else 0 := by
  pointwise [val_main_v10, val_main_v9, val_main_call2_v0, val_main_call2_cst, val_main_v8_1, val_main_v7, val_main_v6, val_main_c, val_main_v5, val_main_v4]
  rw [mask_r R, ref31 x w R b B hB]
  by_cases h : 240 ≤ R.val
  · rw [if_pos h, if_pos h]
    rfl
  · rw [if_neg h, if_neg h]
    rfl

theorem ref15 (x : FVec Ideal S2304x10368 .f32) (w : FVec Ideal S1x128 .f32) (d : FVec Ideal S2304x128 .f32) (R : Fin 2304) (b : Fin 128) : (val_main_v15 (F := Ideal) x w d (ix2 R b) : EReal)
    = val_main_v10 (F := Ideal) x w d (ix2 R b) := by
  pointwise [val_main_v15, val_main_v14, val_main_v13, val_main_cst_1]

theorem ref12 (x : FVec Ideal S2304x10368 .f32) (w : FVec Ideal S1x128 .f32) (d : FVec Ideal S2304x128 .f32) (b : Fin 128) : (val_main_v12 (F := Ideal) x w d (ix2 0 b) : EReal)
    = ∑ R : Fin 2304, val_main_v10 (F := Ideal) x w d (ix2 R b) := by
  pointwise [val_main_v12, val_main_v11, val_main_cst_0]

theorem e1 (c : Dev nD) (t : Fin cfg0.N) (r : Fin 256) (b : Fin 128) (R : Fin 2304) (h : R.val = t.val * 256 + r.val) :
    (k0_pay1 (F := Ideal) (grid0.coords t) (iblk m c 0 t) (iblk m c 1 t) (iblk m c 2 t) (ix2 r b) : EReal) = val_main_v10 (F := Ideal) (m ((c : Thread nD τ).loc main_arg0)) (m ((c : Thread nD τ).loc main_arg1)) (m ((c : Thread nD τ).loc main_arg2)) (ix2 R b) := by
  refine (pay1 _ _ _ _ r b).trans (Eq.trans ?_ (ref10 _ _ _ R b ⟨10240 + b.val, by omega⟩ rfl).symm)
  rw [b_z m c t r b R h ⟨10240 + b.val, by omega⟩ rfl, b_b m c t b, b_d m c t r b R h, coord t, h]

theorem out3 (c : Dev nD) (t : Fin cfg0.N) : (outsAt0 m c t.val t.isLt).1 = k0_pay2 (F := Ideal) (grid0.coords t) (iblk m c 0 t) (iblk m c 1 t) (iblk m c 2 t) := by
  by_cases h : t.val % 9 = 0
  · rw [outsAt0_A m c t h]
    frame_out
  · rw [outsAt0_B m c t h]
    frame_out

theorem at3 (c : Dev nD) (t : Fin cfg0.N) (y : S256x128.Idx) (z : S2304x128.Idx) (h0 : (z 0).val = t.val * 256 + (y 0).val) (h1 : (z 1).val = (y 1).val) :
    (k0_pay2 (F := Ideal) (grid0.coords t) (iblk m c 0 t) (iblk m c 1 t) (iblk m c 2 t)) y = val_main_v15 (F := Ideal) (m ((c : Thread nD τ).loc main_arg0)) (m ((c : Thread nD τ).loc main_arg1)) (m ((c : Thread nD τ).loc main_arg2)) z := by
  have hy : y = ix2 (y 0) (y 1) := funext fun i => by fin_cases i <;> rfl
  have hz : z = ix2 (z 0) (y 1) := funext fun i => by
    fin_cases i
    · rfl
    · exact Fin.ext h1
  exact (congrArg (fun i => (k0_pay2 (F := Ideal) (grid0.coords t) (iblk m c 0 t) (iblk m c 1 t) (iblk m c 2 t)) i) hy).trans
    (((pay2 _ _ _ _ (y 0) (y 1)).trans ((e1 m c t (y 0) (y 1) (z 0) h0).trans (ref15 _ _ _ (z 0) (y 1)).symm)).trans (congrArg (fun i => val_main_v15 (F := Ideal) (m ((c : Thread nD τ).loc main_arg0)) (m ((c : Thread nD τ).loc main_arg1)) (m ((c : Thread nD τ).loc main_arg2)) i) hz.symm))

/-- The gradient with respect to the columns of the step sizes. -/
theorem final3 (c : Dev nD) : (dats m 0 c).arrAt 3 (cfgs 0).N = val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out3 m c t]
  exact at3 m c t y _ (by blk_simp [idx t]) (by blk_simp [idx t])

/-- What a point adds to the gradient of the bias. -/
def part4 (c : Dev nD) (t : Fin cfg0.N) (j : S1x128.Idx) : EReal :=
  ∑ r : Fin 256, (k0_pay1 (F := Ideal) (grid0.coords t) (iblk m c 0 t) (iblk m c 1 t) (iblk m c 2 t) (ix2 r (j 1)) : EReal)

theorem ix_one2 (j : S1x128.Idx) : ∃ b : Fin 128, j = ix2 0 b := ⟨j 1, funext fun i => by
  fin_cases i
  · exact Fin.ext (by have : (j 0).val < 1 := (j 0).isLt; show (j 0).val = 0; omega)
  · rfl⟩

theorem run4 (c : Dev nD) (t : Fin cfg0.N) (h : t.val % 9 = 9 - 1) (j : S1x128.Idx) :
    ((outsAt0 m c t.val t.isLt).2 j : EReal) = ∑ s : Fin 9, part4 m c ⟨9 * (t.val / 9) + s.val, Pipeline.run_point_lt_of_flush t h s⟩ j := by
  refine (Pipeline.eq_sum_fin_of_reset_step_apply_of_flush (M := EReal) (fun n h => (outsAt0 m c n h).2) 9 (fun _ => 0) (part4 m c)
    (fun t h j => ?_) (fun t h j => ?_) t h j).trans (zero_add _)
  · obtain ⟨b, rfl⟩ := ix_one2 j
    rw [outsAt0_A m c t h]
    frame_out
    rw [pay4, pay3]
    rfl
  · obtain ⟨b, rfl⟩ := ix_one2 j
    rw [outsAt0_B m c t h]
    frame_out
    rw [pay4]
    rfl

theorem point4 (c : Dev nD) (t : Fin cfg0.N) (h : t.val % 9 = 9 - 1) (b : Fin 128) :
    ((outsAt0 m c t.val t.isLt).2 (ix2 0 b) : EReal) = val_main_v12 (F := Ideal) (m ((c : Thread nD τ).loc main_arg0)) (m ((c : Thread nD τ).loc main_arg1)) (m ((c : Thread nD τ).loc main_arg2)) (ix2 0 b) := by
  have ht : t.val < 9 := t.isLt
  refine (run4 m c t h _).trans (Eq.trans ?_ (ref12 _ _ _ _).symm)
  refine Eq.trans ?_ (Fin.sum_mul_add_fin 9 256 _)
  refine Finset.sum_congr rfl fun s _ => ?_
  unfold part4
  refine Finset.sum_congr rfl fun r _ => ?_
  have hR : (⟨s.val * 256 + r.val, by omega⟩ : Fin 2304).val = (⟨9 * (t.val / 9) + s.val, Pipeline.run_point_lt_of_flush t h s⟩ : Fin cfg0.N).val * 256 + r.val := by
    dsimp only
    omega
  exact e1 m c _ r b _ hR

theorem at4 (c : Dev nD) (t : Fin cfg0.N) (h : t.val % 9 = 9 - 1) (y : S1x128.Idx) (z : S1x128.Idx) (h1 : (z 1).val = (y 1).val) :
    (outsAt0 m c t.val t.isLt).2 y = val_main_v12 (F := Ideal) (m ((c : Thread nD τ).loc main_arg0)) (m ((c : Thread nD τ).loc main_arg1)) (m ((c : Thread nD τ).loc main_arg2)) z := by
  obtain ⟨b, rfl⟩ := ix_one2 y
  have hz : z = ix2 0 b := funext fun i => by
    fin_cases i
    · exact Fin.ext (by have : (z 0).val < 1 := (z 0).isLt; show (z 0).val = 0; omega)
    · exact Fin.ext h1
  exact (point4 m c t h b).trans (congrArg (fun i => val_main_v12 (F := Ideal) (m ((c : Thread nD τ).loc main_arg0)) (m ((c : Thread nD τ).loc main_arg1)) (m ((c : Thread nD τ).loc main_arg2)) i) hz.symm)

/-- The gradient with respect to the bias. -/
theorem final4 (c : Dev nD) : (dats m 0 c).arrAt 4 (cfgs 0).N = val_main_v12 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have hl : t.val % 9 = 8 := (flush0_4 t).mp hf
  blk_simp
  rw [after0_4]
  exact at4 m c t hl y _ (by blk_simp [idx t])

end Cert.Kernel31Ideal.Extra
end
-- ==== Proof.PoolProjBwd.lean ====
module
public import proofs.«01_k».proof.Proof.Gen.Kernel30Ideal.Frame
public import proofs.«01_k».proof.Proof.Gen.Reference30Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel30Ideal.Extra
open Cert.Kernel30Ideal Cert.Kernel30Ideal.Gen Cert.Reference30Ideal.Read

/-! `pool_proj_bwd`: the gradient of the projection of each group and of its scale. -/

variable (m : (ℓ : Loc nD τ sig) → Buf (Elt Ideal) ℓ)

theorem idx : ∀ t : Fin cfg0.N, win0_0.index t = ![t.val % 9, t.val / 9] ∧ win0_1.index t = ![t.val % 9, t.val / 9] ∧ win0_2.index t = ![t.val % 9, t.val / 9] ∧ win0_3.index t = ![t.val / 9, 0, 0] ∧ win0_4.index t = ![0, t.val / 9] ∧ win0_5.index t = ![t.val % 9, t.val / 9] ∧ win0_6.index t = ![t.val / 9, 0, 0] ∧ win0_7.index t = ![0, t.val / 9] ∧ win0_8.index t = ![0, t.val / 9] :=
  (by decide +kernel : ∀ t : Fin grid0.N, _)

theorem coord : ∀ t : Fin cfg0.N, (grid0.coords t 1).val = t.val % 9 :=
  (by decide +kernel : ∀ t : Fin grid0.N, _)

theorem zero : Ideal.ofBits .f32 0x00000000#32 = (0 : EReal) := by
  simp [Ideal.ofBits, Ideal.ieee]

theorem mask_k : ∀ (i : Fin 9) (r : Fin 256), IntOp.cmpi CmpIPredicate.sge (IntOp.addi (BitVec.ofNat 32 r.val) (Scalar.muli (BitVec.ofNat 32 i.val) 256#32)) 240#32 = if 240 ≤ i.val * 256 + r.val then 1#1 else 0#1 := by
  decide +kernel

theorem mask_r : ∀ R : Fin 2304, IntOp.cmpi CmpIPredicate.sge (BitVec.ofNat 32 R.val) 240#32 = if 240 ≤ R.val then 1#1 else 0#1 := by
  decide +kernel

theorem b_d (c : Dev nD) (t : Fin cfg0.N) (r : Fin 256) (b : Fin 512) (R : Fin 2304) (B : Fin 2048) (h : R.val = t.val % 9 * 256 + r.val) (hB : B.val = t.val / 9 * 512 + b.val) :
    (iblk m c 0 t : FVec Ideal S256x512 .f32) (ix2 r b) = m ((c : Thread nD τ).loc main_arg0) (ix2 R B) := by
  blk_ext [iblk, idx t, h, hB]

theorem b_p (c : Dev nD) (t : Fin cfg0.N) (r : Fin 256) (b : Fin 512) (R : Fin 2304) (B : Fin 2048) (h : R.val = t.val % 9 * 256 + r.val) (hB : B.val = t.val / 9 * 512 + b.val) :
    (iblk m c 1 t : FVec Ideal S256x512 .f32) (ix2 r b) = m ((c : Thread nD τ).loc main_arg1) (ix2 R B) := by
  blk_ext [iblk, idx t, h, hB]

theorem b_m (c : Dev nD) (t : Fin cfg0.N) (r : Fin 256) (b : Fin 512) (R : Fin 2304) (B : Fin 2048) (h : R.val = t.val % 9 * 256 + r.val) (hB : B.val = t.val / 9 * 512 + b.val) :
    (iblk m c 2 t : FVec Ideal S256x512 .bf16) (ix2 r b) = m ((c : Thread nD τ).loc main_arg2) (ix2 R B) := by
  blk_ext [iblk, idx t, h, hB]

theorem b_w (c : Dev nD) (t : Fin cfg0.N) (a b : Fin 512) (g : Fin 4) (hg : g.val = t.val / 9) :
    (iblk m c 3 t : FVec Ideal S1x512x512 .bf16) (ix3 0 a b) = m ((c : Thread nD τ).loc main_arg3) (ix3 g a b) := by
  blk_ext [iblk, idx t, hg]

theorem v_s (c : Dev nD) (b : Fin 2048) :
    (V m c main_v0 : FVec Ideal S1x2048 .f32) (ix2 0 b) = m ((c : Thread nD τ).loc main_arg4) (ix1 b) := by
  entry_read
  pointwise

theorem b_s (c : Dev nD) (t : Fin cfg0.N) (b : Fin 512) (B : Fin 2048) (h : B.val = t.val / 9 * 512 + b.val) :
    (iblk m c 4 t : FVec Ideal S1x512 .f32) (ix2 0 b) = m ((c : Thread nD τ).loc main_arg4) (ix1 B) := by
  refine Eq.trans ?_ (v_s m c B)
  blk_ext [iblk, idx t, h]

theorem pay6 (i : grid0.Coords) (v : Vec Ideal S256x512 .f32) (r : Fin 256) (b : Fin 512) : (k0_pay6 (F := Ideal) i v (ix2 r b) : EReal)
    = if 240 ≤ (i 1).val * 256 + r.val then v (ix2 r b) else 0 := by
  pointwise [k0_pay6]
  rw [mask_k (i 1) r]
  by_cases h : 240 ≤ (i 1).val * 256 + r.val
  · rw [if_pos h, if_pos h]
    rfl
  · rw [if_neg h, if_neg h]
    rfl

theorem pay7 (i : grid0.Coords) (v : Vec Ideal S256x512 .f32) (u : Vec Ideal S1x512 .f32) (r : Fin 256) (b : Fin 512) : (k0_pay7 (F := Ideal) i v u (ix2 r b) : EReal)
    = k0_pay6 (F := Ideal) i v (ix2 r b) * u (ix2 0 b) := by
  pointwise [k0_pay7]

theorem pay8 (i : grid0.Coords) (v : Vec Ideal S256x512 .f32) (u : Vec Ideal S1x512 .f32) (r : Fin 256) (b : Fin 512) : (k0_pay8 (F := Ideal) i v u (ix2 r b) : EReal)
    = k0_pay7 (F := Ideal) i v u (ix2 r b) := by
  pointwise [k0_pay8]

theorem pay1 (x : FVec Ideal S256x512 .bf16) (w : Vec Ideal S1x512x512 .bf16) (r : Fin 256) (a : Fin 512) : (k0_pay1 (F := Ideal) x w (ix2 r a) : EReal)
    = ∑ k : Fin 512, x (ix2 r k) * w (ix3 0 a k) := by
  pointwise [k0_pay1]

theorem pay2 (x : FVec Ideal S256x512 .bf16) (acc : Vec Ideal S1x512x512 .f32) (y : Vec Ideal S256x512 .bf16) (a b : Fin 512) : (k0_pay2 (F := Ideal) x acc y (ix3 0 a b) : EReal)
    = acc (ix3 0 a b) + ∑ r : Fin 256, y (ix2 r a) * x (ix2 r b) := by
  pointwise [k0_pay2]

theorem pay3 (a b : Fin 512) : (k0_pay3 (F := Ideal) (ix3 0 a b) : EReal) = 0 := by
  pointwise [k0_pay3]

theorem pay4 (b : Fin 512) : (k0_pay4 (F := Ideal) (ix2 0 b) : EReal) = 0 := by
  pointwise [k0_pay4]

theorem pay5 (b : Fin 512) : (k0_pay5 (F := Ideal) (ix2 0 b) : EReal) = 0 := by
  pointwise [k0_pay5]

theorem pay9 (i : grid0.Coords) (v p : Vec Ideal S256x512 .f32) (acc : Vec Ideal S1x512 .f32) (b : Fin 512) : (k0_pay9 (F := Ideal) i v acc p (ix2 0 b) : EReal)
    = acc (ix2 0 b) + ∑ r : Fin 256, k0_pay6 (F := Ideal) i v (ix2 r b) * p (ix2 r b) := by
  pointwise [k0_pay9]

theorem pay10 (i : grid0.Coords) (v : Vec Ideal S256x512 .f32) (u acc : Vec Ideal S1x512 .f32) (b : Fin 512) : (k0_pay10 (F := Ideal) i v u acc (ix2 0 b) : EReal)
    = acc (ix2 0 b) + ∑ r : Fin 256, k0_pay7 (F := Ideal) i v u (ix2 r b) := by
  pointwise [k0_pay10]

theorem ref8 (d : FVec Ideal S2304x2048 .f32) (R : Fin 2304) (B : Fin 2048) : (val_main_v8 (F := Ideal) d (ix2 R B) : EReal)
    = if 240 ≤ R.val then d (ix2 R B) else 0 := by
  pointwise [val_main_v8, val_main_call1_v0, val_main_call1_cst, val_main_v7_1, val_main_v6, val_main_v5, val_main_c, val_main_v4, val_main_v3]
  rw [mask_r R]
  by_cases h : 240 ≤ R.val
  · rw [if_pos h, if_pos h]
    rfl
  · rw [if_neg h, if_neg h]
    rfl

theorem ref13 (d : FVec Ideal S2304x2048 .f32) (u : FVec Ideal S2048 .f32) (R : Fin 2304) (B : Fin 2048) : (val_main_v13 (F := Ideal) d u (ix2 R B) : EReal)
    = val_main_v8 (F := Ideal) d (ix2 R B) * u (ix1 B) := by
  pointwise [val_main_v13, val_main_v12, val_main_v0]

theorem ref26 (d : FVec Ideal S2304x2048 .f32) (u : FVec Ideal S2048 .f32) (R : Fin 2304) (g : Fin 4) (b : Fin 512) : (val_main_v26 (F := Ideal) d u (ix3 R g b) : EReal)
    = val_main_v13 (F := Ideal) d u (ix2 R ⟨g.val * 512 + b.val, by omega⟩) := by
  pointwise [val_main_v26]

theorem ref36 (d : FVec Ideal S2304x2048 .f32) (w : FVec Ideal S4x512x512 .bf16) (u : FVec Ideal S2048 .f32) (R : Fin 2304) (g : Fin 4) (b : Fin 512) (B : Fin 2048) (hB : B.val = g.val * 512 + b.val) : (val_main_v36 (F := Ideal) d w u (ix2 R B) : EReal)
    = ∑ k : Fin 512, val_main_v13 (F := Ideal) d u (ix2 R ⟨g.val * 512 + k.val, by omega⟩) * w (ix3 g b k) := by
  have e1 : (⟨B.val / 512, by omega⟩ : Fin 4) = g := Fin.ext (by show B.val / 512 = g.val; omega)
  have e2 : (⟨B.val % 512, by omega⟩ : Fin 512) = b := Fin.ext (by show B.val % 512 = b.val; omega)
  pointwise [val_main_v36, val_main_v33, val_main_v32, val_main_v31, val_main_v16]
  simp only [e1, e2, ref26]

theorem ref35 (d : FVec Ideal S2304x2048 .f32) (x : FVec Ideal S2304x2048 .bf16) (u : FVec Ideal S2048 .f32) (g : Fin 4) (a b : Fin 512) : (val_main_v35 (F := Ideal) d x u (ix3 g a b) : EReal)
    = ∑ R : Fin 2304, val_main_v13 (F := Ideal) d u (ix2 R ⟨g.val * 512 + b.val, by omega⟩) * x (ix2 R ⟨g.val * 512 + a.val, by omega⟩) := by
  pointwise [val_main_v35, val_main_v34, val_main_v31, val_main_v18, val_main_v15]
  simp only [ref26]

theorem ref37 (d : FVec Ideal S2304x2048 .f32) (u : FVec Ideal S2048 .f32) (B : Fin 2048) : (val_main_v37 (F := Ideal) d u (ix2 0 B) : EReal)
    = ∑ R : Fin 2304, val_main_v13 (F := Ideal) d u (ix2 R B) := by
  have e : (⟨B.val / 512 * 512 + B.val % 512, by omega⟩ : Fin 2048) = B := Fin.ext (by show B.val / 512 * 512 + B.val % 512 = B.val; omega)
  pointwise [val_main_v37, val_main_v30, val_main_v29, val_main_cst_4, val_main_v28, val_main_v27, val_main_cst_3]
  simp only [ref26, e, Fin.sum_univ_one]

theorem ref38 (d p : FVec Ideal S2304x2048 .f32) (B : Fin 2048) : (val_main_v38 (F := Ideal) d p (ix2 0 B) : EReal)
    = ∑ R : Fin 2304, p (ix2 R B) * val_main_v8 (F := Ideal) d (ix2 R B) := by
  pointwise [val_main_v38, val_main_v14, val_main_cst_1, val_main_v11, val_main_v10, val_main_cst_0, val_main_v9]
  simp only [Fin.sum_univ_one]

theorem e6 (c : Dev nD) (t : Fin cfg0.N) (r : Fin 256) (b : Fin 512) (R : Fin 2304) (B : Fin 2048) (h : R.val = t.val % 9 * 256 + r.val) (hB : B.val = t.val / 9 * 512 + b.val) :
    (k0_pay6 (F := Ideal) (grid0.coords t) (iblk m c 0 t) (ix2 r b) : EReal) = val_main_v8 (F := Ideal) (m ((c : Thread nD τ).loc main_arg0)) (ix2 R B) := by
  refine (pay6 _ _ r b).trans (Eq.trans ?_ (ref8 _ R B).symm)
  rw [b_d m c t r b R B h hB, coord t, h]

theorem e7 (c : Dev nD) (t : Fin cfg0.N) (r : Fin 256) (b : Fin 512) (R : Fin 2304) (B : Fin 2048) (h : R.val = t.val % 9 * 256 + r.val) (hB : B.val = t.val / 9 * 512 + b.val) :
    (k0_pay7 (F := Ideal) (grid0.coords t) (iblk m c 0 t) (iblk m c 4 t) (ix2 r b) : EReal) = val_main_v13 (F := Ideal) (m ((c : Thread nD τ).loc main_arg0)) (m ((c : Thread nD τ).loc main_arg4)) (ix2 R B) := by
  refine (pay7 _ _ _ r b).trans (Eq.trans ?_ (ref13 _ _ R B).symm)
  rw [e6 m c t r b R B h hB, b_s m c t b B hB]

theorem out5 (c : Dev nD) (t : Fin cfg0.N) : (outsAt0 m c t.val t.isLt).1 = k0_pay1 (F := Ideal) (k0_pay8 (F := Ideal) (grid0.coords t) (iblk m c 0 t) (iblk m c 4 t)) (iblk m c 3 t) := by
  by_cases h : t.val % 9 = 0
  · rw [outsAt0_A m c t h]
    frame_out
  · rw [outsAt0_B m c t h]
    frame_out

theorem point5 (c : Dev nD) (t : Fin cfg0.N) (r : Fin 256) (b : Fin 512) (R : Fin 2304) (B : Fin 2048) (h : R.val = t.val % 9 * 256 + r.val) (hB : B.val = t.val / 9 * 512 + b.val) :
    (k0_pay1 (F := Ideal) (k0_pay8 (F := Ideal) (grid0.coords t) (iblk m c 0 t) (iblk m c 4 t)) (iblk m c 3 t) (ix2 r b) : EReal) = val_main_v36 (F := Ideal) (m ((c : Thread nD τ).loc main_arg0)) (m ((c : Thread nD τ).loc main_arg3)) (m ((c : Thread nD τ).loc main_arg4)) (ix2 R B) := by
  have hg : t.val / 9 < 4 := by omega
  refine (pay1 _ _ r b).trans (Eq.trans ?_ (ref36 _ _ _ R ⟨t.val / 9, hg⟩ b B hB).symm)
  refine Finset.sum_congr rfl fun k _ => ?_
  rw [pay8, e7 m c t r k R ⟨t.val / 9 * 512 + k.val, by omega⟩ h rfl, b_w m c t b k ⟨t.val / 9, hg⟩ rfl]

theorem at5 (c : Dev nD) (t : Fin cfg0.N) (y : S256x512.Idx) (z : S2304x2048.Idx) (h0 : (z 0).val = t.val % 9 * 256 + (y 0).val) (h1 : (z 1).val = t.val / 9 * 512 + (y 1).val) :
    (k0_pay1 (F := Ideal) (k0_pay8 (F := Ideal) (grid0.coords t) (iblk m c 0 t) (iblk m c 4 t)) (iblk m c 3 t)) y = val_main_v36 (F := Ideal) (m ((c : Thread nD τ).loc main_arg0)) (m ((c : Thread nD τ).loc main_arg3)) (m ((c : Thread nD τ).loc main_arg4)) z := by
  have hy : y = ix2 (y 0) (y 1) := funext fun i => by fin_cases i <;> rfl
  have hz : z = ix2 (z 0) (z 1) := funext fun i => by fin_cases i <;> rfl
  exact (congrArg (fun i => (k0_pay1 (F := Ideal) (k0_pay8 (F := Ideal) (grid0.coords t) (iblk m c 0 t) (iblk m c 4 t)) (iblk m c 3 t)) i) hy).trans
    ((point5 m c t (y 0) (y 1) (z 0) (z 1) h0 h1).trans (congrArg (fun i => val_main_v36 (F := Ideal) (m ((c : Thread nD τ).loc main_arg0)) (m ((c : Thread nD τ).loc main_arg3)) (m ((c : Thread nD τ).loc main_arg4)) i) hz.symm))

/-- The gradient with respect to the projection's input. -/
theorem final5 (c : Dev nD) : (dats m 0 c).arrAt 5 (cfgs 0).N = val_main_v36 (F := Ideal) (m ((c : Thread nD τ).loc main_arg0)) (m ((c : Thread nD τ).loc main_arg3)) (m ((c : Thread nD τ).loc main_arg4)) := by
  refine (dats m 0 c).arrAt_eq_of_covers 5 _ (by decide +kernel) fun t _ y => ?_
  blk_simp
  rw [after0_5, out5 m c t]
  exact at5 m c t y _ (by blk_simp [idx t]) (by blk_simp [idx t])

/-- The product of two entries. -/
def prod (x y : EReal) : EReal := x * y

/-- What a point adds to the gradient of the weight. -/
def part6 (c : Dev nD) (t : Fin cfg0.N) (j : S1x512x512.Idx) : EReal :=
  ∑ r : Fin 256, prod ((iblk m c 2 t) (ix2 r (j 1))) (k0_pay7 (F := Ideal) (grid0.coords t) (iblk m c 0 t) (iblk m c 4 t) (ix2 r (j 2)))

/-- What a point adds to the gradient of the bias. -/
def part7 (c : Dev nD) (t : Fin cfg0.N) (j : S1x512.Idx) : EReal :=
  ∑ r : Fin 256, (k0_pay7 (F := Ideal) (grid0.coords t) (iblk m c 0 t) (iblk m c 4 t) (ix2 r (j 1)) : EReal)

/-- What a point adds to the gradient of the scale. -/
def part8 (c : Dev nD) (t : Fin cfg0.N) (j : S1x512.Idx) : EReal :=
  ∑ r : Fin 256, prod (k0_pay6 (F := Ideal) (grid0.coords t) (iblk m c 0 t) (ix2 r (j 1))) ((iblk m c 1 t) (ix2 r (j 1)))

theorem ix_one3 (j : S1x512x512.Idx) : ∃ a b : Fin 512, j = ix3 0 a b := ⟨j 1, j 2, funext fun i => by
  fin_cases i
  · exact Fin.ext (by have : (j 0).val < 1 := (j 0).isLt; show (j 0).val = 0; omega)
  · rfl
  · rfl⟩

theorem ix_one2 (j : S1x512.Idx) : ∃ b : Fin 512, j = ix2 0 b := ⟨j 1, funext fun i => by
  fin_cases i
  · exact Fin.ext (by have : (j 0).val < 1 := (j 0).isLt; show (j 0).val = 0; omega)
  · rfl⟩

theorem run6 (c : Dev nD) (t : Fin cfg0.N) (h : t.val % 9 = 9 - 1) (j : S1x512x512.Idx) :
    ((outsAt0 m c t.val t.isLt).2.1 j : EReal) = ∑ s : Fin 9, part6 m c ⟨9 * (t.val / 9) + s.val, Pipeline.run_point_lt_of_flush t h s⟩ j := by
  refine (Pipeline.eq_sum_fin_of_reset_step_apply_of_flush (M := EReal) (fun n h => (outsAt0 m c n h).2.1) 9 (fun _ => 0) (part6 m c)
    (fun t h j => ?_) (fun t h j => ?_) t h j).trans (zero_add _)
  · obtain ⟨a, b, rfl⟩ := ix_one3 j
    rw [outsAt0_A m c t h]
    frame_out
    rw [pay2, pay3]
    simp only [pay8]
    rfl
  · obtain ⟨a, b, rfl⟩ := ix_one3 j
    rw [outsAt0_B m c t h]
    frame_out
    rw [pay2]
    simp only [pay8]
    rfl

theorem run7 (c : Dev nD) (t : Fin cfg0.N) (h : t.val % 9 = 9 - 1) (j : S1x512.Idx) :
    ((outsAt0 m c t.val t.isLt).2.2.1 j : EReal) = ∑ s : Fin 9, part7 m c ⟨9 * (t.val / 9) + s.val, Pipeline.run_point_lt_of_flush t h s⟩ j := by
  refine (Pipeline.eq_sum_fin_of_reset_step_apply_of_flush (M := EReal) (fun n h => (outsAt0 m c n h).2.2.1) 9 (fun _ => 0) (part7 m c)
    (fun t h j => ?_) (fun t h j => ?_) t h j).trans (zero_add _)
  · obtain ⟨b, rfl⟩ := ix_one2 j
    rw [outsAt0_A m c t h]
    frame_out
    rw [pay10, pay4]
    rfl
  · obtain ⟨b, rfl⟩ := ix_one2 j
    rw [outsAt0_B m c t h]
    frame_out
    rw [pay10]
    rfl

theorem run8 (c : Dev nD) (t : Fin cfg0.N) (h : t.val % 9 = 9 - 1) (j : S1x512.Idx) :
    ((outsAt0 m c t.val t.isLt).2.2.2 j : EReal) = ∑ s : Fin 9, part8 m c ⟨9 * (t.val / 9) + s.val, Pipeline.run_point_lt_of_flush t h s⟩ j := by
  refine (Pipeline.eq_sum_fin_of_reset_step_apply_of_flush (M := EReal) (fun n h => (outsAt0 m c n h).2.2.2) 9 (fun _ => 0) (part8 m c)
    (fun t h j => ?_) (fun t h j => ?_) t h j).trans (zero_add _)
  · obtain ⟨b, rfl⟩ := ix_one2 j
    rw [outsAt0_A m c t h]
    frame_out
    rw [pay9, pay5]
    rfl
  · obtain ⟨b, rfl⟩ := ix_one2 j
    rw [outsAt0_B m c t h]
    frame_out
    rw [pay9]
    rfl

theorem point6 (c : Dev nD) (t : Fin cfg0.N) (h : t.val % 9 = 9 - 1) (a b : Fin 512) (g : Fin 4) (hg : g.val = t.val / 9) :
    ((outsAt0 m c t.val t.isLt).2.1 (ix3 0 a b) : EReal) = val_main_v35 (F := Ideal) (m ((c : Thread nD τ).loc main_arg0)) (m ((c : Thread nD τ).loc main_arg2)) (m ((c : Thread nD τ).loc main_arg4)) (ix3 g a b) := by
  obtain ⟨n, hn⟩ := g
  obtain rfl : n = t.val / 9 := hg
  refine (run6 m c t h _).trans (Eq.trans ?_ (ref35 _ _ _ ⟨t.val / 9, hn⟩ a b).symm)
  refine Eq.trans ?_ (Fin.sum_mul_add_fin 9 256 _)
  refine Finset.sum_congr rfl fun s _ => ?_
  unfold part6
  refine Finset.sum_congr rfl fun r _ => ?_
  have hR : (⟨s.val * 256 + r.val, by omega⟩ : Fin 2304).val = (⟨9 * (t.val / 9) + s.val, Pipeline.run_point_lt_of_flush t h s⟩ : Fin cfg0.N).val % 9 * 256 + r.val := by
    dsimp only
    omega
  have hb : ∀ b : Fin 512, (⟨t.val / 9 * 512 + b.val, by omega⟩ : Fin 2048).val = (⟨9 * (t.val / 9) + s.val, Pipeline.run_point_lt_of_flush t h s⟩ : Fin cfg0.N).val / 9 * 512 + b.val := fun b => by
    dsimp only
    omega
  exact (mul_comm _ _).trans (congrArg₂ (fun x y : EReal => x * y) (e7 m c _ r b _ _ hR (hb b)) (b_m m c _ r a _ _ hR (hb a)))

theorem point7 (c : Dev nD) (t : Fin cfg0.N) (h : t.val % 9 = 9 - 1) (b : Fin 512) (B : Fin 2048) (hB : B.val = t.val / 9 * 512 + b.val) :
    ((outsAt0 m c t.val t.isLt).2.2.1 (ix2 0 b) : EReal) = val_main_v37 (F := Ideal) (m ((c : Thread nD τ).loc main_arg0)) (m ((c : Thread nD τ).loc main_arg4)) (ix2 0 B) := by
  obtain ⟨n, hn⟩ := B
  obtain rfl : n = t.val / 9 * 512 + b.val := hB
  refine (run7 m c t h _).trans (Eq.trans ?_ (ref37 _ _ _).symm)
  refine Eq.trans ?_ (Fin.sum_mul_add_fin 9 256 _)
  refine Finset.sum_congr rfl fun s _ => ?_
  unfold part7
  refine Finset.sum_congr rfl fun r _ => ?_
  have hR : (⟨s.val * 256 + r.val, by omega⟩ : Fin 2304).val = (⟨9 * (t.val / 9) + s.val, Pipeline.run_point_lt_of_flush t h s⟩ : Fin cfg0.N).val % 9 * 256 + r.val := by
    dsimp only
    omega
  have hb : ∀ b : Fin 512, (⟨t.val / 9 * 512 + b.val, by omega⟩ : Fin 2048).val = (⟨9 * (t.val / 9) + s.val, Pipeline.run_point_lt_of_flush t h s⟩ : Fin cfg0.N).val / 9 * 512 + b.val := fun b => by
    dsimp only
    omega
  exact e7 m c _ r b _ _ hR (hb b)

theorem point8 (c : Dev nD) (t : Fin cfg0.N) (h : t.val % 9 = 9 - 1) (b : Fin 512) (B : Fin 2048) (hB : B.val = t.val / 9 * 512 + b.val) :
    ((outsAt0 m c t.val t.isLt).2.2.2 (ix2 0 b) : EReal) = val_main_v38 (F := Ideal) (m ((c : Thread nD τ).loc main_arg0)) (m ((c : Thread nD τ).loc main_arg1)) (ix2 0 B) := by
  obtain ⟨n, hn⟩ := B
  obtain rfl : n = t.val / 9 * 512 + b.val := hB
  refine (run8 m c t h _).trans (Eq.trans ?_ (ref38 _ _ _).symm)
  refine Eq.trans ?_ (Fin.sum_mul_add_fin 9 256 _)
  refine Finset.sum_congr rfl fun s _ => ?_
  unfold part8
  refine Finset.sum_congr rfl fun r _ => ?_
  have hR : (⟨s.val * 256 + r.val, by omega⟩ : Fin 2304).val = (⟨9 * (t.val / 9) + s.val, Pipeline.run_point_lt_of_flush t h s⟩ : Fin cfg0.N).val % 9 * 256 + r.val := by
    dsimp only
    omega
  have hb : ∀ b : Fin 512, (⟨t.val / 9 * 512 + b.val, by omega⟩ : Fin 2048).val = (⟨9 * (t.val / 9) + s.val, Pipeline.run_point_lt_of_flush t h s⟩ : Fin cfg0.N).val / 9 * 512 + b.val := fun b => by
    dsimp only
    omega
  exact (mul_comm _ _).trans (congrArg₂ (fun x y : EReal => x * y) (b_p m c _ r b _ _ hR (hb b)) (e6 m c _ r b _ _ hR (hb b)))

theorem at6 (c : Dev nD) (t : Fin cfg0.N) (h : t.val % 9 = 9 - 1) (y : S1x512x512.Idx) (z : S4x512x512.Idx) (h0 : (z 0).val = t.val / 9 + (y 0).val) (h1 : (z 1).val = (y 1).val) (h2 : (z 2).val = (y 2).val) :
    (outsAt0 m c t.val t.isLt).2.1 y = val_main_v35 (F := Ideal) (m ((c : Thread nD τ).loc main_arg0)) (m ((c : Thread nD τ).loc main_arg2)) (m ((c : Thread nD τ).loc main_arg4)) z := by
  obtain ⟨a, b, rfl⟩ := ix_one3 y
  have hz : z = ix3 (z 0) a b := funext fun i => by
    fin_cases i
    · rfl
    · exact Fin.ext h1
    · exact Fin.ext h2
  exact (point6 m c t h a b (z 0) h0).trans (congrArg (fun i => val_main_v35 (F := Ideal) (m ((c : Thread nD τ).loc main_arg0)) (m ((c : Thread nD τ).loc main_arg2)) (m ((c : Thread nD τ).loc main_arg4)) i) hz.symm)

/-- The gradient with respect to the weight. -/
theorem final6 (c : Dev nD) : (dats m 0 c).arrAt 6 (cfgs 0).N = val_main_v35 (F := Ideal) (m ((c : Thread nD τ).loc main_arg0)) (m ((c : Thread nD τ).loc main_arg2)) (m ((c : Thread nD τ).loc main_arg4)) := by
  refine (dats m 0 c).arrAt_eq_of_covers 6 _ (by decide +kernel) fun t hf y => ?_
  have hl : t.val % 9 = 8 := (flush0_6 t).mp hf
  blk_simp
  rw [after0_6]
  exact at6 m c t hl y _ (by blk_simp [idx t]) (by blk_simp [idx t]) (by blk_simp [idx t])

theorem at7 (c : Dev nD) (t : Fin cfg0.N) (h : t.val % 9 = 9 - 1) (y : S1x512.Idx) (z : S1x2048.Idx) (h1 : (z 1).val = t.val / 9 * 512 + (y 1).val) :
    (outsAt0 m c t.val t.isLt).2.2.1 y = val_main_v37 (F := Ideal) (m ((c : Thread nD τ).loc main_arg0)) (m ((c : Thread nD τ).loc main_arg4)) z := by
  obtain ⟨b, rfl⟩ := ix_one2 y
  have hz : z = ix2 0 (z 1) := funext fun i => by
    fin_cases i
    · exact Fin.ext (by have : (z 0).val < 1 := (z 0).isLt; show (z 0).val = 0; omega)
    · rfl
  exact (point7 m c t h b (z 1) h1).trans (congrArg (fun i => val_main_v37 (F := Ideal) (m ((c : Thread nD τ).loc main_arg0)) (m ((c : Thread nD τ).loc main_arg4)) i) hz.symm)

/-- The gradient with respect to the bias. -/
theorem final7 (c : Dev nD) : (dats m 0 c).arrAt 7 (cfgs 0).N = val_main_v37 (F := Ideal) (m ((c : Thread nD τ).loc main_arg0)) (m ((c : Thread nD τ).loc main_arg4)) := by
  refine (dats m 0 c).arrAt_eq_of_covers 7 _ (by decide +kernel) fun t hf y => ?_
  have hl : t.val % 9 = 8 := (flush0_7 t).mp hf
  blk_simp
  rw [after0_7]
  exact at7 m c t hl y _ (by blk_simp [idx t])

theorem at8 (c : Dev nD) (t : Fin cfg0.N) (h : t.val % 9 = 9 - 1) (y : S1x512.Idx) (z : S1x2048.Idx) (h1 : (z 1).val = t.val / 9 * 512 + (y 1).val) :
    (outsAt0 m c t.val t.isLt).2.2.2 y = val_main_v38 (F := Ideal) (m ((c : Thread nD τ).loc main_arg0)) (m ((c : Thread nD τ).loc main_arg1)) z := by
  obtain ⟨b, rfl⟩ := ix_one2 y
  have hz : z = ix2 0 (z 1) := funext fun i => by
    fin_cases i
    · exact Fin.ext (by have : (z 0).val < 1 := (z 0).isLt; show (z 0).val = 0; omega)
    · rfl
  exact (point8 m c t h b (z 1) h1).trans (congrArg (fun i => val_main_v38 (F := Ideal) (m ((c : Thread nD τ).loc main_arg0)) (m ((c : Thread nD τ).loc main_arg1)) i) hz.symm)

/-- The gradient with respect to the scale. -/
theorem final8 (c : Dev nD) : (dats m 0 c).arrAt 8 (cfgs 0).N = val_main_v38 (F := Ideal) (m ((c : Thread nD τ).loc main_arg0)) (m ((c : Thread nD τ).loc main_arg1)) := by
  refine (dats m 0 c).arrAt_eq_of_covers 8 _ (by decide +kernel) fun t hf y => ?_
  have hl : t.val % 9 = 8 := (flush0_8 t).mp hf
  blk_simp
  rw [after0_8]
  exact at8 m c t hl y _ (by blk_simp [idx t])

end Cert.Kernel30Ideal.Extra
end
-- ==== Proof.PoolProj.lean ====
module
public import proofs.«01_k».proof.Proof.Gen.Kernel29Ideal.Frame
public import proofs.«01_k».proof.Proof.Gen.Reference29Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel29Ideal.Extra
open Cert.Kernel29Ideal Cert.Kernel29Ideal.Gen Cert.Reference29Ideal.Read

/-! `pool_proj_fwd`: the projection of each group, before and after its scale. -/

variable (m : (ℓ : Loc nD τ sig) → Buf (Elt Ideal) ℓ)

theorem idx : ∀ t : Fin cfg0.N, win0_0.index t = ![t.val % 9, t.val / 9] ∧ win0_1.index t = ![t.val / 9, 0, 0] ∧ win0_2.index t = ![0, t.val / 9] ∧ win0_3.index t = ![0, t.val / 9] ∧ win0_4.index t = ![t.val % 9, t.val / 9] ∧ win0_5.index t = ![t.val % 9, t.val / 9] :=
  (by decide +kernel : ∀ t : Fin grid0.N, _)

theorem coord : ∀ t : Fin cfg0.N, (grid0.coords t 1).val = t.val % 9 :=
  (by decide +kernel : ∀ t : Fin grid0.N, _)

theorem zero : Ideal.ofBits .f32 0x00000000#32 = (0 : EReal) := by
  simp [Ideal.ofBits, Ideal.ieee]

theorem mask_k : ∀ (i : Fin 9) (r : Fin 256), IntOp.cmpi CmpIPredicate.sge (IntOp.addi (BitVec.ofNat 32 r.val) (Scalar.muli (BitVec.ofNat 32 i.val) 256#32)) 240#32 = if 240 ≤ i.val * 256 + r.val then 1#1 else 0#1 := by
  decide +kernel

theorem mask_r : ∀ R : Fin 2304, IntOp.cmpi CmpIPredicate.sge (BitVec.ofNat 32 R.val) 240#32 = if 240 ≤ R.val then 1#1 else 0#1 := by
  decide +kernel

theorem b_m (c : Dev nD) (t : Fin cfg0.N) (r : Fin 256) (b : Fin 512) (R : Fin 2304) (B : Fin 2048) (h : R.val = t.val % 9 * 256 + r.val) (hB : B.val = t.val / 9 * 512 + b.val) :
    (iblk m c 0 t : FVec Ideal S256x512 .bf16) (ix2 r b) = m ((c : Thread nD τ).loc main_arg0) (ix2 R B) := by
  blk_ext [iblk, idx t, h, hB]

theorem b_w (c : Dev nD) (t : Fin cfg0.N) (a b : Fin 512) (grp : Fin 4) (hg : grp.val = t.val / 9) :
    (iblk m c 1 t : FVec Ideal S1x512x512 .bf16) (ix3 0 a b) = m ((c : Thread nD τ).loc main_arg1) (ix3 grp a b) := by
  blk_ext [iblk, idx t, hg]

theorem v_b (c : Dev nD) (b : Fin 2048) :
    (V m c main_v0 : FVec Ideal S1x2048 .f32) (ix2 0 b) = m ((c : Thread nD τ).loc main_arg2) (ix1 b) := by
  entry_read
  pointwise

theorem b_b (c : Dev nD) (t : Fin cfg0.N) (b : Fin 512) (B : Fin 2048) (h : B.val = t.val / 9 * 512 + b.val) :
    (iblk m c 2 t : FVec Ideal S1x512 .f32) (ix2 0 b) = m ((c : Thread nD τ).loc main_arg2) (ix1 B) := by
  refine Eq.trans ?_ (v_b m c B)
  blk_ext [iblk, idx t, h]

theorem v_s (c : Dev nD) (b : Fin 2048) :
    (V m c main_v1 : FVec Ideal S1x2048 .f32) (ix2 0 b) = m ((c : Thread nD τ).loc main_arg3) (ix1 b) := by
  entry_read
  pointwise

theorem b_s (c : Dev nD) (t : Fin cfg0.N) (b : Fin 512) (B : Fin 2048) (h : B.val = t.val / 9 * 512 + b.val) :
    (iblk m c 3 t : FVec Ideal S1x512 .f32) (ix2 0 b) = m ((c : Thread nD τ).loc main_arg3) (ix1 B) := by
  refine Eq.trans ?_ (v_s m c B)
  blk_ext [iblk, idx t, h]

theorem pay (x : Vec Ideal S256x512 .bf16) (w : Vec Ideal S1x512x512 .bf16) (v : Vec Ideal S1x512 .f32) (r : Fin 256) (b : Fin 512) : (k0_pay1 (F := Ideal) x w v (ix2 r b) : EReal)
    = (∑ k : Fin 512, x (ix2 r k) * w (ix3 0 k b)) + v (ix2 0 b) := by
  pointwise [k0_pay1]

theorem pay2 (i : grid0.Coords) (x : Vec Ideal S256x512 .bf16) (w : Vec Ideal S1x512x512 .bf16) (v u : Vec Ideal S1x512 .f32) (r : Fin 256) (b : Fin 512) : (k0_pay2 (F := Ideal) i x w v u (ix2 r b) : EReal)
    = if 240 ≤ (i 1).val * 256 + r.val then k0_pay1 (F := Ideal) x w v (ix2 r b) * u (ix2 0 b) else 0 := by
  pointwise [k0_pay2]
  rw [mask_k (i 1) r]
  by_cases h : 240 ≤ (i 1).val * 256 + r.val
  · rw [if_pos h, if_pos h]
    rfl
  · rw [if_neg h, if_neg h]
    rfl

theorem ref (x : FVec Ideal S2304x2048 .bf16) (w : FVec Ideal S4x512x512 .bf16) (v : FVec Ideal S2048 .f32) (R : Fin 2304) (g : Fin 4) (b : Fin 512) (B : Fin 2048) (hB : B.val = g.val * 512 + b.val) : (val_main_v7 (F := Ideal) x w v (ix2 R B) : EReal)
    = (∑ k : Fin 512, w (ix3 g k b) * x (ix2 R ⟨g.val * 512 + k.val, by omega⟩)) + v (ix1 B) := by
  pointwise [val_main_v7, val_main_v6, val_main_v5, val_main_v4, val_main_v3, val_main_v2, val_main_v1, val_main_v0]
  have e1 : (⟨B.val / 512, by omega⟩ : Fin 4) = g := Fin.ext (by show B.val / 512 = g.val; omega)
  have e2 : (⟨B.val % 512, by omega⟩ : Fin 512) = b := Fin.ext (by show B.val % 512 = b.val; omega)
  have e3 : ∀ k : Fin 512, (⟨B.val / 512 * 512 + k.val, by omega⟩ : Fin 2048) = ⟨g.val * 512 + k.val, by omega⟩ := fun k => Fin.ext (by show B.val / 512 * 512 + k.val = g.val * 512 + k.val; omega)
  simp only [e1, e2, e3]

theorem ref2 (x : FVec Ideal S2304x2048 .bf16) (w : FVec Ideal S4x512x512 .bf16) (v u : FVec Ideal S2048 .f32) (R : Fin 2304) (B : Fin 2048) : (val_main_v15 (F := Ideal) x w v u (ix2 R B) : EReal)
    = if 240 ≤ R.val then val_main_v7 (F := Ideal) x w v (ix2 R B) * u (ix1 B) else 0 := by
  pointwise [val_main_v15, val_main_call0_v2, val_main_call0_v1, val_main_call0_v0, val_main_cst, val_main_v14, val_main_v13, val_main_c, val_main_v12, val_main_v11, val_main_v10, val_main_v9, val_main_v8]
  rw [mask_r R]
  by_cases h : 240 ≤ R.val
  · rw [if_pos h, if_pos h]
    rfl
  · rw [if_neg h, if_neg h]
    exact zero

theorem point4 (c : Dev nD) (t : Fin cfg0.N) (r : Fin 256) (b : Fin 512) (R : Fin 2304) (B : Fin 2048) (h : R.val = t.val % 9 * 256 + r.val) (hB : B.val = t.val / 9 * 512 + b.val) :
    (k0_pay1 (F := Ideal) (iblk m c 0 t) (iblk m c 1 t) (iblk m c 2 t) (ix2 r b) : EReal) = val_main_v7 (F := Ideal) (m ((c : Thread nD τ).loc main_arg0)) (m ((c : Thread nD τ).loc main_arg1)) (m ((c : Thread nD τ).loc main_arg2)) (ix2 R B) := by
  have hg : t.val / 9 < 4 := by omega
  refine (pay _ _ _ r b).trans (Eq.trans ?_ (ref _ _ _ R ⟨t.val / 9, hg⟩ b B hB).symm)
  rw [b_b m c t b B hB]
  congr 1
  refine Finset.sum_congr rfl fun k _ => ?_
  rw [b_m m c t r k R ⟨t.val / 9 * 512 + k.val, by omega⟩ h rfl, b_w m c t k b ⟨t.val / 9, hg⟩ rfl, mul_comm]

theorem point5 (c : Dev nD) (t : Fin cfg0.N) (r : Fin 256) (b : Fin 512) (R : Fin 2304) (B : Fin 2048) (h : R.val = t.val % 9 * 256 + r.val) (hB : B.val = t.val / 9 * 512 + b.val) :
    (k0_pay2 (F := Ideal) (grid0.coords t) (iblk m c 0 t) (iblk m c 1 t) (iblk m c 2 t) (iblk m c 3 t) (ix2 r b) : EReal) = val_main_v15 (F := Ideal) (m ((c : Thread nD τ).loc main_arg0)) (m ((c : Thread nD τ).loc main_arg1)) (m ((c : Thread nD τ).loc main_arg2)) (m ((c : Thread nD τ).loc main_arg3)) (ix2 R B) := by
  refine (pay2 _ _ _ _ _ r b).trans (Eq.trans ?_ (ref2 _ _ _ _ R B).symm)
  rw [b_s m c t b B hB, coord t, h, point4 m c t r b R B h hB]

theorem at4 (c : Dev nD) (t : Fin cfg0.N) (y : S256x512.Idx) (z : S2304x2048.Idx) (h0 : (z 0).val = t.val % 9 * 256 + (y 0).val) (h1 : (z 1).val = t.val / 9 * 512 + (y 1).val) :
    (k0_pay1 (F := Ideal) (iblk m c 0 t) (iblk m c 1 t) (iblk m c 2 t)) y = val_main_v7 (F := Ideal) (m ((c : Thread nD τ).loc main_arg0)) (m ((c : Thread nD τ).loc main_arg1)) (m ((c : Thread nD τ).loc main_arg2)) z := by
  have hy : y = ix2 (y 0) (y 1) := funext fun i => by fin_cases i <;> rfl
  have hz : z = ix2 (z 0) (z 1) := funext fun i => by fin_cases i <;> rfl
  exact (congrArg (fun i => (k0_pay1 (F := Ideal) (iblk m c 0 t) (iblk m c 1 t) (iblk m c 2 t)) i) hy).trans
    ((point4 m c t (y 0) (y 1) (z 0) (z 1) h0 h1).trans (congrArg (fun i => val_main_v7 (F := Ideal) (m ((c : Thread nD τ).loc main_arg0)) (m ((c : Thread nD τ).loc main_arg1)) (m ((c : Thread nD τ).loc main_arg2)) i) hz.symm))

theorem final4 (c : Dev nD) : (dats m 0 c).arrAt 4 (cfgs 0).N
    = val_main_v7 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact at4 m c t y _ (by blk_simp [idx t]) (by blk_simp [idx t])

theorem at5 (c : Dev nD) (t : Fin cfg0.N) (y : S256x512.Idx) (z : S2304x2048.Idx) (h0 : (z 0).val = t.val % 9 * 256 + (y 0).val) (h1 : (z 1).val = t.val / 9 * 512 + (y 1).val) :
    (k0_pay2 (F := Ideal) (grid0.coords t) (iblk m c 0 t) (iblk m c 1 t) (iblk m c 2 t) (iblk m c 3 t)) y = val_main_v15 (F := Ideal) (m ((c : Thread nD τ).loc main_arg0)) (m ((c : Thread nD τ).loc main_arg1)) (m ((c : Thread nD τ).loc main_arg2)) (m ((c : Thread nD τ).loc main_arg3)) z := by
  have hy : y = ix2 (y 0) (y 1) := funext fun i => by fin_cases i <;> rfl
  have hz : z = ix2 (z 0) (z 1) := funext fun i => by fin_cases i <;> rfl
  exact (congrArg (fun i => (k0_pay2 (F := Ideal) (grid0.coords t) (iblk m c 0 t) (iblk m c 1 t) (iblk m c 2 t) (iblk m c 3 t)) i) hy).trans
    ((point5 m c t (y 0) (y 1) (z 0) (z 1) h0 h1).trans (congrArg (fun i => val_main_v15 (F := Ideal) (m ((c : Thread nD τ).loc main_arg0)) (m ((c : Thread nD τ).loc main_arg1)) (m ((c : Thread nD τ).loc main_arg2)) (m ((c : Thread nD τ).loc main_arg3)) i) hz.symm))

theorem final5 (c : Dev nD) : (dats m 0 c).arrAt 5 (cfgs 0).N
    = val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact at5 m c t y _ (by blk_simp [idx t]) (by blk_simp [idx t])

end Cert.Kernel29Ideal.Extra
end
-- ==== Proof.Gate.lean ====
module
public import proofs.«01_k».proof.Proof.Gen.Kernel28Ideal.Frame
public import proofs.«01_k».proof.Proof.Gen.Reference28Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel28Ideal.Extra
open Cert.Kernel28Ideal Cert.Kernel28Ideal.Gen Cert.Reference28Ideal.Read

/-! `gatenorm_fwd`: the output gate of the scan and the norm of each group. -/

variable (m : (ℓ : Loc nD τ sig) → Buf (Elt Ideal) ℓ)

theorem idx : ∀ t : Fin cfg0.N, win0_0.index t = ![t.val / 8, t.val % 8] ∧ win0_1.index t = ![t.val / 8, t.val % 8] ∧ win0_2.index t = ![0, t.val % 8] ∧ win0_3.index t = ![t.val / 8, t.val % 8] ∧ win0_4.index t = ![t.val % 8, t.val / 8] :=
  (by decide +kernel : ∀ t : Fin grid0.N, _)

/-- The logistic function. -/
def lgs (g : EReal) : EReal := Ideal.div 1 (1 + Ideal.exp (-g))

/-- The factor of a row of a group. -/
def inv (x : Fin 512 → EReal) : EReal :=
  Ideal.rsqrt (Ideal.div (∑ k, x k * x k) (Ideal.ofBits .f32 0x44000000#32) + Ideal.ofBits .f32 0x358637BD#32)

/-- The gated value of a row of a group. -/
def gated (y z : Vec Ideal S256x512 .f32) (r : Fin 256) (k : Fin 512) : EReal := y (ix2 r k) * (z (ix2 r k) * lgs (z (ix2 r k)))

theorem v_w (c : Dev nD) (d : Fin 4096) :
    (V m c main_v0 : FVec Ideal S1x4096 .f32) (ix2 0 d) = m ((c : Thread nD τ).loc main_arg2) (ix1 d) := by
  entry_read
  pointwise

theorem b_w (c : Dev nD) (t : Fin cfg0.N) (b : Fin 512) (B : Fin 4096) (hB : B.val = t.val % 8 * 512 + b.val) :
    (iblk m c 2 t : FVec Ideal S1x512 .f32) (ix2 0 b) = m ((c : Thread nD τ).loc main_arg2) (ix1 B) := by
  refine Eq.trans ?_ (v_w m c B)
  blk_ext [iblk, idx t, hB]

theorem b_y (c : Dev nD) (t : Fin cfg0.N) (r : Fin 256) (b : Fin 512) (R : Fin 2304) (B : Fin 4096) (h : R.val = t.val / 8 * 256 + r.val) (hB : B.val = t.val % 8 * 512 + b.val) :
    (iblk m c 0 t : FVec Ideal S256x512 .f32) (ix2 r b) = m ((c : Thread nD τ).loc main_arg0) (ix2 R B) := by
  blk_ext [iblk, idx t, h, hB]

theorem b_z (c : Dev nD) (t : Fin cfg0.N) (r : Fin 256) (b : Fin 512) (R : Fin 2304) (B : Fin 10368) (h : R.val = t.val / 8 * 256 + r.val) (hB : B.val = t.val % 8 * 512 + b.val) :
    (X0_1 m c t : FVec Ideal S256x512 .f32) (ix2 r b) = m ((c : Thread nD τ).loc main_arg1) (ix2 R B) := by
  unfold X0_1 Pipeline.Window.fill
  rw [dif_pos (moved0_1 t (ix2 r b))]
  blk_ext [iblk, idx t, h, hB]

theorem pay (z y : Vec Ideal S256x512 .f32) (w : Vec Ideal S1x512 .f32) (r : Fin 256) (b : Fin 512) : (k0_pay1 (F := Ideal) z y w (ix2 r b) : EReal)
    = gated y z r b * inv (gated y z r) * w (ix2 0 b) := by
  pointwise [k0_pay1]
  simp only [zero_sub]
  rfl

theorem pay2 (z y : Vec Ideal S256x512 .f32) (w : Vec Ideal S1x512 .f32) (r : Fin 256) (b : Fin 512) : (k0_pay2 (F := Ideal) z y w (ix2 r b) : EReal)
    = k0_pay1 (F := Ideal) z y w (ix2 r b) := by
  pointwise [k0_pay2]

theorem pay3 (z y : Vec Ideal S256x512 .f32) (w : Vec Ideal S1x512 .f32) (r : Fin 256) (b : Fin 512) : (k0_pay3 (F := Ideal) z y w (ix2 b r) : EReal)
    = k0_pay1 (F := Ideal) z y w (ix2 r b) := by
  pointwise [k0_pay3]

theorem ref_v (y : FVec Ideal S2304x4096 .f32) (x : FVec Ideal S2304x10368 .f32) (R : Fin 2304) (g : Fin 8) (b : Fin 512) (B : Fin 4096) (C : Fin 10368) (hB : B.val = g.val * 512 + b.val) (hC : C.val = g.val * 512 + b.val) : (val_main_v3 (F := Ideal) y x (ix3 R g b) : EReal)
    = y (ix2 R B) * (x (ix2 R C) * lgs (x (ix2 R C))) := by
  have e1 : (⟨g.val * 512 + b.val, by omega⟩ : Fin 4096) = B := Fin.ext hB.symm
  have e2 : (⟨g.val * 512 + b.val, by omega⟩ : Fin 10368) = C := Fin.ext hC.symm
  pointwise [val_main_v3, val_main_v2, val_main_v1, val_main_call0_v5, val_main_call0_v4, val_main_call0_cst_0, val_main_call0_v3, val_main_call0_v2, val_main_call0_cst, val_main_call0_v1, val_main_call0_v0, val_main_v0]
  simp only [e1, e2]
  rfl

theorem ref (y : FVec Ideal S2304x4096 .f32) (x : FVec Ideal S2304x10368 .f32) (w : FVec Ideal S4096 .f32) (R : Fin 2304) (g : Fin 8) (b : Fin 512) (B : Fin 4096) (hB : B.val = g.val * 512 + b.val) : (val_main_v18 (F := Ideal) y x w (ix2 R B) : EReal)
    = val_main_v3 (F := Ideal) y x (ix3 R g b) * inv (fun k => val_main_v3 (F := Ideal) y x (ix3 R g k)) * w (ix1 B) := by
  have e1 : (⟨B.val / 512, by omega⟩ : Fin 8) = g := Fin.ext (by show B.val / 512 = g.val; omega)
  have e2 : (⟨B.val % 512, by omega⟩ : Fin 512) = b := Fin.ext (by show B.val % 512 = b.val; omega)
  pointwise [val_main_v18, val_main_v17, val_main_v16, val_main_v15, val_main_v14, val_main_v13, val_main_v12, val_main_v11, val_main_v10, val_main_v9, val_main_cst_1, val_main_v8, val_main_v7, val_main_cst_0, val_main_v6, val_main_v5, val_main_cst, val_main_v4]
  simp only [e1, e2]
  rfl

theorem ref2 (y : FVec Ideal S2304x4096 .f32) (x : FVec Ideal S2304x10368 .f32) (w : FVec Ideal S4096 .f32) (R : Fin 2304) (B : Fin 4096) : (val_main_v19 (F := Ideal) y x w (ix2 B R) : EReal)
    = val_main_v18 (F := Ideal) y x w (ix2 R B) := by
  pointwise [val_main_v19]

theorem point (c : Dev nD) (t : Fin cfg0.N) (r : Fin 256) (b : Fin 512) (R : Fin 2304) (B : Fin 4096) (h : R.val = t.val / 8 * 256 + r.val) (hB : B.val = t.val % 8 * 512 + b.val) :
    (k0_pay1 (F := Ideal) (X0_1 m c t) (iblk m c 0 t) (iblk m c 2 t) (ix2 r b) : EReal) = val_main_v18 (F := Ideal) (m ((c : Thread nD τ).loc main_arg0)) (m ((c : Thread nD τ).loc main_arg1)) (m ((c : Thread nD τ).loc main_arg2)) (ix2 R B) := by
  have hg : t.val % 8 < 8 := by omega
  have e : ∀ k : Fin 512, (val_main_v3 (F := Ideal) (m ((c : Thread nD τ).loc main_arg0)) (m ((c : Thread nD τ).loc main_arg1)) (ix3 R ⟨t.val % 8, hg⟩ k) : EReal)
      = gated (iblk m c 0 t) (X0_1 m c t) r k := fun k => by
    unfold gated
    rw [b_y m c t r k R ⟨t.val % 8 * 512 + k.val, by omega⟩ h rfl, b_z m c t r k R ⟨t.val % 8 * 512 + k.val, by omega⟩ h rfl]
    exact ref_v _ _ R ⟨t.val % 8, hg⟩ k _ _ rfl rfl
  refine (pay _ _ _ r b).trans (Eq.trans ?_ (ref _ _ _ R ⟨t.val % 8, hg⟩ b B hB).symm)
  rw [b_w m c t b B hB, e b, funext e]

theorem at3 (c : Dev nD) (t : Fin cfg0.N) (y : S256x512.Idx) (z : S2304x4096.Idx) (h0 : (z 0).val = t.val / 8 * 256 + (y 0).val) (h1 : (z 1).val = t.val % 8 * 512 + (y 1).val) :
    (k0_pay2 (F := Ideal) (X0_1 m c t) (iblk m c 0 t) (iblk m c 2 t)) y = val_main_v18 (F := Ideal) (m ((c : Thread nD τ).loc main_arg0)) (m ((c : Thread nD τ).loc main_arg1)) (m ((c : Thread nD τ).loc main_arg2)) z := by
  have hy : y = ix2 (y 0) (y 1) := funext fun i => by fin_cases i <;> rfl
  have hz : z = ix2 (z 0) (z 1) := funext fun i => by fin_cases i <;> rfl
  exact (congrArg (fun i => (k0_pay2 (F := Ideal) (X0_1 m c t) (iblk m c 0 t) (iblk m c 2 t)) i) hy).trans ((pay2 _ _ _ (y 0) (y 1)).trans
    ((point m c t (y 0) (y 1) (z 0) (z 1) h0 h1).trans (congrArg (fun i => val_main_v18 (F := Ideal) (m ((c : Thread nD τ).loc main_arg0)) (m ((c : Thread nD τ).loc main_arg1)) (m ((c : Thread nD τ).loc main_arg2)) i) hz.symm)))

theorem final3 (c : Dev nD) : (dats m 0 c).arrAt 3 (cfgs 0).N
    = val_main_v18 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  exact at3 m c t y _ (by blk_simp [idx t]) (by blk_simp [idx t])

theorem at4 (c : Dev nD) (t : Fin cfg0.N) (y : S512x256.Idx) (z : S4096x2304.Idx) (h0 : (z 1).val = t.val / 8 * 256 + (y 1).val) (h1 : (z 0).val = t.val % 8 * 512 + (y 0).val) :
    (k0_pay3 (F := Ideal) (X0_1 m c t) (iblk m c 0 t) (iblk m c 2 t)) y = val_main_v19 (F := Ideal) (m ((c : Thread nD τ).loc main_arg0)) (m ((c : Thread nD τ).loc main_arg1)) (m ((c : Thread nD τ).loc main_arg2)) z := by
  have hy : y = ix2 (y 0) (y 1) := funext fun i => by fin_cases i <;> rfl
  have hz : z = ix2 (z 0) (z 1) := funext fun i => by fin_cases i <;> rfl
  exact (congrArg (fun i => (k0_pay3 (F := Ideal) (X0_1 m c t) (iblk m c 0 t) (iblk m c 2 t)) i) hy).trans ((pay3 _ _ _ (y 1) (y 0)).trans
    ((point m c t (y 1) (y 0) (z 1) (z 0) h0 h1).trans ((ref2 _ _ _ (z 1) (z 0)).symm.trans (congrArg (fun i => val_main_v19 (F := Ideal) (m ((c : Thread nD τ).loc main_arg0)) (m ((c : Thread nD τ).loc main_arg1)) (m ((c : Thread nD τ).loc main_arg2)) i) hz.symm))))

theorem final4 (c : Dev nD) : (dats m 0 c).arrAt 4 (cfgs 0).N
    = val_main_v19 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; unfold outsAt0; frame_out
  exact at4 m c t y _ (by blk_simp [idx t]) (by blk_simp [idx t])

end Cert.Kernel28Ideal.Extra
end
-- ==== Proof.Dt.lean ====
module
public import proofs.«01_k».proof.Proof.Gen.Kernel27Ideal.Frame
public import proofs.«01_k».proof.Proof.Gen.Reference27Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel27Ideal.Extra
open Cert.Kernel27Ideal Cert.Kernel27Ideal.Gen Cert.Reference27Ideal.Read

/-! `dt_fwd`: the softplus of the columns of the step sizes. -/

variable (m : (ℓ : Loc nD τ sig) → Buf (Elt Ideal) ℓ)

theorem idx : ∀ t : Fin cfg0.N, win0_0.index t = ![t.val, 80] ∧ win0_1.index t = ![0, 0] ∧ win0_2.index t = ![t.val, 0] :=
  (by decide +kernel : ∀ t : Fin grid0.N, _)

theorem coord : ∀ t : Fin cfg0.N, (grid0.coords t 0).val = t.val :=
  (by decide +kernel : ∀ t : Fin grid0.N, _)

/-- The softplus. -/
def soft (v : EReal) : EReal := max v 0 + Ideal.log1p (Ideal.exp (-(max v (-v))))

theorem b_z (c : Dev nD) (t : Fin cfg0.N) (r : Fin 256) (b : Fin 128) (R : Fin 2304) (B : Fin 10368) (h : R.val = t.val * 256 + r.val) (hB : B.val = 10240 + b.val) :
    (iblk m c 0 t : FVec Ideal S256x128 .f32) (ix2 r b) = m ((c : Thread nD τ).loc main_arg0) (ix2 R B) := by
  blk_ext [iblk, idx t, h, hB]

theorem b_b (c : Dev nD) (t : Fin cfg0.N) (b : Fin 128) :
    (iblk m c 1 t : FVec Ideal S1x128 .f32) (ix2 0 b) = m ((c : Thread nD τ).loc main_arg1) (ix2 0 b) := by
  blk_ext [iblk, idx t]

theorem zero : Ideal.ofBits .f32 0x00000000#32 = (0 : EReal) := by
  simp [Ideal.ofBits, Ideal.ieee]

theorem mask_k : ∀ (i : Fin 9) (r : Fin 256), IntOp.cmpi CmpIPredicate.sge (IntOp.addi (BitVec.ofNat 32 r.val) (Scalar.muli (BitVec.ofNat 32 i.val) 256#32)) 240#32 = if 240 ≤ i.val * 256 + r.val then 1#1 else 0#1 := by
  decide +kernel

theorem mask_r : ∀ R : Fin 2304, IntOp.cmpi CmpIPredicate.sge (BitVec.ofNat 32 R.val) 240#32 = if 240 ≤ R.val then 1#1 else 0#1 := by
  decide +kernel

theorem pay (i : grid0.Coords) (v : Vec Ideal S256x128 .f32) (w : Vec Ideal S1x128 .f32) (r : Fin 256) (b : Fin 128) : (k0_pay1 (F := Ideal) i v w (ix2 r b) : EReal)
    = if 240 ≤ (i 0).val * 256 + r.val then soft (v (ix2 r b) + w (ix2 0 b)) else 0 := by
  pointwise [k0_pay1]
  rw [mask_k (i 0) r, zero_sub]
  by_cases h : 240 ≤ (i 0).val * 256 + r.val
  · rw [if_pos h, if_pos h]
    rfl
  · rw [if_neg h, if_neg h]
    rfl

theorem ref (x : FVec Ideal S2304x10368 .f32) (w : FVec Ideal S1x128 .f32) (R : Fin 2304) (b : Fin 128) (B : Fin 10368) (hB : B.val = 10240 + b.val) : (val_main_v8 (F := Ideal) x w (ix2 R b) : EReal)
    = if 240 ≤ R.val then soft (x (ix2 R B) + w (ix2 0 b)) else 0 := by
  have e : (⟨10240 + b.val, by omega⟩ : Fin 10368) = B := Fin.ext hB.symm
  pointwise [val_main_v8, val_main_call1_v2, val_main_call1_v1, val_main_call1_v0, val_main_cst, val_main_v7, val_main_v6, val_main_c, val_main_v5, val_main_v4, val_main_v3, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v2, val_main_v1, val_main_v0]
  rw [mask_r R, e]
  by_cases h : 240 ≤ R.val
  · rw [if_pos h, if_pos h, if_neg (fun q => q rfl)]
    rfl
  · rw [if_neg h, if_neg h]
    exact zero

theorem point2 (c : Dev nD) (t : Fin cfg0.N) (r : Fin 256) (b : Fin 128) (R : Fin 2304) (h : R.val = t.val * 256 + r.val) :
    (k0_pay1 (F := Ideal) (grid0.coords t) (iblk m c 0 t) (iblk m c 1 t) (ix2 r b) : EReal) = val_main_v8 (F := Ideal) (m ((c : Thread nD τ).loc main_arg0)) (m ((c : Thread nD τ).loc main_arg1)) (ix2 R b) := by
  refine (pay _ _ _ r b).trans (Eq.trans ?_ (ref _ _ R b ⟨10240 + b.val, by omega⟩ rfl).symm)
  rw [b_z m c t r b R ⟨10240 + b.val, by omega⟩ h rfl, b_b m c t b, coord t, h]

theorem at2 (c : Dev nD) (t : Fin cfg0.N) (y : S256x128.Idx) (z : S2304x128.Idx) (h0 : (z 0).val = t.val * 256 + (y 0).val) (h1 : (z 1).val = (y 1).val) :
    (k0_pay1 (F := Ideal) (grid0.coords t) (iblk m c 0 t) (iblk m c 1 t)) y = val_main_v8 (F := Ideal) (m ((c : Thread nD τ).loc main_arg0)) (m ((c : Thread nD τ).loc main_arg1)) z := by
  have hy : y = ix2 (y 0) (y 1) := funext fun i => by fin_cases i <;> rfl
  have hz : z = ix2 (z 0) (y 1) := funext fun i => by
    fin_cases i
    · rfl
    · exact Fin.ext h1
  exact (congrArg (fun i => (k0_pay1 (F := Ideal) (grid0.coords t) (iblk m c 0 t) (iblk m c 1 t)) i) hy).trans
    ((point2 m c t (y 0) (y 1) (z 0) h0).trans (congrArg (fun i => val_main_v8 (F := Ideal) (m ((c : Thread nD τ).loc main_arg0)) (m ((c : Thread nD τ).loc main_arg1)) i) hz.symm))

theorem final2 (c : Dev nD) : (dats m 0 c).arrAt 2 (cfgs 0).N
    = val_main_v8 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact at2 m c t y _ (by blk_simp [idx t]) (by blk_simp [idx t])

end Cert.Kernel27Ideal.Extra
end
-- ==== Proof.NormPre.lean ====
module
public import proofs.«01_k».proof.Proof.Gen.Kernel26Ideal.Frame
public import proofs.«01_k».proof.Proof.Gen.Reference26Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel26Ideal.Extra
open Cert.Kernel26Ideal Cert.Kernel26Ideal.Gen Cert.Reference26Ideal.Read

/-! `rmsnorm_fwd` with its transpose: the norm before a layer. -/

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, t.val] :=
  (by decide +kernel : ∀ t : Fin grid0.N, _)

/-- The factor of a row. -/
def inv (x : Fin 2048 → EReal) : EReal :=
  Ideal.rsqrt (Ideal.div (∑ k, x k * x k) (Ideal.ofBits .f32 0x45000000#32) + Ideal.ofBits .f32 0x358637BD#32)

theorem v_w (c : Dev nD) (d : Fin 2048) :
    (V m c main_v0 : FVec Ideal S1x2048 .f32) (ix2 0 d) = m ((c : Thread nD τ).loc main_arg1) (ix1 d) := by
  entry_read
  pointwise

theorem b_w (c : Dev nD) (t : Fin cfg0.N) (d : Fin 2048) :
    (iblk m c 1 t : FVec Ideal S1x2048 .f32) (ix2 0 d) = m ((c : Thread nD τ).loc main_arg1) (ix1 d) := by
  refine Eq.trans ?_ (v_w m c d)
  blk_ext [iblk, idx t]

theorem b_x (c : Dev nD) (t : Fin cfg0.N) (r : Fin 256) (d : Fin 2048) (R : Fin 2304) (h : R.val = t.val * 256 + r.val) :
    (iblk m c 0 t : FVec Ideal S256x2048 .f32) (ix2 r d) = m ((c : Thread nD τ).loc main_arg0) (ix2 R d) := by
  blk_ext [iblk, idx t, h]

theorem pay (x : Vec Ideal S256x2048 .f32) (w : Vec Ideal S1x2048 .f32) (r : Fin 256) (d : Fin 2048) : (k0_pay1 (F := Ideal) x w (ix2 r d) : EReal)
    = x (ix2 r d) * inv (fun k => x (ix2 r k)) * w (ix2 0 d) := by
  pointwise [k0_pay1]
  rfl

theorem ref (x : FVec Ideal S2304x2048 .f32) (w : FVec Ideal S2048 .f32) (R : Fin 2304) (d : Fin 2048) : (val_main_v12 (F := Ideal) x w (ix2 R d) : EReal)
    = x (ix2 R d) * inv (fun k => x (ix2 R k)) * w (ix1 d) := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  rfl

theorem row (c : Dev nD) (t : Fin cfg0.N) (r : Fin 256) (d : Fin 2048) (R : Fin 2304) (h : R.val = t.val * 256 + r.val) :
    (k0_pay1 (F := Ideal) (iblk m c 0 t) (iblk m c 1 t) (ix2 r d) : EReal) = val_main_v12 (F := Ideal) (m ((c : Thread nD τ).loc main_arg0)) (m ((c : Thread nD τ).loc main_arg1)) (ix2 R d) := by
  refine (pay _ _ r d).trans (Eq.trans ?_ (ref _ _ R d).symm)
  simp only [b_x m c t r _ R h, b_w m c t]

theorem point2 (c : Dev nD) (t : Fin cfg0.N) (r : Fin 256) (d : Fin 2048) (R : Fin 2304) (h : R.val = t.val * 256 + r.val) :
    (k0_pay2 (F := Ideal) (iblk m c 0 t) (iblk m c 1 t) (ix2 r d) : EReal) = val_main_v13 (F := Ideal) (m ((c : Thread nD τ).loc main_arg0)) (m ((c : Thread nD τ).loc main_arg1)) (ix2 R d) := by
  pointwise [k0_pay2, val_main_v13]
  exact row m c t r d R h

theorem point3 (c : Dev nD) (t : Fin cfg0.N) (r : Fin 256) (d : Fin 2048) (R : Fin 2304) (h : R.val = t.val * 256 + r.val) :
    (k0_pay3 (F := Ideal) (iblk m c 0 t) (iblk m c 1 t) (ix2 d r) : EReal) = val_main_v14 (F := Ideal) (m ((c : Thread nD τ).loc main_arg0)) (m ((c : Thread nD τ).loc main_arg1)) (ix2 d R) := by
  pointwise [k0_pay3, val_main_v14, val_main_v13]
  exact row m c t r d R h

theorem at2 (c : Dev nD) (t : Fin cfg0.N) (y : S256x2048.Idx) (z : S2304x2048.Idx) (h0 : (z 0).val = t.val * 256 + (y 0).val) (h1 : (z 1).val = (y 1).val) :
    (k0_pay2 (F := Ideal) (iblk m c 0 t) (iblk m c 1 t)) y = val_main_v13 (F := Ideal) (m ((c : Thread nD τ).loc main_arg0)) (m ((c : Thread nD τ).loc main_arg1)) z := by
  have hy : y = ix2 (y 0) (y 1) := funext fun i => by fin_cases i <;> rfl
  have hz : z = ix2 (z 0) (y 1) := funext fun i => by
    fin_cases i
    · rfl
    · exact Fin.ext h1
  exact (congrArg (fun i => (k0_pay2 (F := Ideal) (iblk m c 0 t) (iblk m c 1 t)) i) hy).trans
    ((point2 m c t (y 0) (y 1) (z 0) h0).trans (congrArg (fun i => val_main_v13 (F := Ideal) (m ((c : Thread nD τ).loc main_arg0)) (m ((c : Thread nD τ).loc main_arg1)) i) hz.symm))

theorem final2 (c : Dev nD) : (dats m 0 c).arrAt 2 (cfgs 0).N
    = val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact at2 m c t y _ (by blk_simp [idx t]) (by blk_simp [idx t])

theorem at3 (c : Dev nD) (t : Fin cfg0.N) (y : S2048x256.Idx) (z : S2048x2304.Idx) (h0 : (z 0).val = (y 0).val) (h1 : (z 1).val = t.val * 256 + (y 1).val) :
    (k0_pay3 (F := Ideal) (iblk m c 0 t) (iblk m c 1 t)) y = val_main_v14 (F := Ideal) (m ((c : Thread nD τ).loc main_arg0)) (m ((c : Thread nD τ).loc main_arg1)) z := by
  have hy : y = ix2 (y 0) (y 1) := funext fun i => by fin_cases i <;> rfl
  have hz : z = ix2 (y 0) (z 1) := funext fun i => by
    fin_cases i
    · exact Fin.ext h0
    · rfl
  exact (congrArg (fun i => (k0_pay3 (F := Ideal) (iblk m c 0 t) (iblk m c 1 t)) i) hy).trans
    ((point3 m c t (y 1) (y 0) (z 1) h1).trans (congrArg (fun i => val_main_v14 (F := Ideal) (m ((c : Thread nD τ).loc main_arg0)) (m ((c : Thread nD τ).loc main_arg1)) i) hz.symm))

theorem final3 (c : Dev nD) : (dats m 0 c).arrAt 3 (cfgs 0).N
    = val_main_v14 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact at3 m c t y _ (by blk_simp [idx t]) (by blk_simp [idx t])

end Cert.Kernel26Ideal.Extra
end
-- ==== Proof.NormAdd.lean ====
module
public import proofs.«01_k».proof.Proof.Gen.Kernel25Ideal.Frame
public import proofs.«01_k».proof.Proof.Gen.Reference25Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel25Ideal.Extra
open Cert.Kernel25Ideal Cert.Kernel25Ideal.Gen Cert.Reference25Ideal.Read

/-! `rmsnorm_fwd` with a summand: the norm of a layer added to the residual path. -/

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The factor of a row. -/
def inv (x : Fin 2048 → EReal) : EReal :=
  Ideal.rsqrt (Ideal.div (∑ k, x k * x k) (Ideal.ofBits .f32 0x45000000#32) + Ideal.ofBits .f32 0x358637BD#32)

theorem v_w (c : Dev nD) (d : Fin 2048) :
    (V m c main_v0 : FVec Ideal S1x2048 .f32) (ix2 0 d) = m ((c : Thread nD τ).loc main_arg1) (ix1 d) := by
  entry_read
  pointwise

theorem b_w (c : Dev nD) (t : Fin cfg0.N) (d : Fin 2048) :
    (iblk m c 1 t : FVec Ideal S1x2048 .f32) (ix2 0 d) = m ((c : Thread nD τ).loc main_arg1) (ix1 d) := by
  refine Eq.trans ?_ (v_w m c d)
  blk_ext [iblk, idx t]

theorem b_x (c : Dev nD) (t : Fin cfg0.N) (r : Fin 256) (d : Fin 2048) (R : Fin 2304) (h : R.val = t.val * 256 + r.val) :
    (iblk m c 0 t : FVec Ideal S256x2048 .f32) (ix2 r d) = m ((c : Thread nD τ).loc main_arg0) (ix2 R d) := by
  blk_ext [iblk, idx t, h]

theorem b_a (c : Dev nD) (t : Fin cfg0.N) (r : Fin 256) (d : Fin 2048) (R : Fin 2304) (h : R.val = t.val * 256 + r.val) :
    (iblk m c 2 t : FVec Ideal S256x2048 .f32) (ix2 r d) = m ((c : Thread nD τ).loc main_arg2) (ix2 R d) := by
  blk_ext [iblk, idx t, h]

theorem pay (x a : Vec Ideal S256x2048 .f32) (w : Vec Ideal S1x2048 .f32) (r : Fin 256) (d : Fin 2048) : (k0_pay1 (F := Ideal) x w a (ix2 r d) : EReal)
    = a (ix2 r d) + x (ix2 r d) * inv (fun k => x (ix2 r k)) * w (ix2 0 d) := by
  pointwise [k0_pay1]
  rfl

theorem ref (x a : FVec Ideal S2304x2048 .f32) (w : FVec Ideal S2048 .f32) (R : Fin 2304) (d : Fin 2048) : (val_main_v13 (F := Ideal) x w a (ix2 R d) : EReal)
    = a (ix2 R d) + x (ix2 R d) * inv (fun k => x (ix2 R k)) * w (ix1 d) := by
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

theorem point3 (c : Dev nD) (t : Fin cfg0.N) (r : Fin 256) (d : Fin 2048) (R : Fin 2304) (h : R.val = t.val * 256 + r.val) :
    (k0_pay1 (F := Ideal) (iblk m c 0 t) (iblk m c 1 t) (iblk m c 2 t) (ix2 r d) : EReal) = val_main_v13 (F := Ideal) (m ((c : Thread nD τ).loc main_arg0)) (m ((c : Thread nD τ).loc main_arg1)) (m ((c : Thread nD τ).loc main_arg2)) (ix2 R d) := by
  refine (pay _ _ _ r d).trans (Eq.trans ?_ (ref _ _ _ R d).symm)
  simp only [b_x m c t r _ R h, b_a m c t r _ R h, b_w m c t]

theorem at3 (c : Dev nD) (t : Fin cfg0.N) (y : S256x2048.Idx) (z : S2304x2048.Idx) (h0 : (z 0).val = t.val * 256 + (y 0).val) (h1 : (z 1).val = (y 1).val) :
    (k0_pay1 (F := Ideal) (iblk m c 0 t) (iblk m c 1 t) (iblk m c 2 t)) y = val_main_v13 (F := Ideal) (m ((c : Thread nD τ).loc main_arg0)) (m ((c : Thread nD τ).loc main_arg1)) (m ((c : Thread nD τ).loc main_arg2)) z := by
  have hy : y = ix2 (y 0) (y 1) := funext fun i => by fin_cases i <;> rfl
  have hz : z = ix2 (z 0) (y 1) := funext fun i => by
    fin_cases i
    · rfl
    · exact Fin.ext h1
  exact (congrArg (fun i => (k0_pay1 (F := Ideal) (iblk m c 0 t) (iblk m c 1 t) (iblk m c 2 t)) i) hy).trans
    ((point3 m c t (y 0) (y 1) (z 0) h0).trans (congrArg (fun i => val_main_v13 (F := Ideal) (m ((c : Thread nD τ).loc main_arg0)) (m ((c : Thread nD τ).loc main_arg1)) (m ((c : Thread nD τ).loc main_arg2)) i) hz.symm))

theorem final3 (c : Dev nD) : (dats m 0 c).arrAt 3 (cfgs 0).N
    = val_main_v13 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact at3 m c t y _ (by blk_simp [idx t]) (by blk_simp [idx t])

end Cert.Kernel25Ideal.Extra
end
-- ==== Proof.Swiglu.lean ====
module
public import proofs.«01_k».proof.Proof.Gen.Kernel24Ideal.Frame
public import proofs.«01_k».proof.Proof.Gen.Reference24Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel24Ideal.Extra
open Cert.Kernel24Ideal Cert.Kernel24Ideal.Gen Cert.Reference24Ideal.Read

/-! `swiglu_fwd`: `silu gate * up` and its transpose. -/

variable (m : (ℓ : Loc nD τ sig) → Buf (Elt Ideal) ℓ)

theorem idx : ∀ t : Fin cfg0.N, win0_0.index t = ![t.val / 3, 0, t.val % 3, 0] ∧ win0_1.index t = ![t.val / 3, t.val % 3, 0] ∧ win0_2.index t = ![t.val / 3, 0, t.val % 3] :=
  (by decide +kernel : ∀ t : Fin grid0.N, _)

/-- The logistic function. -/
def lgs (g : EReal) : EReal := Ideal.div 1 (1 + Ideal.exp (-g))

theorem b_g (c : Dev nD) (t : Fin cfg0.N) (s : Fin 2) (r : Fin 768) (b : Fin 704) (a : Fin 8) (R : Fin 2304) (ha : a.val = t.val / 3) (h : R.val = t.val % 3 * 768 + r.val) :
    (iblk m c 0 t : FVec Ideal S1x2x768x704 .bf16) (ix4 0 s r b) = m ((c : Thread nD τ).loc main_arg0) (ix4 a s R b) := by
  blk_ext [iblk, idx t, h, ha]

theorem pay (v u : Vec Ideal S1x1x768x704 .bf16) (r : Fin 768) (b : Fin 704) : (k0_pay1 (F := Ideal) v u (ix2 r b) : EReal)
    = v (ix4 0 0 r b) * lgs (v (ix4 0 0 r b)) * u (ix4 0 0 r b) := by
  pointwise [k0_pay1]
  simp only [zero_sub, lgs]

theorem ref (x : FVec Ideal S8x2x2304x704 .bf16) (a : Fin 8) (R : Fin 2304) (b : Fin 704) : (val_main_v7 (F := Ideal) x (ix3 a R b) : EReal)
    = x (ix4 a 0 R b) * lgs (x (ix4 a 0 R b)) * x (ix4 a 1 R b) := by
  pointwise [val_main_v7, val_main_v6, val_main_call0_v5, val_main_call0_v4, val_main_call0_cst_0, val_main_call0_v3, val_main_call0_v2, val_main_call0_cst, val_main_call0_v1, val_main_call0_v0, val_main_v5, val_main_v4, val_main_v3, val_main_v2, val_main_v1, val_main_v0]
  rfl

theorem row (c : Dev nD) (t : Fin cfg0.N) (r : Fin 768) (b : Fin 704) (a : Fin 8) (R : Fin 2304) (ha : a.val = t.val / 3) (h : R.val = t.val % 3 * 768 + r.val) :
    (k0_pay1 (F := Ideal) (View.ld (iblk m c 0 t) r0_0) (View.ld (iblk m c 0 t) r0_1) (ix2 r b) : EReal) = val_main_v7 (F := Ideal) (m ((c : Thread nD τ).loc main_arg0)) (ix3 a R b) := by
  have e0 : (View.ld (iblk m c 0 t) r0_0 (ix4 0 0 r b) : EReal) = (m ((c : Thread nD τ).loc main_arg0)) (ix4 a 0 R b) := by
    refine Eq.trans ?_ (b_g m c t 0 r b a R ha h)
    pointwise
  have e1 : (View.ld (iblk m c 0 t) r0_1 (ix4 0 0 r b) : EReal) = (m ((c : Thread nD τ).loc main_arg0)) (ix4 a 1 R b) := by
    refine Eq.trans ?_ (b_g m c t 1 r b a R ha h)
    pointwise
  refine (pay _ _ r b).trans (Eq.trans ?_ (ref _ a R b).symm)
  rw [e0, e1]

theorem point1 (c : Dev nD) (t : Fin cfg0.N) (r : Fin 768) (b : Fin 704) (a : Fin 8) (R : Fin 2304) (ha : a.val = t.val / 3) (h : R.val = t.val % 3 * 768 + r.val) :
    (k0_pay2 (F := Ideal) (View.ld (iblk m c 0 t) r0_0) (View.ld (iblk m c 0 t) r0_1) (ix3 0 r b) : EReal) = val_main_v8 (F := Ideal) (m ((c : Thread nD τ).loc main_arg0)) (ix3 a R b) := by
  pointwise [k0_pay2, val_main_v8]
  exact row m c t r b a R ha h

theorem point2 (c : Dev nD) (t : Fin cfg0.N) (r : Fin 768) (b : Fin 704) (a : Fin 8) (R : Fin 2304) (ha : a.val = t.val / 3) (h : R.val = t.val % 3 * 768 + r.val) :
    (k0_pay3 (F := Ideal) (View.ld (iblk m c 0 t) r0_0) (View.ld (iblk m c 0 t) r0_1) (ix3 0 b r) : EReal) = val_main_v9 (F := Ideal) (m ((c : Thread nD τ).loc main_arg0)) (ix3 a b R) := by
  pointwise [k0_pay3, val_main_v9, val_main_v8]
  exact row m c t r b a R ha h

theorem at1 (c : Dev nD) (t : Fin cfg0.N) (y : S1x768x704.Idx) (z : S8x2304x704.Idx) (h0 : (z 0).val = t.val / 3) (h1 : (z 1).val = t.val % 3 * 768 + (y 1).val) (h2 : (z 2).val = (y 2).val) :
    (k0_pay2 (F := Ideal) (View.ld (iblk m c 0 t) r0_0) (View.ld (iblk m c 0 t) r0_1)) y = val_main_v8 (F := Ideal) (m ((c : Thread nD τ).loc main_arg0)) z := by
  have hy : y = ix3 0 (y 1) (y 2) := funext fun i => by
    fin_cases i
    · exact Fin.ext (by have : (y 0).val < 1 := (y 0).isLt; show (y 0).val = 0; omega)
    · rfl
    · rfl
  have hz : z = ix3 (z 0) (z 1) (y 2) := funext fun i => by
    fin_cases i
    · rfl
    · rfl
    · exact Fin.ext h2
  exact (congrArg (fun i => (k0_pay2 (F := Ideal) (View.ld (iblk m c 0 t) r0_0) (View.ld (iblk m c 0 t) r0_1)) i) hy).trans
    ((point1 m c t (y 1) (y 2) (z 0) (z 1) h0 h1).trans (congrArg (fun i => val_main_v8 (F := Ideal) (m ((c : Thread nD τ).loc main_arg0)) i) hz.symm))

theorem final1 (c : Dev nD) : (dats m 0 c).arrAt 1 (cfgs 0).N
    = val_main_v8 (F := Ideal) (m ((c : Thread nD τ).loc main_arg0)) := by
  refine (dats m 0 c).arrAt_eq_of_covers 1 _ (by decide +kernel) fun t _ y => ?_
  blk_simp
  rw [after0_1]; frame_out
  exact at1 m c t y _ (by blk_simp [idx t]) (by blk_simp [idx t]) (by blk_simp [idx t])

theorem at2 (c : Dev nD) (t : Fin cfg0.N) (y : S1x704x768.Idx) (z : S8x704x2304.Idx) (h0 : (z 0).val = t.val / 3) (h1 : (z 1).val = (y 1).val) (h2 : (z 2).val = t.val % 3 * 768 + (y 2).val) :
    (k0_pay3 (F := Ideal) (View.ld (iblk m c 0 t) r0_0) (View.ld (iblk m c 0 t) r0_1)) y = val_main_v9 (F := Ideal) (m ((c : Thread nD τ).loc main_arg0)) z := by
  have hy : y = ix3 0 (y 1) (y 2) := funext fun i => by
    fin_cases i
    · exact Fin.ext (by have : (y 0).val < 1 := (y 0).isLt; show (y 0).val = 0; omega)
    · rfl
    · rfl
  have hz : z = ix3 (z 0) (y 1) (z 2) := funext fun i => by
    fin_cases i
    · rfl
    · exact Fin.ext h1
    · rfl
  exact (congrArg (fun i => (k0_pay3 (F := Ideal) (View.ld (iblk m c 0 t) r0_0) (View.ld (iblk m c 0 t) r0_1)) i) hy).trans
    ((point2 m c t (y 2) (y 1) (z 0) (z 2) h0 h2).trans (congrArg (fun i => val_main_v9 (F := Ideal) (m ((c : Thread nD τ).loc main_arg0)) i) hz.symm))

theorem final2 (c : Dev nD) : (dats m 0 c).arrAt 2 (cfgs 0).N
    = val_main_v9 (F := Ideal) (m ((c : Thread nD τ).loc main_arg0)) := by
  refine (dats m 0 c).arrAt_eq_of_covers 2 _ (by decide +kernel) fun t _ y => ?_
  blk_simp
  rw [after0_2]; frame_out
  exact at2 m c t y _ (by blk_simp [idx t]) (by blk_simp [idx t]) (by blk_simp [idx t])

end Cert.Kernel24Ideal.Extra
end
-- ==== Proof.SwigluBwd.lean ====
module
public import proofs.«01_k».proof.Proof.Gen.Kernel23Ideal.Frame
public import proofs.«01_k».proof.Proof.Gen.Reference23Ideal.Read
public import proofs.«01_k».proof.Pre_finite_product
public import Idealize.ShloMosaic.Lib.ReduceAll
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel23Ideal.Extra
open Cert.Kernel23Ideal Cert.Kernel23Ideal.Gen Cert.Reference23Ideal.Read

/-! `swiglu_bwd`: the gradients of `silu gate * up` with respect to both. -/

variable (m : (ℓ : Loc nD τ sig) → Buf (Elt Ideal) ℓ)

theorem idx : ∀ t : Fin cfg0.N, win0_0.index t = ![t.val / 3, 0, t.val % 3, 0] ∧ win0_1.index t = ![t.val / 3, t.val % 3, 0] ∧ win0_2.index t = ![t.val / 3, 0, t.val % 3, 0] :=
  (by decide +kernel : ∀ t : Fin grid0.N, _)

/-- The logistic function. -/
def lgs (g : EReal) : EReal := Ideal.div 1 (1 + Ideal.exp (-g))

theorem entry (g : EReal) (t : ℝ) : (t : EReal) * (lgs g * (1 + g * (1 - lgs g))) = (t : EReal) * lgs g + g * (t : EReal) * (lgs g * (1 - lgs g)) := by
  induction g using EReal.rec with
  | bot =>
    have h : lgs ⊥ = 0 := by
      have e : Ideal.exp (-(⊥ : EReal)) = ⊤ := by rw [EReal.neg_bot]; rfl
      have f : (1 : EReal) + ⊤ = ⊤ := rfl
      rw [lgs, e, f, Ideal.div, if_neg EReal.top_ne_zero, EReal.inv_top, mul_zero]
    rw [h, zero_mul, zero_mul, mul_zero, mul_zero, add_zero]
  | top =>
    have h : lgs ⊤ = 1 := by
      have e : Ideal.exp (-(⊤ : EReal)) = 0 := by rw [EReal.neg_top]; rfl
      rw [lgs, e, add_zero, Ideal.div, if_neg one_ne_zero, one_mul]
      show ((1 : ℝ) : EReal)⁻¹ = ((1 : ℝ) : EReal)
      rw [← EReal.coe_inv, inv_one]
    have h1 : (1 : EReal) - 1 = 0 := by
      show ((1 : ℝ) : EReal) - ((1 : ℝ) : EReal) = ((0 : ℝ) : EReal)
      rw [← EReal.coe_sub, sub_self]
    rw [h, h1, mul_zero, mul_zero, mul_zero, add_zero, add_zero, mul_one]
  | coe g =>
    have h : ∃ q : ℝ, lgs (g : EReal) = (q : EReal) := by
      refine ⟨1 * (1 + Real.exp (-g))⁻¹, ?_⟩
      have e : (1 : EReal) + Ideal.exp (-(g : EReal)) = ((1 + Real.exp (-g) : ℝ) : EReal) := rfl
      rw [lgs, e, Ideal.div, if_neg (by have := Real.exp_pos (-g); norm_cast; linarith), ← EReal.coe_inv]
      rfl
    obtain ⟨q, hq⟩ := h
    rw [hq]
    norm_cast
    ring

theorem b_g (c : Dev nD) (t : Fin cfg0.N) (s : Fin 2) (r : Fin 768) (b : Fin 704) (a : Fin 8) (R : Fin 2304) (ha : a.val = t.val / 3) (h : R.val = t.val % 3 * 768 + r.val) :
    (iblk m c 0 t : FVec Ideal S1x2x768x704 .bf16) (ix4 0 s r b) = m ((c : Thread nD τ).loc main_arg0) (ix4 a s R b) := by
  blk_ext [iblk, idx t, h, ha]

theorem b_d (c : Dev nD) (t : Fin cfg0.N) (r : Fin 768) (b : Fin 704) (a : Fin 8) (R : Fin 2304) (ha : a.val = t.val / 3) (h : R.val = t.val % 3 * 768 + r.val) :
    (iblk m c 1 t : FVec Ideal S1x768x704 .f32) (ix3 0 r b) = m ((c : Thread nD τ).loc main_arg1) (ix3 a R b) := by
  blk_ext [iblk, idx t, h, ha]

theorem pay4 (v u : Vec Ideal S1x1x768x704 .bf16) (d : Vec Ideal S1x768x704 .f32) (r : Fin 768) (b : Fin 704) : (k0_pay4 (F := Ideal) v d u (ix4 0 0 r b) : EReal)
    = d (ix3 0 r b) * u (ix4 0 0 r b) * (lgs (v (ix4 0 0 r b)) * (1 + v (ix4 0 0 r b) * (1 - lgs (v (ix4 0 0 r b))))) := by
  pointwise [k0_pay4, k0_pay3, k0_pay2, k0_pay1]
  simp only [zero_sub, lgs]

theorem pay5 (v : Vec Ideal S1x1x768x704 .bf16) (d : Vec Ideal S1x768x704 .f32) (r : Fin 768) (b : Fin 704) : (k0_pay5 (F := Ideal) v d (ix4 0 0 r b) : EReal)
    = d (ix3 0 r b) * (v (ix4 0 0 r b) * lgs (v (ix4 0 0 r b))) := by
  pointwise [k0_pay5, k0_pay3, k0_pay2, k0_pay1]
  simp only [zero_sub, lgs]

theorem ref0 (x : FVec Ideal S8x2x2304x704 .bf16) (d : FVec Ideal S8x2304x704 .f32) (a : Fin 8) (R : Fin 2304) (b : Fin 704) : (val_main_v14 (F := Ideal) x d (ix4 a 0 R b) : EReal)
    = d (ix3 a R b) * x (ix4 a 1 R b) * lgs (x (ix4 a 0 R b)) + x (ix4 a 0 R b) * (d (ix3 a R b) * x (ix4 a 1 R b)) * (lgs (x (ix4 a 0 R b)) * (1 - lgs (x (ix4 a 0 R b)))) := by
  pointwise [val_main_v14, val_main_v13, val_main_v11, val_main_v10, val_main_call1_v2, val_main_call1_v1, val_main_call1_v0, val_main_v9, val_main_v6_1, val_main_call0_v7, val_main_call0_v6, val_main_call0_cst_1, val_main_v6_2, val_main_call0_v4, val_main_call0_cst_0, val_main_call0_v3, val_main_call0_v2, val_main_call0_cst, val_main_call0_v1, val_main_call0_v0, val_main_v5, val_main_v4, val_main_v3, val_main_v2, val_main_v1, val_main_v0]
  rfl

theorem ref1 (x : FVec Ideal S8x2x2304x704 .bf16) (d : FVec Ideal S8x2304x704 .f32) (a : Fin 8) (R : Fin 2304) (b : Fin 704) : (val_main_v14 (F := Ideal) x d (ix4 a 1 R b) : EReal)
    = x (ix4 a 0 R b) * lgs (x (ix4 a 0 R b)) * d (ix3 a R b) := by
  pointwise [val_main_v14, val_main_v13, val_main_v12, val_main_v8, val_main_v6_0, val_main_call0_v7, val_main_call0_v6, val_main_call0_cst_1, val_main_v6_2, val_main_call0_v4, val_main_call0_cst_0, val_main_call0_v3, val_main_call0_v2, val_main_call0_cst, val_main_call0_v1, val_main_call0_v0, val_main_v5, val_main_v4, val_main_v3, val_main_v2, val_main_v1, val_main_v0]
  rfl

/-- Every product of the cotangent and the second factor is finite. -/
def Finite (x : FVec Ideal S8x2x2304x704 .bf16) (d : FVec Ideal S8x2304x704 .f32) : Prop :=
  ∀ (a : Fin 8) (R : Fin 2304) (b : Fin 704), ∃ q : ℝ, (d (ix3 a R b) * x (ix4 a 1 R b) : EReal) = (q : EReal)

theorem at0 (c : Dev nD) (hfin : Finite (m ((c : Thread nD τ).loc main_arg0)) (m ((c : Thread nD τ).loc main_arg1))) (t : Fin cfg0.N) (x : S1x1x768x704.Idx) (z : S8x2x2304x704.Idx) (h0 : (z 0).val = t.val / 3) (h1 : (z 1).val = 0) (h2 : (z 2).val = t.val % 3 * 768 + (x 2).val) (h3 : (z 3).val = (x 3).val) :
    k0_pay4 (F := Ideal) (View.ld (iblk m c 0 t) r0_0) (View.ld (iblk m c 1 t) r0_1) (View.ld (iblk m c 0 t) r0_2) x = val_main_v14 (F := Ideal) (m ((c : Thread nD τ).loc main_arg0)) (m ((c : Thread nD τ).loc main_arg1)) z := by
  have hx : x = ix4 0 0 (x 2) (x 3) := funext fun i => by
    fin_cases i
    · exact Fin.ext (by have : (x 0).val < 1 := (x 0).isLt; show (x 0).val = 0; omega)
    · exact Fin.ext (by have : (x 1).val < 1 := (x 1).isLt; show (x 1).val = 0; omega)
    · rfl
    · rfl
  have hz : z = ix4 (z 0) 0 (z 2) (x 3) := funext fun i => by
    fin_cases i
    · rfl
    · exact Fin.ext h1
    · rfl
    · exact Fin.ext h3
  have p := pay4 (View.ld (iblk m c 0 t) r0_0) (View.ld (iblk m c 0 t) r0_2) (View.ld (iblk m c 1 t) r0_1) (x 2) (x 3)
  have r := ref0 (m ((c : Thread nD τ).loc main_arg0)) (m ((c : Thread nD τ).loc main_arg1)) (z 0) (z 2) (x 3)
  obtain ⟨q, hq⟩ := hfin (z 0) (z 2) (x 3)
  have e0 : (View.ld (iblk m c 0 t) r0_0 (ix4 0 0 (x 2) (x 3)) : EReal) = (m ((c : Thread nD τ).loc main_arg0)) (ix4 (z 0) 0 (z 2) (x 3)) := by
    refine Eq.trans ?_ (b_g m c t 0 (x 2) (x 3) (z 0) (z 2) h0 h2)
    pointwise
  have e1 : (View.ld (iblk m c 0 t) r0_2 (ix4 0 0 (x 2) (x 3)) : EReal) = (m ((c : Thread nD τ).loc main_arg0)) (ix4 (z 0) 1 (z 2) (x 3)) := by
    refine Eq.trans ?_ (b_g m c t 1 (x 2) (x 3) (z 0) (z 2) h0 h2)
    pointwise
  have e2 : (View.ld (iblk m c 1 t) r0_1 (ix3 0 (x 2) (x 3)) : EReal) = (m ((c : Thread nD τ).loc main_arg1)) (ix3 (z 0) (z 2) (x 3)) := by
    refine Eq.trans ?_ (b_d m c t (x 2) (x 3) (z 0) (z 2) h0 h2)
    pointwise
  rw [e0, e1, e2, hq, entry] at p
  rw [hq] at r
  exact (congrArg _ hx).trans (p.trans (r.symm.trans (congrArg _ hz.symm)))

theorem at1 (c : Dev nD) (t : Fin cfg0.N) (x : S1x1x768x704.Idx) (z : S8x2x2304x704.Idx) (h0 : (z 0).val = t.val / 3) (h1 : (z 1).val = 1) (h2 : (z 2).val = t.val % 3 * 768 + (x 2).val) (h3 : (z 3).val = (x 3).val) :
    k0_pay5 (F := Ideal) (View.ld (iblk m c 0 t) r0_0) (View.ld (iblk m c 1 t) r0_1) x = val_main_v14 (F := Ideal) (m ((c : Thread nD τ).loc main_arg0)) (m ((c : Thread nD τ).loc main_arg1)) z := by
  have hx : x = ix4 0 0 (x 2) (x 3) := funext fun i => by
    fin_cases i
    · exact Fin.ext (by have : (x 0).val < 1 := (x 0).isLt; show (x 0).val = 0; omega)
    · exact Fin.ext (by have : (x 1).val < 1 := (x 1).isLt; show (x 1).val = 0; omega)
    · rfl
    · rfl
  have hz : z = ix4 (z 0) 1 (z 2) (x 3) := funext fun i => by
    fin_cases i
    · rfl
    · exact Fin.ext h1
    · rfl
    · exact Fin.ext h3
  have p := pay5 (View.ld (iblk m c 0 t) r0_0) (View.ld (iblk m c 1 t) r0_1) (x 2) (x 3)
  have r := ref1 (m ((c : Thread nD τ).loc main_arg0)) (m ((c : Thread nD τ).loc main_arg1)) (z 0) (z 2) (x 3)
  have e0 : (View.ld (iblk m c 0 t) r0_0 (ix4 0 0 (x 2) (x 3)) : EReal) = (m ((c : Thread nD τ).loc main_arg0)) (ix4 (z 0) 0 (z 2) (x 3)) := by
    refine Eq.trans ?_ (b_g m c t 0 (x 2) (x 3) (z 0) (z 2) h0 h2)
    pointwise
  have e2 : (View.ld (iblk m c 1 t) r0_1 (ix3 0 (x 2) (x 3)) : EReal) = (m ((c : Thread nD τ).loc main_arg1)) (ix3 (z 0) (z 2) (x 3)) := by
    refine Eq.trans ?_ (b_d m c t (x 2) (x 3) (z 0) (z 2) h0 h2)
    pointwise
  rw [e0, e2, mul_comm] at p
  exact (congrArg _ hx).trans (p.trans (r.symm.trans (congrArg _ hz.symm)))

theorem emb0 (x : r0_0.shape.Idx) : ((r0_0.emb x) 1).val = 0 ∧ ((r0_0.emb x) 2).val = (x 2).val ∧ ((r0_0.emb x) 3).val = (x 3).val := by
  refine ⟨?_, ?_, ?_⟩
  · simp [r0_0]
  · simp [r0_0]
  · simp [r0_0]

theorem emb1 (x : r0_2.shape.Idx) : ((r0_2.emb x) 1).val = 1 ∧ ((r0_2.emb x) 2).val = (x 2).val ∧ ((r0_2.emb x) 3).val = (x 3).val := by
  refine ⟨?_, ?_, ?_⟩
  · simp [r0_2]
  · simp [r0_2]
  · simp [r0_2]

theorem final2 (c : Dev nD) (hfin : Finite (m ((c : Thread nD τ).loc main_arg0)) (m ((c : Thread nD τ).loc main_arg1))) : (dats m 0 c).arrAt 2 (cfgs 0).N
    = val_main_v14 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  refine View.canon_apply_of_pieces (fun y => val_main_v14 (F := Ideal) (m ((c : Thread nD τ).loc main_arg0)) (m ((c : Thread nD τ).loc main_arg1)) (((cfg0.win 2).blk t).view.emb y)) _ (fun p hp x => ?_) y (cover0_2 _ _ y)
  rcases List.mem_cons.mp hp with rfl | hp
  · exact at1 m c t x _ (by blk_simp [idx t]) (by blk_simp [idx t]; exact (emb1 x).1) (by blk_simp [idx t]; exact congrArg _ (emb1 x).2.1) (by blk_simp [idx t]; exact (emb1 x).2.2)
  · obtain rfl := List.mem_singleton.mp hp
    exact at0 m c hfin t x _ (by blk_simp [idx t]) (by blk_simp [idx t]; exact (emb0 x).1) (by blk_simp [idx t]; exact congrArg _ (emb0 x).2.1) (by blk_simp [idx t]; exact (emb0 x).2.2)

theorem finite_of_pre [Cert.Pre_finite_product.Facts] (x d) (h : Cert.Pre_finite_product.fn (F := Ideal) x d = fun _ => 1#1) : Finite x d := by
  intro a R b
  unfold Cert.Pre_finite_product.fn at h
  have h0 := congrFun h ix0
  have hx := Host.reduce_andi_all _ _ _ _ _ h0 (ix3 a R b)
  have e : (shapeCast Cert.Pre_finite_product.S8x2304x704 (extractStridedSlice Cert.Pre_finite_product.S8x1x2304x704 ![0, 1, 0, 0] x Cert.Pre_finite_product.Facts.slices_S8x2x2304x704_S8x1x2304x704_0_1_0_0) Cert.Pre_finite_product.Facts.shapeCasts_S8x1x2304x704_S8x2304x704 (ix3 a R b) : EReal) = x (ix4 a 1 R b) := by
    pointwise
  have top : (constant (F := Ideal) Cert.Pre_finite_product.S_ .f32 0x7F800000#32 ix0 : EReal) = ⊤ := by
    show Ideal.ofBits .f32 0x7F800000#32 = ⊤
    simp [Ideal.ofBits, Ideal.ieee]
  have hy : Ideal.cmp .olt (max (d (ix3 a R b) * x (ix4 a 1 R b)) (-(d (ix3 a R b) * x (ix4 a 1 R b)))) ⊤ = 1#1 := by
    rw [← e, ← top]
    exact hx
  have hz : max (d (ix3 a R b) * x (ix4 a 1 R b)) (-(d (ix3 a R b) * x (ix4 a 1 R b))) < (⊤ : EReal) := by
    by_contra hn
    simp [Ideal.cmp, hn] at hy
  revert hz
  generalize (d (ix3 a R b) * x (ix4 a 1 R b) : EReal) = u
  intro hz
  induction u using EReal.rec with
  | bot => simp at hz
  | top => simp at hz
  | coe q => exact ⟨q, rfl⟩

instance pre_facts : Cert.Pre_finite_product.Facts := ⟨by decide, by decide, by decide, by decide, by decide, by decide⟩

end Cert.Kernel23Ideal.Extra
end
-- ==== Proof.ScanValues.lean ====
module
public import proofs.«01_k».proof.Proof.Gen.KernelIdeal.Skeleton
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.KernelIdeal.Scan
open Cert.KernelIdeal Cert.KernelIdeal.Gen

/-! The values a point of the backward scan computes on its way to the gradient of `C`, element by element. -/

theorem half_flag : ∀ x : Fin 128, IntOp.cmpi .slt (BitVec.ofNat 32 x.val) 64#32 = if x.val < 64 then 1#1 else 0#1 := by decide +kernel

theorem sel_one {α : Type} (a b : α) : Scalar.select 1#1 a b = a := rfl
theorem sel_zero {α : Type} (a b : α) : Scalar.select 0#1 a b = b := rfl

theorem order_flag (l x : Fin 256) : IntOp.cmpi .sge (BitVec.ofNat 32 l.val) (BitVec.ofNat 32 x.val) = if x ≤ l then 1#1 else 0#1 := by
  have hl := l.isLt
  have hx := x.isLt
  have e : ∀ y : Fin 256, (BitVec.ofNat 32 y.val).toInt = y.val := fun y => by
    have hy := y.isLt
    rw [BitVec.toInt_eq_toNat_of_lt (by rw [BitVec.toNat_ofNat]; omega), BitVec.toNat_ofNat]
    omega
  simp only [IntOp.cmpi, BitVec.sle_eq_decide, e]
  by_cases h : x ≤ l
  · have h' : x.val ≤ l.val := h
    simp [h, h']
  · have h' : ¬ x.val ≤ l.val := h
    simp [h, h']

theorem flag_one : FloatOps.sitofp (F := Ideal) FTy.f32 (BitVec.setWidth 32 1#1) = (1 : EReal) := by
  show ((((BitVec.setWidth 32 1#1 : BitVec 32).toInt : ℤ) : ℝ) : EReal) = 1
  have e : (BitVec.setWidth 32 1#1 : BitVec 32).toInt = 1 := by decide
  rw [e]
  simp

theorem flag_zero : FloatOps.sitofp (F := Ideal) FTy.f32 (BitVec.setWidth 32 0#1) = (0 : EReal) := by
  show ((((BitVec.setWidth 32 0#1 : BitVec 32).toInt : ℤ) : ℝ) : EReal) = 0
  have e : (BitVec.setWidth 32 0#1 : BitVec 32).toInt = 0 := by decide
  rw [e]
  simp

theorem low (l x : Fin 256) : FloatOps.sitofp (F := Ideal) FTy.f32 (BitVec.setWidth 32 (IntOp.cmpi .sge (BitVec.ofNat 32 l.val) (BitVec.ofNat 32 x.val))) = (if x ≤ l then 1 else 0 : EReal) := by
  rw [order_flag]
  split
  · exact flag_one
  · exact flag_zero

theorem sub_self_of_real (x : EReal) (h : ∃ q : ℝ, x = q) : x - x = 0 := by
  obtain ⟨q, rfl⟩ := h
  exact EReal.sub_self (EReal.coe_ne_top q) (EReal.coe_ne_bot q)

theorem minus_inf : Ideal.ofBits FTy.f32 4286578688#32 = (⊥ : EReal) := by
  simp [Ideal.ofBits, Ideal.ieee]

/-- A sum over 128 lanes is the sum over the two halves. -/
theorem halves (f : Fin 128 → EReal) : ∑ x, f x = ∑ p : Fin 64, f ⟨p.val, by omega⟩ + ∑ p : Fin 64, f ⟨64 + p.val, by omega⟩ :=
  Fin.sum_univ_add (a := 64) (b := 64) f

theorem lo_half {α : Type} (p : Fin 64) (a b : α) : Scalar.select (IntOp.cmpi .slt (BitVec.ofNat 32 p.val) 64#32) a b = a := by
  rw [half_flag ⟨p.val, by omega⟩, if_pos p.isLt]
  rfl

theorem hi_half {α : Type} (p : Fin 64) (a b : α) : Scalar.select (IntOp.cmpi .slt (BitVec.ofNat 32 (64 + p.val)) 64#32) a b = b := by
  rw [half_flag ⟨64 + p.val, by omega⟩, if_neg (by simp)]
  rfl

theorem hi_half_not {α : Type} (p : Fin 64) (a b : α) : Scalar.select (IntOp.xori (IntOp.cmpi .slt (BitVec.ofNat 32 (64 + p.val)) 64#32) 1#1) a b = a := by
  rw [half_flag ⟨64 + p.val, by omega⟩, if_neg (by simp)]
  rfl

theorem lo_half_not {α : Type} (p : Fin 64) (a b : α) : Scalar.select (IntOp.xori (IntOp.cmpi .slt (BitVec.ofNat 32 p.val) 64#32) 1#1) a b = b := by
  rw [half_flag ⟨p.val, by omega⟩, if_pos p.isLt]
  rfl

theorem acol (x3 x5) (hf : ∀ (x : Fin 256) (h : Fin 128), ∃ q : ℝ, (x3 (ix3 0 x h) * x5 (ix3 0 0 h) : EReal) = q) (l : Fin 256) (h : Fin 128) :
    (k0_pay23 (F := Ideal) (k0_pay17 (F := Ideal)) (k0_pay20 x3 x5) (k0_pay21 x3 x5) (k0_pay22 x3 x5) (constant S256x128 .f32 0x00000000#32) (ix2 l h) : EReal)
      = ∑ x : Fin 256, if x ≤ l then x3 (ix3 0 x h) * x5 (ix3 0 0 h) else (0 : EReal) := by
  pointwise [k0_pay23, k0_pay17, k0_pay20, k0_pay21, k0_pay22, k0_pay19, k0_pay18, k0_pay16, k0_pay9, k0_pay11, k0_pay13]
  simp only [low, sub_self_of_real _ (hf _ _), sub_self_of_real (0 : EReal) ⟨0, rfl⟩, mul_zero, Finset.sum_const_zero, add_zero, ite_mul, one_mul, zero_mul]

theorem arow (x4 x6) (hf : ∀ (h : Fin 8) (x : Fin 256), ∃ q : ℝ, (x4 (ix3 0 h x) * x6 (ix3 0 h 0) : EReal) = q) (l : Fin 256) (h : Fin 8) :
    (k0_pay24 (F := Ideal) k0_pay9 (k0_pay12 x4) (k0_pay14 x6) (ix2 h l) : EReal) = ∑ x : Fin 256, if x ≤ l then x4 (ix3 0 h x) * x6 (ix3 0 h 0) else (0 : EReal) := by
  pointwise [k0_pay24, k0_pay9, k0_pay12, k0_pay14]
  simp only [low, sub_self_of_real _ (hf _ _), sub_self_of_real (0 : EReal) ⟨0, rfl⟩, zero_mul, Finset.sum_const_zero, add_zero, mul_ite, mul_one, mul_zero, ite_self, Finset.sum_const_zero, add_zero]

theorem lane0 : ∀ x : Fin 128, IntOp.cmpi .eq (BitVec.ofNat 32 x.val) 0#32 = if x = 0 then 1#1 else 0#1 := by decide +kernel
theorem sub0 : ∀ x : Fin 8, IntOp.cmpi .eq (BitVec.ofNat 32 x.val) 0#32 = if x = 0 then 1#1 else 0#1 := by decide +kernel

theorem pick_lane0 (f : Fin 128 → EReal) : ∑ x : Fin 128, Scalar.select (IntOp.cmpi .eq (BitVec.ofNat 32 x.val) 0#32) (f x) 0 = f 0 := by
  rw [Finset.sum_eq_single (0 : Fin 128) (fun x _ h => by rw [lane0, if_neg h]; rfl) (fun h => absurd (Finset.mem_univ _) h), lane0, if_pos rfl]
  rfl

theorem pick_sub0 (f : Fin 8 → EReal) : ∑ x : Fin 8, Scalar.select (IntOp.cmpi .eq (BitVec.ofNat 32 x.val) 0#32) (f x) 0 = f 0 := by
  rw [Finset.sum_eq_single (0 : Fin 8) (fun x _ h => by rw [sub0, if_neg h]; rfl) (fun h => absurd (Finset.mem_univ _) h), sub0, if_pos rfl]
  rfl

theorem col0 (v : FVec Ideal S256x128 .f32) (l : Fin 256) : (k0_pay39 (F := Ideal) v (iota .tc S256x128 32 [1] iota_S256x128_d1_w32) (ix2 l 0) : EReal) = v (ix2 l 0) := by
  pointwise [k0_pay39]
  exact pick_lane0 fun x => v (ix2 l x)

theorem row0 (v : FVec Ideal S8x256 .f32) (l : Fin 256) : (k0_pay41 (F := Ideal) v (iota .tc S8x256 32 [0] iota_S8x256_d0_w32) (ix2 0 l) : EReal) = v (ix2 0 l) := by
  pointwise [k0_pay41]
  exact pick_sub0 fun x => v (ix2 x l)

theorem lane1 : ∀ x : Fin 128, IntOp.cmpi .eq (BitVec.ofNat 32 x.val) 1#32 = if x = 1 then 1#1 else 0#1 := by decide +kernel
theorem sub1 : ∀ x : Fin 8, IntOp.cmpi .eq (BitVec.ofNat 32 x.val) 1#32 = if x = 1 then 1#1 else 0#1 := by decide +kernel

theorem pick_lane1 (f : Fin 128 → EReal) : ∑ x : Fin 128, Scalar.select (IntOp.cmpi .eq (BitVec.ofNat 32 x.val) 1#32) (f x) 0 = f 1 := by
  rw [Finset.sum_eq_single (1 : Fin 128) (fun x _ h => by rw [lane1, if_neg h]; rfl) (fun h => absurd (Finset.mem_univ _) h), lane1, if_pos rfl]
  rfl

theorem pick_sub1 (f : Fin 8 → EReal) : ∑ x : Fin 8, Scalar.select (IntOp.cmpi .eq (BitVec.ofNat 32 x.val) 1#32) (f x) 0 = f 1 := by
  rw [Finset.sum_eq_single (1 : Fin 8) (fun x _ h => by rw [sub1, if_neg h]; rfl) (fun h => absurd (Finset.mem_univ _) h), sub1, if_pos rfl]
  rfl

theorem col1 (v : FVec Ideal S256x128 .f32) (l : Fin 256) : (k0_pay40 (F := Ideal) v (iota .tc S256x128 32 [1] iota_S256x128_d1_w32) (ix2 l 0) : EReal) = v (ix2 l 1) := by
  pointwise [k0_pay40]
  exact pick_lane1 fun x => v (ix2 l x)

theorem row1 (v : FVec Ideal S8x256 .f32) (l : Fin 256) : (k0_pay42 (F := Ideal) v (iota .tc S8x256 32 [0] iota_S8x256_d0_w32) (ix2 0 l) : EReal) = v (ix2 1 l) := by
  pointwise [k0_pay42]
  exact pick_sub1 fun x => v (ix2 x l)

theorem lane2 : ∀ x : Fin 128, IntOp.cmpi .eq (BitVec.ofNat 32 x.val) 2#32 = if x = 2 then 1#1 else 0#1 := by decide +kernel
theorem sub2 : ∀ x : Fin 8, IntOp.cmpi .eq (BitVec.ofNat 32 x.val) 2#32 = if x = 2 then 1#1 else 0#1 := by decide +kernel

theorem pick_lane2 (f : Fin 128 → EReal) : ∑ x : Fin 128, Scalar.select (IntOp.cmpi .eq (BitVec.ofNat 32 x.val) 2#32) (f x) 0 = f 2 := by
  rw [Finset.sum_eq_single (2 : Fin 128) (fun x _ h => by rw [lane2, if_neg h]; rfl) (fun h => absurd (Finset.mem_univ _) h), lane2, if_pos rfl]
  rfl

theorem pick_sub2 (f : Fin 8 → EReal) : ∑ x : Fin 8, Scalar.select (IntOp.cmpi .eq (BitVec.ofNat 32 x.val) 2#32) (f x) 0 = f 2 := by
  rw [Finset.sum_eq_single (2 : Fin 8) (fun x _ h => by rw [sub2, if_neg h]; rfl) (fun h => absurd (Finset.mem_univ _) h), sub2, if_pos rfl]
  rfl

theorem col2 (v : FVec Ideal S256x128 .f32) (l : Fin 256) : (k0_pay101 (F := Ideal) v (iota .tc S256x128 32 [1] iota_S256x128_d1_w32) (ix2 l 0) : EReal) = v (ix2 l 2) := by
  pointwise [k0_pay101]
  exact pick_lane2 fun x => v (ix2 l x)

theorem row2 (v : FVec Ideal S8x256 .f32) (l : Fin 256) : (k0_pay103 (F := Ideal) v (iota .tc S8x256 32 [0] iota_S8x256_d0_w32) (ix2 0 l) : EReal) = v (ix2 2 l) := by
  pointwise [k0_pay103]
  exact pick_sub2 fun x => v (ix2 x l)

theorem lane3 : ∀ x : Fin 128, IntOp.cmpi .eq (BitVec.ofNat 32 x.val) 3#32 = if x = 3 then 1#1 else 0#1 := by decide +kernel
theorem sub3 : ∀ x : Fin 8, IntOp.cmpi .eq (BitVec.ofNat 32 x.val) 3#32 = if x = 3 then 1#1 else 0#1 := by decide +kernel

theorem pick_lane3 (f : Fin 128 → EReal) : ∑ x : Fin 128, Scalar.select (IntOp.cmpi .eq (BitVec.ofNat 32 x.val) 3#32) (f x) 0 = f 3 := by
  rw [Finset.sum_eq_single (3 : Fin 128) (fun x _ h => by rw [lane3, if_neg h]; rfl) (fun h => absurd (Finset.mem_univ _) h), lane3, if_pos rfl]
  rfl

theorem pick_sub3 (f : Fin 8 → EReal) : ∑ x : Fin 8, Scalar.select (IntOp.cmpi .eq (BitVec.ofNat 32 x.val) 3#32) (f x) 0 = f 3 := by
  rw [Finset.sum_eq_single (3 : Fin 8) (fun x _ h => by rw [sub3, if_neg h]; rfl) (fun h => absurd (Finset.mem_univ _) h), sub3, if_pos rfl]
  rfl

theorem col3 (v : FVec Ideal S256x128 .f32) (l : Fin 256) : (k0_pay102 (F := Ideal) v (iota .tc S256x128 32 [1] iota_S256x128_d1_w32) (ix2 l 0) : EReal) = v (ix2 l 3) := by
  pointwise [k0_pay102]
  exact pick_lane3 fun x => v (ix2 l x)

theorem row3 (v : FVec Ideal S8x256 .f32) (l : Fin 256) : (k0_pay105 (k0_pay104 (F := Ideal) v (iota .tc S8x256 32 [0] iota_S8x256_d0_w32)) (ix2 0 l) : EReal) = v (ix2 3 l) := by
  pointwise [k0_pay105, k0_pay104]
  exact pick_sub3 fun x => v (ix2 x l)

theorem lane4 : ∀ x : Fin 128, IntOp.cmpi .eq (BitVec.ofNat 32 x.val) 4#32 = if x = 4 then 1#1 else 0#1 := by decide +kernel
theorem sub4 : ∀ x : Fin 8, IntOp.cmpi .eq (BitVec.ofNat 32 x.val) 4#32 = if x = 4 then 1#1 else 0#1 := by decide +kernel

theorem pick_lane4 (f : Fin 128 → EReal) : ∑ x : Fin 128, Scalar.select (IntOp.cmpi .eq (BitVec.ofNat 32 x.val) 4#32) (f x) 0 = f 4 := by
  rw [Finset.sum_eq_single (4 : Fin 128) (fun x _ h => by rw [lane4, if_neg h]; rfl) (fun h => absurd (Finset.mem_univ _) h), lane4, if_pos rfl]
  rfl

theorem pick_sub4 (f : Fin 8 → EReal) : ∑ x : Fin 8, Scalar.select (IntOp.cmpi .eq (BitVec.ofNat 32 x.val) 4#32) (f x) 0 = f 4 := by
  rw [Finset.sum_eq_single (4 : Fin 8) (fun x _ h => by rw [sub4, if_neg h]; rfl) (fun h => absurd (Finset.mem_univ _) h), sub4, if_pos rfl]
  rfl

theorem col4 (v : FVec Ideal S256x128 .f32) (l : Fin 256) : (k0_pay160 (F := Ideal) v (iota .tc S256x128 32 [1] iota_S256x128_d1_w32) (ix2 l 0) : EReal) = v (ix2 l 4) := by
  pointwise [k0_pay160]
  exact pick_lane4 fun x => v (ix2 l x)

theorem row4 (v : FVec Ideal S8x256 .f32) (l : Fin 256) : (k0_pay163 (F := Ideal) v (iota .tc S8x256 32 [0] iota_S8x256_d0_w32) (ix2 0 l) : EReal) = v (ix2 4 l) := by
  pointwise [k0_pay163]
  exact pick_sub4 fun x => v (ix2 x l)

theorem lane5 : ∀ x : Fin 128, IntOp.cmpi .eq (BitVec.ofNat 32 x.val) 5#32 = if x = 5 then 1#1 else 0#1 := by decide +kernel
theorem sub5 : ∀ x : Fin 8, IntOp.cmpi .eq (BitVec.ofNat 32 x.val) 5#32 = if x = 5 then 1#1 else 0#1 := by decide +kernel

theorem pick_lane5 (f : Fin 128 → EReal) : ∑ x : Fin 128, Scalar.select (IntOp.cmpi .eq (BitVec.ofNat 32 x.val) 5#32) (f x) 0 = f 5 := by
  rw [Finset.sum_eq_single (5 : Fin 128) (fun x _ h => by rw [lane5, if_neg h]; rfl) (fun h => absurd (Finset.mem_univ _) h), lane5, if_pos rfl]
  rfl

theorem pick_sub5 (f : Fin 8 → EReal) : ∑ x : Fin 8, Scalar.select (IntOp.cmpi .eq (BitVec.ofNat 32 x.val) 5#32) (f x) 0 = f 5 := by
  rw [Finset.sum_eq_single (5 : Fin 8) (fun x _ h => by rw [sub5, if_neg h]; rfl) (fun h => absurd (Finset.mem_univ _) h), sub5, if_pos rfl]
  rfl

theorem col5 (v : FVec Ideal S256x128 .f32) (l : Fin 256) : (k0_pay162 (k0_pay161 (F := Ideal) v (iota .tc S256x128 32 [1] iota_S256x128_d1_w32)) (ix2 l 0) : EReal) = v (ix2 l 5) := by
  pointwise [k0_pay162, k0_pay161]
  exact pick_lane5 fun x => v (ix2 l x)

theorem row5 (v : FVec Ideal S8x256 .f32) (l : Fin 256) : (k0_pay164 (F := Ideal) v (iota .tc S8x256 32 [0] iota_S8x256_d0_w32) (ix2 0 l) : EReal) = v (ix2 5 l) := by
  pointwise [k0_pay164]
  exact pick_sub5 fun x => v (ix2 x l)

theorem lane6 : ∀ x : Fin 128, IntOp.cmpi .eq (BitVec.ofNat 32 x.val) 6#32 = if x = 6 then 1#1 else 0#1 := by decide +kernel
theorem sub6 : ∀ x : Fin 8, IntOp.cmpi .eq (BitVec.ofNat 32 x.val) 6#32 = if x = 6 then 1#1 else 0#1 := by decide +kernel

theorem pick_lane6 (f : Fin 128 → EReal) : ∑ x : Fin 128, Scalar.select (IntOp.cmpi .eq (BitVec.ofNat 32 x.val) 6#32) (f x) 0 = f 6 := by
  rw [Finset.sum_eq_single (6 : Fin 128) (fun x _ h => by rw [lane6, if_neg h]; rfl) (fun h => absurd (Finset.mem_univ _) h), lane6, if_pos rfl]
  rfl

theorem pick_sub6 (f : Fin 8 → EReal) : ∑ x : Fin 8, Scalar.select (IntOp.cmpi .eq (BitVec.ofNat 32 x.val) 6#32) (f x) 0 = f 6 := by
  rw [Finset.sum_eq_single (6 : Fin 8) (fun x _ h => by rw [sub6, if_neg h]; rfl) (fun h => absurd (Finset.mem_univ _) h), sub6, if_pos rfl]
  rfl

theorem col6 (v : FVec Ideal S256x128 .f32) (l : Fin 256) : (k0_pay220 (F := Ideal) v (iota .tc S256x128 32 [1] iota_S256x128_d1_w32) (ix2 l 0) : EReal) = v (ix2 l 6) := by
  pointwise [k0_pay220]
  exact pick_lane6 fun x => v (ix2 l x)

theorem row6 (v : FVec Ideal S8x256 .f32) (l : Fin 256) : (k0_pay222 (F := Ideal) v (iota .tc S8x256 32 [0] iota_S8x256_d0_w32) (ix2 0 l) : EReal) = v (ix2 6 l) := by
  pointwise [k0_pay222]
  exact pick_sub6 fun x => v (ix2 x l)

theorem lane7 : ∀ x : Fin 128, IntOp.cmpi .eq (BitVec.ofNat 32 x.val) 7#32 = if x = 7 then 1#1 else 0#1 := by decide +kernel
theorem sub7 : ∀ x : Fin 8, IntOp.cmpi .eq (BitVec.ofNat 32 x.val) 7#32 = if x = 7 then 1#1 else 0#1 := by decide +kernel

theorem pick_lane7 (f : Fin 128 → EReal) : ∑ x : Fin 128, Scalar.select (IntOp.cmpi .eq (BitVec.ofNat 32 x.val) 7#32) (f x) 0 = f 7 := by
  rw [Finset.sum_eq_single (7 : Fin 128) (fun x _ h => by rw [lane7, if_neg h]; rfl) (fun h => absurd (Finset.mem_univ _) h), lane7, if_pos rfl]
  rfl

theorem pick_sub7 (f : Fin 8 → EReal) : ∑ x : Fin 8, Scalar.select (IntOp.cmpi .eq (BitVec.ofNat 32 x.val) 7#32) (f x) 0 = f 7 := by
  rw [Finset.sum_eq_single (7 : Fin 8) (fun x _ h => by rw [sub7, if_neg h]; rfl) (fun h => absurd (Finset.mem_univ _) h), sub7, if_pos rfl]
  rfl

theorem col7 (v : FVec Ideal S256x128 .f32) (l : Fin 256) : (k0_pay221 (F := Ideal) v (iota .tc S256x128 32 [1] iota_S256x128_d1_w32) (ix2 l 0) : EReal) = v (ix2 l 7) := by
  pointwise [k0_pay221]
  exact pick_lane7 fun x => v (ix2 l x)

theorem row7 (v : FVec Ideal S8x256 .f32) (l : Fin 256) : (k0_pay223 (F := Ideal) v (iota .tc S8x256 32 [0] iota_S8x256_d0_w32) (ix2 0 l) : EReal) = v (ix2 7 l) := by
  pointwise [k0_pay223]
  exact pick_sub7 fun x => v (ix2 x l)

theorem inter0 (a : FVec Ideal S256x128 .f32) (dy : Vec Ideal S256x128 .f32) (c0 c1 : FVec Ideal S256x1 .f32) (s : Vec Ideal S1x1x128x128 .f32) (l : Fin 256) (n : Fin 128) :
    (k0_pay57 (F := Ideal) k0_pay26 a dy c0 c1 (k0_pay49 s) (ix2 l n) : EReal)
      = a (ix2 l n) + (∑ p : Fin 64, Ideal.exp (c0 (ix2 l 0)) * dy (ix2 l ⟨p.val, by omega⟩) * s (ix4 0 0 ⟨p.val, by omega⟩ n)
        + ∑ p : Fin 64, Ideal.exp (c1 (ix2 l 0)) * dy (ix2 l ⟨64 + p.val, by omega⟩) * s (ix4 0 0 ⟨64 + p.val, by omega⟩ n) : EReal) := by
  pointwise [k0_pay57, k0_pay26, k0_pay49, k0_pay56, k0_pay48, k0_pay54]
  rw [halves]
  simp only [lo_half, hi_half]

theorem input0 (d : Vec Ideal S1x256x128 .f32) (x : Vec Ideal S256x128 .f32) (l : Fin 256) (q : Fin 128) :
    (k0_pay47 (F := Ideal) (k0_pay11 d) (iota .tc S256x128 32 [1] iota_S256x128_d1_w32) k0_pay26 x 0#32 (ix2 l q) : EReal) = (x (ix2 l q) * if q.val < 64 then d (ix3 0 l 0) else d (ix3 0 l 1) : EReal) := by
  pointwise [k0_pay47, k0_pay11, k0_pay26, k0_pay46, k0_pay45]
  rw [pick_lane0 fun z => d (ix3 0 l z), pick_lane1 fun z => d (ix3 0 l z), half_flag]
  split <;> rfl

theorem intra0 (a : FVec Ideal S256x256 .f32) (dy : Vec Ideal S256x128 .f32) (w : FVec Ideal S256x128 .bf16) (c : FVec Ideal S256x1 .f32) (b : FVec Ideal S1x256 .f32) (l s : Fin 256) :
    (k0_pay70 (F := Ideal) k0_pay9 k0_pay26 a dy w (k0_pay66 c b) (ix2 l s) : EReal)
      = (a (ix2 l s) + (∑ p : Fin 64, dy (ix2 l ⟨p.val, by omega⟩) * w (ix2 s ⟨p.val, by omega⟩)) * Ideal.exp (if s ≤ l then c (ix2 l 0) - b (ix2 0 s) else ⊥) : EReal) := by
  pointwise [k0_pay70, k0_pay66, k0_pay9, k0_pay26, k0_pay68, k0_pay67]
  rw [halves, order_flag, minus_inf]
  simp only [lo_half, hi_half, lo_half_not, hi_half_not, zero_mul, Finset.sum_const_zero, add_zero, zero_add]
  split <;> rfl

theorem intra1 (a : FVec Ideal S256x256 .f32) (dy : Vec Ideal S256x128 .f32) (w : FVec Ideal S256x128 .bf16) (c : FVec Ideal S256x1 .f32) (b : FVec Ideal S1x256 .f32) (l s : Fin 256) :
    (k0_pay82 (F := Ideal) k0_pay9 k0_pay26 dy c b w a (ix2 l s) : EReal)
      = (a (ix2 l s) + (∑ p : Fin 64, dy (ix2 l ⟨64 + p.val, by omega⟩) * w (ix2 s ⟨64 + p.val, by omega⟩)) * Ideal.exp (if s ≤ l then c (ix2 l 0) - b (ix2 0 s) else ⊥) : EReal) := by
  pointwise [k0_pay82, k0_pay9, k0_pay26, k0_pay80, k0_pay79]
  rw [halves, order_flag, minus_inf]
  simp only [lo_half, hi_half, lo_half_not, hi_half_not, zero_mul, Finset.sum_const_zero, add_zero, zero_add]
  split <;> rfl

theorem inter1 (a : FVec Ideal S256x128 .f32) (dy : Vec Ideal S256x128 .f32) (c0 c1 : FVec Ideal S256x1 .f32) (s : Vec Ideal S1x1x128x128 .f32) (l : Fin 256) (n : Fin 128) :
    (k0_pay121 (F := Ideal) k0_pay26 a dy c0 c1 (k0_pay112 s) (ix2 l n) : EReal)
      = a (ix2 l n) + (∑ p : Fin 64, Ideal.exp (c0 (ix2 l 0)) * dy (ix2 l ⟨p.val, by omega⟩) * s (ix4 0 0 ⟨p.val, by omega⟩ n)
        + ∑ p : Fin 64, Ideal.exp (c1 (ix2 l 0)) * dy (ix2 l ⟨64 + p.val, by omega⟩) * s (ix4 0 0 ⟨64 + p.val, by omega⟩ n) : EReal) := by
  pointwise [k0_pay121, k0_pay26, k0_pay112, k0_pay120, k0_pay111, k0_pay118]
  rw [halves]
  simp only [lo_half, hi_half]

theorem input1 (d : Vec Ideal S1x256x128 .f32) (x : Vec Ideal S256x128 .f32) (l : Fin 256) (q : Fin 128) :
    (k0_pay110 (F := Ideal) (k0_pay11 d) (iota .tc S256x128 32 [1] iota_S256x128_d1_w32) k0_pay26 x (ix2 l q) : EReal) = (x (ix2 l q) * if q.val < 64 then d (ix3 0 l 2) else d (ix3 0 l 3) : EReal) := by
  pointwise [k0_pay110, k0_pay11, k0_pay26, k0_pay109, k0_pay108]
  rw [pick_lane2 fun z => d (ix3 0 l z), pick_lane3 fun z => d (ix3 0 l z), half_flag]
  split <;> rfl

theorem intra2 (a : FVec Ideal S256x256 .f32) (dy : Vec Ideal S256x128 .f32) (w : FVec Ideal S256x128 .bf16) (c : FVec Ideal S256x1 .f32) (b : FVec Ideal S1x256 .f32) (l s : Fin 256) :
    (k0_pay135 (F := Ideal) k0_pay9 k0_pay26 a dy c b w (ix2 l s) : EReal)
      = (a (ix2 l s) + (∑ p : Fin 64, dy (ix2 l ⟨p.val, by omega⟩) * w (ix2 s ⟨p.val, by omega⟩)) * Ideal.exp (if s ≤ l then c (ix2 l 0) - b (ix2 0 s) else ⊥) : EReal) := by
  pointwise [k0_pay135, k0_pay9, k0_pay26, k0_pay133, k0_pay132]
  rw [halves, order_flag, minus_inf]
  simp only [lo_half, hi_half, lo_half_not, hi_half_not, zero_mul, Finset.sum_const_zero, add_zero, zero_add]
  split <;> rfl

theorem intra3 (a : FVec Ideal S256x256 .f32) (dy : Vec Ideal S256x128 .f32) (w : FVec Ideal S256x128 .bf16) (c : FVec Ideal S256x1 .f32) (b : FVec Ideal S1x256 .f32) (l s : Fin 256) :
    (k0_pay147 (F := Ideal) k0_pay9 k0_pay26 dy c b w a (ix2 l s) : EReal)
      = (a (ix2 l s) + (∑ p : Fin 64, dy (ix2 l ⟨64 + p.val, by omega⟩) * w (ix2 s ⟨64 + p.val, by omega⟩)) * Ideal.exp (if s ≤ l then c (ix2 l 0) - b (ix2 0 s) else ⊥) : EReal) := by
  pointwise [k0_pay147, k0_pay9, k0_pay26, k0_pay145, k0_pay144]
  rw [halves, order_flag, minus_inf]
  simp only [lo_half, hi_half, lo_half_not, hi_half_not, zero_mul, Finset.sum_const_zero, add_zero, zero_add]
  split <;> rfl

theorem inter2 (a : FVec Ideal S256x128 .f32) (dy : Vec Ideal S256x128 .f32) (c0 c1 : FVec Ideal S256x1 .f32) (s : Vec Ideal S1x1x128x128 .f32) (l : Fin 256) (n : Fin 128) :
    (k0_pay180 (F := Ideal) k0_pay26 a dy c0 c1 s (ix2 l n) : EReal)
      = a (ix2 l n) + (∑ p : Fin 64, Ideal.exp (c0 (ix2 l 0)) * dy (ix2 l ⟨p.val, by omega⟩) * s (ix4 0 0 ⟨p.val, by omega⟩ n)
        + ∑ p : Fin 64, Ideal.exp (c1 (ix2 l 0)) * dy (ix2 l ⟨64 + p.val, by omega⟩) * s (ix4 0 0 ⟨64 + p.val, by omega⟩ n) : EReal) := by
  pointwise [k0_pay180, k0_pay26, k0_pay179, k0_pay173, k0_pay177, k0_pay172]
  rw [halves]
  simp only [lo_half, hi_half]

theorem input2 (d : Vec Ideal S1x256x128 .f32) (x : Vec Ideal S256x128 .f32) (l : Fin 256) (q : Fin 128) :
    (k0_pay171 (F := Ideal) k0_pay26 x (k0_pay167 (k0_pay11 d) (iota .tc S256x128 32 [1] iota_S256x128_d1_w32)) (k0_pay168 (k0_pay11 d) (iota .tc S256x128 32 [1] iota_S256x128_d1_w32)) (ix2 l q) : EReal) = (x (ix2 l q) * if q.val < 64 then d (ix3 0 l 4) else d (ix3 0 l 5) : EReal) := by
  pointwise [k0_pay171, k0_pay167, k0_pay168, k0_pay11, k0_pay26, k0_pay170, k0_pay169]
  rw [pick_lane4 fun z => d (ix3 0 l z), pick_lane5 fun z => d (ix3 0 l z), half_flag]
  split <;> rfl

theorem intra4 (a : FVec Ideal S256x256 .f32) (dy : Vec Ideal S256x128 .f32) (w : FVec Ideal S256x128 .bf16) (c : FVec Ideal S256x1 .f32) (b : FVec Ideal S1x256 .f32) (l s : Fin 256) :
    (k0_pay192 (F := Ideal) k0_pay9 k0_pay26 a dy c b w (ix2 l s) : EReal)
      = (a (ix2 l s) + (∑ p : Fin 64, dy (ix2 l ⟨p.val, by omega⟩) * w (ix2 s ⟨p.val, by omega⟩)) * Ideal.exp (if s ≤ l then c (ix2 l 0) - b (ix2 0 s) else ⊥) : EReal) := by
  pointwise [k0_pay192, k0_pay9, k0_pay26, k0_pay190, k0_pay189]
  rw [halves, order_flag, minus_inf]
  simp only [lo_half, hi_half, lo_half_not, hi_half_not, zero_mul, Finset.sum_const_zero, add_zero, zero_add]
  split <;> rfl

theorem intra5 (a : FVec Ideal S256x256 .f32) (dy : Vec Ideal S256x128 .f32) (w : FVec Ideal S256x128 .bf16) (c : FVec Ideal S256x1 .f32) (b : FVec Ideal S1x256 .f32) (l s : Fin 256) :
    (k0_pay206 (F := Ideal) k0_pay9 k0_pay26 dy c b w a (ix2 l s) : EReal)
      = (a (ix2 l s) + (∑ p : Fin 64, dy (ix2 l ⟨64 + p.val, by omega⟩) * w (ix2 s ⟨64 + p.val, by omega⟩)) * Ideal.exp (if s ≤ l then c (ix2 l 0) - b (ix2 0 s) else ⊥) : EReal) := by
  pointwise [k0_pay206, k0_pay9, k0_pay26, k0_pay204, k0_pay203]
  rw [halves, order_flag, minus_inf]
  simp only [lo_half, hi_half, lo_half_not, hi_half_not, zero_mul, Finset.sum_const_zero, add_zero, zero_add]
  split <;> rfl

theorem inter3 (a : FVec Ideal S256x128 .f32) (dy : Vec Ideal S256x128 .f32) (c0 c1 : FVec Ideal S256x1 .f32) (s : Vec Ideal S1x1x128x128 .f32) (l : Fin 256) (n : Fin 128) :
    (k0_pay238 (F := Ideal) k0_pay26 a dy c0 c1 (k0_pay230 s) (ix2 l n) : EReal)
      = a (ix2 l n) + (∑ p : Fin 64, Ideal.exp (c0 (ix2 l 0)) * dy (ix2 l ⟨p.val, by omega⟩) * s (ix4 0 0 ⟨p.val, by omega⟩ n)
        + ∑ p : Fin 64, Ideal.exp (c1 (ix2 l 0)) * dy (ix2 l ⟨64 + p.val, by omega⟩) * s (ix4 0 0 ⟨64 + p.val, by omega⟩ n) : EReal) := by
  pointwise [k0_pay238, k0_pay26, k0_pay230, k0_pay237, k0_pay229, k0_pay235]
  rw [halves]
  simp only [lo_half, hi_half]

theorem input3 (d : Vec Ideal S1x256x128 .f32) (x : Vec Ideal S256x128 .f32) (l : Fin 256) (q : Fin 128) :
    (k0_pay228 (F := Ideal) (k0_pay11 d) (iota .tc S256x128 32 [1] iota_S256x128_d1_w32) k0_pay26 x 6#32 (ix2 l q) : EReal) = (x (ix2 l q) * if q.val < 64 then d (ix3 0 l 6) else d (ix3 0 l 7) : EReal) := by
  pointwise [k0_pay228, k0_pay11, k0_pay26, k0_pay227, k0_pay226]
  rw [pick_lane6 fun z => d (ix3 0 l z), pick_lane7 fun z => d (ix3 0 l z), half_flag]
  split <;> rfl

theorem intra6 (a : FVec Ideal S256x256 .f32) (dy : Vec Ideal S256x128 .f32) (w : FVec Ideal S256x128 .bf16) (c : FVec Ideal S256x1 .f32) (b : FVec Ideal S1x256 .f32) (l s : Fin 256) :
    (k0_pay251 (F := Ideal) k0_pay9 k0_pay26 a dy w (k0_pay247 c b) (ix2 l s) : EReal)
      = (a (ix2 l s) + (∑ p : Fin 64, dy (ix2 l ⟨p.val, by omega⟩) * w (ix2 s ⟨p.val, by omega⟩)) * Ideal.exp (if s ≤ l then c (ix2 l 0) - b (ix2 0 s) else ⊥) : EReal) := by
  pointwise [k0_pay251, k0_pay247, k0_pay9, k0_pay26, k0_pay249, k0_pay248]
  rw [halves, order_flag, minus_inf]
  simp only [lo_half, hi_half, lo_half_not, hi_half_not, zero_mul, Finset.sum_const_zero, add_zero, zero_add]
  split <;> rfl

theorem intra7 (a : FVec Ideal S256x256 .f32) (dy : Vec Ideal S256x128 .f32) (w : FVec Ideal S256x128 .bf16) (c : FVec Ideal S256x1 .f32) (b : FVec Ideal S1x256 .f32) (l s : Fin 256) :
    (k0_pay263 (F := Ideal) k0_pay9 k0_pay26 dy c b w a (ix2 l s) : EReal)
      = (a (ix2 l s) + (∑ p : Fin 64, dy (ix2 l ⟨64 + p.val, by omega⟩) * w (ix2 s ⟨64 + p.val, by omega⟩)) * Ideal.exp (if s ≤ l then c (ix2 l 0) - b (ix2 0 s) else ⊥) : EReal) := by
  pointwise [k0_pay263, k0_pay9, k0_pay26, k0_pay261, k0_pay260]
  rw [halves, order_flag, minus_inf]
  simp only [lo_half, hi_half, lo_half_not, hi_half_not, zero_mul, Finset.sum_const_zero, add_zero, zero_add]
  split <;> rfl

theorem out (v : Vec Ideal S256x128 .f32) (a : FVec Ideal S256x128 .f32) (e : FVec Ideal S256x256 .f32) (l : Fin 256) (n : Fin 128) :
    (k0_pay283 (F := Ideal) (k0_pay7 v) a e (ix2 l n) : EReal) = (a (ix2 l n) + ∑ s : Fin 256, e (ix2 l s) * v (ix2 s n) : EReal) := by
  pointwise [k0_pay283, k0_pay7, k0_pay281]

theorem zero32 (j) : (k0_pay32 (F := Ideal) j : EReal) = 0 := by
  pointwise [k0_pay32]

theorem zero30 (j) : (k0_pay30 (F := Ideal) j : EReal) = 0 := by
  pointwise [k0_pay30]

end Cert.KernelIdeal.Scan
end
-- ==== Proof.ScanRef.lean ====
module
public import proofs.«01_k».proof.Proof.Gen.ReferenceIdeal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.ReferenceIdeal.Scan
open Cert.ReferenceIdeal Cert.ReferenceIdeal.Gen Cert.ReferenceIdeal.Read

/-! The reference's gradient of `C`, element by element. -/

/-- The sum of the first `l + 1` terms. -/
def upTo (a : Fin 256 → EReal) (l : Fin 256) : EReal := ∑ x : Fin 256, if x ≤ l then a x else 0

theorem foldl_sum {α : Type} (F : α → EReal) (v : EReal) (L : List α) : L.foldl (fun r n => r + F n) v = v + (L.map F).sum := by
  induction L generalizing v with
  | nil => simp
  | cons a L ih => rw [List.foldl_cons, ih, List.map_cons, List.sum_cons, add_assoc]

theorem shifted (a : Fin 256 → EReal) (l : Fin 256) :
    (∑ w : Fin 256, if h : 255 ≤ l.val + w.val then a ⟨l.val + w.val - 255, by omega⟩ else 0) = upTo a l := by
  unfold upTo
  rw [← Equiv.sum_comp (Equiv.addLeft (l + 1)) fun x => if x ≤ l then a x else 0]
  refine Finset.sum_congr rfl fun w _ => ?_
  have hl := l.isLt
  have hw := w.isLt
  have hv : ((Equiv.addLeft (l + 1)) w).val = ((l.val + 1) % 256 + w.val) % 256 := by
    rw [Equiv.coe_addLeft, Fin.val_add, Fin.val_add]
    rfl
  by_cases h : 255 ≤ l.val + w.val
  · have e : ((Equiv.addLeft (l + 1)) w) = ⟨l.val + w.val - 255, by omega⟩ := Fin.ext (by rw [hv]; show _ = l.val + w.val - 255; omega)
    rw [dif_pos h, e, if_pos (show (⟨l.val + w.val - 255, by omega⟩ : Fin 256) ≤ l from (show l.val + w.val - 255 ≤ l.val by omega))]
  · rw [dif_neg h, if_neg fun hle => ?_]
    have hle' : ((Equiv.addLeft (l + 1)) w).val ≤ l.val := hle
    omega

theorem window_sum (y : S9x8x8x256.Idx → EReal) (init : S_.Idx → EReal) (h) (hu) (h0 : init (Shape.Idx.first hu) = 0) (k : Fin 9) (g r : Fin 8) (l : Fin 256) :
    Host.reduceWindow (s := S9x8x8x256) (t := S9x8x8x256) (u := S_) (· + ·) ![1, 1, 1, 256] ![1, 1, 1, 1] ![0, 0, 0, 255] ![0, 0, 0, 0] y init h hu (ix4 k g r l)
      = upTo (fun x => y (ix4 k g r x)) l := by
  unfold Host.reduceWindow
  dsimp only
  rw [foldl_sum, h0, zero_add, ← Fin.sum_univ_def]
  refine (Fintype.sum_equiv (Shape.rowMajor (⟨4, ![1, 1, 1, 256]⟩ : Shape)).symm _ (fun i => if hin : ∀ a : Fin 4, (![0, 0, 0, 255] : Fin 4 → Nat) a ≤ (ix4 k g r l a).val * (![1, 1, 1, 1] : Fin 4 → Nat) a + (i a).val ∧ (ix4 k g r l a).val * (![1, 1, 1, 1] : Fin 4 → Nat) a + (i a).val - (![0, 0, 0, 255] : Fin 4 → Nat) a < S9x8x8x256.size a then y (fun a => ⟨(ix4 k g r l a).val * (![1, 1, 1, 1] : Fin 4 → Nat) a + (i a).val - (![0, 0, 0, 255] : Fin 4 → Nat) a, (hin a).2⟩) else 0) fun n => dite_congr rfl (fun _ => rfl) (fun _ => rfl)).trans ?_
  rw [sum_idx4]
  simp only [Finset.univ_unique, Finset.sum_singleton]
  rw [← shifted]
  refine Finset.sum_congr rfl fun w _ => ?_
  have hl := l.isLt
  have hw := w.isLt
  by_cases hc : 255 ≤ l.val + w.val
  · rw [dif_pos hc, dif_pos fun a => ?_]
    · congr 1
      funext a
      refine Fin.ext ?_
      match a with
      | ⟨0, _⟩ => show k.val * 1 + 0 - 0 = k.val; omega
      | ⟨1, _⟩ => show g.val * 1 + 0 - 0 = g.val; omega
      | ⟨2, _⟩ => show r.val * 1 + 0 - 0 = r.val; omega
      | ⟨3, _⟩ => show l.val * 1 + w.val - 255 = l.val + w.val - 255; omega
    · match a with
      | ⟨0, _⟩ => show 0 ≤ k.val * 1 + 0 ∧ k.val * 1 + 0 - 0 < 9; omega
      | ⟨1, _⟩ => show 0 ≤ g.val * 1 + 0 ∧ g.val * 1 + 0 - 0 < 8; omega
      | ⟨2, _⟩ => show 0 ≤ r.val * 1 + 0 ∧ r.val * 1 + 0 - 0 < 8; omega
      | ⟨3, _⟩ => show 255 ≤ l.val * 1 + w.val ∧ l.val * 1 + w.val - 255 < 256; omega
  · rw [dif_neg hc, dif_neg fun hin => ?_]
    have h3 : 255 ≤ l.val * 1 + w.val ∧ l.val * 1 + w.val - 255 < 256 := hin 3
    omega

theorem step14 (x1 x2) (k : Fin 9) (g r : Fin 8) (l : Fin 256) :
    (val_main_v14 (F := Ideal) x1 x2 (ix4 k g r l) : EReal) = x1 (ix2 ⟨k.val * 256 + l.val, by omega⟩ ⟨g.val * 8 + r.val, by omega⟩) * x2 (ix1 ⟨g.val * 8 + r.val, by omega⟩) := by
  pointwise [val_main_v14, val_main_v13, val_main_v12, val_main_v11, val_main_v10]

theorem sums (x1 x2) (k : Fin 9) (g r : Fin 8) (l : Fin 256) :
    (val_main_v15 (F := Ideal) x1 x2 (ix4 k g r l) : EReal)
      = upTo (fun x => (x1 (ix2 ⟨k.val * 256 + x.val, by omega⟩ ⟨g.val * 8 + r.val, by omega⟩) * x2 (ix1 ⟨g.val * 8 + r.val, by omega⟩) : EReal)) l := by
  refine (window_sum (val_main_v14 (F := Ideal) x1 x2) (val_main_call0_call0_v0 (F := Ideal)) reduceWindows_S9x8x8x256_S9x8x8x256_w1s1p0_0_w1s1p0_0_w1s1p0_0_w256s1p255_0 h_S_ ?_ k g r l).trans ?_
  · rw [val_main_call0_call0_v0_apply, val_main_call0_call0_cst_apply]
    simp [FloatOps.ofBits, Ideal.ofBits, Ideal.ieee]
  · exact congrArg (upTo · l) (funext fun x => step14 x1 x2 k g r x)

theorem inputs (x0 x1) (k : Fin 9) (l : Fin 256) (g r : Fin 8) (p : Fin 64) :
    (val_main_v9 (F := Ideal) x0 x1 (ix5 k l g r p) : EReal)
      = x0 (ix2 ⟨k.val * 256 + l.val, by omega⟩ ⟨(g.val * 8 + r.val) * 64 + p.val, by omega⟩) * x1 (ix2 ⟨k.val * 256 + l.val, by omega⟩ ⟨g.val * 8 + r.val, by omega⟩) := by
  pointwise [val_main_v9, val_main_v8, val_main_v7, val_main_v6, val_main_v3, val_main_v0]

theorem order_flag (l x : Fin 256) : IntOp.cmpi .sge (IntOp.addi (BitVec.ofNat 32 l.val) 0#32) (BitVec.ofNat 32 x.val) = if x ≤ l then 1#1 else 0#1 := by
  have hl := l.isLt
  have hx := x.isLt
  have e : ∀ y : Fin 256, (BitVec.ofNat 32 y.val).toInt = y.val := fun y => by
    have hy := y.isLt
    rw [BitVec.toInt_eq_toNat_of_lt (by rw [BitVec.toNat_ofNat]; omega), BitVec.toNat_ofNat]
    omega
  have z : IntOp.addi (BitVec.ofNat 32 l.val) 0#32 = BitVec.ofNat 32 l.val := BitVec.add_zero _
  rw [z]
  simp only [IntOp.cmpi, BitVec.sle_eq_decide, e]
  by_cases h : x ≤ l
  · have h' : x.val ≤ l.val := h
    simp [h, h']
  · have h' : ¬ x.val ≤ l.val := h
    simp [h, h']

theorem minus_inf : Ideal.ofBits FTy.f32 4286578688#32 = (⊥ : EReal) := by
  simp [Ideal.ofBits, Ideal.ieee]

theorem decay (x1 x2) (k : Fin 9) (g r : Fin 8) (l s : Fin 256) :
    (val_main_v26 (F := Ideal) x1 x2 (ix5 k g r l s) : EReal)
      = Ideal.exp (if s ≤ l then val_main_v15 (F := Ideal) x1 x2 (ix4 k g r l) - val_main_v15 (F := Ideal) x1 x2 (ix4 k g r s) else ⊥) := by
  pointwise [val_main_v26, val_main_v25, val_main_v24, val_main_v23, val_main_v22, val_main_v21, val_main_v20, val_main_v19, val_main_call2_v2, val_main_call2_v1, val_main_call2_v0, val_main_cst, val_main_call1_v5, val_main_call1_c_0, val_main_call1_v4, val_main_call1_v3, val_main_call1_v2, val_main_call1_v1, val_main_call1_c, val_main_call1_v0, val_main_v18, val_main_c]
  rw [order_flag]
  split
  · rfl
  · exact congrArg Ideal.exp minus_inf

theorem from_state (x1 x2 x4 x5) (k : Fin 9) (g : Fin 8) (l : Fin 256) (n : Fin 128) :
    (val_main_v54 (F := Ideal) x1 x2 x4 x5 (ix4 k g l n) : EReal)
      = ∑ r : Fin 8, ∑ p : Fin 64, x5 (ix2 ⟨k.val * 256 + l.val, by omega⟩ ⟨g.val * 512 + r.val * 64 + p.val, by omega⟩) * Ideal.exp (val_main_v15 (F := Ideal) x1 x2 (ix4 k g r l)) * x4 (ix4 k g ⟨r.val * 64 + p.val, by omega⟩ n) := by
  pointwise [val_main_v54, val_main_v53, val_main_v52, val_main_v51, val_main_v38, val_main_v37, val_main_v36, val_main_v50, val_main_v49, val_main_v33]

theorem from_chunk (x0 x1 x2 x5) (k : Fin 9) (g : Fin 8) (l s : Fin 256) :
    (val_main_v61 (F := Ideal) x0 x1 x2 x5 (ix4 k g l s) : EReal)
      = ∑ r : Fin 8, (∑ p : Fin 64, x5 (ix2 ⟨k.val * 256 + l.val, by omega⟩ ⟨g.val * 512 + r.val * 64 + p.val, by omega⟩) * val_main_v9 (F := Ideal) x0 x1 (ix5 k s g r p)) * val_main_v26 (F := Ideal) x1 x2 (ix5 k g r l s) := by
  pointwise [val_main_v61, val_main_v60, val_main_v59, val_main_v58, val_main_v57, val_main_v56, val_main_v50, val_main_v49, val_main_cst_0, val_main_cst_1]
  simp only [Finset.univ_unique, Finset.sum_singleton]

/-- The gradient of `C` at row `l` of chunk `k` and column `n` of group `g`: through the state entering the chunk, and through the rows of the chunk itself. -/
def grad (cs : Fin 8 → Fin 256 → EReal) (dy xd : Fin 256 → Fin 8 → Fin 64 → EReal) (st : Fin 8 → Fin 64 → Fin 128 → EReal) (B : Fin 256 → Fin 128 → EReal) (l : Fin 256) (n : Fin 128) : EReal :=
  ∑ r : Fin 8, ∑ p : Fin 64, dy l r p * Ideal.exp (cs r l) * st r p n
    + ∑ s : Fin 256, (∑ r : Fin 8, (∑ p : Fin 64, dy l r p * xd s r p) * Ideal.exp (if s ≤ l then cs r l - cs r s else ⊥)) * B s n

/-- The gradient of `C` from the whole arguments. -/
def gradOf (x0 : S2304x6144.Idx → EReal) (x1 : S2304x64.Idx → EReal) (x2 : S64.Idx → EReal) (x4 : S9x8x512x128.Idx → EReal) (x5 : S2304x4096.Idx → EReal) (k : Fin 9) (g : Fin 8) : Fin 256 → Fin 128 → EReal :=
  grad (fun r => upTo fun x => x1 (ix2 ⟨k.val * 256 + x.val, by omega⟩ ⟨g.val * 8 + r.val, by omega⟩) * x2 (ix1 ⟨g.val * 8 + r.val, by omega⟩))
    (fun l r p => x5 (ix2 ⟨k.val * 256 + l.val, by omega⟩ ⟨g.val * 512 + r.val * 64 + p.val, by omega⟩))
    (fun l r p => x0 (ix2 ⟨k.val * 256 + l.val, by omega⟩ ⟨(g.val * 8 + r.val) * 64 + p.val, by omega⟩) * x1 (ix2 ⟨k.val * 256 + l.val, by omega⟩ ⟨g.val * 8 + r.val, by omega⟩))
    (fun r p n => x4 (ix4 k g ⟨r.val * 64 + p.val, by omega⟩ n))
    (fun s n => x0 (ix2 ⟨k.val * 256 + s.val, by omega⟩ ⟨4096 + (g.val * 128 + n.val), by omega⟩))

theorem result (x0 x1 x2 x4 x5) (k : Fin 9) (g : Fin 8) (l : Fin 256) (n : Fin 128) :
    (val_main_v66 (F := Ideal) x0 x1 x2 x4 x5 (ix2 ⟨k.val * 256 + l.val, by omega⟩ ⟨g.val * 128 + n.val, by omega⟩) : EReal) = gradOf x0 x1 x2 x4 x5 k g l n := by
  have e : (val_main_v66 (F := Ideal) x0 x1 x2 x4 x5 (ix2 ⟨k.val * 256 + l.val, by omega⟩ ⟨g.val * 128 + n.val, by omega⟩) : EReal)
      = val_main_v54 (F := Ideal) x1 x2 x4 x5 (ix4 k g l n) + ∑ s : Fin 256, val_main_v61 (F := Ideal) x0 x1 x2 x5 (ix4 k g l s) * x0 (ix2 ⟨k.val * 256 + s.val, by omega⟩ ⟨4096 + (g.val * 128 + n.val), by omega⟩) := by
    pointwise [val_main_v66, val_main_v65, val_main_v64, val_main_v63, val_main_v62, val_main_v55, val_main_v16, val_main_v4, val_main_v1]
  rw [e, from_state]
  unfold gradOf grad
  simp only [from_chunk, decay, sums, inputs]

end Cert.ReferenceIdeal.Scan
end
-- ==== Proof.ScanBlock.lean ====
module
public import proofs.«01_k».proof.Proof.Gen.KernelIdeal.Frame
public import proofs.«01_k».proof.Proof.ScanValues
public import proofs.«01_k».proof.Proof.ScanRef
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.KernelIdeal.Scan
open Cert.KernelIdeal Cert.KernelIdeal.Gen
open Cert.ReferenceIdeal.Scan (upTo grad gradOf)

/-! The gradient of `C` at a point of the backward scan, from the point's blocks. -/

variable (m : (ℓ : Loc nD τ sig) → Buf (Elt Ideal) ℓ)

/-- Column `p` of head `r` in a group's 512 columns. -/
def lane (r : Fin 8) (p : Fin 64) : Fin 512 := ⟨r.val * 64 + p.val, by omega⟩

theorem cols0 (v : Vec Ideal S256x512 .f32) (l : Fin 256) (p : Fin 64) :
    (View.ld v (Rect.unit ![0, 0] ![256, 128] inb_S256x512_S256x128_0_0) (ix2 (n0 := 256) (n1 := 128) l ⟨p.val, by omega⟩) : EReal) = v (ix2 l (lane 0 p)) := by
  refine congrArg v (funext fun a => Fin.ext ?_)
  match a with
  | ⟨0, _⟩ => show 0 + 1 * l.val = l.val; omega
  | ⟨1, _⟩ => show 0 + 1 * (p.val) = 0 * 64 + p.val; omega

theorem rows0 (v : Vec Ideal S1x1x512x128 .f32) (p : Fin 64) (n : Fin 128) :
    (View.ld v (Rect.unit ![0, 0, 0, 0] ![1, 1, 128, 128] inb_S1x1x512x128_S1x1x128x128_0_0_0_0) (ix4 (n0 := 1) (n1 := 1) (n2 := 128) (n3 := 128) 0 0 ⟨p.val, by omega⟩ n) : EReal) = v (ix4 0 0 (lane 0 p) n) := by
  refine congrArg v (funext fun a => Fin.ext ?_)
  match a with
  | ⟨0, _⟩ => rfl
  | ⟨1, _⟩ => rfl
  | ⟨2, _⟩ => show 0 + 1 * (p.val) = 0 * 64 + p.val; omega
  | ⟨3, _⟩ => show 0 + 1 * n.val = n.val; omega

theorem cols1 (v : Vec Ideal S256x512 .f32) (l : Fin 256) (p : Fin 64) :
    (View.ld v (Rect.unit ![0, 0] ![256, 128] inb_S256x512_S256x128_0_0) (ix2 (n0 := 256) (n1 := 128) l ⟨64 + p.val, by omega⟩) : EReal) = v (ix2 l (lane 1 p)) := by
  refine congrArg v (funext fun a => Fin.ext ?_)
  match a with
  | ⟨0, _⟩ => show 0 + 1 * l.val = l.val; omega
  | ⟨1, _⟩ => show 0 + 1 * (64 + p.val) = 1 * 64 + p.val; omega

theorem rows1 (v : Vec Ideal S1x1x512x128 .f32) (p : Fin 64) (n : Fin 128) :
    (View.ld v (Rect.unit ![0, 0, 0, 0] ![1, 1, 128, 128] inb_S1x1x512x128_S1x1x128x128_0_0_0_0) (ix4 (n0 := 1) (n1 := 1) (n2 := 128) (n3 := 128) 0 0 ⟨64 + p.val, by omega⟩ n) : EReal) = v (ix4 0 0 (lane 1 p) n) := by
  refine congrArg v (funext fun a => Fin.ext ?_)
  match a with
  | ⟨0, _⟩ => rfl
  | ⟨1, _⟩ => rfl
  | ⟨2, _⟩ => show 0 + 1 * (64 + p.val) = 1 * 64 + p.val; omega
  | ⟨3, _⟩ => show 0 + 1 * n.val = n.val; omega

theorem cols2 (v : Vec Ideal S256x512 .f32) (l : Fin 256) (p : Fin 64) :
    (View.ld v (Rect.unit ![0, 128] ![256, 128] inb_S256x512_S256x128_0_128) (ix2 (n0 := 256) (n1 := 128) l ⟨p.val, by omega⟩) : EReal) = v (ix2 l (lane 2 p)) := by
  refine congrArg v (funext fun a => Fin.ext ?_)
  match a with
  | ⟨0, _⟩ => show 0 + 1 * l.val = l.val; omega
  | ⟨1, _⟩ => show 128 + 1 * (p.val) = 2 * 64 + p.val; omega

theorem rows2 (v : Vec Ideal S1x1x512x128 .f32) (p : Fin 64) (n : Fin 128) :
    (View.ld v (Rect.unit ![0, 0, 128, 0] ![1, 1, 128, 128] inb_S1x1x512x128_S1x1x128x128_0_0_128_0) (ix4 (n0 := 1) (n1 := 1) (n2 := 128) (n3 := 128) 0 0 ⟨p.val, by omega⟩ n) : EReal) = v (ix4 0 0 (lane 2 p) n) := by
  refine congrArg v (funext fun a => Fin.ext ?_)
  match a with
  | ⟨0, _⟩ => rfl
  | ⟨1, _⟩ => rfl
  | ⟨2, _⟩ => show 128 + 1 * (p.val) = 2 * 64 + p.val; omega
  | ⟨3, _⟩ => show 0 + 1 * n.val = n.val; omega

theorem cols3 (v : Vec Ideal S256x512 .f32) (l : Fin 256) (p : Fin 64) :
    (View.ld v (Rect.unit ![0, 128] ![256, 128] inb_S256x512_S256x128_0_128) (ix2 (n0 := 256) (n1 := 128) l ⟨64 + p.val, by omega⟩) : EReal) = v (ix2 l (lane 3 p)) := by
  refine congrArg v (funext fun a => Fin.ext ?_)
  match a with
  | ⟨0, _⟩ => show 0 + 1 * l.val = l.val; omega
  | ⟨1, _⟩ => show 128 + 1 * (64 + p.val) = 3 * 64 + p.val; omega

theorem rows3 (v : Vec Ideal S1x1x512x128 .f32) (p : Fin 64) (n : Fin 128) :
    (View.ld v (Rect.unit ![0, 0, 128, 0] ![1, 1, 128, 128] inb_S1x1x512x128_S1x1x128x128_0_0_128_0) (ix4 (n0 := 1) (n1 := 1) (n2 := 128) (n3 := 128) 0 0 ⟨64 + p.val, by omega⟩ n) : EReal) = v (ix4 0 0 (lane 3 p) n) := by
  refine congrArg v (funext fun a => Fin.ext ?_)
  match a with
  | ⟨0, _⟩ => rfl
  | ⟨1, _⟩ => rfl
  | ⟨2, _⟩ => show 128 + 1 * (64 + p.val) = 3 * 64 + p.val; omega
  | ⟨3, _⟩ => show 0 + 1 * n.val = n.val; omega

theorem cols4 (v : Vec Ideal S256x512 .f32) (l : Fin 256) (p : Fin 64) :
    (View.ld v (Rect.unit ![0, 256] ![256, 128] inb_S256x512_S256x128_0_256) (ix2 (n0 := 256) (n1 := 128) l ⟨p.val, by omega⟩) : EReal) = v (ix2 l (lane 4 p)) := by
  refine congrArg v (funext fun a => Fin.ext ?_)
  match a with
  | ⟨0, _⟩ => show 0 + 1 * l.val = l.val; omega
  | ⟨1, _⟩ => show 256 + 1 * (p.val) = 4 * 64 + p.val; omega

theorem rows4 (v : Vec Ideal S1x1x512x128 .f32) (p : Fin 64) (n : Fin 128) :
    (View.ld v (Rect.unit ![0, 0, 256, 0] ![1, 1, 128, 128] inb_S1x1x512x128_S1x1x128x128_0_0_256_0) (ix4 (n0 := 1) (n1 := 1) (n2 := 128) (n3 := 128) 0 0 ⟨p.val, by omega⟩ n) : EReal) = v (ix4 0 0 (lane 4 p) n) := by
  refine congrArg v (funext fun a => Fin.ext ?_)
  match a with
  | ⟨0, _⟩ => rfl
  | ⟨1, _⟩ => rfl
  | ⟨2, _⟩ => show 256 + 1 * (p.val) = 4 * 64 + p.val; omega
  | ⟨3, _⟩ => show 0 + 1 * n.val = n.val; omega

theorem cols5 (v : Vec Ideal S256x512 .f32) (l : Fin 256) (p : Fin 64) :
    (View.ld v (Rect.unit ![0, 256] ![256, 128] inb_S256x512_S256x128_0_256) (ix2 (n0 := 256) (n1 := 128) l ⟨64 + p.val, by omega⟩) : EReal) = v (ix2 l (lane 5 p)) := by
  refine congrArg v (funext fun a => Fin.ext ?_)
  match a with
  | ⟨0, _⟩ => show 0 + 1 * l.val = l.val; omega
  | ⟨1, _⟩ => show 256 + 1 * (64 + p.val) = 5 * 64 + p.val; omega

theorem rows5 (v : Vec Ideal S1x1x512x128 .f32) (p : Fin 64) (n : Fin 128) :
    (View.ld v (Rect.unit ![0, 0, 256, 0] ![1, 1, 128, 128] inb_S1x1x512x128_S1x1x128x128_0_0_256_0) (ix4 (n0 := 1) (n1 := 1) (n2 := 128) (n3 := 128) 0 0 ⟨64 + p.val, by omega⟩ n) : EReal) = v (ix4 0 0 (lane 5 p) n) := by
  refine congrArg v (funext fun a => Fin.ext ?_)
  match a with
  | ⟨0, _⟩ => rfl
  | ⟨1, _⟩ => rfl
  | ⟨2, _⟩ => show 256 + 1 * (64 + p.val) = 5 * 64 + p.val; omega
  | ⟨3, _⟩ => show 0 + 1 * n.val = n.val; omega

theorem cols6 (v : Vec Ideal S256x512 .f32) (l : Fin 256) (p : Fin 64) :
    (View.ld v (Rect.unit ![0, 384] ![256, 128] inb_S256x512_S256x128_0_384) (ix2 (n0 := 256) (n1 := 128) l ⟨p.val, by omega⟩) : EReal) = v (ix2 l (lane 6 p)) := by
  refine congrArg v (funext fun a => Fin.ext ?_)
  match a with
  | ⟨0, _⟩ => show 0 + 1 * l.val = l.val; omega
  | ⟨1, _⟩ => show 384 + 1 * (p.val) = 6 * 64 + p.val; omega

theorem rows6 (v : Vec Ideal S1x1x512x128 .f32) (p : Fin 64) (n : Fin 128) :
    (View.ld v (Rect.unit ![0, 0, 384, 0] ![1, 1, 128, 128] inb_S1x1x512x128_S1x1x128x128_0_0_384_0) (ix4 (n0 := 1) (n1 := 1) (n2 := 128) (n3 := 128) 0 0 ⟨p.val, by omega⟩ n) : EReal) = v (ix4 0 0 (lane 6 p) n) := by
  refine congrArg v (funext fun a => Fin.ext ?_)
  match a with
  | ⟨0, _⟩ => rfl
  | ⟨1, _⟩ => rfl
  | ⟨2, _⟩ => show 384 + 1 * (p.val) = 6 * 64 + p.val; omega
  | ⟨3, _⟩ => show 0 + 1 * n.val = n.val; omega

theorem cols7 (v : Vec Ideal S256x512 .f32) (l : Fin 256) (p : Fin 64) :
    (View.ld v (Rect.unit ![0, 384] ![256, 128] inb_S256x512_S256x128_0_384) (ix2 (n0 := 256) (n1 := 128) l ⟨64 + p.val, by omega⟩) : EReal) = v (ix2 l (lane 7 p)) := by
  refine congrArg v (funext fun a => Fin.ext ?_)
  match a with
  | ⟨0, _⟩ => show 0 + 1 * l.val = l.val; omega
  | ⟨1, _⟩ => show 384 + 1 * (64 + p.val) = 7 * 64 + p.val; omega

theorem rows7 (v : Vec Ideal S1x1x512x128 .f32) (p : Fin 64) (n : Fin 128) :
    (View.ld v (Rect.unit ![0, 0, 384, 0] ![1, 1, 128, 128] inb_S1x1x512x128_S1x1x128x128_0_0_384_0) (ix4 (n0 := 1) (n1 := 1) (n2 := 128) (n3 := 128) 0 0 ⟨64 + p.val, by omega⟩ n) : EReal) = v (ix4 0 0 (lane 7 p) n) := by
  refine congrArg v (funext fun a => Fin.ext ?_)
  match a with
  | ⟨0, _⟩ => rfl
  | ⟨1, _⟩ => rfl
  | ⟨2, _⟩ => show 384 + 1 * (64 + p.val) = 7 * 64 + p.val; omega
  | ⟨3, _⟩ => show 0 + 1 * n.val = n.val; omega

theorem input0_lo (d : Vec Ideal S1x256x128 .f32) (x : Vec Ideal S256x128 .f32) (l : Fin 256) (p : Fin 64) :
    (k0_pay47 (F := Ideal) (k0_pay11 d) (iota .tc S256x128 32 [1] iota_S256x128_d1_w32) k0_pay26 x 0#32 (ix2 l ⟨p.val, by omega⟩) : EReal) = (x (ix2 l ⟨p.val, by omega⟩) * d (ix3 0 l 0) : EReal) := by
  rw [input0, if_pos p.isLt]

theorem input0_hi (d : Vec Ideal S1x256x128 .f32) (x : Vec Ideal S256x128 .f32) (l : Fin 256) (p : Fin 64) :
    (k0_pay47 (F := Ideal) (k0_pay11 d) (iota .tc S256x128 32 [1] iota_S256x128_d1_w32) k0_pay26 x 0#32 (ix2 l ⟨64 + p.val, by omega⟩) : EReal) = (x (ix2 l ⟨64 + p.val, by omega⟩) * d (ix3 0 l 1) : EReal) := by
  rw [input0, if_neg (by simp)]

theorem input1_lo (d : Vec Ideal S1x256x128 .f32) (x : Vec Ideal S256x128 .f32) (l : Fin 256) (p : Fin 64) :
    (k0_pay110 (F := Ideal) (k0_pay11 d) (iota .tc S256x128 32 [1] iota_S256x128_d1_w32) k0_pay26 x (ix2 l ⟨p.val, by omega⟩) : EReal) = (x (ix2 l ⟨p.val, by omega⟩) * d (ix3 0 l 2) : EReal) := by
  rw [input1, if_pos p.isLt]

theorem input1_hi (d : Vec Ideal S1x256x128 .f32) (x : Vec Ideal S256x128 .f32) (l : Fin 256) (p : Fin 64) :
    (k0_pay110 (F := Ideal) (k0_pay11 d) (iota .tc S256x128 32 [1] iota_S256x128_d1_w32) k0_pay26 x (ix2 l ⟨64 + p.val, by omega⟩) : EReal) = (x (ix2 l ⟨64 + p.val, by omega⟩) * d (ix3 0 l 3) : EReal) := by
  rw [input1, if_neg (by simp)]

theorem input2_lo (d : Vec Ideal S1x256x128 .f32) (x : Vec Ideal S256x128 .f32) (l : Fin 256) (p : Fin 64) :
    (k0_pay171 (F := Ideal) k0_pay26 x (k0_pay167 (k0_pay11 d) (iota .tc S256x128 32 [1] iota_S256x128_d1_w32)) (k0_pay168 (k0_pay11 d) (iota .tc S256x128 32 [1] iota_S256x128_d1_w32)) (ix2 l ⟨p.val, by omega⟩) : EReal) = (x (ix2 l ⟨p.val, by omega⟩) * d (ix3 0 l 4) : EReal) := by
  rw [input2, if_pos p.isLt]

theorem input2_hi (d : Vec Ideal S1x256x128 .f32) (x : Vec Ideal S256x128 .f32) (l : Fin 256) (p : Fin 64) :
    (k0_pay171 (F := Ideal) k0_pay26 x (k0_pay167 (k0_pay11 d) (iota .tc S256x128 32 [1] iota_S256x128_d1_w32)) (k0_pay168 (k0_pay11 d) (iota .tc S256x128 32 [1] iota_S256x128_d1_w32)) (ix2 l ⟨64 + p.val, by omega⟩) : EReal) = (x (ix2 l ⟨64 + p.val, by omega⟩) * d (ix3 0 l 5) : EReal) := by
  rw [input2, if_neg (by simp)]

theorem input3_lo (d : Vec Ideal S1x256x128 .f32) (x : Vec Ideal S256x128 .f32) (l : Fin 256) (p : Fin 64) :
    (k0_pay228 (F := Ideal) (k0_pay11 d) (iota .tc S256x128 32 [1] iota_S256x128_d1_w32) k0_pay26 x 6#32 (ix2 l ⟨p.val, by omega⟩) : EReal) = (x (ix2 l ⟨p.val, by omega⟩) * d (ix3 0 l 6) : EReal) := by
  rw [input3, if_pos p.isLt]

theorem input3_hi (d : Vec Ideal S1x256x128 .f32) (x : Vec Ideal S256x128 .f32) (l : Fin 256) (p : Fin 64) :
    (k0_pay228 (F := Ideal) (k0_pay11 d) (iota .tc S256x128 32 [1] iota_S256x128_d1_w32) k0_pay26 x 6#32 (ix2 l ⟨64 + p.val, by omega⟩) : EReal) = (x (ix2 l ⟨64 + p.val, by omega⟩) * d (ix3 0 l 7) : EReal) := by
  rw [input3, if_neg (by simp)]

/-- What a point leaves in its block of the gradient of `C`. -/
def left (x0 : Vec Ideal S256x512 .f32) (x1 : Vec Ideal S256x128 .f32) (x3 : Vec Ideal S1x256x128 .f32) (x4 : Vec Ideal S1x8x256 .f32) (x5 : Vec Ideal S1x1x128 .f32) (x6 : Vec Ideal S1x8x1 .f32) (x8 : Vec Ideal S1x1x512x128 .f32) (x9 : Vec Ideal S256x512 .f32) : Vec Ideal S256x128 .f32 :=
  k0_pay283 (F := Ideal) (k0_pay7 x1) (k0_pay238 (k0_pay26) (k0_pay180 (k0_pay26) (k0_pay121 (k0_pay26) (k0_pay57 (k0_pay26) (k0_pay32) (View.ld x9 (Rect.unit ![0, 0] ![256, 128] inb_S256x512_S256x128_0_0)) (k0_pay39 (k0_pay23 (k0_pay17) (k0_pay20 x3 x5) (k0_pay21 x3 x5) (k0_pay22 x3 x5) (constant S256x128 .f32 0x00000000#32)) (iota .tc S256x128 32 [1] iota_S256x128_d1_w32)) (k0_pay40 (k0_pay23 (k0_pay17) (k0_pay20 x3 x5) (k0_pay21 x3 x5) (k0_pay22 x3 x5) (constant S256x128 .f32 0x00000000#32)) (iota .tc S256x128 32 [1] iota_S256x128_d1_w32)) (k0_pay49 (View.ld x8 (Rect.unit ![0, 0, 0, 0] ![1, 1, 128, 128] inb_S1x1x512x128_S1x1x128x128_0_0_0_0)))) (View.ld x9 (Rect.unit ![0, 128] ![256, 128] inb_S256x512_S256x128_0_128)) (k0_pay101 (k0_pay23 (k0_pay17) (k0_pay20 x3 x5) (k0_pay21 x3 x5) (k0_pay22 x3 x5) (constant S256x128 .f32 0x00000000#32)) (iota .tc S256x128 32 [1] iota_S256x128_d1_w32)) (k0_pay102 (k0_pay23 (k0_pay17) (k0_pay20 x3 x5) (k0_pay21 x3 x5) (k0_pay22 x3 x5) (constant S256x128 .f32 0x00000000#32)) (iota .tc S256x128 32 [1] iota_S256x128_d1_w32)) (k0_pay112 (View.ld x8 (Rect.unit ![0, 0, 128, 0] ![1, 1, 128, 128] inb_S1x1x512x128_S1x1x128x128_0_0_128_0)))) (View.ld x9 (Rect.unit ![0, 256] ![256, 128] inb_S256x512_S256x128_0_256)) (k0_pay160 (k0_pay23 (k0_pay17) (k0_pay20 x3 x5) (k0_pay21 x3 x5) (k0_pay22 x3 x5) (constant S256x128 .f32 0x00000000#32)) (iota .tc S256x128 32 [1] iota_S256x128_d1_w32)) (k0_pay162 (k0_pay161 (k0_pay23 (k0_pay17) (k0_pay20 x3 x5) (k0_pay21 x3 x5) (k0_pay22 x3 x5) (constant S256x128 .f32 0x00000000#32)) (iota .tc S256x128 32 [1] iota_S256x128_d1_w32))) (View.ld x8 (Rect.unit ![0, 0, 256, 0] ![1, 1, 128, 128] inb_S1x1x512x128_S1x1x128x128_0_0_256_0))) (View.ld x9 (Rect.unit ![0, 384] ![256, 128] inb_S256x512_S256x128_0_384)) (k0_pay220 (k0_pay23 (k0_pay17) (k0_pay20 x3 x5) (k0_pay21 x3 x5) (k0_pay22 x3 x5) (constant S256x128 .f32 0x00000000#32)) (iota .tc S256x128 32 [1] iota_S256x128_d1_w32)) (k0_pay221 (k0_pay23 (k0_pay17) (k0_pay20 x3 x5) (k0_pay21 x3 x5) (k0_pay22 x3 x5) (constant S256x128 .f32 0x00000000#32)) (iota .tc S256x128 32 [1] iota_S256x128_d1_w32)) (k0_pay230 (View.ld x8 (Rect.unit ![0, 0, 384, 0] ![1, 1, 128, 128] inb_S1x1x512x128_S1x1x128x128_0_0_384_0)))) (k0_pay263 (k0_pay9) (k0_pay26) (View.ld x9 (Rect.unit ![0, 384] ![256, 128] inb_S256x512_S256x128_0_384)) (k0_pay221 (k0_pay23 (k0_pay17) (k0_pay20 x3 x5) (k0_pay21 x3 x5) (k0_pay22 x3 x5) (constant S256x128 .f32 0x00000000#32)) (iota .tc S256x128 32 [1] iota_S256x128_d1_w32)) (k0_pay223 (k0_pay24 (k0_pay9) (k0_pay12 x4) (k0_pay14 x6)) (iota .tc S8x256 32 [0] iota_S8x256_d0_w32)) (k0_pay228 (k0_pay11 x3) (iota .tc S256x128 32 [1] iota_S256x128_d1_w32) (k0_pay26) (View.ld x0 (Rect.unit ![0, 384] ![256, 128] inb_S256x512_S256x128_0_384)) 6#32) (k0_pay251 (k0_pay9) (k0_pay26) (k0_pay206 (k0_pay9) (k0_pay26) (View.ld x9 (Rect.unit ![0, 256] ![256, 128] inb_S256x512_S256x128_0_256)) (k0_pay162 (k0_pay161 (k0_pay23 (k0_pay17) (k0_pay20 x3 x5) (k0_pay21 x3 x5) (k0_pay22 x3 x5) (constant S256x128 .f32 0x00000000#32)) (iota .tc S256x128 32 [1] iota_S256x128_d1_w32))) (k0_pay164 (k0_pay24 (k0_pay9) (k0_pay12 x4) (k0_pay14 x6)) (iota .tc S8x256 32 [0] iota_S8x256_d0_w32)) (k0_pay171 (k0_pay26) (View.ld x0 (Rect.unit ![0, 256] ![256, 128] inb_S256x512_S256x128_0_256)) (k0_pay167 (k0_pay11 x3) (iota .tc S256x128 32 [1] iota_S256x128_d1_w32)) (k0_pay168 (k0_pay11 x3) (iota .tc S256x128 32 [1] iota_S256x128_d1_w32))) (k0_pay192 (k0_pay9) (k0_pay26) (k0_pay147 (k0_pay9) (k0_pay26) (View.ld x9 (Rect.unit ![0, 128] ![256, 128] inb_S256x512_S256x128_0_128)) (k0_pay102 (k0_pay23 (k0_pay17) (k0_pay20 x3 x5) (k0_pay21 x3 x5) (k0_pay22 x3 x5) (constant S256x128 .f32 0x00000000#32)) (iota .tc S256x128 32 [1] iota_S256x128_d1_w32)) (k0_pay105 (k0_pay104 (k0_pay24 (k0_pay9) (k0_pay12 x4) (k0_pay14 x6)) (iota .tc S8x256 32 [0] iota_S8x256_d0_w32))) (k0_pay110 (k0_pay11 x3) (iota .tc S256x128 32 [1] iota_S256x128_d1_w32) (k0_pay26) (View.ld x0 (Rect.unit ![0, 128] ![256, 128] inb_S256x512_S256x128_0_128))) (k0_pay135 (k0_pay9) (k0_pay26) (k0_pay82 (k0_pay9) (k0_pay26) (View.ld x9 (Rect.unit ![0, 0] ![256, 128] inb_S256x512_S256x128_0_0)) (k0_pay40 (k0_pay23 (k0_pay17) (k0_pay20 x3 x5) (k0_pay21 x3 x5) (k0_pay22 x3 x5) (constant S256x128 .f32 0x00000000#32)) (iota .tc S256x128 32 [1] iota_S256x128_d1_w32)) (k0_pay42 (k0_pay24 (k0_pay9) (k0_pay12 x4) (k0_pay14 x6)) (iota .tc S8x256 32 [0] iota_S8x256_d0_w32)) (k0_pay47 (k0_pay11 x3) (iota .tc S256x128 32 [1] iota_S256x128_d1_w32) (k0_pay26) (View.ld x0 (Rect.unit ![0, 0] ![256, 128] inb_S256x512_S256x128_0_0)) 0#32) (k0_pay70 (k0_pay9) (k0_pay26) (k0_pay30) (View.ld x9 (Rect.unit ![0, 0] ![256, 128] inb_S256x512_S256x128_0_0)) (k0_pay47 (k0_pay11 x3) (iota .tc S256x128 32 [1] iota_S256x128_d1_w32) (k0_pay26) (View.ld x0 (Rect.unit ![0, 0] ![256, 128] inb_S256x512_S256x128_0_0)) 0#32) (k0_pay66 (k0_pay39 (k0_pay23 (k0_pay17) (k0_pay20 x3 x5) (k0_pay21 x3 x5) (k0_pay22 x3 x5) (constant S256x128 .f32 0x00000000#32)) (iota .tc S256x128 32 [1] iota_S256x128_d1_w32)) (k0_pay41 (k0_pay24 (k0_pay9) (k0_pay12 x4) (k0_pay14 x6)) (iota .tc S8x256 32 [0] iota_S8x256_d0_w32))))) (View.ld x9 (Rect.unit ![0, 128] ![256, 128] inb_S256x512_S256x128_0_128)) (k0_pay101 (k0_pay23 (k0_pay17) (k0_pay20 x3 x5) (k0_pay21 x3 x5) (k0_pay22 x3 x5) (constant S256x128 .f32 0x00000000#32)) (iota .tc S256x128 32 [1] iota_S256x128_d1_w32)) (k0_pay103 (k0_pay24 (k0_pay9) (k0_pay12 x4) (k0_pay14 x6)) (iota .tc S8x256 32 [0] iota_S8x256_d0_w32)) (k0_pay110 (k0_pay11 x3) (iota .tc S256x128 32 [1] iota_S256x128_d1_w32) (k0_pay26) (View.ld x0 (Rect.unit ![0, 128] ![256, 128] inb_S256x512_S256x128_0_128))))) (View.ld x9 (Rect.unit ![0, 256] ![256, 128] inb_S256x512_S256x128_0_256)) (k0_pay160 (k0_pay23 (k0_pay17) (k0_pay20 x3 x5) (k0_pay21 x3 x5) (k0_pay22 x3 x5) (constant S256x128 .f32 0x00000000#32)) (iota .tc S256x128 32 [1] iota_S256x128_d1_w32)) (k0_pay163 (k0_pay24 (k0_pay9) (k0_pay12 x4) (k0_pay14 x6)) (iota .tc S8x256 32 [0] iota_S8x256_d0_w32)) (k0_pay171 (k0_pay26) (View.ld x0 (Rect.unit ![0, 256] ![256, 128] inb_S256x512_S256x128_0_256)) (k0_pay167 (k0_pay11 x3) (iota .tc S256x128 32 [1] iota_S256x128_d1_w32)) (k0_pay168 (k0_pay11 x3) (iota .tc S256x128 32 [1] iota_S256x128_d1_w32))))) (View.ld x9 (Rect.unit ![0, 384] ![256, 128] inb_S256x512_S256x128_0_384)) (k0_pay228 (k0_pay11 x3) (iota .tc S256x128 32 [1] iota_S256x128_d1_w32) (k0_pay26) (View.ld x0 (Rect.unit ![0, 384] ![256, 128] inb_S256x512_S256x128_0_384)) 6#32) (k0_pay247 (k0_pay220 (k0_pay23 (k0_pay17) (k0_pay20 x3 x5) (k0_pay21 x3 x5) (k0_pay22 x3 x5) (constant S256x128 .f32 0x00000000#32)) (iota .tc S256x128 32 [1] iota_S256x128_d1_w32)) (k0_pay222 (k0_pay24 (k0_pay9) (k0_pay12 x4) (k0_pay14 x6)) (iota .tc S8x256 32 [0] iota_S8x256_d0_w32)))))

/-- … is the gradient of `C` on the block. -/
theorem left_eq (x0 : Vec Ideal S256x512 .f32) (x1 : Vec Ideal S256x128 .f32) (x3 : Vec Ideal S1x256x128 .f32) (x4 : Vec Ideal S1x8x256 .f32) (x5 : Vec Ideal S1x1x128 .f32) (x6 : Vec Ideal S1x8x1 .f32) (x8 : Vec Ideal S1x1x512x128 .f32) (x9 : Vec Ideal S256x512 .f32)
    (a : Fin 8 → Fin 256 → EReal) (ha : ∀ r x, ∃ q : ℝ, a r x = q) (d : Fin 256 → Fin 8 → EReal)
    (h3 : ∀ (r : Fin 8) x, (x3 (ix3 0 x ⟨r.val, by omega⟩) : EReal) = d x r)
    (h35 : ∀ (x : Fin 256) (h : Fin 128), ∃ q : ℝ, (x3 (ix3 0 x h) * x5 (ix3 0 0 h) : EReal) = q)
    (hc : ∀ (r : Fin 8) x, (x3 (ix3 0 x ⟨r.val, by omega⟩) * x5 (ix3 0 0 ⟨r.val, by omega⟩) : EReal) = a r x)
    (hr : ∀ (r : Fin 8) x, (x4 (ix3 0 r x) * x6 (ix3 0 r 0) : EReal) = a r x) (l : Fin 256) (n : Fin 128) :
    (left x0 x1 x3 x4 x5 x6 x8 x9 (ix2 l n) : EReal)
      = grad (fun r => upTo (a r)) (fun l r p => x9 (ix2 l (lane r p))) (fun s r p => x0 (ix2 s (lane r p)) * d s r) (fun r p n => x8 (ix4 0 0 (lane r p) n)) (fun s n => x1 (ix2 s n)) l n := by
  have ec : ∀ (l : Fin 256) (r : Fin 8), (k0_pay23 (F := Ideal) (k0_pay17) (k0_pay20 x3 x5) (k0_pay21 x3 x5) (k0_pay22 x3 x5) (constant S256x128 .f32 0x00000000#32) (ix2 l (⟨r.val, by omega⟩ : Fin 128)) : EReal) = upTo (a r) l := fun l r => by
    rw [acol x3 x5 h35]
    unfold upTo
    simp only [hc]
  have er : ∀ (l : Fin 256) (r : Fin 8), (k0_pay24 (F := Ideal) (k0_pay9) (k0_pay12 x4) (k0_pay14 x6) (ix2 r l) : EReal) = upTo (a r) l := fun l r => by
    rw [arow x4 x6 fun h x => ⟨_, (hr h x).trans (ha h x).choose_spec⟩]
    unfold upTo
    simp only [hr]
  have ec0 : ∀ l : Fin 256, (k0_pay23 (F := Ideal) (k0_pay17) (k0_pay20 x3 x5) (k0_pay21 x3 x5) (k0_pay22 x3 x5) (constant S256x128 .f32 0x00000000#32) (ix2 l (0 : Fin 128)) : EReal) = upTo (a 0) l := fun l => ec l 0
  have er0 := fun l => er l 0
  have d0 : ∀ x, (x3 (ix3 0 x (0 : Fin 128)) : EReal) = d x 0 := h3 0
  have ec1 : ∀ l : Fin 256, (k0_pay23 (F := Ideal) (k0_pay17) (k0_pay20 x3 x5) (k0_pay21 x3 x5) (k0_pay22 x3 x5) (constant S256x128 .f32 0x00000000#32) (ix2 l (1 : Fin 128)) : EReal) = upTo (a 1) l := fun l => ec l 1
  have er1 := fun l => er l 1
  have d1 : ∀ x, (x3 (ix3 0 x (1 : Fin 128)) : EReal) = d x 1 := h3 1
  have ec2 : ∀ l : Fin 256, (k0_pay23 (F := Ideal) (k0_pay17) (k0_pay20 x3 x5) (k0_pay21 x3 x5) (k0_pay22 x3 x5) (constant S256x128 .f32 0x00000000#32) (ix2 l (2 : Fin 128)) : EReal) = upTo (a 2) l := fun l => ec l 2
  have er2 := fun l => er l 2
  have d2 : ∀ x, (x3 (ix3 0 x (2 : Fin 128)) : EReal) = d x 2 := h3 2
  have ec3 : ∀ l : Fin 256, (k0_pay23 (F := Ideal) (k0_pay17) (k0_pay20 x3 x5) (k0_pay21 x3 x5) (k0_pay22 x3 x5) (constant S256x128 .f32 0x00000000#32) (ix2 l (3 : Fin 128)) : EReal) = upTo (a 3) l := fun l => ec l 3
  have er3 := fun l => er l 3
  have d3 : ∀ x, (x3 (ix3 0 x (3 : Fin 128)) : EReal) = d x 3 := h3 3
  have ec4 : ∀ l : Fin 256, (k0_pay23 (F := Ideal) (k0_pay17) (k0_pay20 x3 x5) (k0_pay21 x3 x5) (k0_pay22 x3 x5) (constant S256x128 .f32 0x00000000#32) (ix2 l (4 : Fin 128)) : EReal) = upTo (a 4) l := fun l => ec l 4
  have er4 := fun l => er l 4
  have d4 : ∀ x, (x3 (ix3 0 x (4 : Fin 128)) : EReal) = d x 4 := h3 4
  have ec5 : ∀ l : Fin 256, (k0_pay23 (F := Ideal) (k0_pay17) (k0_pay20 x3 x5) (k0_pay21 x3 x5) (k0_pay22 x3 x5) (constant S256x128 .f32 0x00000000#32) (ix2 l (5 : Fin 128)) : EReal) = upTo (a 5) l := fun l => ec l 5
  have er5 := fun l => er l 5
  have d5 : ∀ x, (x3 (ix3 0 x (5 : Fin 128)) : EReal) = d x 5 := h3 5
  have ec6 : ∀ l : Fin 256, (k0_pay23 (F := Ideal) (k0_pay17) (k0_pay20 x3 x5) (k0_pay21 x3 x5) (k0_pay22 x3 x5) (constant S256x128 .f32 0x00000000#32) (ix2 l (6 : Fin 128)) : EReal) = upTo (a 6) l := fun l => ec l 6
  have er6 := fun l => er l 6
  have d6 : ∀ x, (x3 (ix3 0 x (6 : Fin 128)) : EReal) = d x 6 := h3 6
  have ec7 : ∀ l : Fin 256, (k0_pay23 (F := Ideal) (k0_pay17) (k0_pay20 x3 x5) (k0_pay21 x3 x5) (k0_pay22 x3 x5) (constant S256x128 .f32 0x00000000#32) (ix2 l (7 : Fin 128)) : EReal) = upTo (a 7) l := fun l => ec l 7
  have er7 := fun l => er l 7
  have d7 : ∀ x, (x3 (ix3 0 x (7 : Fin 128)) : EReal) = d x 7 := h3 7
  unfold left grad
  rw [out, inter3, inter2, inter1, inter0, zero32]
  simp (config := { index := false }) only [Fin.sum_univ_eight, intra0, intra1, intra2, intra3, intra4, intra5, intra6, intra7, col0, row0, col1, row1, col2, row2, col3, row3, col4, row4, col5, row5, col6, row6, col7, row7, zero30, input0_lo, input0_hi, input1_lo, input1_hi, input2_lo, input2_hi, input3_lo, input3_hi]
  simp (config := { index := false }) only [ec0, er0, d0, ec1, er1, d1, ec2, er2, d2, ec3, er3, d3, ec4, er4, d4, ec5, er5, d5, ec6, er6, d6, ec7, er7, d7, zero_add, ← add_assoc, mul_comm (Ideal.exp _)]
  exact congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (Finset.sum_congr rfl fun p _ => congrArg₂ (fun u v : EReal => u * v) (congrArg (fun u : EReal => u * Ideal.exp (upTo (a 0) l)) (cols0 x9 l p)) (rows0 x8 p n)) (Finset.sum_congr rfl fun p _ => congrArg₂ (fun u v : EReal => u * v) (congrArg (fun u : EReal => u * Ideal.exp (upTo (a 1) l)) (cols1 x9 l p)) (rows1 x8 p n))) (Finset.sum_congr rfl fun p _ => congrArg₂ (fun u v : EReal => u * v) (congrArg (fun u : EReal => u * Ideal.exp (upTo (a 2) l)) (cols2 x9 l p)) (rows2 x8 p n))) (Finset.sum_congr rfl fun p _ => congrArg₂ (fun u v : EReal => u * v) (congrArg (fun u : EReal => u * Ideal.exp (upTo (a 3) l)) (cols3 x9 l p)) (rows3 x8 p n))) (Finset.sum_congr rfl fun p _ => congrArg₂ (fun u v : EReal => u * v) (congrArg (fun u : EReal => u * Ideal.exp (upTo (a 4) l)) (cols4 x9 l p)) (rows4 x8 p n))) (Finset.sum_congr rfl fun p _ => congrArg₂ (fun u v : EReal => u * v) (congrArg (fun u : EReal => u * Ideal.exp (upTo (a 5) l)) (cols5 x9 l p)) (rows5 x8 p n))) (Finset.sum_congr rfl fun p _ => congrArg₂ (fun u v : EReal => u * v) (congrArg (fun u : EReal => u * Ideal.exp (upTo (a 6) l)) (cols6 x9 l p)) (rows6 x8 p n))) (Finset.sum_congr rfl fun p _ => congrArg₂ (fun u v : EReal => u * v) (congrArg (fun u : EReal => u * Ideal.exp (upTo (a 7) l)) (cols7 x9 l p)) (rows7 x8 p n))) (Finset.sum_congr rfl fun x _ => congrArg (fun u : EReal => u * x1 (ix2 x n)) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg (fun u : EReal => u * Ideal.exp (if x ≤ l then upTo (a 0) l - upTo (a 0) x else ⊥)) (Finset.sum_congr rfl fun p _ => congrArg₂ (fun u v : EReal => u * v) (cols0 x9 l p) (congrArg (fun u : EReal => u * d x 0) (cols0 x0 x p)))) (congrArg (fun u : EReal => u * Ideal.exp (if x ≤ l then upTo (a 1) l - upTo (a 1) x else ⊥)) (Finset.sum_congr rfl fun p _ => congrArg₂ (fun u v : EReal => u * v) (cols1 x9 l p) (congrArg (fun u : EReal => u * d x 1) (cols1 x0 x p))))) (congrArg (fun u : EReal => u * Ideal.exp (if x ≤ l then upTo (a 2) l - upTo (a 2) x else ⊥)) (Finset.sum_congr rfl fun p _ => congrArg₂ (fun u v : EReal => u * v) (cols2 x9 l p) (congrArg (fun u : EReal => u * d x 2) (cols2 x0 x p))))) (congrArg (fun u : EReal => u * Ideal.exp (if x ≤ l then upTo (a 3) l - upTo (a 3) x else ⊥)) (Finset.sum_congr rfl fun p _ => congrArg₂ (fun u v : EReal => u * v) (cols3 x9 l p) (congrArg (fun u : EReal => u * d x 3) (cols3 x0 x p))))) (congrArg (fun u : EReal => u * Ideal.exp (if x ≤ l then upTo (a 4) l - upTo (a 4) x else ⊥)) (Finset.sum_congr rfl fun p _ => congrArg₂ (fun u v : EReal => u * v) (cols4 x9 l p) (congrArg (fun u : EReal => u * d x 4) (cols4 x0 x p))))) (congrArg (fun u : EReal => u * Ideal.exp (if x ≤ l then upTo (a 5) l - upTo (a 5) x else ⊥)) (Finset.sum_congr rfl fun p _ => congrArg₂ (fun u v : EReal => u * v) (cols5 x9 l p) (congrArg (fun u : EReal => u * d x 5) (cols5 x0 x p))))) (congrArg (fun u : EReal => u * Ideal.exp (if x ≤ l then upTo (a 6) l - upTo (a 6) x else ⊥)) (Finset.sum_congr rfl fun p _ => congrArg₂ (fun u v : EReal => u * v) (cols6 x9 l p) (congrArg (fun u : EReal => u * d x 6) (cols6 x0 x p))))) (congrArg (fun u : EReal => u * Ideal.exp (if x ≤ l then upTo (a 7) l - upTo (a 7) x else ⊥)) (Finset.sum_congr rfl fun p _ => congrArg₂ (fun u v : EReal => u * v) (cols7 x9 l p) (congrArg (fun u : EReal => u * d x 7) (cols7 x0 x p))))))

end Cert.KernelIdeal.Scan
end
-- ==== Proof.Scan.lean ====
module
public import proofs.«01_k».proof.Proof.ScanBlock
public import proofs.«01_k».proof.Pre_finite_decay
public import Idealize.ShloMosaic.Lib.ReduceAll
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.KernelIdeal.Scan
open Cert.KernelIdeal Cert.KernelIdeal.Gen
open Cert.ReferenceIdeal.Scan (upTo grad gradOf)

/-! The backward scan over the whole grid: a point holds one group of heads and one chunk, the chunks taken from the last to the first. -/

variable (m : (ℓ : Loc nD τ sig) → Buf (Elt Ideal) ℓ)

theorem zero_int : FloatOps.sitofp (F := Ideal) FTy.f32 (0#32) = (0 : EReal) := by
  show (((0#32 : BitVec 32).toInt : ℝ) : EReal) = 0
  simp

theorem idx : ∀ t : Fin cfg0.N, win0_0.index t = ![8 - t.val % 9, t.val / 9] ∧ win0_1.index t = ![8 - t.val % 9, 32 + t.val / 9] ∧ win0_3.index t = ![t.val / 9, 8 - t.val % 9, 0] ∧ win0_4.index t = ![t.val / 9, 0, 8 - t.val % 9] ∧ win0_5.index t = ![t.val / 9, 0, 0] ∧ win0_6.index t = ![t.val / 9, 0, 0] ∧ win0_8.index t = ![8 - t.val % 9, t.val / 9, 0, 0] ∧ win0_9.index t = ![8 - t.val % 9, t.val / 9] ∧ win0_12.index t = ![8 - t.val % 9, t.val / 9] :=
  (by decide +kernel : ∀ t : Fin grid0.N, _)

theorem outs (c : Dev nD) (t : Fin cfg0.N) :
    (outsAt0 m c t.val t.isLt).2.2.1 = left (iblk m c 0 t) (iblk m c 1 t) (iblk m c 3 t) (iblk m c 4 t) (iblk m c 5 t) (iblk m c 6 t) (iblk m c 8 t) (iblk m c 9 t) := by
  by_cases h : t.val % 9 = 0
  · rw [outsAt0_A m c t h]
    frame_out
    rfl
  · rw [outsAt0_B m c t h]
    frame_out
    rfl

theorem v_dtcol (c : Dev nD) (g : Fin 8) (R : Fin 2304) (h : Fin 128) :
    (V m c main_v2 : FVec Ideal S8x2304x128 .f32) (ix3 g R h) = if hh : h.val < 8 then m ((c : Thread nD τ).loc main_arg1) (ix2 R ⟨g.val * 8 + h.val, by omega⟩) else (0 : EReal) := by
  unfold V
  simp only [hostOps0, List.flatten_cons, List.flatten_nil, List.append_nil, List.cons_append, List.nil_append]
  entry_read
  simp only [StableHlo.TRef.toBuf, StableHlo.TRef.ofBuf, cast_eq]
  pointwise
  split
  · rfl
  · exact zero_int

theorem v_dtrow (c : Dev nD) (g : Fin 8) (h : Fin 8) (R : Fin 2304) :
    (V m c main_v4 : FVec Ideal S8x8x2304 .f32) (ix3 g h R) = m ((c : Thread nD τ).loc main_arg1) (ix2 R ⟨g.val * 8 + h.val, by omega⟩) := by
  unfold V
  simp only [hostOps0, List.flatten_cons, List.flatten_nil, List.append_nil, List.cons_append, List.nil_append]
  entry_read
  simp only [StableHlo.TRef.toBuf, StableHlo.TRef.ofBuf, cast_eq]
  pointwise

theorem v_arow (c : Dev nD) (g : Fin 8) (h : Fin 128) :
    (V m c main_v7 : FVec Ideal S8x1x128 .f32) (ix3 g 0 h) = if hh : h.val < 8 then m ((c : Thread nD τ).loc main_arg2) (ix1 ⟨g.val * 8 + h.val, by omega⟩) else (0 : EReal) := by
  unfold V
  simp only [hostOps0, List.flatten_cons, List.flatten_nil, List.append_nil, List.cons_append, List.nil_append]
  entry_read
  simp only [StableHlo.TRef.toBuf, StableHlo.TRef.ofBuf, cast_eq]
  pointwise
  split
  · rfl
  · exact zero_int

theorem v_acol (c : Dev nD) (g : Fin 8) (h : Fin 8) :
    (V m c main_v9 : FVec Ideal S8x8x1 .f32) (ix3 g h 0) = m ((c : Thread nD τ).loc main_arg2) (ix1 ⟨g.val * 8 + h.val, by omega⟩) := by
  unfold V
  simp only [hostOps0, List.flatten_cons, List.flatten_nil, List.append_nil, List.cons_append, List.nil_append]
  entry_read
  simp only [StableHlo.TRef.toBuf, StableHlo.TRef.ofBuf, cast_eq]
  pointwise

section blocks
variable (c : Dev nD) (t : Fin cfg0.N) (k : Fin 9) (g : Fin 8) (hk : k.val = 8 - t.val % 9) (hg : g.val = t.val / 9)
include hk hg

theorem b_x (l : Fin 256) (q : Fin 512) :
    (iblk m c 0 t : FVec Ideal S256x512 .f32) (ix2 l q) = m ((c : Thread nD τ).loc main_arg0) (ix2 ⟨k.val * 256 + l.val, by omega⟩ ⟨g.val * 512 + q.val, by omega⟩) := by
  blk_ext [iblk, idx t]

theorem b_b (l : Fin 256) (n : Fin 128) :
    (iblk m c 1 t : FVec Ideal S256x128 .f32) (ix2 l n) = m ((c : Thread nD τ).loc main_arg0) (ix2 ⟨k.val * 256 + l.val, by omega⟩ ⟨4096 + (g.val * 128 + n.val), by omega⟩) := by
  blk_ext [iblk, idx t]

theorem b_dtcol (l : Fin 256) (h : Fin 128) :
    (iblk m c 3 t : FVec Ideal S1x256x128 .f32) (ix3 0 l h) = if hh : h.val < 8 then m ((c : Thread nD τ).loc main_arg1) (ix2 ⟨k.val * 256 + l.val, by omega⟩ ⟨g.val * 8 + h.val, by omega⟩) else (0 : EReal) := by
  refine Eq.trans ?_ (v_dtcol m c g ⟨k.val * 256 + l.val, by omega⟩ h)
  blk_ext [iblk, idx t]

theorem b_dtrow (h : Fin 8) (l : Fin 256) :
    (iblk m c 4 t : FVec Ideal S1x8x256 .f32) (ix3 0 h l) = m ((c : Thread nD τ).loc main_arg1) (ix2 ⟨k.val * 256 + l.val, by omega⟩ ⟨g.val * 8 + h.val, by omega⟩) := by
  refine Eq.trans ?_ (v_dtrow m c g h ⟨k.val * 256 + l.val, by omega⟩)
  blk_ext [iblk, idx t]

theorem b_arow (h : Fin 128) :
    (iblk m c 5 t : FVec Ideal S1x1x128 .f32) (ix3 0 0 h) = if hh : h.val < 8 then m ((c : Thread nD τ).loc main_arg2) (ix1 ⟨g.val * 8 + h.val, by omega⟩) else (0 : EReal) := by
  refine Eq.trans ?_ (v_arow m c g h)
  blk_ext [iblk, idx t]

theorem b_acol (h : Fin 8) :
    (iblk m c 6 t : FVec Ideal S1x8x1 .f32) (ix3 0 h 0) = m ((c : Thread nD τ).loc main_arg2) (ix1 ⟨g.val * 8 + h.val, by omega⟩) := by
  refine Eq.trans ?_ (v_acol m c g h)
  blk_ext [iblk, idx t]

theorem b_state (q : Fin 512) (n : Fin 128) :
    (iblk m c 8 t : FVec Ideal S1x1x512x128 .f32) (ix4 0 0 q n) = m ((c : Thread nD τ).loc main_arg4) (ix4 k g q n) := by
  blk_ext [iblk, idx t]

theorem b_dy (l : Fin 256) (q : Fin 512) :
    (iblk m c 9 t : FVec Ideal S256x512 .f32) (ix2 l q) = m ((c : Thread nD τ).loc main_arg5) (ix2 ⟨k.val * 256 + l.val, by omega⟩ ⟨g.val * 512 + q.val, by omega⟩) := by
  blk_ext [iblk, idx t]

end blocks

/-- Every product of a step and a rate is a real number. -/
def Finite (dt : S2304x64.Idx → EReal) (A : S64.Idx → EReal) : Prop := ∀ (i : Fin 2304) (j : Fin 64), ∃ q : ℝ, dt (ix2 i j) * A (ix1 j) = q

/-- What the step and the rate of head `r` of group `g` come to at row `x` of chunk `k`. -/
def rate (dt : S2304x64.Idx → EReal) (A : S64.Idx → EReal) (k : Fin 9) (g r : Fin 8) (x : Fin 256) : EReal :=
  dt (ix2 ⟨k.val * 256 + x.val, by omega⟩ ⟨g.val * 8 + r.val, by omega⟩) * A (ix1 ⟨g.val * 8 + r.val, by omega⟩)

theorem point (c : Dev nD) (hfin : Finite (m ((c : Thread nD τ).loc main_arg1)) (m ((c : Thread nD τ).loc main_arg2)))
    (t : Fin cfg0.N) (k : Fin 9) (g : Fin 8) (hk : k.val = 8 - t.val % 9) (hg : g.val = t.val / 9) (l : Fin 256) (n : Fin 128) :
    ((outsAt0 m c t.val t.isLt).2.2.1 (ix2 l n) : EReal)
      = gradOf (m ((c : Thread nD τ).loc main_arg0)) (m ((c : Thread nD τ).loc main_arg1)) (m ((c : Thread nD τ).loc main_arg2)) (m ((c : Thread nD τ).loc main_arg4)) (m ((c : Thread nD τ).loc main_arg5)) k g l n := by
  rw [outs]
  refine (left_eq _ _ _ _ _ _ _ _
    (rate (m ((c : Thread nD τ).loc main_arg1)) (m ((c : Thread nD τ).loc main_arg2)) k g)
    (fun r x => hfin _ _)
    (fun x r => m ((c : Thread nD τ).loc main_arg1) (ix2 ⟨k.val * 256 + x.val, by omega⟩ ⟨g.val * 8 + r.val, by omega⟩)) ?_ ?_ ?_ ?_ l n).trans ?_
  · intro r x
    exact (b_dtcol m c t k g hk hg x _).trans (dif_pos r.isLt)
  · intro x h
    rw [b_dtcol m c t k g hk hg x h, b_arow m c t k g hk hg h]
    by_cases hh : h.val < 8
    · rw [dif_pos hh, dif_pos hh]
      exact hfin _ _
    · rw [dif_neg hh, dif_neg hh]
      exact ⟨0, by simp⟩
  · intro r x
    rw [b_dtcol m c t k g hk hg x _, b_arow m c t k g hk hg _, dif_pos r.isLt, dif_pos r.isLt]
    rfl
  · intro r x
    rw [b_dtrow m c t k g hk hg r x, b_acol m c t k g hk hg r]
    rfl
  · unfold gradOf
    simp only [b_x m c t k g hk hg, b_b m c t k g hk hg, b_state m c t k g hk hg, b_dy m c t k g hk hg]
    unfold lane grad rate
    simp only [Nat.add_mul, Nat.mul_assoc, Nat.reduceMul, Nat.add_assoc]

theorem final (c : Dev nD) (hfin : Finite (m ((c : Thread nD τ).loc main_arg1)) (m ((c : Thread nD τ).loc main_arg2))) : (dats m 0 c).arrAt 12 (cfgs 0).N
    = Cert.ReferenceIdeal.Read.val_main_v66 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 12 _ (by decide +kernel) fun t hf y => ?_
  have ht : t.val < 72 := lt_of_lt_of_eq t.isLt N_0
  have e0 : (((View.whole main_v15_2).slice (win0_12.rect t)).emb y 0).val = (8 - t.val % 9) * 256 + (y 0).val := by blk_simp [idx t]
  have e1 : (((View.whole main_v15_2).slice (win0_12.rect t)).emb y 1).val = t.val / 9 * 128 + (y 1).val := by blk_simp [idx t]
  have y0 : (y 0).val < 256 := (y 0).isLt
  have y1 : (y 1).val < 128 := (y 1).isLt
  blk_simp
  rw [after0_12]
  have r := Cert.ReferenceIdeal.Scan.result (m ((c : Thread nD τ).loc main_arg0)) (m ((c : Thread nD τ).loc main_arg1)) (m ((c : Thread nD τ).loc main_arg2)) (m ((c : Thread nD τ).loc main_arg4)) (m ((c : Thread nD τ).loc main_arg5)) ⟨8 - t.val % 9, by omega⟩ ⟨t.val / 9, by omega⟩ (y 0) (y 1)
  have ey : y = ix2 (y 0) (y 1) := by
    funext a
    match a with
    | ⟨0, _⟩ => rfl
    | ⟨1, _⟩ => rfl
  have ez : ((View.whole main_v15_2).slice (win0_12.rect t)).emb y = ix2 (n0 := 2304) (n1 := 1024) ⟨(8 - t.val % 9) * 256 + (y 0).val, by omega⟩ ⟨t.val / 9 * 128 + (y 1).val, by omega⟩ := by
    funext a
    match a with
    | ⟨0, _⟩ => exact Fin.ext e0
    | ⟨1, _⟩ => exact Fin.ext e1
  have p := point m c hfin t ⟨8 - t.val % 9, by omega⟩ ⟨t.val / 9, by omega⟩ rfl rfl (y 0) (y 1)
  exact (congrArg _ ey).trans (p.trans (r.symm.trans (congrArg _ ez.symm)))

theorem finite_of_pre [Cert.Pre_finite_decay.Facts] (a0 a1 a2 a3 a4 a5) (h : Cert.Pre_finite_decay.fn (F := Ideal) a0 a1 a2 a3 a4 a5 = fun _ => 1#1) : Finite a1 a2 := by
  intro i j
  unfold Cert.Pre_finite_decay.fn at h
  have h0 := congrFun h ix0
  have hx := Host.reduce_andi_all _ _ _ _ _ h0 (ix2 i j)
  have e : (broadcastInDim Cert.Pre_finite_decay.S2304x64 ![0, 1] Cert.Pre_finite_decay.Facts.bcast_S1x64_S2304x64_0_1 (broadcastInDim Cert.Pre_finite_decay.S1x64 ![1] Cert.Pre_finite_decay.Facts.bcast_S64_S1x64_1 a2) (ix2 i j) : EReal) = a2 (ix1 j) := by
    pointwise
  have top : (constant (F := Ideal) Cert.Pre_finite_decay.S_ .f32 0x7F800000#32 ix0 : EReal) = ⊤ := by
    show Ideal.ofBits .f32 0x7F800000#32 = ⊤
    simp [Ideal.ofBits, Ideal.ieee]
  have hy : Ideal.cmp .olt (max (a1 (ix2 i j) * a2 (ix1 j)) (-(a1 (ix2 i j) * a2 (ix1 j)))) ⊤ = 1#1 := by
    rw [← e, ← top]
    exact hx
  have hz : max (a1 (ix2 i j) * a2 (ix1 j)) (-(a1 (ix2 i j) * a2 (ix1 j))) < (⊤ : EReal) := by
    by_contra hn
    simp [Ideal.cmp, hn] at hy
  revert hz
  generalize (a1 (ix2 i j) * a2 (ix1 j) : EReal) = u
  intro hz
  induction u using EReal.rec with
  | bot => simp at hz
  | top => simp at hz
  | coe q => exact ⟨q, rfl⟩

instance pre_facts : Cert.Pre_finite_decay.Facts := ⟨by decide, by decide, by decide, by decide, by decide⟩

end Cert.KernelIdeal.Scan
end
-- ==== Proof.NormBwd.lean ====
module
public import proofs.«01_k».proof.Proof.Gen.Kernel22Ideal.Frame
public import proofs.«01_k».proof.Proof.Gen.Reference22Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel22Ideal.Norm
open Cert.Kernel22Ideal Cert.Kernel22Ideal.Gen Cert.Reference22Ideal.Read

/-! `rmsnorm_bwd` with a summand: the gradients of the norm with respect to its input and its weight. -/

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] :=
  (by decide +kernel : ∀ t : Fin grid0.N, _)

theorem neg_half : Ideal.ofBits .f32 0xBF000000#32 = ((-(1 / 2) : ℝ) : EReal) := by
  simp [Ideal.ofBits, Ideal.ieee, -EReal.coe_mul, -EReal.coe_neg]; norm_num

theorem eps : Ideal.ofBits .f32 0x358637BD#32 = ((8796093 / 2 ^ 43 : ℝ) : EReal) := by
  simp [Ideal.ofBits, Ideal.ieee, -EReal.coe_mul]; norm_num

theorem width : Ideal.ofBits .f32 0x45000000#32 = ((2048 : ℝ) : EReal) := by
  simp [Ideal.ofBits, Ideal.ieee, -EReal.coe_mul]; norm_num

theorem div_width (x : EReal) : Ideal.div x (Ideal.ofBits .f32 0x45000000#32) = x * ((1 / 2048 : ℝ) : EReal) := by
  rw [width, Ideal.div, if_neg (by norm_cast), ← EReal.coe_inv, one_div]

/-- A nonnegative real factor goes into a sum. -/
theorem coe_mul_sum {ι : Type} (s : Finset ι) (a : ℝ) (ha : 0 ≤ a) (f : ι → EReal) : (a : EReal) * ∑ i ∈ s, f i = ∑ i ∈ s, (a : EReal) * f i := by
  classical
  induction s using Finset.induction_on with
  | empty => simp
  | insert i s hi ih => rw [Finset.sum_insert hi, Finset.sum_insert hi, EReal.left_distrib_of_nonneg_of_ne_top (by exact_mod_cast ha) (EReal.coe_ne_top a), ih]

theorem sq_nonneg' (x : EReal) : 0 ≤ x * x := by
  rcases le_total 0 x with h | h
  · exact mul_nonneg h h
  · rw [← neg_mul_neg]
    exact mul_nonneg (EReal.neg_nonneg.mpr h) (EReal.neg_nonneg.mpr h)

/-- The mean of the squares with the small constant. -/
def ms (x : Fin 2048 → EReal) : EReal := (∑ k, x k * x k) * ((1 / 2048 : ℝ) : EReal) + ((8796093 / 2 ^ 43 : ℝ) : EReal)

theorem ms_pos (x : Fin 2048 → EReal) : 0 < ms x := by
  have h0 : (0 : EReal) ≤ (∑ k, x k * x k) * ((1 / 2048 : ℝ) : EReal) := mul_nonneg (Finset.sum_nonneg fun k _ => sq_nonneg' _) (by norm_cast; norm_num)
  have h1 : (0 : EReal) < ((8796093 / 2 ^ 43 : ℝ) : EReal) := by norm_cast; norm_num
  exact lt_of_lt_of_le h1 (le_add_of_nonneg_left h0)

theorem rsqrt_top : Ideal.rsqrt ⊤ = 0 := rfl

theorem rsqrt_coe (v : ℝ) (hv : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.mpr hv.le), if_neg hv.ne']

theorem div_top : Ideal.div 0 ⊤ = 0 := by
  simp [Ideal.div]

/-- The two forms of an entry of the gradient: the factor of the row taken out, and the terms of the product rule. -/
theorem entry (x t : Fin 2048 → EReal) (X T A : EReal) :
    Ideal.rsqrt (ms x) * (T - X * Ideal.rsqrt (ms x) * ((∑ k, t k * (x k * Ideal.rsqrt (ms x))) * ((1 / 2048 : ℝ) : EReal))) + A
      = T * Ideal.rsqrt (ms x) + X * ((∑ k, x k * t k) * (((-(1 / 2) : ℝ) : EReal) * Ideal.div (Ideal.rsqrt (ms x)) (ms x)) * ((1 / 2048 : ℝ) : EReal))
        + ((∑ k, x k * t k) * (((-(1 / 2) : ℝ) : EReal) * Ideal.div (Ideal.rsqrt (ms x)) (ms x)) * ((1 / 2048 : ℝ) : EReal)) * X + A := by
  congr 1
  have hp := ms_pos x
  generalize ms x = v at hp ⊢
  induction v using EReal.rec with
  | bot => exact absurd hp (by simp)
  | top => simp only [rsqrt_top, div_top, mul_zero, zero_mul, zero_add]
  | coe v =>
    have hv : 0 < v := by exact_mod_cast hp
    have hs : 0 < Real.sqrt v := Real.sqrt_pos.mpr hv
    have hq : Real.sqrt v * Real.sqrt v = v := Real.mul_self_sqrt hv.le
    have er : Ideal.rsqrt (v : EReal) = (((Real.sqrt v)⁻¹ : ℝ) : EReal) := rsqrt_coe v hv
    have ed : Ideal.div (Ideal.rsqrt (v : EReal)) (v : EReal) = (((Real.sqrt v)⁻¹ * v⁻¹ : ℝ) : EReal) := by
      rw [er, Ideal.div, if_neg (by exact_mod_cast hv.ne'), ← EReal.coe_inv, ← EReal.coe_mul]
    rw [ed, er]
    generalize hρ : (Real.sqrt v)⁻¹ = ρ
    have hρ0 : 0 ≤ ρ := by rw [← hρ]; exact inv_nonneg.mpr hs.le
    have hvi : v⁻¹ = ρ * ρ := by rw [← hρ, ← mul_inv, hq]
    rw [hvi]
    have e1 : (∑ k, t k * (x k * (ρ : EReal))) = (ρ : EReal) * ∑ k, x k * t k := by
      rw [coe_mul_sum _ _ hρ0]
      exact Finset.sum_congr rfl fun k _ => by rw [mul_comm (x k) (ρ : EReal), ← mul_assoc, mul_comm (t k), mul_assoc, mul_comm (t k)]
    rw [e1]
    generalize (∑ k, x k * t k) = S
    rw [sub_eq_add_neg, EReal.left_distrib_of_nonneg_of_ne_top (by exact_mod_cast hρ0) (EReal.coe_ne_top ρ), add_assoc]
    have e2 : X * (S * (((-(1 / 2) : ℝ) : EReal) * ((ρ * (ρ * ρ) : ℝ) : EReal)) * ((1 / 2048 : ℝ) : EReal)) = ((1 / 2 * (ρ * (ρ * ρ)) * (1 / 2048) : ℝ) : EReal) * (-(X * S)) := by
      have : (((-(1 / 2) : ℝ) : EReal) * ((ρ * (ρ * ρ) : ℝ) : EReal)) * ((1 / 2048 : ℝ) : EReal) = -((1 / 2 * (ρ * (ρ * ρ)) * (1 / 2048) : ℝ) : EReal) := by
        norm_cast; ring
      rw [mul_assoc S, this, mul_neg, mul_neg, mul_neg, mul_comm (X) , mul_comm S, mul_assoc, mul_comm S X]
    rw [mul_comm (S * (((-(1 / 2) : ℝ) : EReal) * ((ρ * (ρ * ρ) : ℝ) : EReal)) * ((1 / 2048 : ℝ) : EReal)) X, e2,
      ← EReal.right_distrib_of_nonneg (by norm_cast; positivity) (by norm_cast; positivity), mul_comm T]
    congr 1
    rw [mul_neg, mul_neg]
    congr 1
    have e3 : (((1 / 2 * (ρ * (ρ * ρ)) * (1 / 2048) : ℝ) : EReal) + ((1 / 2 * (ρ * (ρ * ρ)) * (1 / 2048) : ℝ) : EReal)) = (ρ : EReal) * (ρ : EReal) * (ρ : EReal) * ((1 / 2048 : ℝ) : EReal) := by
      norm_cast; ring
    rw [e3]
    ac_rfl

theorem v_w (c : Dev nD) (d : Fin 2048) :
    (V m c main_v0 : FVec Ideal S1x2048 .f32) (ix2 0 d) = m ((c : Thread nD τ).loc main_arg1) (ix1 d) := by
  unfold V
  simp only [V0, List.flatten_cons, List.flatten_nil, List.append_nil]
  entry_read
  pointwise

theorem b_w (c : Dev nD) (t : Fin cfg0.N) (d : Fin 2048) :
    (iblk m c 1 t : FVec Ideal S1x2048 .f32) (ix2 0 d) = m ((c : Thread nD τ).loc main_arg1) (ix1 d) := by
  refine Eq.trans ?_ (v_w m c d)
  blk_ext [iblk, idx t]

theorem b_x (c : Dev nD) (t : Fin cfg0.N) (r : Fin 256) (d : Fin 2048) (R : Fin 2304) (h : R.val = t.val * 256 + r.val) :
    (iblk m c 0 t : FVec Ideal S256x2048 .f32) (ix2 r d) = m ((c : Thread nD τ).loc main_arg0) (ix2 R d) := by
  blk_ext [iblk, idx t, h]

theorem b_g (c : Dev nD) (t : Fin cfg0.N) (r : Fin 256) (d : Fin 2048) (R : Fin 2304) (h : R.val = t.val * 256 + r.val) :
    (iblk m c 2 t : FVec Ideal S256x2048 .f32) (ix2 r d) = m ((c : Thread nD τ).loc main_arg2) (ix2 R d) := by
  blk_ext [iblk, idx t, h]

theorem b_a (c : Dev nD) (t : Fin cfg0.N) (r : Fin 256) (d : Fin 2048) (R : Fin 2304) (h : R.val = t.val * 256 + r.val) :
    (iblk m c 3 t : FVec Ideal S256x2048 .f32) (ix2 r d) = m ((c : Thread nD τ).loc main_arg3) (ix2 R d) := by
  blk_ext [iblk, idx t, h]

theorem inv (x : Vec Ideal S256x2048 .f32) (r : Fin 256) : (k0_pay2 (F := Ideal) x (ix2 r 0) : EReal) = Ideal.rsqrt (ms fun k => x (ix2 r k)) := by
  pointwise [k0_pay2]
  rw [div_width, eps]
  rfl

theorem hat (x : Vec Ideal S256x2048 .f32) (r : Fin 256) (d : Fin 2048) : (k0_pay3 (F := Ideal) x (ix2 r d) : EReal) = (x (ix2 r d) * Ideal.rsqrt (ms fun k => x (ix2 r k)) : EReal) := by
  pointwise [k0_pay3]
  rw [inv]

theorem dx (x g : Vec Ideal S256x2048 .f32) (w : Vec Ideal S1x2048 .f32) (a : Vec Ideal S256x2048 .f32) (r : Fin 256) (d : Fin 2048) : (k0_pay4 (F := Ideal) x g w a (ix2 r d) : EReal) = (Ideal.rsqrt (ms fun k => x (ix2 r k)) * ((g (ix2 r d) * w (ix2 0 d)) - (x (ix2 r d)) * Ideal.rsqrt (ms fun k => x (ix2 r k)) * ((∑ k, (g (ix2 r k) * w (ix2 0 k)) * (x (ix2 r k) * Ideal.rsqrt (ms fun k => x (ix2 r k)))) * ((1 / 2048 : ℝ) : EReal))) + a (ix2 r d) : EReal) := by
  pointwise [k0_pay4]
  simp only [hat, inv, div_width]

theorem dw (x g : Vec Ideal S256x2048 .f32) (d : Fin 2048) : (k0_pay7 (F := Ideal) x g (ix2 0 d) : EReal) = (∑ r, g (ix2 r d) * (x (ix2 r d) * Ideal.rsqrt (ms fun k => x (ix2 r k))) : EReal) := by
  pointwise [k0_pay7]
  simp only [hat]

theorem ref_ms (x : FVec Ideal S2304x2048 .f32) (R : Fin 2304) (j : Fin 1) : (val_main_v6 (F := Ideal) x (ix2 R j) : EReal) = ms fun k => x (ix2 R k) := by
  pointwise [val_main_v6, val_main_v5, val_main_cst_1, val_main_v4, val_main_v3, val_main_cst_0, val_main_v2, val_main_v1, val_main_cst, val_main_v0]
  rw [div_width, eps]
  rfl

theorem ref_inv (x : FVec Ideal S2304x2048 .f32) (R : Fin 2304) (j : Fin 1) : (val_main_v7 (F := Ideal) x (ix2 R j) : EReal) = Ideal.rsqrt (ms fun k => x (ix2 R k)) := by
  pointwise [val_main_v7]
  rw [ref_ms]

theorem ref_dx (x g a : FVec Ideal S2304x2048 .f32) (w : FVec Ideal S2048 .f32) (R : Fin 2304) (d : Fin 2048) : (val_main_v36 (F := Ideal) x w g a (ix2 R d) : EReal)
    = (g (ix2 R d) * w (ix1 d)) * Ideal.rsqrt (ms fun k => x (ix2 R k)) + x (ix2 R d) * ((∑ k, x (ix2 R k) * (g (ix2 R k) * w (ix1 k))) * (((-(1 / 2) : ℝ) : EReal) * Ideal.div (Ideal.rsqrt (ms fun k => x (ix2 R k))) (ms fun k => x (ix2 R k))) * ((1 / 2048 : ℝ) : EReal))
        + ((∑ k, x (ix2 R k) * (g (ix2 R k) * w (ix1 k))) * (((-(1 / 2) : ℝ) : EReal) * Ideal.div (Ideal.rsqrt (ms fun k => x (ix2 R k))) (ms fun k => x (ix2 R k))) * ((1 / 2048 : ℝ) : EReal)) * x (ix2 R d) + a (ix2 R d) := by
  pointwise [val_main_v36, val_main_v35, val_main_v34, val_main_v33, val_main_v32, val_main_v31, val_main_v30, val_main_cst_7, val_main_v29, val_main_v28, val_main_cst_6, val_main_v27, val_main_v26, val_main_v25, val_main_v24, val_main_v23, val_main_cst_5, val_main_v22, val_main_v20, val_main_v19, val_main_v13, val_main_v10, val_main_v9, val_main_cst_2, val_main_v8]
  simp only [ref_inv, ref_ms, div_width, neg_half, Fin.sum_univ_one]

theorem ref_dw (x g : FVec Ideal S2304x2048 .f32) (d : Fin 2048) : (val_main_v21 (F := Ideal) x g (ix1 d) : EReal)
    = ∑ R, g (ix2 R d) * (x (ix2 R d) * Ideal.rsqrt (ms fun k => x (ix2 R k))) := by
  pointwise [val_main_v21, val_main_cst_4, val_main_v18, val_main_v17, val_main_cst_3, val_main_v16, val_main_v12, val_main_v11]
  simp only [ref_inv, Fin.sum_univ_one]
  exact Finset.sum_congr rfl fun R _ => mul_comm _ _

theorem out4 (c : Dev nD) (t : Fin cfg0.N) : (outsAt0 m c t.val t.isLt).1 = k0_pay4 (F := Ideal) (iblk m c 0 t) (iblk m c 2 t) (iblk m c 1 t) (iblk m c 3 t) := by
  by_cases h : t.val % 9 = 0
  · rw [outsAt0_A m c t h]
    frame_out
  · rw [outsAt0_B m c t h]
    frame_out

theorem tail (c : Dev nD) (d : Fin 2048) : (Pipeline.afterTail₀ cfgs (dats m) 0 (V0 m) [hostOps1] c main_v2 : FVec Ideal S2048 .f32) (ix1 d) = (dats m 0 c).arrAt 5 (cfgs 0).N (ix2 0 d) := by
  have e : Pipeline.withArrays (cfgs 0).spec c (V0 m c) (fun w => (dats m 0 c).arrAt w (cfgs 0).N) (Proc.tc.devRef main_v1_1) = (dats m 0 c).arrAt 5 (cfgs 0).N :=
    Pipeline.withArrays_arr spec0 (by decide) c _ _ 5
  unfold Pipeline.afterTail₀
  simp only [List.flatten_cons, List.flatten_nil, List.append_nil]
  entry_read
  rw [e]
  pointwise

def part (c : Dev nD) (t : Fin cfg0.N) (j : S1x2048.Idx) : EReal :=
  k0_pay7 (F := Ideal) (iblk m c 0 t) (iblk m c 2 t) j

theorem zero1 (j) : k0_pay5 (F := Ideal) j = (0 : EReal) := by
  pointwise [k0_pay5]

theorem add1 (a b : FVec Ideal S1x2048 .f32) (j) : k0_pay1 (F := Ideal) (k0_pay6 a) b j = (a j + b j : EReal) := by
  pointwise [k0_pay1, k0_pay6]

theorem sum_run (c : Dev nD) (t : Fin cfg0.N) (h : t.val % 9 = 9 - 1) (j : S1x2048.Idx) :
    ((outsAt0 m c t.val t.isLt).2 j : EReal) = ∑ s : Fin 9, part m c ⟨9 * (t.val / 9) + s.val, Pipeline.run_point_lt_of_flush t h s⟩ j := by
  refine (Pipeline.eq_sum_fin_of_reset_step_apply_of_flush (M := EReal) (fun n h => (outsAt0 m c n h).2) 9 (fun _ => 0) (part m c)
    (fun t h j => ?_) (fun t h j => ?_) t h j).trans (zero_add _)
  · rw [outsAt0_A m c t h]
    frame_out
    rw [add1, zero1]
    rfl
  · rw [outsAt0_B m c t h]
    frame_out
    rw [add1]
    rfl

theorem row_eq (x g a : FVec Ideal S2304x2048 .f32) (w : FVec Ideal S2048 .f32) (R : Fin 2304) (d : Fin 2048) :
    (Ideal.rsqrt (ms fun k => x (ix2 R k)) * ((g (ix2 R d) * w (ix1 d)) - (x (ix2 R d)) * Ideal.rsqrt (ms fun k => x (ix2 R k)) * ((∑ k, (g (ix2 R k) * w (ix1 k)) * (x (ix2 R k) * Ideal.rsqrt (ms fun k => x (ix2 R k)))) * ((1 / 2048 : ℝ) : EReal))) + a (ix2 R d) : EReal) = val_main_v36 (F := Ideal) x w g a (ix2 R d) :=
  (entry (fun k => x (ix2 R k)) (fun k => (g (ix2 R k) * w (ix1 k) : EReal)) _ _ _).trans (ref_dx x g a w R d).symm

theorem point4 (c : Dev nD) (t : Fin cfg0.N) (r : Fin 256) (d : Fin 2048) (R : Fin 2304) (h : R.val = t.val * 256 + r.val) :
    (k0_pay4 (F := Ideal) (iblk m c 0 t) (iblk m c 2 t) (iblk m c 1 t) (iblk m c 3 t) (ix2 r d) : EReal) = val_main_v36 (F := Ideal) (m ((c : Thread nD τ).loc main_arg0)) (m ((c : Thread nD τ).loc main_arg1)) (m ((c : Thread nD τ).loc main_arg2)) (m ((c : Thread nD τ).loc main_arg3)) (ix2 R d) := by
  rw [dx]
  simp only [b_x m c t r _ R h, b_g m c t r _ R h, b_a m c t r _ R h, b_w m c t]
  exact row_eq _ _ _ _ R d

theorem at4 (c : Dev nD) (t : Fin cfg0.N) (y : S256x2048.Idx) (z : S2304x2048.Idx) (h0 : (z 0).val = t.val * 256 + (y 0).val) (h1 : (z 1).val = (y 1).val) :
    (k0_pay4 (F := Ideal) (iblk m c 0 t) (iblk m c 2 t) (iblk m c 1 t) (iblk m c 3 t)) y
      = val_main_v36 (F := Ideal) (m ((c : Thread nD τ).loc main_arg0)) (m ((c : Thread nD τ).loc main_arg1)) (m ((c : Thread nD τ).loc main_arg2)) (m ((c : Thread nD τ).loc main_arg3)) z := by
  have hy : y = ix2 (y 0) (y 1) := funext fun i => by fin_cases i <;> rfl
  have hz : z = ix2 (z 0) (y 1) := funext fun i => by
    fin_cases i
    · rfl
    · exact Fin.ext h1
  exact (congrArg (fun i => (k0_pay4 (F := Ideal) (iblk m c 0 t) (iblk m c 2 t) (iblk m c 1 t) (iblk m c 3 t)) i) hy).trans
    ((point4 m c t (y 0) (y 1) (z 0) h0).trans (congrArg (fun i => val_main_v36 (F := Ideal) (m ((c : Thread nD τ).loc main_arg0)) (m ((c : Thread nD τ).loc main_arg1)) (m ((c : Thread nD τ).loc main_arg2)) (m ((c : Thread nD τ).loc main_arg3)) i) hz.symm))

/-- The gradient with respect to the input, with the summand. -/
theorem final4 (c : Dev nD) : (dats m 0 c).arrAt 4 (cfgs 0).N
    = val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, out4 m c t]
  exact at4 m c t y _ (by blk_simp [idx t]) (by blk_simp [idx t])

/-- The gradient with respect to the weight, in the shape of its block. -/
def wg (c : Dev nD) : FVec Ideal S1x2048 .f32 := fun j => val_main_v21 (F := Ideal) (m ((c : Thread nD τ).loc main_arg0)) (m ((c : Thread nD τ).loc main_arg2)) (ix1 (j 1))

theorem run_point (c : Dev nD) (t : Fin cfg0.N) (h : t.val % 9 = 9 - 1) (d : Fin 2048) :
    ((outsAt0 m c t.val t.isLt).2 (ix2 0 d) : EReal) = wg m c (ix2 0 d) := by
  have ht : t.val < 9 := lt_of_lt_of_eq t.isLt N_0
  refine (sum_run m c t h _).trans ?_
  unfold wg
  refine Eq.trans ?_ (ref_dw _ _ d).symm
  refine Eq.trans ?_ (Fin.sum_mul_add_fin 9 256 _)
  refine Finset.sum_congr rfl fun s _ => ?_
  unfold part
  rw [dw]
  refine Finset.sum_congr rfl fun r _ => ?_
  have hR : (⟨s.val * 256 + r.val, by omega⟩ : Fin 2304).val = (⟨9 * (t.val / 9) + s.val, Pipeline.run_point_lt_of_flush t h s⟩ : Fin cfg0.N).val * 256 + r.val := by
    dsimp only
    omega
  simp only [b_x m c _ r _ _ hR, b_g m c _ r _ _ hR]

theorem at5 (c : Dev nD) (t : Fin cfg0.N) (h : t.val % 9 = 9 - 1) (y z : S1x2048.Idx) (h1 : (z 1).val = (y 1).val) :
    (outsAt0 m c t.val t.isLt).2 y = wg m c z := by
  have hy : y = ix2 0 (y 1) := funext fun i => by
    fin_cases i
    · exact Fin.ext (by have : (y 0).val < 1 := (y 0).isLt; show (y 0).val = 0; omega)
    · rfl
  have hz : wg m c z = wg m c (ix2 0 (y 1)) :=
    congrArg (fun d => val_main_v21 (F := Ideal) (m ((c : Thread nD τ).loc main_arg0)) (m ((c : Thread nD τ).loc main_arg2)) (ix1 d)) (Fin.ext h1)
  exact (congrArg (fun i => (outsAt0 m c t.val t.isLt).2 i) hy).trans ((run_point m c t h (y 1)).trans hz.symm)

theorem final5 (c : Dev nD) : (dats m 0 c).arrAt 5 (cfgs 0).N = wg m c := by
  refine (dats m 0 c).arrAt_eq_of_covers 5 _ (by decide +kernel) fun t hf y => ?_
  have hl : t.val % 9 = 8 := (flush0_5 t).mp hf
  blk_simp
  rw [after0_5]
  exact at5 m c t hl y _ (by blk_simp [idx t])

theorem result (c : Dev nD) : Pipeline.afterTail₀ cfgs (dats m) 0 (V0 m) [hostOps1] c main_v2 = val_main_v21 (F := Ideal) (m ((c : Thread nD τ).loc main_arg0)) (m ((c : Thread nD τ).loc main_arg2)) := by
  funext i
  have hi : i = ix1 (i 0) := funext fun a => by fin_cases a; rfl
  refine (congrArg (fun i => (Pipeline.afterTail₀ cfgs (dats m) 0 (V0 m) [hostOps1] c main_v2 : FVec Ideal S2048 .f32) i) hi).trans ((tail m c (i 0)).trans ?_)
  rw [final5]
  exact (congrArg (fun i => val_main_v21 (F := Ideal) (m ((c : Thread nD τ).loc main_arg0)) (m ((c : Thread nD τ).loc main_arg2)) i) hi).symm

end Cert.Kernel22Ideal.Norm
end
-- ==== Proof.LossHead.lean ====
module
public import proofs.«01_k».proof.Proof.Gen.Kernel21Ideal.Frame
public import proofs.«01_k».proof.Proof.Gen.Reference21Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel21Ideal.Head
open Cert.Kernel21Ideal Cert.Kernel21Ideal.Gen Cert.Reference21Ideal.Read

/-! `loss_head`: half the sum of the rows' mean squared errors, and its gradient. -/

variable (m : (ℓ : Loc nD τ sig) → Buf (Elt Ideal) ℓ)

theorem idx : ∀ t : Fin cfg0.N, win0_0.index t = ![t.val, 0] ∧ win0_1.index t = ![t.val - 1, 0] ∧ win0_2.index t = ![t.val, 0] ∧ win0_3.index t = ![0, 0] :=
  (by decide +kernel : ∀ t : Fin grid0.N, _)

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem width : Ideal.ofBits .f32 0x45000000#32 = ((2048 : ℝ) : EReal) := by
  simp [Ideal.ofBits, Ideal.ieee, -EReal.coe_mul]; norm_num

theorem div_width (x : EReal) : Ideal.div x (Ideal.ofBits .f32 0x45000000#32) = x * ((1 / 2048 : ℝ) : EReal) := by
  rw [width, Ideal.div, if_neg (by norm_cast), ← EReal.coe_inv, one_div]

/-- A nonnegative real factor goes into a sum. -/
theorem coe_mul_sum {ι : Type} (s : Finset ι) (a : ℝ) (ha : 0 ≤ a) (f : ι → EReal) : (a : EReal) * ∑ i ∈ s, f i = ∑ i ∈ s, (a : EReal) * f i := by
  classical
  induction s using Finset.induction_on with
  | empty => simp
  | insert i s hi ih => rw [Finset.sum_insert hi, Finset.sum_insert hi, EReal.left_distrib_of_nonneg_of_ne_top (by exact_mod_cast ha) (EReal.coe_ne_top a), ih]

theorem flag0 : ∀ t : Fin cfg0.N, t.val = 0 → Scalar.extui (Scalar.cmpi .sge (BitVec.ofNat 32 (grid0.coords t 0).val) 1#32) = 0#32 :=
  (by decide +kernel : ∀ t : Fin grid0.N, _)
theorem flag1 : ∀ t : Fin cfg0.N, t.val ≠ 0 → Scalar.extui (Scalar.cmpi .sge (BitVec.ofNat 32 (grid0.coords t 0).val) 1#32) = 1#32 :=
  (by decide +kernel : ∀ t : Fin grid0.N, _)

theorem err0 (t : Fin cfg0.N) (h : t.val = 0) (x y : Vec Ideal S256x2048 .f32) (j) : (k0_pay2 (F := Ideal) (grid0.coords t) x y j : EReal) = 0 := by
  unfold k0_pay2
  dsimp only
  rw [flag0 t h]
  pointwise
  simp [Scalar.sitofp]

theorem err1 (t : Fin cfg0.N) (h : t.val ≠ 0) (x y : Vec Ideal S256x2048 .f32) (j) : (k0_pay2 (F := Ideal) (grid0.coords t) x y j : EReal) = (x j - y j : EReal) := by
  unfold k0_pay2
  dsimp only
  rw [flag1 t h]
  pointwise
  simp [Scalar.sitofp]

theorem grad0 (t : Fin cfg0.N) (h : t.val = 0) (x y : Vec Ideal S256x2048 .f32) (j) : (k0_pay3 (F := Ideal) (grid0.coords t) x y j : EReal) = 0 := by
  pointwise [k0_pay3]
  rw [err0 t h, div_width, zero_mul]

theorem grad1 (t : Fin cfg0.N) (h : t.val ≠ 0) (x y : Vec Ideal S256x2048 .f32) (j) : (k0_pay3 (F := Ideal) (grid0.coords t) x y j : EReal) = ((x j - y j) * ((1 / 2048 : ℝ) : EReal) : EReal) := by
  pointwise [k0_pay3]
  rw [err1 t h, div_width]

theorem add4 (i) (x y : Vec Ideal S256x2048 .f32) (a) (j) : (k0_pay4 (F := Ideal) i x y a j : EReal) = (a j + ((1 / 2 : ℝ) : EReal) * (∑ r : Fin 256, ∑ d : Fin 2048, k0_pay2 (F := Ideal) i x y (ix2 r d) * k0_pay2 (F := Ideal) i x y (ix2 r d)) * ((1 / 2048 : ℝ) : EReal) : EReal) := by
  pointwise [k0_pay4]
  rw [div_width, half]

theorem b_t (c : Dev nD) (t : Fin cfg0.N) (r : Fin 256) (d : Fin 2048) (R : Fin 2048) (h : R.val = (t.val - 1) * 256 + r.val) :
    (iblk m c 1 t : FVec Ideal S256x2048 .f32) (ix2 r d) = m ((c : Thread nD τ).loc main_arg1) (ix2 R d) := by
  blk_ext [iblk, idx t, h]

theorem b_h (c : Dev nD) (t : Fin cfg0.N) (r : Fin 256) (d : Fin 2048) (R : Fin 2304) (h : R.val = t.val * 256 + r.val) :
    (iblk m c 0 t : FVec Ideal S256x2048 .f32) (ix2 r d) = m ((c : Thread nD τ).loc main_arg0) (ix2 R d) := by
  blk_ext [iblk, idx t, h]

theorem out2 (c : Dev nD) (t : Fin cfg0.N) : (outsAt0 m c t.val t.isLt).1 = k0_pay3 (F := Ideal) (grid0.coords t) (iblk m c 0 t) (iblk m c 1 t) := by
  by_cases h : t.val % 9 = 0
  · rw [outsAt0_A m c t h]
    frame_out
  · rw [outsAt0_B m c t h]
    frame_out

theorem ref0 (x : FVec Ideal S2304x2048 .f32) (y : FVec Ideal S2048x2048 .f32) (R : Fin 2304) (d : Fin 2048) (h : R.val < 256) : (val_main_v16 (F := Ideal) x y (ix2 R d) : EReal) = 0 := by
  pointwise [val_main_v16, val_main_cst_7]
  exact dif_neg (by omega)

theorem ref1 (x : FVec Ideal S2304x2048 .f32) (y : FVec Ideal S2048x2048 .f32) (R : Fin 2304) (Q : Fin 2048) (d : Fin 2048) (h : R.val = 256 + Q.val) : (val_main_v16 (F := Ideal) x y (ix2 R d) : EReal) = ((x (ix2 R d) - y (ix2 Q d)) * ((1 / 2048 : ℝ) : EReal) : EReal) := by
  pointwise [val_main_v16, val_main_cst_7, val_main_v15, val_main_v14, val_main_v13, val_main_v12, val_main_cst_6, val_main_v11, val_main_v10, val_main_cst_5, val_main_cst_4, val_main_v4, val_main_v3, val_main_cst, val_main_v1, val_main_v0]
  rw [dif_pos (by omega), div_width, half, two]
  have e : (⟨256 + (R.val - 256), by omega⟩ : Fin 2304) = R := Fin.ext (by dsimp only; omega)
  have e' : (⟨R.val - 256, by omega⟩ : Fin 2048) = Q := Fin.ext (by dsimp only; omega)
  rw [e, e', ← mul_assoc, mul_comm]
  congr 1
  norm_cast
  norm_num

theorem refl (x : FVec Ideal S2304x2048 .f32) (y : FVec Ideal S2048x2048 .f32) (i) : (val_main_v9 (F := Ideal) x y i : EReal) = ∑ s : Fin 8, ((1 / 2 : ℝ) : EReal) * (∑ r : Fin 256, ∑ d : Fin 2048, (x (ix2 (⟨(s.val + 1) * 256 + r.val, by omega⟩ : Fin 2304) d) - y (ix2 (⟨s.val * 256 + r.val, by omega⟩ : Fin 2048) d)) * (x (ix2 (⟨(s.val + 1) * 256 + r.val, by omega⟩ : Fin 2304) d) - y (ix2 (⟨s.val * 256 + r.val, by omega⟩ : Fin 2048) d))) * ((1 / 2048 : ℝ) : EReal) := by
  pointwise [val_main_v9, val_main_cst_3, val_main_v8, val_main_cst_2, val_main_v7, val_main_v6, val_main_cst_1, val_main_v5, val_main_cst_0, val_main_v2, val_main_v1, val_main_v0]
  rw [half]
  simp only [div_width]
  refine (congrArg (((1 / 2 : ℝ) : EReal) * ·) (Fin.sum_mul_add_fin 8 256 fun q : Fin 2048 => (∑ d : Fin 2048, (x (ix2 (⟨256 + q.val, by omega⟩ : Fin 2304) d) - y (ix2 q d)) * (x (ix2 (⟨256 + q.val, by omega⟩ : Fin 2304) d) - y (ix2 q d))) * ((1 / 2048 : ℝ) : EReal)).symm).trans ?_
  dsimp only
  rw [coe_mul_sum _ _ (by norm_num)]
  refine Finset.sum_congr rfl fun s _ => ?_
  rw [mul_assoc, mul_comm (∑ r : Fin 256, _) (((1 / 2048 : ℝ) : EReal)), coe_mul_sum Finset.univ (1 / 2048) (by norm_num), coe_mul_sum Finset.univ (1 / 2) (by norm_num), coe_mul_sum Finset.univ (1 / 2) (by norm_num)]
  refine Finset.sum_congr rfl fun r _ => congrArg (((1 / 2 : ℝ) : EReal) * ·) ?_
  rw [mul_comm]
  have e : 256 + (s.val * 256 + r.val) = (s.val + 1) * 256 + r.val := by ring
  simp only [e]

theorem tail (c : Dev nD) : Pipeline.afterTail₀ cfgs (dats m) 0 (V0 m) [hostOps1] c main_v2 = fun _ => (dats m 0 c).arrAt 3 (cfgs 0).N (ix2 0 0) := by
  have e : Pipeline.withArrays (cfgs 0).spec c (V0 m c) (fun w => (dats m 0 c).arrAt w (cfgs 0).N) (Proc.tc.devRef main_v0_1) = (dats m 0 c).arrAt 3 (cfgs 0).N :=
    Pipeline.withArrays_arr spec0 (by decide) c _ _ 3
  unfold Pipeline.afterTail₀
  simp only [List.flatten_cons, List.flatten_nil, List.append_nil]
  entry_read
  rw [e]
  funext i
  pointwise

def part (c : Dev nD) (t : Fin cfg0.N) (j : S8x128.Idx) : EReal :=
  ((1 / 2 : ℝ) : EReal) * (∑ r : Fin 256, ∑ d : Fin 2048, k0_pay2 (F := Ideal) (grid0.coords t) (iblk m c 0 t) (iblk m c 1 t) (ix2 r d) * k0_pay2 (F := Ideal) (grid0.coords t) (iblk m c 0 t) (iblk m c 1 t) (ix2 r d)) * ((1 / 2048 : ℝ) : EReal)

theorem zero1 (j) : k0_pay1 (F := Ideal) j = (0 : EReal) := by
  pointwise [k0_pay1]

theorem sum_run (c : Dev nD) (t : Fin cfg0.N) (h : t.val % 9 = 9 - 1) (j : S8x128.Idx) :
    ((outsAt0 m c t.val t.isLt).2 j : EReal) = ∑ s : Fin 9, part m c ⟨9 * (t.val / 9) + s.val, Pipeline.run_point_lt_of_flush t h s⟩ j := by
  refine (Pipeline.eq_sum_fin_of_reset_step_apply_of_flush (M := EReal) (fun n h => (outsAt0 m c n h).2) 9 (fun _ => 0) (part m c)
    (fun t h j => ?_) (fun t h j => ?_) t h j).trans (zero_add _)
  · rw [outsAt0_A m c t h]
    frame_out
    rw [add4, zero1]
    rfl
  · rw [outsAt0_B m c t h]
    frame_out
    rw [add4]
    rfl

theorem point2 (c : Dev nD) (t : Fin cfg0.N) (r : Fin 256) (d : Fin 2048) (R : Fin 2304) (h : R.val = t.val * 256 + r.val) :
    (k0_pay3 (F := Ideal) (grid0.coords t) (iblk m c 0 t) (iblk m c 1 t) (ix2 r d) : EReal) = val_main_v16 (F := Ideal) (m ((c : Thread nD τ).loc main_arg0)) (m ((c : Thread nD τ).loc main_arg1)) (ix2 R d) := by
  have hR : R.val < 2304 := R.isLt
  by_cases h0 : t.val = 0
  · rw [grad0 t h0, ref0 _ _ R d (by omega)]
  · rw [grad1 t h0, ref1 _ _ R ⟨R.val - 256, by omega⟩ d (by dsimp only; omega), b_h m c t r d R h, b_t m c t r d ⟨R.val - 256, by omega⟩ (by dsimp only; omega)]

theorem at2 (c : Dev nD) (t : Fin cfg0.N) (y : S256x2048.Idx) (z : S2304x2048.Idx) (h0 : (z 0).val = t.val * 256 + (y 0).val) (h1 : (z 1).val = (y 1).val) :
    (k0_pay3 (F := Ideal) (grid0.coords t) (iblk m c 0 t) (iblk m c 1 t)) y
      = val_main_v16 (F := Ideal) (m ((c : Thread nD τ).loc main_arg0)) (m ((c : Thread nD τ).loc main_arg1)) z := by
  have hy : y = ix2 (y 0) (y 1) := funext fun i => by fin_cases i <;> rfl
  have hz : z = ix2 (z 0) (y 1) := funext fun i => by
    fin_cases i
    · rfl
    · exact Fin.ext h1
  exact (congrArg (fun i => (k0_pay3 (F := Ideal) (grid0.coords t) (iblk m c 0 t) (iblk m c 1 t)) i) hy).trans
    ((point2 m c t (y 0) (y 1) (z 0) h0).trans (congrArg (fun i => val_main_v16 (F := Ideal) (m ((c : Thread nD τ).loc main_arg0)) (m ((c : Thread nD τ).loc main_arg1)) i) hz.symm))

/-- The gradient. -/
theorem final2 (c : Dev nD) : (dats m 0 c).arrAt 2 (cfgs 0).N
    = val_main_v16 (F := Ideal) (m ((c : Thread nD τ).loc main_arg0)) (m ((c : Thread nD τ).loc main_arg1)) := by
  refine (dats m 0 c).arrAt_eq_of_covers 2 _ (by decide +kernel) fun t _ y => ?_
  blk_simp
  rw [after0_2, out2 m c t]
  exact at2 m c t y _ (by blk_simp [idx t]) (by blk_simp [idx t])

theorem part_first (c : Dev nD) (t : Fin cfg0.N) (h : t.val = 0) (j) : part m c t j = 0 := by
  unfold part
  simp only [err0 t h, mul_zero, zero_mul, Finset.sum_const_zero]

/-- The squared error of an entry. -/
def sq (x : FVec Ideal S2304x2048 .f32) (y : FVec Ideal S2048x2048 .f32) (s : Fin 8) (r : Fin 256) (d : Fin 2048) : EReal :=
  (x (ix2 (⟨(s.val + 1) * 256 + r.val, by omega⟩ : Fin 2304) d) - y (ix2 (⟨s.val * 256 + r.val, by omega⟩ : Fin 2048) d)) * (x (ix2 (⟨(s.val + 1) * 256 + r.val, by omega⟩ : Fin 2304) d) - y (ix2 (⟨s.val * 256 + r.val, by omega⟩ : Fin 2048) d))

theorem part_next (c : Dev nD) (t : Fin cfg0.N) (s : Fin 8) (h : t.val = s.val + 1) (j) : part m c t j = ((1 / 2 : ℝ) : EReal) * (∑ r : Fin 256, ∑ d : Fin 2048, sq (m ((c : Thread nD τ).loc main_arg0)) (m ((c : Thread nD τ).loc main_arg1)) s r d) * ((1 / 2048 : ℝ) : EReal) := by
  unfold part
  refine congrArg (fun z : EReal => ((1 / 2 : ℝ) : EReal) * z * ((1 / 2048 : ℝ) : EReal)) (Finset.sum_congr rfl fun r _ => Finset.sum_congr rfl fun d _ => ?_)
  rw [err1 t (by omega), b_h m c t r d ⟨(s.val + 1) * 256 + r.val, by omega⟩ (by dsimp only; rw [h]), b_t m c t r d ⟨s.val * 256 + r.val, by omega⟩ (by dsimp only; rw [h]; rfl)]
  rfl

/-- The loss, in every entry of its block. -/
theorem final3 (c : Dev nD) : (dats m 0 c).arrAt 3 (cfgs 0).N
    = fun _ => val_main_v9 (F := Ideal) (m ((c : Thread nD τ).loc main_arg0)) (m ((c : Thread nD τ).loc main_arg1)) (fun a => a.elim0) := by
  refine (dats m 0 c).arrAt_eq_of_covers 3 _ (by decide +kernel) fun t hf y => ?_
  have hl : t.val % 9 = 8 := (flush0_3 t).mp hf
  have ht : t.val < 9 := lt_of_lt_of_eq t.isLt N_0
  blk_simp
  rw [after0_3]
  refine (sum_run m c t hl _).trans ?_
  rw [refl, Fin.sum_univ_succ, part_first m c _ (by dsimp only [Fin.val_zero]; omega), zero_add]
  exact Finset.sum_congr rfl fun s _ => part_next m c _ s (by dsimp only [Fin.val_succ]; omega) _

theorem result (c : Dev nD) : Pipeline.afterTail₀ cfgs (dats m) 0 (V0 m) [hostOps1] c main_v2 = val_main_v9 (F := Ideal) (m ((c : Thread nD τ).loc main_arg0)) (m ((c : Thread nD τ).loc main_arg1)) := by
  rw [tail, final3]
  funext i
  exact congrArg (fun i => val_main_v9 (F := Ideal) (m ((c : Thread nD τ).loc main_arg0)) (m ((c : Thread nD τ).loc main_arg1)) i) (funext fun a => a.elim0)

end Cert.Kernel21Ideal.Head
end
-- ==== Proof.AdamSmall.lean ====
module
public import proofs.«01_k».proof.Proof.Gen.Kernel20Ideal.Frame
public import proofs.«01_k».proof.Proof.Gen.Reference20Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel20Ideal.Update
open Cert.Kernel20Ideal Cert.Kernel20Ideal.Gen Cert.Reference20Ideal.Read

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Part `k` of the gradient at a point. -/
theorem b_p (c : Dev nD) (t : Fin cfg0.N) (k : Fin 8) (r : Fin 256) (d : Fin 128) (R : Fin 1280) (h0 : R.val = t.val * 256 + r.val) :
    (iblk m c 0 t : FVec Ideal S8x256x128 .f32) (ix3 k r d) = m ((c : Thread nD τ).loc main_arg0) (ix3 k R d) := by
  blk_ext [iblk, idx t, h0]

theorem b_w (c : Dev nD) (t : Fin cfg0.N) (r : Fin 256) (d : Fin 128) (R : Fin 1280) (h0 : R.val = t.val * 256 + r.val) :
    (iblk m c 1 t : FVec Ideal S256x128 .f32) (ix2 r d) = m ((c : Thread nD τ).loc main_arg1) (ix2 R d) := by
  blk_ext [iblk, idx t, h0]

theorem b_m (c : Dev nD) (t : Fin cfg0.N) (r : Fin 256) (d : Fin 128) (R : Fin 1280) (h0 : R.val = t.val * 256 + r.val) :
    (iblk m c 2 t : FVec Ideal S256x128 .f32) (ix2 r d) = m ((c : Thread nD τ).loc main_arg2) (ix2 R d) := by
  blk_ext [iblk, idx t, h0]

theorem b_v (c : Dev nD) (t : Fin cfg0.N) (r : Fin 256) (d : Fin 128) (R : Fin 1280) (h0 : R.val = t.val * 256 + r.val) :
    (iblk m c 3 t : FVec Ideal S256x128 .f32) (ix2 r d) = m ((c : Thread nD τ).loc main_arg3) (ix2 R d) := by
  blk_ext [iblk, idx t, h0]

theorem point4 (c : Dev nD) (t : Fin cfg0.N) (r : Fin 256) (d : Fin 128) (R : Fin 1280) (h0 : R.val = t.val * 256 + r.val) :
    (out0_4 (iblk m c 0 t) (iblk m c 1 t) (iblk m c 2 t) (iblk m c 3 t) : FVec Ideal S256x128 .f32) (ix2 r d)
      = val_main_v0 (F := Ideal) (m ((c : Thread nD τ).loc main_arg0)) (ix2 R d) := by
  unfold_out out0_4; frame_out
  pointwise [k0_pay1, k0_pay2, k0_pay3, k0_pay4, k0_pay5, k0_pay6, k0_pay7, k0_pay8, k0_pay9, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24, Fin.sum_univ_eight, b_p m c t _ r d R h0, b_w m c t r d R h0, b_m m c t r d R h0, b_v m c t r d R h0]

theorem at4 (c : Dev nD) (t : Fin cfg0.N) (y : S256x128.Idx) (z : S1280x128.Idx) (h0 : (z 0).val = t.val * 256 + (y 0).val) (h1 : (z 1).val = (y 1).val) :
    (out0_4 (iblk m c 0 t) (iblk m c 1 t) (iblk m c 2 t) (iblk m c 3 t) : FVec Ideal S256x128 .f32) y
      = val_main_v0 (F := Ideal) (m ((c : Thread nD τ).loc main_arg0)) z := by
  have hy : y = ix2 (y 0) (y 1) := funext fun i => by fin_cases i <;> rfl
  have hz : z = ix2 (z 0) (y 1) := funext fun i => by
    fin_cases i
    · rfl
    · exact Fin.ext h1
  exact (congrArg (fun i => (out0_4 (iblk m c 0 t) (iblk m c 1 t) (iblk m c 2 t) (iblk m c 3 t) : FVec Ideal S256x128 .f32) i) hy).trans
    ((point4 m c t (y 0) (y 1) (z 0) h0).trans (congrArg (fun i => val_main_v0 (F := Ideal) (m ((c : Thread nD τ).loc main_arg0)) i) hz.symm))

/-- The summed gradient. -/
theorem final4 (c : Dev nD) : (dats m 0 c).arrAt 4 (cfgs 0).N
    = val_main_v0 (F := Ideal) (m ((c : Thread nD τ).loc main_arg0)) := by
  refine (dats m 0 c).arrAt_eq_of_covers 4 _ (by decide +kernel) fun t _ y => ?_
  blk_simp
  rw [after0_4]
  exact at4 m c t y _ (by blk_simp [idx t]) (by blk_simp [idx t])

theorem point5 (c : Dev nD) (t : Fin cfg0.N) (r : Fin 256) (d : Fin 128) (R : Fin 1280) (h0 : R.val = t.val * 256 + r.val) :
    (out0_5 (iblk m c 0 t) (iblk m c 1 t) (iblk m c 2 t) (iblk m c 3 t) : FVec Ideal S256x128 .f32) (ix2 r d)
      = val_main_v24 (F := Ideal) (m ((c : Thread nD τ).loc main_arg0)) (m ((c : Thread nD τ).loc main_arg1)) (m ((c : Thread nD τ).loc main_arg2)) (m ((c : Thread nD τ).loc main_arg3)) (ix2 R d) := by
  unfold_out out0_5; frame_out
  pointwise [k0_pay1, k0_pay2, k0_pay3, k0_pay4, k0_pay5, k0_pay6, k0_pay7, k0_pay8, k0_pay9, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24, Fin.sum_univ_eight, b_p m c t _ r d R h0, b_w m c t r d R h0, b_m m c t r d R h0, b_v m c t r d R h0]

theorem at5 (c : Dev nD) (t : Fin cfg0.N) (y : S256x128.Idx) (z : S1280x128.Idx) (h0 : (z 0).val = t.val * 256 + (y 0).val) (h1 : (z 1).val = (y 1).val) :
    (out0_5 (iblk m c 0 t) (iblk m c 1 t) (iblk m c 2 t) (iblk m c 3 t) : FVec Ideal S256x128 .f32) y
      = val_main_v24 (F := Ideal) (m ((c : Thread nD τ).loc main_arg0)) (m ((c : Thread nD τ).loc main_arg1)) (m ((c : Thread nD τ).loc main_arg2)) (m ((c : Thread nD τ).loc main_arg3)) z := by
  have hy : y = ix2 (y 0) (y 1) := funext fun i => by fin_cases i <;> rfl
  have hz : z = ix2 (z 0) (y 1) := funext fun i => by
    fin_cases i
    · rfl
    · exact Fin.ext h1
  exact (congrArg (fun i => (out0_5 (iblk m c 0 t) (iblk m c 1 t) (iblk m c 2 t) (iblk m c 3 t) : FVec Ideal S256x128 .f32) i) hy).trans
    ((point5 m c t (y 0) (y 1) (z 0) h0).trans (congrArg (fun i => val_main_v24 (F := Ideal) (m ((c : Thread nD τ).loc main_arg0)) (m ((c : Thread nD τ).loc main_arg1)) (m ((c : Thread nD τ).loc main_arg2)) (m ((c : Thread nD τ).loc main_arg3)) i) hz.symm))

/-- The change of the weight. -/
theorem final5 (c : Dev nD) : (dats m 0 c).arrAt 5 (cfgs 0).N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact at5 m c t y _ (by blk_simp [idx t]) (by blk_simp [idx t])

theorem point6 (c : Dev nD) (t : Fin cfg0.N) (r : Fin 256) (d : Fin 128) (R : Fin 1280) (h0 : R.val = t.val * 256 + r.val) :
    (out0_6 (iblk m c 0 t) (iblk m c 1 t) (iblk m c 2 t) (iblk m c 3 t) : FVec Ideal S256x128 .f32) (ix2 r d)
      = val_main_v5 (F := Ideal) (m ((c : Thread nD τ).loc main_arg0)) (m ((c : Thread nD τ).loc main_arg2)) (ix2 R d) := by
  unfold_out out0_6; frame_out
  pointwise [k0_pay1, k0_pay2, k0_pay3, k0_pay4, k0_pay5, k0_pay6, k0_pay7, k0_pay8, k0_pay9, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24, Fin.sum_univ_eight, b_p m c t _ r d R h0, b_w m c t r d R h0, b_m m c t r d R h0, b_v m c t r d R h0]

theorem at6 (c : Dev nD) (t : Fin cfg0.N) (y : S256x128.Idx) (z : S1280x128.Idx) (h0 : (z 0).val = t.val * 256 + (y 0).val) (h1 : (z 1).val = (y 1).val) :
    (out0_6 (iblk m c 0 t) (iblk m c 1 t) (iblk m c 2 t) (iblk m c 3 t) : FVec Ideal S256x128 .f32) y
      = val_main_v5 (F := Ideal) (m ((c : Thread nD τ).loc main_arg0)) (m ((c : Thread nD τ).loc main_arg2)) z := by
  have hy : y = ix2 (y 0) (y 1) := funext fun i => by fin_cases i <;> rfl
  have hz : z = ix2 (z 0) (y 1) := funext fun i => by
    fin_cases i
    · rfl
    · exact Fin.ext h1
  exact (congrArg (fun i => (out0_6 (iblk m c 0 t) (iblk m c 1 t) (iblk m c 2 t) (iblk m c 3 t) : FVec Ideal S256x128 .f32) i) hy).trans
    ((point6 m c t (y 0) (y 1) (z 0) h0).trans (congrArg (fun i => val_main_v5 (F := Ideal) (m ((c : Thread nD τ).loc main_arg0)) (m ((c : Thread nD τ).loc main_arg2)) i) hz.symm))

/-- The new first moment. -/
theorem final6 (c : Dev nD) : (dats m 0 c).arrAt 6 (cfgs 0).N
    = val_main_v5 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  exact at6 m c t y _ (by blk_simp [idx t]) (by blk_simp [idx t])

theorem point7 (c : Dev nD) (t : Fin cfg0.N) (r : Fin 256) (d : Fin 128) (R : Fin 1280) (h0 : R.val = t.val * 256 + r.val) :
    (out0_7 (iblk m c 0 t) (iblk m c 1 t) (iblk m c 2 t) (iblk m c 3 t) : FVec Ideal S256x128 .f32) (ix2 r d)
      = val_main_v11 (F := Ideal) (m ((c : Thread nD τ).loc main_arg0)) (m ((c : Thread nD τ).loc main_arg3)) (ix2 R d) := by
  unfold_out out0_7; frame_out
  pointwise [k0_pay1, k0_pay2, k0_pay3, k0_pay4, k0_pay5, k0_pay6, k0_pay7, k0_pay8, k0_pay9, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24, Fin.sum_univ_eight, b_p m c t _ r d R h0, b_w m c t r d R h0, b_m m c t r d R h0, b_v m c t r d R h0]

theorem at7 (c : Dev nD) (t : Fin cfg0.N) (y : S256x128.Idx) (z : S1280x128.Idx) (h0 : (z 0).val = t.val * 256 + (y 0).val) (h1 : (z 1).val = (y 1).val) :
    (out0_7 (iblk m c 0 t) (iblk m c 1 t) (iblk m c 2 t) (iblk m c 3 t) : FVec Ideal S256x128 .f32) y
      = val_main_v11 (F := Ideal) (m ((c : Thread nD τ).loc main_arg0)) (m ((c : Thread nD τ).loc main_arg3)) z := by
  have hy : y = ix2 (y 0) (y 1) := funext fun i => by fin_cases i <;> rfl
  have hz : z = ix2 (z 0) (y 1) := funext fun i => by
    fin_cases i
    · rfl
    · exact Fin.ext h1
  exact (congrArg (fun i => (out0_7 (iblk m c 0 t) (iblk m c 1 t) (iblk m c 2 t) (iblk m c 3 t) : FVec Ideal S256x128 .f32) i) hy).trans
    ((point7 m c t (y 0) (y 1) (z 0) h0).trans (congrArg (fun i => val_main_v11 (F := Ideal) (m ((c : Thread nD τ).loc main_arg0)) (m ((c : Thread nD τ).loc main_arg3)) i) hz.symm))

/-- The new second moment. -/
theorem final7 (c : Dev nD) : (dats m 0 c).arrAt 7 (cfgs 0).N
    = val_main_v11 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  exact at7 m c t y _ (by blk_simp [idx t]) (by blk_simp [idx t])

end Cert.Kernel20Ideal.Update
end
-- ==== Proof.AdamIn.lean ====
module
public import proofs.«01_k».proof.Proof.Gen.Kernel19Ideal.Frame
public import proofs.«01_k».proof.Proof.Gen.Reference19Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel19Ideal.Update
open Cert.Kernel19Ideal Cert.Kernel19Ideal.Gen Cert.Reference19Ideal.Read

variable (m : (ℓ : Loc nD τ sig) → Buf (Elt Ideal) ℓ)

theorem idx : ∀ t : Fin cfg0.N, win0_0.index t = ![0, t.val / 8, t.val % 8, 0] ∧ win0_1.index t = ![t.val / 8, 0, t.val % 8] ∧ win0_2.index t = ![t.val / 8, 0, t.val % 8] ∧ win0_3.index t = ![t.val / 8, 0, t.val % 8] ∧ win0_4.index t = ![t.val / 8, 0, t.val % 8] ∧ win0_5.index t = ![t.val / 8, 0, t.val % 8] ∧ win0_6.index t = ![t.val / 8, 0, t.val % 8] ∧ win0_7.index t = ![t.val / 8, 0, t.val % 8] :=
  (by decide +kernel : ∀ t : Fin grid0.N, _)

/-- Part `k` of the gradient at a point. -/
theorem b_p (c : Dev nD) (t : Fin cfg0.N) (k : Fin 8) (d : Fin 1288) (r : Fin 256) (L : Fin 2) (R : Fin 2048) (h0 : L.val = t.val / 8) (h2 : R.val = t.val % 8 * 256 + r.val) :
    (iblk m c 0 t : FVec Ideal S8x1x256x1288 .bf16) (ix4 k 0 r d) = m ((c : Thread nD τ).loc main_arg0) (ix4 k L R d) := by
  blk_ext [iblk, idx t, h0, h2]

theorem v_w (c : Dev nD) (L : Fin 2) (d : Fin 1288) (R : Fin 2048) :
    (V m c main_v0 : FVec Ideal S2x1288x2048 .f32) (ix3 L d R) = m ((c : Thread nD τ).loc main_arg1) (ix3 L R d) := by
  entry_read
  pointwise

theorem b_w (c : Dev nD) (t : Fin cfg0.N) (d : Fin 1288) (r : Fin 256) (L : Fin 2) (R : Fin 2048) (h0 : L.val = t.val / 8) (h2 : R.val = t.val % 8 * 256 + r.val) :
    (iblk m c 1 t : FVec Ideal S1x1288x256 .f32) (ix3 0 d r) = m ((c : Thread nD τ).loc main_arg1) (ix3 L R d) := by
  refine Eq.trans ?_ (v_w m c L d R)
  blk_ext [iblk, idx t, h0, h2]

theorem v_m (c : Dev nD) (L : Fin 2) (d : Fin 1288) (R : Fin 2048) :
    (V m c main_v1 : FVec Ideal S2x1288x2048 .f32) (ix3 L d R) = m ((c : Thread nD τ).loc main_arg2) (ix3 L R d) := by
  entry_read
  pointwise

theorem b_m (c : Dev nD) (t : Fin cfg0.N) (d : Fin 1288) (r : Fin 256) (L : Fin 2) (R : Fin 2048) (h0 : L.val = t.val / 8) (h2 : R.val = t.val % 8 * 256 + r.val) :
    (iblk m c 2 t : FVec Ideal S1x1288x256 .f32) (ix3 0 d r) = m ((c : Thread nD τ).loc main_arg2) (ix3 L R d) := by
  refine Eq.trans ?_ (v_m m c L d R)
  blk_ext [iblk, idx t, h0, h2]

theorem v_v (c : Dev nD) (L : Fin 2) (d : Fin 1288) (R : Fin 2048) :
    (V m c main_v2 : FVec Ideal S2x1288x2048 .f32) (ix3 L d R) = m ((c : Thread nD τ).loc main_arg3) (ix3 L R d) := by
  entry_read
  pointwise

theorem b_v (c : Dev nD) (t : Fin cfg0.N) (d : Fin 1288) (r : Fin 256) (L : Fin 2) (R : Fin 2048) (h0 : L.val = t.val / 8) (h2 : R.val = t.val % 8 * 256 + r.val) :
    (iblk m c 3 t : FVec Ideal S1x1288x256 .f32) (ix3 0 d r) = m ((c : Thread nD τ).loc main_arg3) (ix3 L R d) := by
  refine Eq.trans ?_ (v_v m c L d R)
  blk_ext [iblk, idx t, h0, h2]

theorem point4 (c : Dev nD) (t : Fin cfg0.N) (d : Fin 1288) (r : Fin 256) (L : Fin 2) (R : Fin 2048) (h0 : L.val = t.val / 8) (h2 : R.val = t.val % 8 * 256 + r.val) :
    (out0_4 (iblk m c 0 t) (iblk m c 1 t) (iblk m c 2 t) (iblk m c 3 t) : FVec Ideal S1x1288x256 .f32) (ix3 0 d r)
      = val_main_v26 (F := Ideal) (m ((c : Thread nD τ).loc main_arg0)) (ix3 L d R) := by
  unfold_out out0_4; frame_out
  pointwise [k0_pay1, k0_pay10, k0_pay11, k0_pay2, k0_pay3, k0_pay4, k0_pay5, k0_pay6, k0_pay7, k0_pay8, k0_pay9, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ d r L R h0 h2, b_w m c t d r L R h0 h2, b_m m c t d r L R h0 h2, b_v m c t d r L R h0 h2]

theorem at4 (c : Dev nD) (t : Fin cfg0.N) (y : S1x1288x256.Idx) (z : S2x1288x2048.Idx) (h0 : (z 0).val = t.val / 8) (h1 : (z 1).val = (y 1).val) (h2 : (z 2).val = t.val % 8 * 256 + (y 2).val) :
    (out0_4 (iblk m c 0 t) (iblk m c 1 t) (iblk m c 2 t) (iblk m c 3 t) : FVec Ideal S1x1288x256 .f32) y
      = val_main_v26 (F := Ideal) (m ((c : Thread nD τ).loc main_arg0)) z := by
  have hy : y = ix3 0 (y 1) (y 2) := funext fun i => by
    fin_cases i
    · exact Subsingleton.elim (α := Fin 1) _ _
    · rfl
    · rfl
  have hz : z = ix3 (z 0) (y 1) (z 2) := funext fun i => by
    fin_cases i
    · rfl
    · exact Fin.ext h1
    · rfl
  exact (congrArg (fun i => (out0_4 (iblk m c 0 t) (iblk m c 1 t) (iblk m c 2 t) (iblk m c 3 t) : FVec Ideal S1x1288x256 .f32) i) hy).trans
    ((point4 m c t (y 1) (y 2) (z 0) (z 2) h0 h2).trans (congrArg (fun i => val_main_v26 (F := Ideal) (m ((c : Thread nD τ).loc main_arg0)) i) hz.symm))

/-- The summed gradient. -/
theorem final4 (c : Dev nD) : (dats m 0 c).arrAt 4 (cfgs 0).N
    = val_main_v26 (F := Ideal) (m ((c : Thread nD τ).loc main_arg0)) := by
  refine (dats m 0 c).arrAt_eq_of_covers 4 _ (by decide +kernel) fun t _ y => ?_
  blk_simp
  rw [after0_4]
  exact at4 m c t y _ (by blk_simp [idx t]) (by blk_simp [idx t]) (by blk_simp [idx t])

theorem point5 (c : Dev nD) (t : Fin cfg0.N) (d : Fin 1288) (r : Fin 256) (L : Fin 2) (R : Fin 2048) (h0 : L.val = t.val / 8) (h2 : R.val = t.val % 8 * 256 + r.val) :
    (out0_5 (iblk m c 0 t) (iblk m c 1 t) (iblk m c 2 t) (iblk m c 3 t) : FVec Ideal S1x1288x256 .f32) (ix3 0 d r)
      = val_main_v27 (F := Ideal) (m ((c : Thread nD τ).loc main_arg0)) (m ((c : Thread nD τ).loc main_arg1)) (m ((c : Thread nD τ).loc main_arg2)) (m ((c : Thread nD τ).loc main_arg3)) (ix3 L d R) := by
  unfold_out out0_5; frame_out
  pointwise [k0_pay1, k0_pay10, k0_pay11, k0_pay2, k0_pay3, k0_pay4, k0_pay5, k0_pay6, k0_pay7, k0_pay8, k0_pay9, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ d r L R h0 h2, b_w m c t d r L R h0 h2, b_m m c t d r L R h0 h2, b_v m c t d r L R h0 h2]

theorem at5 (c : Dev nD) (t : Fin cfg0.N) (y : S1x1288x256.Idx) (z : S2x1288x2048.Idx) (h0 : (z 0).val = t.val / 8) (h1 : (z 1).val = (y 1).val) (h2 : (z 2).val = t.val % 8 * 256 + (y 2).val) :
    (out0_5 (iblk m c 0 t) (iblk m c 1 t) (iblk m c 2 t) (iblk m c 3 t) : FVec Ideal S1x1288x256 .f32) y
      = val_main_v27 (F := Ideal) (m ((c : Thread nD τ).loc main_arg0)) (m ((c : Thread nD τ).loc main_arg1)) (m ((c : Thread nD τ).loc main_arg2)) (m ((c : Thread nD τ).loc main_arg3)) z := by
  have hy : y = ix3 0 (y 1) (y 2) := funext fun i => by
    fin_cases i
    · exact Subsingleton.elim (α := Fin 1) _ _
    · rfl
    · rfl
  have hz : z = ix3 (z 0) (y 1) (z 2) := funext fun i => by
    fin_cases i
    · rfl
    · exact Fin.ext h1
    · rfl
  exact (congrArg (fun i => (out0_5 (iblk m c 0 t) (iblk m c 1 t) (iblk m c 2 t) (iblk m c 3 t) : FVec Ideal S1x1288x256 .f32) i) hy).trans
    ((point5 m c t (y 1) (y 2) (z 0) (z 2) h0 h2).trans (congrArg (fun i => val_main_v27 (F := Ideal) (m ((c : Thread nD τ).loc main_arg0)) (m ((c : Thread nD τ).loc main_arg1)) (m ((c : Thread nD τ).loc main_arg2)) (m ((c : Thread nD τ).loc main_arg3)) i) hz.symm))

/-- The change of the weight. -/
theorem final5 (c : Dev nD) : (dats m 0 c).arrAt 5 (cfgs 0).N
    = val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact at5 m c t y _ (by blk_simp [idx t]) (by blk_simp [idx t]) (by blk_simp [idx t])

theorem point6 (c : Dev nD) (t : Fin cfg0.N) (d : Fin 1288) (r : Fin 256) (L : Fin 2) (R : Fin 2048) (h0 : L.val = t.val / 8) (h2 : R.val = t.val % 8 * 256 + r.val) :
    (out0_6 (iblk m c 0 t) (iblk m c 1 t) (iblk m c 2 t) (iblk m c 3 t) : FVec Ideal S1x1288x256 .f32) (ix3 0 d r)
      = val_main_v28 (F := Ideal) (m ((c : Thread nD τ).loc main_arg0)) (m ((c : Thread nD τ).loc main_arg2)) (ix3 L d R) := by
  unfold_out out0_6; frame_out
  pointwise [k0_pay1, k0_pay10, k0_pay11, k0_pay2, k0_pay3, k0_pay4, k0_pay5, k0_pay6, k0_pay7, k0_pay8, k0_pay9, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ d r L R h0 h2, b_w m c t d r L R h0 h2, b_m m c t d r L R h0 h2, b_v m c t d r L R h0 h2]

theorem at6 (c : Dev nD) (t : Fin cfg0.N) (y : S1x1288x256.Idx) (z : S2x1288x2048.Idx) (h0 : (z 0).val = t.val / 8) (h1 : (z 1).val = (y 1).val) (h2 : (z 2).val = t.val % 8 * 256 + (y 2).val) :
    (out0_6 (iblk m c 0 t) (iblk m c 1 t) (iblk m c 2 t) (iblk m c 3 t) : FVec Ideal S1x1288x256 .f32) y
      = val_main_v28 (F := Ideal) (m ((c : Thread nD τ).loc main_arg0)) (m ((c : Thread nD τ).loc main_arg2)) z := by
  have hy : y = ix3 0 (y 1) (y 2) := funext fun i => by
    fin_cases i
    · exact Subsingleton.elim (α := Fin 1) _ _
    · rfl
    · rfl
  have hz : z = ix3 (z 0) (y 1) (z 2) := funext fun i => by
    fin_cases i
    · rfl
    · exact Fin.ext h1
    · rfl
  exact (congrArg (fun i => (out0_6 (iblk m c 0 t) (iblk m c 1 t) (iblk m c 2 t) (iblk m c 3 t) : FVec Ideal S1x1288x256 .f32) i) hy).trans
    ((point6 m c t (y 1) (y 2) (z 0) (z 2) h0 h2).trans (congrArg (fun i => val_main_v28 (F := Ideal) (m ((c : Thread nD τ).loc main_arg0)) (m ((c : Thread nD τ).loc main_arg2)) i) hz.symm))

/-- The new first moment. -/
theorem final6 (c : Dev nD) : (dats m 0 c).arrAt 6 (cfgs 0).N
    = val_main_v28 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  exact at6 m c t y _ (by blk_simp [idx t]) (by blk_simp [idx t]) (by blk_simp [idx t])

theorem point7 (c : Dev nD) (t : Fin cfg0.N) (d : Fin 1288) (r : Fin 256) (L : Fin 2) (R : Fin 2048) (h0 : L.val = t.val / 8) (h2 : R.val = t.val % 8 * 256 + r.val) :
    (out0_7 (iblk m c 0 t) (iblk m c 1 t) (iblk m c 2 t) (iblk m c 3 t) : FVec Ideal S1x1288x256 .f32) (ix3 0 d r)
      = val_main_v29 (F := Ideal) (m ((c : Thread nD τ).loc main_arg0)) (m ((c : Thread nD τ).loc main_arg3)) (ix3 L d R) := by
  unfold_out out0_7; frame_out
  pointwise [k0_pay1, k0_pay10, k0_pay11, k0_pay2, k0_pay3, k0_pay4, k0_pay5, k0_pay6, k0_pay7, k0_pay8, k0_pay9, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ d r L R h0 h2, b_w m c t d r L R h0 h2, b_m m c t d r L R h0 h2, b_v m c t d r L R h0 h2]

theorem at7 (c : Dev nD) (t : Fin cfg0.N) (y : S1x1288x256.Idx) (z : S2x1288x2048.Idx) (h0 : (z 0).val = t.val / 8) (h1 : (z 1).val = (y 1).val) (h2 : (z 2).val = t.val % 8 * 256 + (y 2).val) :
    (out0_7 (iblk m c 0 t) (iblk m c 1 t) (iblk m c 2 t) (iblk m c 3 t) : FVec Ideal S1x1288x256 .f32) y
      = val_main_v29 (F := Ideal) (m ((c : Thread nD τ).loc main_arg0)) (m ((c : Thread nD τ).loc main_arg3)) z := by
  have hy : y = ix3 0 (y 1) (y 2) := funext fun i => by
    fin_cases i
    · exact Subsingleton.elim (α := Fin 1) _ _
    · rfl
    · rfl
  have hz : z = ix3 (z 0) (y 1) (z 2) := funext fun i => by
    fin_cases i
    · rfl
    · exact Fin.ext h1
    · rfl
  exact (congrArg (fun i => (out0_7 (iblk m c 0 t) (iblk m c 1 t) (iblk m c 2 t) (iblk m c 3 t) : FVec Ideal S1x1288x256 .f32) i) hy).trans
    ((point7 m c t (y 1) (y 2) (z 0) (z 2) h0 h2).trans (congrArg (fun i => val_main_v29 (F := Ideal) (m ((c : Thread nD τ).loc main_arg0)) (m ((c : Thread nD τ).loc main_arg3)) i) hz.symm))

/-- The new second moment. -/
theorem final7 (c : Dev nD) : (dats m 0 c).arrAt 7 (cfgs 0).N
    = val_main_v29 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  exact at7 m c t y _ (by blk_simp [idx t]) (by blk_simp [idx t]) (by blk_simp [idx t])

end Cert.Kernel19Ideal.Update
end
-- ==== Proof.AdamOut.lean ====
module
public import proofs.«01_k».proof.Proof.Gen.Kernel18Ideal.Frame
public import proofs.«01_k».proof.Proof.Gen.Reference18Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel18Ideal.Update
open Cert.Kernel18Ideal Cert.Kernel18Ideal.Gen Cert.Reference18Ideal.Read

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem v_p (c : Dev nD) (k : Fin 8) (R : Fin 1024) (d : Fin 2048) :
    (V m c main_v0 : FVec Ideal S8x1024x2048 .bf16) (ix3 k R d) = m ((c : Thread nD τ).loc main_arg0) (ix4 k ⟨R.val / 512, by omega⟩ ⟨R.val % 512, by omega⟩ d) := by
  entry_read
  pointwise

/-- Part `k` of the gradient at a point. -/
theorem b_p (c : Dev nD) (t : Fin cfg0.N) (k : Fin 8) (r : Fin 256) (d : Fin 2048) (R : Fin 1024) (h0 : R.val = t.val * 256 + r.val) :
    (iblk m c 0 t : FVec Ideal S8x256x2048 .bf16) (ix3 k r d) = m ((c : Thread nD τ).loc main_arg0) (ix4 k ⟨R.val / 512, by omega⟩ ⟨R.val % 512, by omega⟩ d) := by
  refine Eq.trans ?_ (v_p m c k R d)
  blk_ext [iblk, idx t, h0]

theorem v_w (c : Dev nD) (R : Fin 1024) (d : Fin 2048) :
    (V m c main_v1 : FVec Ideal S1024x2048 .f32) (ix2 R d) = m ((c : Thread nD τ).loc main_arg1) (ix3 ⟨R.val / 512, by omega⟩ ⟨R.val % 512, by omega⟩ d) := by
  entry_read
  pointwise

theorem b_w (c : Dev nD) (t : Fin cfg0.N) (r : Fin 256) (d : Fin 2048) (R : Fin 1024) (h0 : R.val = t.val * 256 + r.val) :
    (iblk m c 1 t : FVec Ideal S256x2048 .f32) (ix2 r d) = m ((c : Thread nD τ).loc main_arg1) (ix3 ⟨R.val / 512, by omega⟩ ⟨R.val % 512, by omega⟩ d) := by
  refine Eq.trans ?_ (v_w m c R d)
  blk_ext [iblk, idx t, h0]

theorem v_m (c : Dev nD) (R : Fin 1024) (d : Fin 2048) :
    (V m c main_v2 : FVec Ideal S1024x2048 .f32) (ix2 R d) = m ((c : Thread nD τ).loc main_arg2) (ix3 ⟨R.val / 512, by omega⟩ ⟨R.val % 512, by omega⟩ d) := by
  entry_read
  pointwise

theorem b_m (c : Dev nD) (t : Fin cfg0.N) (r : Fin 256) (d : Fin 2048) (R : Fin 1024) (h0 : R.val = t.val * 256 + r.val) :
    (iblk m c 2 t : FVec Ideal S256x2048 .f32) (ix2 r d) = m ((c : Thread nD τ).loc main_arg2) (ix3 ⟨R.val / 512, by omega⟩ ⟨R.val % 512, by omega⟩ d) := by
  refine Eq.trans ?_ (v_m m c R d)
  blk_ext [iblk, idx t, h0]

theorem v_v (c : Dev nD) (R : Fin 1024) (d : Fin 2048) :
    (V m c main_v3 : FVec Ideal S1024x2048 .f32) (ix2 R d) = m ((c : Thread nD τ).loc main_arg3) (ix3 ⟨R.val / 512, by omega⟩ ⟨R.val % 512, by omega⟩ d) := by
  entry_read
  pointwise

theorem b_v (c : Dev nD) (t : Fin cfg0.N) (r : Fin 256) (d : Fin 2048) (R : Fin 1024) (h0 : R.val = t.val * 256 + r.val) :
    (iblk m c 3 t : FVec Ideal S256x2048 .f32) (ix2 r d) = m ((c : Thread nD τ).loc main_arg3) (ix3 ⟨R.val / 512, by omega⟩ ⟨R.val % 512, by omega⟩ d) := by
  refine Eq.trans ?_ (v_v m c R d)
  blk_ext [iblk, idx t, h0]

theorem point4 (c : Dev nD) (t : Fin cfg0.N) (r : Fin 256) (d : Fin 2048) (R : Fin 1024) (h0 : R.val = t.val * 256 + r.val) :
    (out0_4 (iblk m c 0 t) (iblk m c 1 t) (iblk m c 2 t) (iblk m c 3 t) : FVec Ideal S256x2048 .f32) (ix2 r d)
      = val_main_v26 (F := Ideal) (m ((c : Thread nD τ).loc main_arg0)) (ix2 R d) := by
  unfold_out out0_4; frame_out
  pointwise [k0_pay1, k0_pay2, k0_pay3, k0_pay4, k0_pay5, k0_pay6, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ r d R h0, b_w m c t r d R h0, b_m m c t r d R h0, b_v m c t r d R h0]

theorem at4 (c : Dev nD) (t : Fin cfg0.N) (y : S256x2048.Idx) (z : S1024x2048.Idx) (h0 : (z 0).val = t.val * 256 + (y 0).val) (h1 : (z 1).val = (y 1).val) :
    (out0_4 (iblk m c 0 t) (iblk m c 1 t) (iblk m c 2 t) (iblk m c 3 t) : FVec Ideal S256x2048 .f32) y
      = val_main_v26 (F := Ideal) (m ((c : Thread nD τ).loc main_arg0)) z := by
  have hy : y = ix2 (y 0) (y 1) := funext fun i => by fin_cases i <;> rfl
  have hz : z = ix2 (z 0) (y 1) := funext fun i => by
    fin_cases i
    · rfl
    · exact Fin.ext h1
  exact (congrArg (fun i => (out0_4 (iblk m c 0 t) (iblk m c 1 t) (iblk m c 2 t) (iblk m c 3 t) : FVec Ideal S256x2048 .f32) i) hy).trans
    ((point4 m c t (y 0) (y 1) (z 0) h0).trans (congrArg (fun i => val_main_v26 (F := Ideal) (m ((c : Thread nD τ).loc main_arg0)) i) hz.symm))

/-- The summed gradient. -/
theorem final4 (c : Dev nD) : (dats m 0 c).arrAt 4 (cfgs 0).N
    = val_main_v26 (F := Ideal) (m ((c : Thread nD τ).loc main_arg0)) := by
  refine (dats m 0 c).arrAt_eq_of_covers 4 _ (by decide +kernel) fun t _ y => ?_
  blk_simp
  rw [after0_4]
  exact at4 m c t y _ (by blk_simp [idx t]) (by blk_simp [idx t])

theorem point5 (c : Dev nD) (t : Fin cfg0.N) (r : Fin 256) (d : Fin 2048) (R : Fin 1024) (h0 : R.val = t.val * 256 + r.val) :
    (out0_5 (iblk m c 0 t) (iblk m c 1 t) (iblk m c 2 t) (iblk m c 3 t) : FVec Ideal S256x2048 .f32) (ix2 r d)
      = val_main_v27 (F := Ideal) (m ((c : Thread nD τ).loc main_arg0)) (m ((c : Thread nD τ).loc main_arg1)) (m ((c : Thread nD τ).loc main_arg2)) (m ((c : Thread nD τ).loc main_arg3)) (ix2 R d) := by
  unfold_out out0_5; frame_out
  pointwise [k0_pay1, k0_pay2, k0_pay3, k0_pay4, k0_pay5, k0_pay6, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ r d R h0, b_w m c t r d R h0, b_m m c t r d R h0, b_v m c t r d R h0]

theorem at5 (c : Dev nD) (t : Fin cfg0.N) (y : S256x2048.Idx) (z : S1024x2048.Idx) (h0 : (z 0).val = t.val * 256 + (y 0).val) (h1 : (z 1).val = (y 1).val) :
    (out0_5 (iblk m c 0 t) (iblk m c 1 t) (iblk m c 2 t) (iblk m c 3 t) : FVec Ideal S256x2048 .f32) y
      = val_main_v27 (F := Ideal) (m ((c : Thread nD τ).loc main_arg0)) (m ((c : Thread nD τ).loc main_arg1)) (m ((c : Thread nD τ).loc main_arg2)) (m ((c : Thread nD τ).loc main_arg3)) z := by
  have hy : y = ix2 (y 0) (y 1) := funext fun i => by fin_cases i <;> rfl
  have hz : z = ix2 (z 0) (y 1) := funext fun i => by
    fin_cases i
    · rfl
    · exact Fin.ext h1
  exact (congrArg (fun i => (out0_5 (iblk m c 0 t) (iblk m c 1 t) (iblk m c 2 t) (iblk m c 3 t) : FVec Ideal S256x2048 .f32) i) hy).trans
    ((point5 m c t (y 0) (y 1) (z 0) h0).trans (congrArg (fun i => val_main_v27 (F := Ideal) (m ((c : Thread nD τ).loc main_arg0)) (m ((c : Thread nD τ).loc main_arg1)) (m ((c : Thread nD τ).loc main_arg2)) (m ((c : Thread nD τ).loc main_arg3)) i) hz.symm))

/-- The change of the weight. -/
theorem final5 (c : Dev nD) : (dats m 0 c).arrAt 5 (cfgs 0).N
    = val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact at5 m c t y _ (by blk_simp [idx t]) (by blk_simp [idx t])

theorem point6 (c : Dev nD) (t : Fin cfg0.N) (r : Fin 256) (d : Fin 2048) (R : Fin 1024) (h0 : R.val = t.val * 256 + r.val) :
    (out0_6 (iblk m c 0 t) (iblk m c 1 t) (iblk m c 2 t) (iblk m c 3 t) : FVec Ideal S256x2048 .f32) (ix2 r d)
      = val_main_v28 (F := Ideal) (m ((c : Thread nD τ).loc main_arg0)) (m ((c : Thread nD τ).loc main_arg2)) (ix2 R d) := by
  unfold_out out0_6; frame_out
  pointwise [k0_pay1, k0_pay2, k0_pay3, k0_pay4, k0_pay5, k0_pay6, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ r d R h0, b_w m c t r d R h0, b_m m c t r d R h0, b_v m c t r d R h0]

theorem at6 (c : Dev nD) (t : Fin cfg0.N) (y : S256x2048.Idx) (z : S1024x2048.Idx) (h0 : (z 0).val = t.val * 256 + (y 0).val) (h1 : (z 1).val = (y 1).val) :
    (out0_6 (iblk m c 0 t) (iblk m c 1 t) (iblk m c 2 t) (iblk m c 3 t) : FVec Ideal S256x2048 .f32) y
      = val_main_v28 (F := Ideal) (m ((c : Thread nD τ).loc main_arg0)) (m ((c : Thread nD τ).loc main_arg2)) z := by
  have hy : y = ix2 (y 0) (y 1) := funext fun i => by fin_cases i <;> rfl
  have hz : z = ix2 (z 0) (y 1) := funext fun i => by
    fin_cases i
    · rfl
    · exact Fin.ext h1
  exact (congrArg (fun i => (out0_6 (iblk m c 0 t) (iblk m c 1 t) (iblk m c 2 t) (iblk m c 3 t) : FVec Ideal S256x2048 .f32) i) hy).trans
    ((point6 m c t (y 0) (y 1) (z 0) h0).trans (congrArg (fun i => val_main_v28 (F := Ideal) (m ((c : Thread nD τ).loc main_arg0)) (m ((c : Thread nD τ).loc main_arg2)) i) hz.symm))

/-- The new first moment. -/
theorem final6 (c : Dev nD) : (dats m 0 c).arrAt 6 (cfgs 0).N
    = val_main_v28 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  exact at6 m c t y _ (by blk_simp [idx t]) (by blk_simp [idx t])

theorem point7 (c : Dev nD) (t : Fin cfg0.N) (r : Fin 256) (d : Fin 2048) (R : Fin 1024) (h0 : R.val = t.val * 256 + r.val) :
    (out0_7 (iblk m c 0 t) (iblk m c 1 t) (iblk m c 2 t) (iblk m c 3 t) : FVec Ideal S256x2048 .f32) (ix2 r d)
      = val_main_v29 (F := Ideal) (m ((c : Thread nD τ).loc main_arg0)) (m ((c : Thread nD τ).loc main_arg3)) (ix2 R d) := by
  unfold_out out0_7; frame_out
  pointwise [k0_pay1, k0_pay2, k0_pay3, k0_pay4, k0_pay5, k0_pay6, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ r d R h0, b_w m c t r d R h0, b_m m c t r d R h0, b_v m c t r d R h0]

theorem at7 (c : Dev nD) (t : Fin cfg0.N) (y : S256x2048.Idx) (z : S1024x2048.Idx) (h0 : (z 0).val = t.val * 256 + (y 0).val) (h1 : (z 1).val = (y 1).val) :
    (out0_7 (iblk m c 0 t) (iblk m c 1 t) (iblk m c 2 t) (iblk m c 3 t) : FVec Ideal S256x2048 .f32) y
      = val_main_v29 (F := Ideal) (m ((c : Thread nD τ).loc main_arg0)) (m ((c : Thread nD τ).loc main_arg3)) z := by
  have hy : y = ix2 (y 0) (y 1) := funext fun i => by fin_cases i <;> rfl
  have hz : z = ix2 (z 0) (y 1) := funext fun i => by
    fin_cases i
    · rfl
    · exact Fin.ext h1
  exact (congrArg (fun i => (out0_7 (iblk m c 0 t) (iblk m c 1 t) (iblk m c 2 t) (iblk m c 3 t) : FVec Ideal S256x2048 .f32) i) hy).trans
    ((point7 m c t (y 0) (y 1) (z 0) h0).trans (congrArg (fun i => val_main_v29 (F := Ideal) (m ((c : Thread nD τ).loc main_arg0)) (m ((c : Thread nD τ).loc main_arg3)) i) hz.symm))

/-- The new second moment. -/
theorem final7 (c : Dev nD) : (dats m 0 c).arrAt 7 (cfgs 0).N
    = val_main_v29 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  exact at7 m c t y _ (by blk_simp [idx t]) (by blk_simp [idx t])

end Cert.Kernel18Ideal.Update
end
-- ==== Proof.AdamPool.lean ====
module
public import proofs.«01_k».proof.Proof.Gen.Kernel17Ideal.Frame
public import proofs.«01_k».proof.Proof.Gen.Reference17Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel17Ideal.Update
open Cert.Kernel17Ideal Cert.Kernel17Ideal.Gen Cert.Reference17Ideal.Read

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem v_p (c : Dev nD) (k : Fin 8) (R : Fin 512) (d : Fin 512) :
    (V m c main_v0 : FVec Ideal S8x512x512 .bf16) (ix3 k R d) = m ((c : Thread nD τ).loc main_arg0) (ix5 k ⟨R.val / 256, by omega⟩ ⟨R.val / 64 % 4, by omega⟩ ⟨R.val % 64, by omega⟩ d) := by
  entry_read
  pointwise

/-- Part `k` of the gradient at a point. -/
theorem b_p (c : Dev nD) (t : Fin cfg0.N) (k : Fin 8) (r : Fin 256) (d : Fin 512) (R : Fin 512) (h0 : R.val = t.val * 256 + r.val) :
    (iblk m c 0 t : FVec Ideal S8x256x512 .bf16) (ix3 k r d) = m ((c : Thread nD τ).loc main_arg0) (ix5 k ⟨R.val / 256, by omega⟩ ⟨R.val / 64 % 4, by omega⟩ ⟨R.val % 64, by omega⟩ d) := by
  refine Eq.trans ?_ (v_p m c k R d)
  blk_ext [iblk, idx t, h0]

theorem v_w (c : Dev nD) (R : Fin 512) (d : Fin 512) :
    (V m c main_v1 : FVec Ideal S512x512 .f32) (ix2 R d) = m ((c : Thread nD τ).loc main_arg1) (ix4 ⟨R.val / 256, by omega⟩ ⟨R.val / 64 % 4, by omega⟩ ⟨R.val % 64, by omega⟩ d) := by
  entry_read
  pointwise

theorem b_w (c : Dev nD) (t : Fin cfg0.N) (r : Fin 256) (d : Fin 512) (R : Fin 512) (h0 : R.val = t.val * 256 + r.val) :
    (iblk m c 1 t : FVec Ideal S256x512 .f32) (ix2 r d) = m ((c : Thread nD τ).loc main_arg1) (ix4 ⟨R.val / 256, by omega⟩ ⟨R.val / 64 % 4, by omega⟩ ⟨R.val % 64, by omega⟩ d) := by
  refine Eq.trans ?_ (v_w m c R d)
  blk_ext [iblk, idx t, h0]

theorem v_m (c : Dev nD) (R : Fin 512) (d : Fin 512) :
    (V m c main_v2 : FVec Ideal S512x512 .f32) (ix2 R d) = m ((c : Thread nD τ).loc main_arg2) (ix4 ⟨R.val / 256, by omega⟩ ⟨R.val / 64 % 4, by omega⟩ ⟨R.val % 64, by omega⟩ d) := by
  entry_read
  pointwise

theorem b_m (c : Dev nD) (t : Fin cfg0.N) (r : Fin 256) (d : Fin 512) (R : Fin 512) (h0 : R.val = t.val * 256 + r.val) :
    (iblk m c 2 t : FVec Ideal S256x512 .f32) (ix2 r d) = m ((c : Thread nD τ).loc main_arg2) (ix4 ⟨R.val / 256, by omega⟩ ⟨R.val / 64 % 4, by omega⟩ ⟨R.val % 64, by omega⟩ d) := by
  refine Eq.trans ?_ (v_m m c R d)
  blk_ext [iblk, idx t, h0]

theorem v_v (c : Dev nD) (R : Fin 512) (d : Fin 512) :
    (V m c main_v3 : FVec Ideal S512x512 .f32) (ix2 R d) = m ((c : Thread nD τ).loc main_arg3) (ix4 ⟨R.val / 256, by omega⟩ ⟨R.val / 64 % 4, by omega⟩ ⟨R.val % 64, by omega⟩ d) := by
  entry_read
  pointwise

theorem b_v (c : Dev nD) (t : Fin cfg0.N) (r : Fin 256) (d : Fin 512) (R : Fin 512) (h0 : R.val = t.val * 256 + r.val) :
    (iblk m c 3 t : FVec Ideal S256x512 .f32) (ix2 r d) = m ((c : Thread nD τ).loc main_arg3) (ix4 ⟨R.val / 256, by omega⟩ ⟨R.val / 64 % 4, by omega⟩ ⟨R.val % 64, by omega⟩ d) := by
  refine Eq.trans ?_ (v_v m c R d)
  blk_ext [iblk, idx t, h0]

theorem point4 (c : Dev nD) (t : Fin cfg0.N) (r : Fin 256) (d : Fin 512) (R : Fin 512) (h0 : R.val = t.val * 256 + r.val) :
    (out0_4 (iblk m c 0 t) (iblk m c 1 t) (iblk m c 2 t) (iblk m c 3 t) : FVec Ideal S256x512 .f32) (ix2 r d)
      = val_main_v26 (F := Ideal) (m ((c : Thread nD τ).loc main_arg0)) (ix2 R d) := by
  unfold_out out0_4; frame_out
  pointwise [k0_pay1, k0_pay2, k0_pay3, k0_pay4, k0_pay5, k0_pay6, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ r d R h0, b_w m c t r d R h0, b_m m c t r d R h0, b_v m c t r d R h0]

theorem at4 (c : Dev nD) (t : Fin cfg0.N) (y : S256x512.Idx) (z : S512x512.Idx) (h0 : (z 0).val = t.val * 256 + (y 0).val) (h1 : (z 1).val = (y 1).val) :
    (out0_4 (iblk m c 0 t) (iblk m c 1 t) (iblk m c 2 t) (iblk m c 3 t) : FVec Ideal S256x512 .f32) y
      = val_main_v26 (F := Ideal) (m ((c : Thread nD τ).loc main_arg0)) z := by
  have hy : y = ix2 (y 0) (y 1) := funext fun i => by fin_cases i <;> rfl
  have hz : z = ix2 (z 0) (y 1) := funext fun i => by
    fin_cases i
    · rfl
    · exact Fin.ext h1
  exact (congrArg (fun i => (out0_4 (iblk m c 0 t) (iblk m c 1 t) (iblk m c 2 t) (iblk m c 3 t) : FVec Ideal S256x512 .f32) i) hy).trans
    ((point4 m c t (y 0) (y 1) (z 0) h0).trans (congrArg (fun i => val_main_v26 (F := Ideal) (m ((c : Thread nD τ).loc main_arg0)) i) hz.symm))

/-- The summed gradient. -/
theorem final4 (c : Dev nD) : (dats m 0 c).arrAt 4 (cfgs 0).N
    = val_main_v26 (F := Ideal) (m ((c : Thread nD τ).loc main_arg0)) := by
  refine (dats m 0 c).arrAt_eq_of_covers 4 _ (by decide +kernel) fun t _ y => ?_
  blk_simp
  rw [after0_4]
  exact at4 m c t y _ (by blk_simp [idx t]) (by blk_simp [idx t])

theorem point5 (c : Dev nD) (t : Fin cfg0.N) (r : Fin 256) (d : Fin 512) (R : Fin 512) (h0 : R.val = t.val * 256 + r.val) :
    (out0_5 (iblk m c 0 t) (iblk m c 1 t) (iblk m c 2 t) (iblk m c 3 t) : FVec Ideal S256x512 .f32) (ix2 r d)
      = val_main_v27 (F := Ideal) (m ((c : Thread nD τ).loc main_arg0)) (m ((c : Thread nD τ).loc main_arg1)) (m ((c : Thread nD τ).loc main_arg2)) (m ((c : Thread nD τ).loc main_arg3)) (ix2 R d) := by
  unfold_out out0_5; frame_out
  pointwise [k0_pay1, k0_pay2, k0_pay3, k0_pay4, k0_pay5, k0_pay6, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ r d R h0, b_w m c t r d R h0, b_m m c t r d R h0, b_v m c t r d R h0]

theorem at5 (c : Dev nD) (t : Fin cfg0.N) (y : S256x512.Idx) (z : S512x512.Idx) (h0 : (z 0).val = t.val * 256 + (y 0).val) (h1 : (z 1).val = (y 1).val) :
    (out0_5 (iblk m c 0 t) (iblk m c 1 t) (iblk m c 2 t) (iblk m c 3 t) : FVec Ideal S256x512 .f32) y
      = val_main_v27 (F := Ideal) (m ((c : Thread nD τ).loc main_arg0)) (m ((c : Thread nD τ).loc main_arg1)) (m ((c : Thread nD τ).loc main_arg2)) (m ((c : Thread nD τ).loc main_arg3)) z := by
  have hy : y = ix2 (y 0) (y 1) := funext fun i => by fin_cases i <;> rfl
  have hz : z = ix2 (z 0) (y 1) := funext fun i => by
    fin_cases i
    · rfl
    · exact Fin.ext h1
  exact (congrArg (fun i => (out0_5 (iblk m c 0 t) (iblk m c 1 t) (iblk m c 2 t) (iblk m c 3 t) : FVec Ideal S256x512 .f32) i) hy).trans
    ((point5 m c t (y 0) (y 1) (z 0) h0).trans (congrArg (fun i => val_main_v27 (F := Ideal) (m ((c : Thread nD τ).loc main_arg0)) (m ((c : Thread nD τ).loc main_arg1)) (m ((c : Thread nD τ).loc main_arg2)) (m ((c : Thread nD τ).loc main_arg3)) i) hz.symm))

/-- The change of the weight. -/
theorem final5 (c : Dev nD) : (dats m 0 c).arrAt 5 (cfgs 0).N
    = val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact at5 m c t y _ (by blk_simp [idx t]) (by blk_simp [idx t])

theorem point6 (c : Dev nD) (t : Fin cfg0.N) (r : Fin 256) (d : Fin 512) (R : Fin 512) (h0 : R.val = t.val * 256 + r.val) :
    (out0_6 (iblk m c 0 t) (iblk m c 1 t) (iblk m c 2 t) (iblk m c 3 t) : FVec Ideal S256x512 .f32) (ix2 r d)
      = val_main_v28 (F := Ideal) (m ((c : Thread nD τ).loc main_arg0)) (m ((c : Thread nD τ).loc main_arg2)) (ix2 R d) := by
  unfold_out out0_6; frame_out
  pointwise [k0_pay1, k0_pay2, k0_pay3, k0_pay4, k0_pay5, k0_pay6, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ r d R h0, b_w m c t r d R h0, b_m m c t r d R h0, b_v m c t r d R h0]

theorem at6 (c : Dev nD) (t : Fin cfg0.N) (y : S256x512.Idx) (z : S512x512.Idx) (h0 : (z 0).val = t.val * 256 + (y 0).val) (h1 : (z 1).val = (y 1).val) :
    (out0_6 (iblk m c 0 t) (iblk m c 1 t) (iblk m c 2 t) (iblk m c 3 t) : FVec Ideal S256x512 .f32) y
      = val_main_v28 (F := Ideal) (m ((c : Thread nD τ).loc main_arg0)) (m ((c : Thread nD τ).loc main_arg2)) z := by
  have hy : y = ix2 (y 0) (y 1) := funext fun i => by fin_cases i <;> rfl
  have hz : z = ix2 (z 0) (y 1) := funext fun i => by
    fin_cases i
    · rfl
    · exact Fin.ext h1
  exact (congrArg (fun i => (out0_6 (iblk m c 0 t) (iblk m c 1 t) (iblk m c 2 t) (iblk m c 3 t) : FVec Ideal S256x512 .f32) i) hy).trans
    ((point6 m c t (y 0) (y 1) (z 0) h0).trans (congrArg (fun i => val_main_v28 (F := Ideal) (m ((c : Thread nD τ).loc main_arg0)) (m ((c : Thread nD τ).loc main_arg2)) i) hz.symm))

/-- The new first moment. -/
theorem final6 (c : Dev nD) : (dats m 0 c).arrAt 6 (cfgs 0).N
    = val_main_v28 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  exact at6 m c t y _ (by blk_simp [idx t]) (by blk_simp [idx t])

theorem point7 (c : Dev nD) (t : Fin cfg0.N) (r : Fin 256) (d : Fin 512) (R : Fin 512) (h0 : R.val = t.val * 256 + r.val) :
    (out0_7 (iblk m c 0 t) (iblk m c 1 t) (iblk m c 2 t) (iblk m c 3 t) : FVec Ideal S256x512 .f32) (ix2 r d)
      = val_main_v29 (F := Ideal) (m ((c : Thread nD τ).loc main_arg0)) (m ((c : Thread nD τ).loc main_arg3)) (ix2 R d) := by
  unfold_out out0_7; frame_out
  pointwise [k0_pay1, k0_pay2, k0_pay3, k0_pay4, k0_pay5, k0_pay6, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ r d R h0, b_w m c t r d R h0, b_m m c t r d R h0, b_v m c t r d R h0]

theorem at7 (c : Dev nD) (t : Fin cfg0.N) (y : S256x512.Idx) (z : S512x512.Idx) (h0 : (z 0).val = t.val * 256 + (y 0).val) (h1 : (z 1).val = (y 1).val) :
    (out0_7 (iblk m c 0 t) (iblk m c 1 t) (iblk m c 2 t) (iblk m c 3 t) : FVec Ideal S256x512 .f32) y
      = val_main_v29 (F := Ideal) (m ((c : Thread nD τ).loc main_arg0)) (m ((c : Thread nD τ).loc main_arg3)) z := by
  have hy : y = ix2 (y 0) (y 1) := funext fun i => by fin_cases i <;> rfl
  have hz : z = ix2 (z 0) (y 1) := funext fun i => by
    fin_cases i
    · rfl
    · exact Fin.ext h1
  exact (congrArg (fun i => (out0_7 (iblk m c 0 t) (iblk m c 1 t) (iblk m c 2 t) (iblk m c 3 t) : FVec Ideal S256x512 .f32) i) hy).trans
    ((point7 m c t (y 0) (y 1) (z 0) h0).trans (congrArg (fun i => val_main_v29 (F := Ideal) (m ((c : Thread nD τ).loc main_arg0)) (m ((c : Thread nD τ).loc main_arg3)) i) hz.symm))

/-- The new second moment. -/
theorem final7 (c : Dev nD) : (dats m 0 c).arrAt 7 (cfgs 0).N
    = val_main_v29 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  exact at7 m c t y _ (by blk_simp [idx t]) (by blk_simp [idx t])

end Cert.Kernel17Ideal.Update
end
-- ==== Proof.AdamDown.lean ====
module
public import proofs.«01_k».proof.Proof.Gen.Kernel16Ideal.Frame
public import proofs.«01_k».proof.Proof.Gen.Reference16Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel16Ideal.Update
open Cert.Kernel16Ideal Cert.Kernel16Ideal.Gen Cert.Reference16Ideal.Read

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem v_p (c : Dev nD) (k : Fin 8) (R : Fin 2816) (d : Fin 2048) :
    (V m c main_v0 : FVec Ideal S8x2816x2048 .bf16) (ix3 k R d) = m ((c : Thread nD τ).loc main_arg0) (ix4 k ⟨R.val / 704, by omega⟩ ⟨R.val % 704, by omega⟩ d) := by
  entry_read
  pointwise

/-- Part `k` of the gradient at a point. -/
theorem b_p (c : Dev nD) (t : Fin cfg0.N) (k : Fin 8) (r : Fin 256) (d : Fin 2048) (R : Fin 2816) (h0 : R.val = t.val * 256 + r.val) :
    (iblk m c 0 t : FVec Ideal S8x256x2048 .bf16) (ix3 k r d) = m ((c : Thread nD τ).loc main_arg0) (ix4 k ⟨R.val / 704, by omega⟩ ⟨R.val % 704, by omega⟩ d) := by
  refine Eq.trans ?_ (v_p m c k R d)
  blk_ext [iblk, idx t, h0]

theorem v_w (c : Dev nD) (R : Fin 2816) (d : Fin 2048) :
    (V m c main_v1 : FVec Ideal S2816x2048 .f32) (ix2 R d) = m ((c : Thread nD τ).loc main_arg1) (ix3 ⟨R.val / 704, by omega⟩ ⟨R.val % 704, by omega⟩ d) := by
  entry_read
  pointwise

theorem b_w (c : Dev nD) (t : Fin cfg0.N) (r : Fin 256) (d : Fin 2048) (R : Fin 2816) (h0 : R.val = t.val * 256 + r.val) :
    (iblk m c 1 t : FVec Ideal S256x2048 .f32) (ix2 r d) = m ((c : Thread nD τ).loc main_arg1) (ix3 ⟨R.val / 704, by omega⟩ ⟨R.val % 704, by omega⟩ d) := by
  refine Eq.trans ?_ (v_w m c R d)
  blk_ext [iblk, idx t, h0]

theorem v_m (c : Dev nD) (R : Fin 2816) (d : Fin 2048) :
    (V m c main_v2 : FVec Ideal S2816x2048 .f32) (ix2 R d) = m ((c : Thread nD τ).loc main_arg2) (ix3 ⟨R.val / 704, by omega⟩ ⟨R.val % 704, by omega⟩ d) := by
  entry_read
  pointwise

theorem b_m (c : Dev nD) (t : Fin cfg0.N) (r : Fin 256) (d : Fin 2048) (R : Fin 2816) (h0 : R.val = t.val * 256 + r.val) :
    (iblk m c 2 t : FVec Ideal S256x2048 .f32) (ix2 r d) = m ((c : Thread nD τ).loc main_arg2) (ix3 ⟨R.val / 704, by omega⟩ ⟨R.val % 704, by omega⟩ d) := by
  refine Eq.trans ?_ (v_m m c R d)
  blk_ext [iblk, idx t, h0]

theorem v_v (c : Dev nD) (R : Fin 2816) (d : Fin 2048) :
    (V m c main_v3 : FVec Ideal S2816x2048 .f32) (ix2 R d) = m ((c : Thread nD τ).loc main_arg3) (ix3 ⟨R.val / 704, by omega⟩ ⟨R.val % 704, by omega⟩ d) := by
  entry_read
  pointwise

theorem b_v (c : Dev nD) (t : Fin cfg0.N) (r : Fin 256) (d : Fin 2048) (R : Fin 2816) (h0 : R.val = t.val * 256 + r.val) :
    (iblk m c 3 t : FVec Ideal S256x2048 .f32) (ix2 r d) = m ((c : Thread nD τ).loc main_arg3) (ix3 ⟨R.val / 704, by omega⟩ ⟨R.val % 704, by omega⟩ d) := by
  refine Eq.trans ?_ (v_v m c R d)
  blk_ext [iblk, idx t, h0]

theorem point4 (c : Dev nD) (t : Fin cfg0.N) (r : Fin 256) (d : Fin 2048) (R : Fin 2816) (h0 : R.val = t.val * 256 + r.val) :
    (out0_4 (iblk m c 0 t) (iblk m c 1 t) (iblk m c 2 t) (iblk m c 3 t) : FVec Ideal S256x2048 .f32) (ix2 r d)
      = val_main_v26 (F := Ideal) (m ((c : Thread nD τ).loc main_arg0)) (ix2 R d) := by
  unfold_out out0_4; frame_out
  pointwise [k0_pay1, k0_pay2, k0_pay3, k0_pay4, k0_pay5, k0_pay6, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ r d R h0, b_w m c t r d R h0, b_m m c t r d R h0, b_v m c t r d R h0]

theorem at4 (c : Dev nD) (t : Fin cfg0.N) (y : S256x2048.Idx) (z : S2816x2048.Idx) (h0 : (z 0).val = t.val * 256 + (y 0).val) (h1 : (z 1).val = (y 1).val) :
    (out0_4 (iblk m c 0 t) (iblk m c 1 t) (iblk m c 2 t) (iblk m c 3 t) : FVec Ideal S256x2048 .f32) y
      = val_main_v26 (F := Ideal) (m ((c : Thread nD τ).loc main_arg0)) z := by
  have hy : y = ix2 (y 0) (y 1) := funext fun i => by fin_cases i <;> rfl
  have hz : z = ix2 (z 0) (y 1) := funext fun i => by
    fin_cases i
    · rfl
    · exact Fin.ext h1
  exact (congrArg (fun i => (out0_4 (iblk m c 0 t) (iblk m c 1 t) (iblk m c 2 t) (iblk m c 3 t) : FVec Ideal S256x2048 .f32) i) hy).trans
    ((point4 m c t (y 0) (y 1) (z 0) h0).trans (congrArg (fun i => val_main_v26 (F := Ideal) (m ((c : Thread nD τ).loc main_arg0)) i) hz.symm))

/-- The summed gradient. -/
theorem final4 (c : Dev nD) : (dats m 0 c).arrAt 4 (cfgs 0).N
    = val_main_v26 (F := Ideal) (m ((c : Thread nD τ).loc main_arg0)) := by
  refine (dats m 0 c).arrAt_eq_of_covers 4 _ (by decide +kernel) fun t _ y => ?_
  blk_simp
  rw [after0_4]
  exact at4 m c t y _ (by blk_simp [idx t]) (by blk_simp [idx t])

theorem point5 (c : Dev nD) (t : Fin cfg0.N) (r : Fin 256) (d : Fin 2048) (R : Fin 2816) (h0 : R.val = t.val * 256 + r.val) :
    (out0_5 (iblk m c 0 t) (iblk m c 1 t) (iblk m c 2 t) (iblk m c 3 t) : FVec Ideal S256x2048 .f32) (ix2 r d)
      = val_main_v27 (F := Ideal) (m ((c : Thread nD τ).loc main_arg0)) (m ((c : Thread nD τ).loc main_arg1)) (m ((c : Thread nD τ).loc main_arg2)) (m ((c : Thread nD τ).loc main_arg3)) (ix2 R d) := by
  unfold_out out0_5; frame_out
  pointwise [k0_pay1, k0_pay2, k0_pay3, k0_pay4, k0_pay5, k0_pay6, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ r d R h0, b_w m c t r d R h0, b_m m c t r d R h0, b_v m c t r d R h0]

theorem at5 (c : Dev nD) (t : Fin cfg0.N) (y : S256x2048.Idx) (z : S2816x2048.Idx) (h0 : (z 0).val = t.val * 256 + (y 0).val) (h1 : (z 1).val = (y 1).val) :
    (out0_5 (iblk m c 0 t) (iblk m c 1 t) (iblk m c 2 t) (iblk m c 3 t) : FVec Ideal S256x2048 .f32) y
      = val_main_v27 (F := Ideal) (m ((c : Thread nD τ).loc main_arg0)) (m ((c : Thread nD τ).loc main_arg1)) (m ((c : Thread nD τ).loc main_arg2)) (m ((c : Thread nD τ).loc main_arg3)) z := by
  have hy : y = ix2 (y 0) (y 1) := funext fun i => by fin_cases i <;> rfl
  have hz : z = ix2 (z 0) (y 1) := funext fun i => by
    fin_cases i
    · rfl
    · exact Fin.ext h1
  exact (congrArg (fun i => (out0_5 (iblk m c 0 t) (iblk m c 1 t) (iblk m c 2 t) (iblk m c 3 t) : FVec Ideal S256x2048 .f32) i) hy).trans
    ((point5 m c t (y 0) (y 1) (z 0) h0).trans (congrArg (fun i => val_main_v27 (F := Ideal) (m ((c : Thread nD τ).loc main_arg0)) (m ((c : Thread nD τ).loc main_arg1)) (m ((c : Thread nD τ).loc main_arg2)) (m ((c : Thread nD τ).loc main_arg3)) i) hz.symm))

/-- The change of the weight. -/
theorem final5 (c : Dev nD) : (dats m 0 c).arrAt 5 (cfgs 0).N
    = val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact at5 m c t y _ (by blk_simp [idx t]) (by blk_simp [idx t])

theorem point6 (c : Dev nD) (t : Fin cfg0.N) (r : Fin 256) (d : Fin 2048) (R : Fin 2816) (h0 : R.val = t.val * 256 + r.val) :
    (out0_6 (iblk m c 0 t) (iblk m c 1 t) (iblk m c 2 t) (iblk m c 3 t) : FVec Ideal S256x2048 .f32) (ix2 r d)
      = val_main_v28 (F := Ideal) (m ((c : Thread nD τ).loc main_arg0)) (m ((c : Thread nD τ).loc main_arg2)) (ix2 R d) := by
  unfold_out out0_6; frame_out
  pointwise [k0_pay1, k0_pay2, k0_pay3, k0_pay4, k0_pay5, k0_pay6, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ r d R h0, b_w m c t r d R h0, b_m m c t r d R h0, b_v m c t r d R h0]

theorem at6 (c : Dev nD) (t : Fin cfg0.N) (y : S256x2048.Idx) (z : S2816x2048.Idx) (h0 : (z 0).val = t.val * 256 + (y 0).val) (h1 : (z 1).val = (y 1).val) :
    (out0_6 (iblk m c 0 t) (iblk m c 1 t) (iblk m c 2 t) (iblk m c 3 t) : FVec Ideal S256x2048 .f32) y
      = val_main_v28 (F := Ideal) (m ((c : Thread nD τ).loc main_arg0)) (m ((c : Thread nD τ).loc main_arg2)) z := by
  have hy : y = ix2 (y 0) (y 1) := funext fun i => by fin_cases i <;> rfl
  have hz : z = ix2 (z 0) (y 1) := funext fun i => by
    fin_cases i
    · rfl
    · exact Fin.ext h1
  exact (congrArg (fun i => (out0_6 (iblk m c 0 t) (iblk m c 1 t) (iblk m c 2 t) (iblk m c 3 t) : FVec Ideal S256x2048 .f32) i) hy).trans
    ((point6 m c t (y 0) (y 1) (z 0) h0).trans (congrArg (fun i => val_main_v28 (F := Ideal) (m ((c : Thread nD τ).loc main_arg0)) (m ((c : Thread nD τ).loc main_arg2)) i) hz.symm))

/-- The new first moment. -/
theorem final6 (c : Dev nD) : (dats m 0 c).arrAt 6 (cfgs 0).N
    = val_main_v28 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  exact at6 m c t y _ (by blk_simp [idx t]) (by blk_simp [idx t])

theorem point7 (c : Dev nD) (t : Fin cfg0.N) (r : Fin 256) (d : Fin 2048) (R : Fin 2816) (h0 : R.val = t.val * 256 + r.val) :
    (out0_7 (iblk m c 0 t) (iblk m c 1 t) (iblk m c 2 t) (iblk m c 3 t) : FVec Ideal S256x2048 .f32) (ix2 r d)
      = val_main_v29 (F := Ideal) (m ((c : Thread nD τ).loc main_arg0)) (m ((c : Thread nD τ).loc main_arg3)) (ix2 R d) := by
  unfold_out out0_7; frame_out
  pointwise [k0_pay1, k0_pay2, k0_pay3, k0_pay4, k0_pay5, k0_pay6, val_main_v0, val_main_cst, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25, val_main_v26, val_main_v27, val_main_v28, val_main_v29, Fin.sum_univ_eight, b_p m c t _ r d R h0, b_w m c t r d R h0, b_m m c t r d R h0, b_v m c t r d R h0]

theorem at7 (c : Dev nD) (t : Fin cfg0.N) (y : S256x2048.Idx) (z : S2816x2048.Idx) (h0 : (z 0).val = t.val * 256 + (y 0).val) (h1 : (z 1).val = (y 1).val) :
    (out0_7 (iblk m c 0 t) (iblk m c 1 t) (iblk m c 2 t) (iblk m c 3 t) : FVec Ideal S256x2048 .f32) y
      = val_main_v29 (F := Ideal) (m ((c : Thread nD τ).loc main_arg0)) (m ((c : Thread nD τ).loc main_arg3)) z := by
  have hy : y = ix2 (y 0) (y 1) := funext fun i => by fin_cases i <;> rfl
  have hz : z = ix2 (z 0) (y 1) := funext fun i => by
    fin_cases i
    · rfl
    · exact Fin.ext h1
  exact (congrArg (fun i => (out0_7 (iblk m c 0 t) (iblk m c 1 t) (iblk m c 2 t) (iblk m c 3 t) : FVec Ideal S256x2048 .f32) i) hy).trans
    ((point7 m c t (y 0) (y 1) (z 0) h0).trans (congrArg (fun i => val_main_v29 (F := Ideal) (m ((c : Thread nD τ).loc main_arg0)) (m ((c : Thread nD τ).loc main_arg3)) i) hz.symm))

/-- The new second moment. -/
theorem final7 (c : Dev nD) : (dats m 0 c).arrAt 7 (cfgs 0).N
    = val_main_v29 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  exact at7 m c t y _ (by blk_simp [idx t]) (by blk_simp [idx t])

end Cert.Kernel16Ideal.Update
end
-- ==== Proof.AdamUp.lean ====
module
public import proofs.«01_k».proof.Proof.Gen.Kernel15Ideal.Frame
public import proofs.«01_k».proof.Proof.Gen.Reference15Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel15Ideal.Update
open Cert.Kernel15Ideal Cert.Kernel15Ideal.Gen Cert.Reference15Ideal.Read

variable (m : (ℓ : Loc nD τ sig) → Buf (Elt Ideal) ℓ)

theorem idx : ∀ t : Fin cfg0.N, win0_0.index t = ![0, t.val / 8, 1, t.val % 8, 0] ∧ win0_1.index t = ![t.val / 8, 0, t.val % 8] ∧ win0_2.index t = ![t.val / 8, 0, t.val % 8] ∧ win0_3.index t = ![t.val / 8, 0, t.val % 8] ∧ win0_4.index t = ![t.val / 8, 0, t.val % 8] ∧ win0_5.index t = ![t.val / 8, 0, t.val % 8] ∧ win0_6.index t = ![t.val / 8, 0, t.val % 8] ∧ win0_7.index t = ![t.val / 8, 0, t.val % 8] :=
  (by decide +kernel : ∀ t : Fin grid0.N, _)

/-- Part `k` of the gradient at a point. -/
theorem b_p (c : Dev nD) (t : Fin cfg0.N) (k : Fin 8) (d : Fin 704) (r : Fin 256) (L : Fin 4) (R : Fin 2048) (h0 : L.val = t.val / 8) (h2 : R.val = t.val % 8 * 256 + r.val) :
    (iblk m c 0 t : FVec Ideal S8x1x1x256x704 .bf16) (ix5 k 0 0 r d) = m ((c : Thread nD τ).loc main_arg0) (ix5 k L 1 R d) := by
  blk_ext [iblk, idx t, h0, h2]

theorem v_w (c : Dev nD) (L : Fin 4) (d : Fin 704) (R : Fin 2048) :
    (V m c main_v0 : FVec Ideal S4x704x2048 .f32) (ix3 L d R) = m ((c : Thread nD τ).loc main_arg1) (ix3 L R d) := by
  entry_read
  pointwise

theorem b_w (c : Dev nD) (t : Fin cfg0.N) (d : Fin 704) (r : Fin 256) (L : Fin 4) (R : Fin 2048) (h0 : L.val = t.val / 8) (h2 : R.val = t.val % 8 * 256 + r.val) :
    (iblk m c 1 t : FVec Ideal S1x704x256 .f32) (ix3 0 d r) = m ((c : Thread nD τ).loc main_arg1) (ix3 L R d) := by
  refine Eq.trans ?_ (v_w m c L d R)
  blk_ext [iblk, idx t, h0, h2]

theorem v_m (c : Dev nD) (L : Fin 4) (d : Fin 704) (R : Fin 2048) :
    (V m c main_v1 : FVec Ideal S4x704x2048 .f32) (ix3 L d R) = m ((c : Thread nD τ).loc main_arg2) (ix3 L R d) := by
  entry_read
  pointwise

theorem b_m (c : Dev nD) (t : Fin cfg0.N) (d : Fin 704) (r : Fin 256) (L : Fin 4) (R : Fin 2048) (h0 : L.val = t.val / 8) (h2 : R.val = t.val % 8 * 256 + r.val) :
    (iblk m c 2 t : FVec Ideal S1x704x256 .f32) (ix3 0 d r) = m ((c : Thread nD τ).loc main_arg2) (ix3 L R d) := by
  refine Eq.trans ?_ (v_m m c L d R)
  blk_ext [iblk, idx t, h0, h2]

theorem v_v (c : Dev nD) (L : Fin 4) (d : Fin 704) (R : Fin 2048) :
    (V m c main_v2 : FVec Ideal S4x704x2048 .f32) (ix3 L d R) = m ((c : Thread nD τ).loc main_arg3) (ix3 L R d) := by
  entry_read
  pointwise

theorem b_v (c : Dev nD) (t : Fin cfg0.N) (d : Fin 704) (r : Fin 256) (L : Fin 4) (R : Fin 2048) (h0 : L.val = t.val / 8) (h2 : R.val = t.val % 8 * 256 + r.val) :
    (iblk m c 3 t : FVec Ideal S1x704x256 .f32) (ix3 0 d r) = m ((c : Thread nD τ).loc main_arg3) (ix3 L R d) := by
  refine Eq.trans ?_ (v_v m c L d R)
  blk_ext [iblk, idx t, h0, h2]

theorem point4 (c : Dev nD) (t : Fin cfg0.N) (d : Fin 704) (r : Fin 256) (L : Fin 4) (R : Fin 2048) (h0 : L.val = t.val / 8) (h2 : R.val = t.val % 8 * 256 + r.val) :
    (out0_4 (iblk m c 0 t) (iblk m c 1 t) (iblk m c 2 t) (iblk m c 3 t) : FVec Ideal S1x704x256 .f32) (ix3 0 d r)
      = val_main_v28 (F := Ideal) (m ((c : Thread nD τ).loc main_arg0)) (ix3 L d R) := by
  unfold_out out0_4; frame_out
  pointwise [k0_pay1, k0_pay10, k0_pay11, k0_pay2, k0_pay3, k0_pay4, k0_pay5, k0_pay6, k0_pay7, k0_pay8, k0_pay9, val_main_v0, val_main_v1, val_main_v2, val_main_cst, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27, val_main_v28, val_main_v29, val_main_v30, val_main_v31, Fin.sum_univ_eight, b_p m c t _ d r L R h0 h2, b_w m c t d r L R h0 h2, b_m m c t d r L R h0 h2, b_v m c t d r L R h0 h2]

theorem at4 (c : Dev nD) (t : Fin cfg0.N) (y : S1x704x256.Idx) (z : S4x704x2048.Idx) (h0 : (z 0).val = t.val / 8) (h1 : (z 1).val = (y 1).val) (h2 : (z 2).val = t.val % 8 * 256 + (y 2).val) :
    (out0_4 (iblk m c 0 t) (iblk m c 1 t) (iblk m c 2 t) (iblk m c 3 t) : FVec Ideal S1x704x256 .f32) y
      = val_main_v28 (F := Ideal) (m ((c : Thread nD τ).loc main_arg0)) z := by
  have hy : y = ix3 0 (y 1) (y 2) := funext fun i => by
    fin_cases i
    · exact Subsingleton.elim (α := Fin 1) _ _
    · rfl
    · rfl
  have hz : z = ix3 (z 0) (y 1) (z 2) := funext fun i => by
    fin_cases i
    · rfl
    · exact Fin.ext h1
    · rfl
  exact (congrArg (fun i => (out0_4 (iblk m c 0 t) (iblk m c 1 t) (iblk m c 2 t) (iblk m c 3 t) : FVec Ideal S1x704x256 .f32) i) hy).trans
    ((point4 m c t (y 1) (y 2) (z 0) (z 2) h0 h2).trans (congrArg (fun i => val_main_v28 (F := Ideal) (m ((c : Thread nD τ).loc main_arg0)) i) hz.symm))

/-- The summed gradient. -/
theorem final4 (c : Dev nD) : (dats m 0 c).arrAt 4 (cfgs 0).N
    = val_main_v28 (F := Ideal) (m ((c : Thread nD τ).loc main_arg0)) := by
  refine (dats m 0 c).arrAt_eq_of_covers 4 _ (by decide +kernel) fun t _ y => ?_
  blk_simp
  rw [after0_4]
  exact at4 m c t y _ (by blk_simp [idx t]) (by blk_simp [idx t]) (by blk_simp [idx t])

theorem point5 (c : Dev nD) (t : Fin cfg0.N) (d : Fin 704) (r : Fin 256) (L : Fin 4) (R : Fin 2048) (h0 : L.val = t.val / 8) (h2 : R.val = t.val % 8 * 256 + r.val) :
    (out0_5 (iblk m c 0 t) (iblk m c 1 t) (iblk m c 2 t) (iblk m c 3 t) : FVec Ideal S1x704x256 .f32) (ix3 0 d r)
      = val_main_v29 (F := Ideal) (m ((c : Thread nD τ).loc main_arg0)) (m ((c : Thread nD τ).loc main_arg1)) (m ((c : Thread nD τ).loc main_arg2)) (m ((c : Thread nD τ).loc main_arg3)) (ix3 L d R) := by
  unfold_out out0_5; frame_out
  pointwise [k0_pay1, k0_pay10, k0_pay11, k0_pay2, k0_pay3, k0_pay4, k0_pay5, k0_pay6, k0_pay7, k0_pay8, k0_pay9, val_main_v0, val_main_v1, val_main_v2, val_main_cst, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27, val_main_v28, val_main_v29, val_main_v30, val_main_v31, Fin.sum_univ_eight, b_p m c t _ d r L R h0 h2, b_w m c t d r L R h0 h2, b_m m c t d r L R h0 h2, b_v m c t d r L R h0 h2]

theorem at5 (c : Dev nD) (t : Fin cfg0.N) (y : S1x704x256.Idx) (z : S4x704x2048.Idx) (h0 : (z 0).val = t.val / 8) (h1 : (z 1).val = (y 1).val) (h2 : (z 2).val = t.val % 8 * 256 + (y 2).val) :
    (out0_5 (iblk m c 0 t) (iblk m c 1 t) (iblk m c 2 t) (iblk m c 3 t) : FVec Ideal S1x704x256 .f32) y
      = val_main_v29 (F := Ideal) (m ((c : Thread nD τ).loc main_arg0)) (m ((c : Thread nD τ).loc main_arg1)) (m ((c : Thread nD τ).loc main_arg2)) (m ((c : Thread nD τ).loc main_arg3)) z := by
  have hy : y = ix3 0 (y 1) (y 2) := funext fun i => by
    fin_cases i
    · exact Subsingleton.elim (α := Fin 1) _ _
    · rfl
    · rfl
  have hz : z = ix3 (z 0) (y 1) (z 2) := funext fun i => by
    fin_cases i
    · rfl
    · exact Fin.ext h1
    · rfl
  exact (congrArg (fun i => (out0_5 (iblk m c 0 t) (iblk m c 1 t) (iblk m c 2 t) (iblk m c 3 t) : FVec Ideal S1x704x256 .f32) i) hy).trans
    ((point5 m c t (y 1) (y 2) (z 0) (z 2) h0 h2).trans (congrArg (fun i => val_main_v29 (F := Ideal) (m ((c : Thread nD τ).loc main_arg0)) (m ((c : Thread nD τ).loc main_arg1)) (m ((c : Thread nD τ).loc main_arg2)) (m ((c : Thread nD τ).loc main_arg3)) i) hz.symm))

/-- The change of the weight. -/
theorem final5 (c : Dev nD) : (dats m 0 c).arrAt 5 (cfgs 0).N
    = val_main_v29 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact at5 m c t y _ (by blk_simp [idx t]) (by blk_simp [idx t]) (by blk_simp [idx t])

theorem point6 (c : Dev nD) (t : Fin cfg0.N) (d : Fin 704) (r : Fin 256) (L : Fin 4) (R : Fin 2048) (h0 : L.val = t.val / 8) (h2 : R.val = t.val % 8 * 256 + r.val) :
    (out0_6 (iblk m c 0 t) (iblk m c 1 t) (iblk m c 2 t) (iblk m c 3 t) : FVec Ideal S1x704x256 .f32) (ix3 0 d r)
      = val_main_v30 (F := Ideal) (m ((c : Thread nD τ).loc main_arg0)) (m ((c : Thread nD τ).loc main_arg2)) (ix3 L d R) := by
  unfold_out out0_6; frame_out
  pointwise [k0_pay1, k0_pay10, k0_pay11, k0_pay2, k0_pay3, k0_pay4, k0_pay5, k0_pay6, k0_pay7, k0_pay8, k0_pay9, val_main_v0, val_main_v1, val_main_v2, val_main_cst, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27, val_main_v28, val_main_v29, val_main_v30, val_main_v31, Fin.sum_univ_eight, b_p m c t _ d r L R h0 h2, b_w m c t d r L R h0 h2, b_m m c t d r L R h0 h2, b_v m c t d r L R h0 h2]

theorem at6 (c : Dev nD) (t : Fin cfg0.N) (y : S1x704x256.Idx) (z : S4x704x2048.Idx) (h0 : (z 0).val = t.val / 8) (h1 : (z 1).val = (y 1).val) (h2 : (z 2).val = t.val % 8 * 256 + (y 2).val) :
    (out0_6 (iblk m c 0 t) (iblk m c 1 t) (iblk m c 2 t) (iblk m c 3 t) : FVec Ideal S1x704x256 .f32) y
      = val_main_v30 (F := Ideal) (m ((c : Thread nD τ).loc main_arg0)) (m ((c : Thread nD τ).loc main_arg2)) z := by
  have hy : y = ix3 0 (y 1) (y 2) := funext fun i => by
    fin_cases i
    · exact Subsingleton.elim (α := Fin 1) _ _
    · rfl
    · rfl
  have hz : z = ix3 (z 0) (y 1) (z 2) := funext fun i => by
    fin_cases i
    · rfl
    · exact Fin.ext h1
    · rfl
  exact (congrArg (fun i => (out0_6 (iblk m c 0 t) (iblk m c 1 t) (iblk m c 2 t) (iblk m c 3 t) : FVec Ideal S1x704x256 .f32) i) hy).trans
    ((point6 m c t (y 1) (y 2) (z 0) (z 2) h0 h2).trans (congrArg (fun i => val_main_v30 (F := Ideal) (m ((c : Thread nD τ).loc main_arg0)) (m ((c : Thread nD τ).loc main_arg2)) i) hz.symm))

/-- The new first moment. -/
theorem final6 (c : Dev nD) : (dats m 0 c).arrAt 6 (cfgs 0).N
    = val_main_v30 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  exact at6 m c t y _ (by blk_simp [idx t]) (by blk_simp [idx t]) (by blk_simp [idx t])

theorem point7 (c : Dev nD) (t : Fin cfg0.N) (d : Fin 704) (r : Fin 256) (L : Fin 4) (R : Fin 2048) (h0 : L.val = t.val / 8) (h2 : R.val = t.val % 8 * 256 + r.val) :
    (out0_7 (iblk m c 0 t) (iblk m c 1 t) (iblk m c 2 t) (iblk m c 3 t) : FVec Ideal S1x704x256 .f32) (ix3 0 d r)
      = val_main_v31 (F := Ideal) (m ((c : Thread nD τ).loc main_arg0)) (m ((c : Thread nD τ).loc main_arg3)) (ix3 L d R) := by
  unfold_out out0_7; frame_out
  pointwise [k0_pay1, k0_pay10, k0_pay11, k0_pay2, k0_pay3, k0_pay4, k0_pay5, k0_pay6, k0_pay7, k0_pay8, k0_pay9, val_main_v0, val_main_v1, val_main_v2, val_main_cst, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27, val_main_v28, val_main_v29, val_main_v30, val_main_v31, Fin.sum_univ_eight, b_p m c t _ d r L R h0 h2, b_w m c t d r L R h0 h2, b_m m c t d r L R h0 h2, b_v m c t d r L R h0 h2]

theorem at7 (c : Dev nD) (t : Fin cfg0.N) (y : S1x704x256.Idx) (z : S4x704x2048.Idx) (h0 : (z 0).val = t.val / 8) (h1 : (z 1).val = (y 1).val) (h2 : (z 2).val = t.val % 8 * 256 + (y 2).val) :
    (out0_7 (iblk m c 0 t) (iblk m c 1 t) (iblk m c 2 t) (iblk m c 3 t) : FVec Ideal S1x704x256 .f32) y
      = val_main_v31 (F := Ideal) (m ((c : Thread nD τ).loc main_arg0)) (m ((c : Thread nD τ).loc main_arg3)) z := by
  have hy : y = ix3 0 (y 1) (y 2) := funext fun i => by
    fin_cases i
    · exact Subsingleton.elim (α := Fin 1) _ _
    · rfl
    · rfl
  have hz : z = ix3 (z 0) (y 1) (z 2) := funext fun i => by
    fin_cases i
    · rfl
    · exact Fin.ext h1
    · rfl
  exact (congrArg (fun i => (out0_7 (iblk m c 0 t) (iblk m c 1 t) (iblk m c 2 t) (iblk m c 3 t) : FVec Ideal S1x704x256 .f32) i) hy).trans
    ((point7 m c t (y 1) (y 2) (z 0) (z 2) h0 h2).trans (congrArg (fun i => val_main_v31 (F := Ideal) (m ((c : Thread nD τ).loc main_arg0)) (m ((c : Thread nD τ).loc main_arg3)) i) hz.symm))

/-- The new second moment. -/
theorem final7 (c : Dev nD) : (dats m 0 c).arrAt 7 (cfgs 0).N
    = val_main_v31 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  exact at7 m c t y _ (by blk_simp [idx t]) (by blk_simp [idx t]) (by blk_simp [idx t])

end Cert.Kernel15Ideal.Update
end
-- ==== Proof.AdamGate.lean ====
module
public import proofs.«01_k».proof.Proof.Gen.Kernel14Ideal.Frame
public import proofs.«01_k».proof.Proof.Gen.Reference14Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel14Ideal.Update
open Cert.Kernel14Ideal Cert.Kernel14Ideal.Gen Cert.Reference14Ideal.Read

variable (m : (ℓ : Loc nD τ sig) → Buf (Elt Ideal) ℓ)

theorem idx : ∀ t : Fin cfg0.N, win0_0.index t = ![0, t.val / 8, 0, t.val % 8, 0] ∧ win0_1.index t = ![t.val / 8, 0, t.val % 8] ∧ win0_2.index t = ![t.val / 8, 0, t.val % 8] ∧ win0_3.index t = ![t.val / 8, 0, t.val % 8] ∧ win0_4.index t = ![t.val / 8, 0, t.val % 8] ∧ win0_5.index t = ![t.val / 8, 0, t.val % 8] ∧ win0_6.index t = ![t.val / 8, 0, t.val % 8] ∧ win0_7.index t = ![t.val / 8, 0, t.val % 8] :=
  (by decide +kernel : ∀ t : Fin grid0.N, _)

/-- Part `k` of the gradient at a point. -/
theorem b_p (c : Dev nD) (t : Fin cfg0.N) (k : Fin 8) (d : Fin 704) (r : Fin 256) (L : Fin 4) (R : Fin 2048) (h0 : L.val = t.val / 8) (h2 : R.val = t.val % 8 * 256 + r.val) :
    (iblk m c 0 t : FVec Ideal S8x1x1x256x704 .bf16) (ix5 k 0 0 r d) = m ((c : Thread nD τ).loc main_arg0) (ix5 k L 0 R d) := by
  blk_ext [iblk, idx t, h0, h2]

theorem v_w (c : Dev nD) (L : Fin 4) (d : Fin 704) (R : Fin 2048) :
    (V m c main_v0 : FVec Ideal S4x704x2048 .f32) (ix3 L d R) = m ((c : Thread nD τ).loc main_arg1) (ix3 L R d) := by
  entry_read
  pointwise

theorem b_w (c : Dev nD) (t : Fin cfg0.N) (d : Fin 704) (r : Fin 256) (L : Fin 4) (R : Fin 2048) (h0 : L.val = t.val / 8) (h2 : R.val = t.val % 8 * 256 + r.val) :
    (iblk m c 1 t : FVec Ideal S1x704x256 .f32) (ix3 0 d r) = m ((c : Thread nD τ).loc main_arg1) (ix3 L R d) := by
  refine Eq.trans ?_ (v_w m c L d R)
  blk_ext [iblk, idx t, h0, h2]

theorem v_m (c : Dev nD) (L : Fin 4) (d : Fin 704) (R : Fin 2048) :
    (V m c main_v1 : FVec Ideal S4x704x2048 .f32) (ix3 L d R) = m ((c : Thread nD τ).loc main_arg2) (ix3 L R d) := by
  entry_read
  pointwise

theorem b_m (c : Dev nD) (t : Fin cfg0.N) (d : Fin 704) (r : Fin 256) (L : Fin 4) (R : Fin 2048) (h0 : L.val = t.val / 8) (h2 : R.val = t.val % 8 * 256 + r.val) :
    (iblk m c 2 t : FVec Ideal S1x704x256 .f32) (ix3 0 d r) = m ((c : Thread nD τ).loc main_arg2) (ix3 L R d) := by
  refine Eq.trans ?_ (v_m m c L d R)
  blk_ext [iblk, idx t, h0, h2]

theorem v_v (c : Dev nD) (L : Fin 4) (d : Fin 704) (R : Fin 2048) :
    (V m c main_v2 : FVec Ideal S4x704x2048 .f32) (ix3 L d R) = m ((c : Thread nD τ).loc main_arg3) (ix3 L R d) := by
  entry_read
  pointwise

theorem b_v (c : Dev nD) (t : Fin cfg0.N) (d : Fin 704) (r : Fin 256) (L : Fin 4) (R : Fin 2048) (h0 : L.val = t.val / 8) (h2 : R.val = t.val % 8 * 256 + r.val) :
    (iblk m c 3 t : FVec Ideal S1x704x256 .f32) (ix3 0 d r) = m ((c : Thread nD τ).loc main_arg3) (ix3 L R d) := by
  refine Eq.trans ?_ (v_v m c L d R)
  blk_ext [iblk, idx t, h0, h2]

theorem point4 (c : Dev nD) (t : Fin cfg0.N) (d : Fin 704) (r : Fin 256) (L : Fin 4) (R : Fin 2048) (h0 : L.val = t.val / 8) (h2 : R.val = t.val % 8 * 256 + r.val) :
    (out0_4 (iblk m c 0 t) (iblk m c 1 t) (iblk m c 2 t) (iblk m c 3 t) : FVec Ideal S1x704x256 .f32) (ix3 0 d r)
      = val_main_v28 (F := Ideal) (m ((c : Thread nD τ).loc main_arg0)) (ix3 L d R) := by
  unfold_out out0_4; frame_out
  pointwise [k0_pay1, k0_pay10, k0_pay11, k0_pay2, k0_pay3, k0_pay4, k0_pay5, k0_pay6, k0_pay7, k0_pay8, k0_pay9, val_main_v0, val_main_v1, val_main_v2, val_main_cst, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27, val_main_v28, val_main_v29, val_main_v30, val_main_v31, Fin.sum_univ_eight, b_p m c t _ d r L R h0 h2, b_w m c t d r L R h0 h2, b_m m c t d r L R h0 h2, b_v m c t d r L R h0 h2]

theorem at4 (c : Dev nD) (t : Fin cfg0.N) (y : S1x704x256.Idx) (z : S4x704x2048.Idx) (h0 : (z 0).val = t.val / 8) (h1 : (z 1).val = (y 1).val) (h2 : (z 2).val = t.val % 8 * 256 + (y 2).val) :
    (out0_4 (iblk m c 0 t) (iblk m c 1 t) (iblk m c 2 t) (iblk m c 3 t) : FVec Ideal S1x704x256 .f32) y
      = val_main_v28 (F := Ideal) (m ((c : Thread nD τ).loc main_arg0)) z := by
  have hy : y = ix3 0 (y 1) (y 2) := funext fun i => by
    fin_cases i
    · exact Subsingleton.elim (α := Fin 1) _ _
    · rfl
    · rfl
  have hz : z = ix3 (z 0) (y 1) (z 2) := funext fun i => by
    fin_cases i
    · rfl
    · exact Fin.ext h1
    · rfl
  exact (congrArg (fun i => (out0_4 (iblk m c 0 t) (iblk m c 1 t) (iblk m c 2 t) (iblk m c 3 t) : FVec Ideal S1x704x256 .f32) i) hy).trans
    ((point4 m c t (y 1) (y 2) (z 0) (z 2) h0 h2).trans (congrArg (fun i => val_main_v28 (F := Ideal) (m ((c : Thread nD τ).loc main_arg0)) i) hz.symm))

/-- The summed gradient. -/
theorem final4 (c : Dev nD) : (dats m 0 c).arrAt 4 (cfgs 0).N
    = val_main_v28 (F := Ideal) (m ((c : Thread nD τ).loc main_arg0)) := by
  refine (dats m 0 c).arrAt_eq_of_covers 4 _ (by decide +kernel) fun t _ y => ?_
  blk_simp
  rw [after0_4]
  exact at4 m c t y _ (by blk_simp [idx t]) (by blk_simp [idx t]) (by blk_simp [idx t])

theorem point5 (c : Dev nD) (t : Fin cfg0.N) (d : Fin 704) (r : Fin 256) (L : Fin 4) (R : Fin 2048) (h0 : L.val = t.val / 8) (h2 : R.val = t.val % 8 * 256 + r.val) :
    (out0_5 (iblk m c 0 t) (iblk m c 1 t) (iblk m c 2 t) (iblk m c 3 t) : FVec Ideal S1x704x256 .f32) (ix3 0 d r)
      = val_main_v29 (F := Ideal) (m ((c : Thread nD τ).loc main_arg0)) (m ((c : Thread nD τ).loc main_arg1)) (m ((c : Thread nD τ).loc main_arg2)) (m ((c : Thread nD τ).loc main_arg3)) (ix3 L d R) := by
  unfold_out out0_5; frame_out
  pointwise [k0_pay1, k0_pay10, k0_pay11, k0_pay2, k0_pay3, k0_pay4, k0_pay5, k0_pay6, k0_pay7, k0_pay8, k0_pay9, val_main_v0, val_main_v1, val_main_v2, val_main_cst, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27, val_main_v28, val_main_v29, val_main_v30, val_main_v31, Fin.sum_univ_eight, b_p m c t _ d r L R h0 h2, b_w m c t d r L R h0 h2, b_m m c t d r L R h0 h2, b_v m c t d r L R h0 h2]

theorem at5 (c : Dev nD) (t : Fin cfg0.N) (y : S1x704x256.Idx) (z : S4x704x2048.Idx) (h0 : (z 0).val = t.val / 8) (h1 : (z 1).val = (y 1).val) (h2 : (z 2).val = t.val % 8 * 256 + (y 2).val) :
    (out0_5 (iblk m c 0 t) (iblk m c 1 t) (iblk m c 2 t) (iblk m c 3 t) : FVec Ideal S1x704x256 .f32) y
      = val_main_v29 (F := Ideal) (m ((c : Thread nD τ).loc main_arg0)) (m ((c : Thread nD τ).loc main_arg1)) (m ((c : Thread nD τ).loc main_arg2)) (m ((c : Thread nD τ).loc main_arg3)) z := by
  have hy : y = ix3 0 (y 1) (y 2) := funext fun i => by
    fin_cases i
    · exact Subsingleton.elim (α := Fin 1) _ _
    · rfl
    · rfl
  have hz : z = ix3 (z 0) (y 1) (z 2) := funext fun i => by
    fin_cases i
    · rfl
    · exact Fin.ext h1
    · rfl
  exact (congrArg (fun i => (out0_5 (iblk m c 0 t) (iblk m c 1 t) (iblk m c 2 t) (iblk m c 3 t) : FVec Ideal S1x704x256 .f32) i) hy).trans
    ((point5 m c t (y 1) (y 2) (z 0) (z 2) h0 h2).trans (congrArg (fun i => val_main_v29 (F := Ideal) (m ((c : Thread nD τ).loc main_arg0)) (m ((c : Thread nD τ).loc main_arg1)) (m ((c : Thread nD τ).loc main_arg2)) (m ((c : Thread nD τ).loc main_arg3)) i) hz.symm))

/-- The change of the weight. -/
theorem final5 (c : Dev nD) : (dats m 0 c).arrAt 5 (cfgs 0).N
    = val_main_v29 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact at5 m c t y _ (by blk_simp [idx t]) (by blk_simp [idx t]) (by blk_simp [idx t])

theorem point6 (c : Dev nD) (t : Fin cfg0.N) (d : Fin 704) (r : Fin 256) (L : Fin 4) (R : Fin 2048) (h0 : L.val = t.val / 8) (h2 : R.val = t.val % 8 * 256 + r.val) :
    (out0_6 (iblk m c 0 t) (iblk m c 1 t) (iblk m c 2 t) (iblk m c 3 t) : FVec Ideal S1x704x256 .f32) (ix3 0 d r)
      = val_main_v30 (F := Ideal) (m ((c : Thread nD τ).loc main_arg0)) (m ((c : Thread nD τ).loc main_arg2)) (ix3 L d R) := by
  unfold_out out0_6; frame_out
  pointwise [k0_pay1, k0_pay10, k0_pay11, k0_pay2, k0_pay3, k0_pay4, k0_pay5, k0_pay6, k0_pay7, k0_pay8, k0_pay9, val_main_v0, val_main_v1, val_main_v2, val_main_cst, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27, val_main_v28, val_main_v29, val_main_v30, val_main_v31, Fin.sum_univ_eight, b_p m c t _ d r L R h0 h2, b_w m c t d r L R h0 h2, b_m m c t d r L R h0 h2, b_v m c t d r L R h0 h2]

theorem at6 (c : Dev nD) (t : Fin cfg0.N) (y : S1x704x256.Idx) (z : S4x704x2048.Idx) (h0 : (z 0).val = t.val / 8) (h1 : (z 1).val = (y 1).val) (h2 : (z 2).val = t.val % 8 * 256 + (y 2).val) :
    (out0_6 (iblk m c 0 t) (iblk m c 1 t) (iblk m c 2 t) (iblk m c 3 t) : FVec Ideal S1x704x256 .f32) y
      = val_main_v30 (F := Ideal) (m ((c : Thread nD τ).loc main_arg0)) (m ((c : Thread nD τ).loc main_arg2)) z := by
  have hy : y = ix3 0 (y 1) (y 2) := funext fun i => by
    fin_cases i
    · exact Subsingleton.elim (α := Fin 1) _ _
    · rfl
    · rfl
  have hz : z = ix3 (z 0) (y 1) (z 2) := funext fun i => by
    fin_cases i
    · rfl
    · exact Fin.ext h1
    · rfl
  exact (congrArg (fun i => (out0_6 (iblk m c 0 t) (iblk m c 1 t) (iblk m c 2 t) (iblk m c 3 t) : FVec Ideal S1x704x256 .f32) i) hy).trans
    ((point6 m c t (y 1) (y 2) (z 0) (z 2) h0 h2).trans (congrArg (fun i => val_main_v30 (F := Ideal) (m ((c : Thread nD τ).loc main_arg0)) (m ((c : Thread nD τ).loc main_arg2)) i) hz.symm))

/-- The new first moment. -/
theorem final6 (c : Dev nD) : (dats m 0 c).arrAt 6 (cfgs 0).N
    = val_main_v30 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  exact at6 m c t y _ (by blk_simp [idx t]) (by blk_simp [idx t]) (by blk_simp [idx t])

theorem point7 (c : Dev nD) (t : Fin cfg0.N) (d : Fin 704) (r : Fin 256) (L : Fin 4) (R : Fin 2048) (h0 : L.val = t.val / 8) (h2 : R.val = t.val % 8 * 256 + r.val) :
    (out0_7 (iblk m c 0 t) (iblk m c 1 t) (iblk m c 2 t) (iblk m c 3 t) : FVec Ideal S1x704x256 .f32) (ix3 0 d r)
      = val_main_v31 (F := Ideal) (m ((c : Thread nD τ).loc main_arg0)) (m ((c : Thread nD τ).loc main_arg3)) (ix3 L d R) := by
  unfold_out out0_7; frame_out
  pointwise [k0_pay1, k0_pay10, k0_pay11, k0_pay2, k0_pay3, k0_pay4, k0_pay5, k0_pay6, k0_pay7, k0_pay8, k0_pay9, val_main_v0, val_main_v1, val_main_v2, val_main_cst, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27, val_main_v28, val_main_v29, val_main_v30, val_main_v31, Fin.sum_univ_eight, b_p m c t _ d r L R h0 h2, b_w m c t d r L R h0 h2, b_m m c t d r L R h0 h2, b_v m c t d r L R h0 h2]

theorem at7 (c : Dev nD) (t : Fin cfg0.N) (y : S1x704x256.Idx) (z : S4x704x2048.Idx) (h0 : (z 0).val = t.val / 8) (h1 : (z 1).val = (y 1).val) (h2 : (z 2).val = t.val % 8 * 256 + (y 2).val) :
    (out0_7 (iblk m c 0 t) (iblk m c 1 t) (iblk m c 2 t) (iblk m c 3 t) : FVec Ideal S1x704x256 .f32) y
      = val_main_v31 (F := Ideal) (m ((c : Thread nD τ).loc main_arg0)) (m ((c : Thread nD τ).loc main_arg3)) z := by
  have hy : y = ix3 0 (y 1) (y 2) := funext fun i => by
    fin_cases i
    · exact Subsingleton.elim (α := Fin 1) _ _
    · rfl
    · rfl
  have hz : z = ix3 (z 0) (y 1) (z 2) := funext fun i => by
    fin_cases i
    · rfl
    · exact Fin.ext h1
    · rfl
  exact (congrArg (fun i => (out0_7 (iblk m c 0 t) (iblk m c 1 t) (iblk m c 2 t) (iblk m c 3 t) : FVec Ideal S1x704x256 .f32) i) hy).trans
    ((point7 m c t (y 1) (y 2) (z 0) (z 2) h0 h2).trans (congrArg (fun i => val_main_v31 (F := Ideal) (m ((c : Thread nD τ).loc main_arg0)) (m ((c : Thread nD τ).loc main_arg3)) i) hz.symm))

/-- The new second moment. -/
theorem final7 (c : Dev nD) : (dats m 0 c).arrAt 7 (cfgs 0).N
    = val_main_v31 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  exact at7 m c t y _ (by blk_simp [idx t]) (by blk_simp [idx t]) (by blk_simp [idx t])

end Cert.Kernel14Ideal.Update
end
-- ==== Proof.SsdOut.lean ====
module
public import proofs.«01_k».proof.Proof.Gen.Kernel13Ideal.Frame
public import proofs.«01_k».proof.Proof.Gen.Reference13Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel13Ideal.Products
open Cert.Kernel13Ideal Cert.Kernel13Ideal.Gen Cert.Reference13Ideal.Read

/-! `ssd_out`: `yn @ w_out`, the contraction cut into eight stretches of 512 summed across grid points. -/

variable (m : (ℓ : Loc nD τ sig) → Buf (Elt Ideal) ℓ)

theorem idx : ∀ t : Fin cfg0.N, win0_0.index t = ![t.val / 16, t.val % 8] ∧ win0_1.index t = ![t.val % 8, t.val / 8 % 2] ∧ win0_2.index t = ![t.val / 16, t.val / 8 % 2] :=
  (by decide +kernel : ∀ t : Fin grid0.N, _)

theorem v_x (c : Dev nD) (r : Fin 2304) (d : Fin 4096) :
    (V m c main_v0 : FVec Ideal S2304x4096 .bf16) (ix2 r d) = m ((c : Thread nD τ).loc main_arg0) (ix2 r d) := by
  entry_read
  pointwise

theorem v_w (c : Dev nD) (r : Fin 4096) (d : Fin 2048) :
    (V m c main_v1 : FVec Ideal S4096x2048 .bf16) (ix2 r d) = m ((c : Thread nD τ).loc main_arg1) (ix2 r d) := by
  entry_read
  pointwise

theorem b_x (c : Dev nD) (t : Fin cfg0.N) (r : Fin 1152) (k : Fin 512) (hr : t.val / 16 * 1152 + r.val < 2304) (hk : t.val % 8 * 512 + k.val < 4096) :
    (iblk m c 0 t : FVec Ideal S1152x512 .bf16) (ix2 r k) = m ((c : Thread nD τ).loc main_arg0) (ix2 ⟨t.val / 16 * 1152 + r.val, hr⟩ ⟨t.val % 8 * 512 + k.val, hk⟩) := by
  refine Eq.trans ?_ (v_x m c _ _)
  blk_ext [iblk, idx t]

theorem b_w (c : Dev nD) (t : Fin cfg0.N) (k : Fin 512) (d : Fin 1024) (hk : t.val % 8 * 512 + k.val < 4096) (hd : t.val / 8 % 2 * 1024 + d.val < 2048) :
    (iblk m c 1 t : FVec Ideal S512x1024 .bf16) (ix2 k d) = m ((c : Thread nD τ).loc main_arg1) (ix2 ⟨t.val % 8 * 512 + k.val, hk⟩ ⟨t.val / 8 % 2 * 1024 + d.val, hd⟩) := by
  refine Eq.trans ?_ (v_w m c _ _)
  blk_ext [iblk, idx t]

/-- What the two blocks of a point add to the block of the result. -/
def block (x : Vec Ideal S1152x512 .bf16) (w : Vec Ideal S512x1024 .bf16) (j : S1152x1024.Idx) : EReal :=
  (∑ k : Fin 512, x (ix2 (j 0) k) * w (ix2 k (j 1)) : EReal)

def part (c : Dev nD) (t : Fin cfg0.N) (j : S1152x1024.Idx) : EReal :=
  block (iblk m c 0 t) (iblk m c 1 t) j

theorem pay1 (j) : k0_pay1 (F := Ideal) j = (0 : EReal) := by
  pointwise [k0_pay1]

theorem pay2 (a x w) (j) : k0_pay2 (F := Ideal) a x w j = (a j + block x w j : EReal) := by
  unfold block
  pointwise [k0_pay2]

theorem last (c : Dev nD) (t : Fin cfg0.N) (h : t.val % 8 = 7) : (outsAt0 m c t.val t.isLt).1 = (outsAt0 m c t.val t.isLt).2 := by
  rw [outsAt0_C m c t (by omega) h]
  frame_out

/-- At the last point of a run the accumulator holds the sum over the run's points. -/
theorem sum_run (c : Dev nD) (t : Fin cfg0.N) (h : t.val % 8 = 8 - 1) (j : S1152x1024.Idx) :
    ((outsAt0 m c t.val t.isLt).2 j : EReal) = ∑ s : Fin 8, part m c ⟨8 * (t.val / 8) + s.val, Pipeline.run_point_lt_of_flush t h s⟩ j := by
  refine (Pipeline.eq_sum_fin_of_reset_step_apply_of_flush (M := EReal) (fun n h => (outsAt0 m c n h).2) 8 (fun _ => 0) (part m c)
    (fun t h j => ?_) (fun t h j => ?_) t h j).trans (zero_add _)
  · rw [outsAt0_A m c t h (by omega)]
    frame_out
    rw [pay2, pay1]
    rfl
  · by_cases h1 : t.val % 8 = 7
    · rw [outsAt0_C m c t h h1]
      frame_out
      rw [pay2, read_unread_whole]
      rfl
    · rw [outsAt0_B m c t h h1]
      frame_out
      rw [pay2, read_unread_whole]
      rfl

theorem final (c : Dev nD) : (dats m 0 c).arrAt 2 (cfgs 0).N
    = val_main_v0 (F := Ideal) (m ((c : Thread nD τ).loc main_arg0)) (m ((c : Thread nD τ).loc main_arg1)) := by
  refine (dats m 0 c).arrAt_eq_of_covers 2 _ (by decide +kernel) fun t hf y => ?_
  have hl : t.val % 8 = 7 := (flush0_2 t).mp hf
  have ht : t.val < 32 := lt_of_lt_of_eq t.isLt N_0
  have e0 : (((View.whole main_v2).slice (win0_2.rect t)).emb y 0).val = t.val / 16 * 1152 + (y 0).val := by blk_simp [idx t]
  have e1 : (((View.whole main_v2).slice (win0_2.rect t)).emb y 1).val = t.val / 8 % 2 * 1024 + (y 1).val := by blk_simp [idx t]
  have y0 : (y 0).val < 1152 := (y 0).isLt
  have y1 : (y 1).val < 1024 := (y 1).isLt
  blk_simp
  rw [after0_2, last m c t hl]
  refine (sum_run m c t hl _).trans ?_
  pointwise [val_main_v0]
  unfold part block
  refine Fin.sum_mul_add_congr fun s k hk => ?_
  have hs : s.val < 8 := s.isLt
  have k0 : k.val < 512 := k.isLt
  have q0 : (8 * (t.val / 8) + s.val) / 16 = t.val / 16 := by omega
  have q1 : (8 * (t.val / 8) + s.val) / 8 % 2 = t.val / 8 % 2 := by omega
  have q2 : (8 * (t.val / 8) + s.val) % 8 = s.val := by omega
  refine congrArg₂ (· * ·) ((b_x m c _ _ _ ?_ ?_).trans (congrArg _ ?_)) ((b_w m c _ _ _ ?_ ?_).trans (congrArg _ ?_))
  · dsimp only; rw [q0]; omega
  · dsimp only; rw [q2]; omega
  · refine congrArg₂ ix2 (Fin.ext ?_) (Fin.ext ?_)
    · dsimp only; rw [e0, q0]
    · dsimp only; rw [q2]
  · dsimp only; rw [q2]; omega
  · dsimp only; rw [q1]; omega
  · refine congrArg₂ ix2 (Fin.ext ?_) (Fin.ext ?_)
    · dsimp only; rw [q2]
    · dsimp only; rw [e1, q1]

end Cert.Kernel13Ideal.Products
end
-- ==== Proof.SsdIn.lean ====
module
public import proofs.«01_k».proof.Proof.Gen.Kernel12Ideal.Frame
public import proofs.«01_k».proof.Proof.Gen.Reference12Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel12Ideal.Products
open Cert.Kernel12Ideal Cert.Kernel12Ideal.Gen Cert.Reference12Ideal.Read

/-! `ssd_in`: each grid point writes 384 columns of `u @ w_in`; the last 64 columns, past the weight's own, hold zero. -/

variable (m : (ℓ : Loc nD τ sig) → Buf (Elt Ideal) ℓ)

theorem zero_int : FloatOps.sitofp (F := Ideal) FTy.f32 (0#32) = (0 : EReal) := by
  show (((0#32 : BitVec 32).toInt : ℝ) : EReal) = 0
  simp

theorem idx : ∀ t : Fin cfg0.N, win0_0.index t = ![0, 0] ∧ win0_1.index t = ![0, t.val] ∧ win0_2.index t = ![0, t.val] :=
  (by decide +kernel : ∀ t : Fin grid0.N, _)

theorem v_u (c : Dev nD) (r : Fin 2304) (d : Fin 2048) :
    (V m c main_v2 : FVec Ideal S2304x2048 .bf16) (ix2 r d) = m ((c : Thread nD τ).loc main_arg0) (ix2 r d) := by
  unfold V
  simp only [hostOps0, hostOps0_1, hostOps0_2, List.flatten_cons, List.flatten_nil, List.append_nil, List.cons_append, List.nil_append]
  entry_read
  pointwise

theorem v_w (c : Dev nD) (d : Fin 2048) (b : Fin 10368) :
    (V m c main_v1 : FVec Ideal S2048x10368 .bf16) (ix2 d b) = if h : b.val < 10304 then m ((c : Thread nD τ).loc main_arg1) (ix2 d ⟨b.val, h⟩) else (0 : EReal) := by
  unfold V
  simp only [hostOps0, hostOps0_1, hostOps0_2, List.flatten_cons, List.flatten_nil, List.append_nil, List.cons_append, List.nil_append]
  entry_read
  simp only [StableHlo.TRef.toBuf, StableHlo.TRef.ofBuf, cast_eq]
  pointwise
  split
  · rfl
  · exact zero_int

theorem b_u (c : Dev nD) (t : Fin cfg0.N) (r : Fin 2304) (d : Fin 2048) :
    (iblk m c 0 t : FVec Ideal S2304x2048 .bf16) (ix2 r d) = m ((c : Thread nD τ).loc main_arg0) (ix2 r d) := by
  refine Eq.trans ?_ (v_u m c r d)
  blk_ext [iblk, idx t]

theorem b_w (c : Dev nD) (t : Fin cfg0.N) (d : Fin 2048) (b : Fin 384) (h : t.val * 384 + b.val < 10368) :
    (iblk m c 1 t : FVec Ideal S2048x384 .bf16) (ix2 d b) = if h : t.val * 384 + b.val < 10304 then m ((c : Thread nD τ).loc main_arg1) (ix2 d ⟨t.val * 384 + b.val, h⟩) else (0 : EReal) := by
  refine Eq.trans ?_ (v_w m c d ⟨t.val * 384 + b.val, h⟩)
  blk_ext [iblk, idx t]

theorem point (c : Dev nD) (t : Fin cfg0.N) (y) : k0_pay1 (F := Ideal) (iblk m c 0 t) (iblk m c 1 t) y
    = val_main_v1 (F := Ideal) (m ((c : Thread nD τ).loc main_arg0)) (m ((c : Thread nD τ).loc main_arg1)) (((cfg0.win 2).blk t).view.emb y) := by
  pointwise [k0_pay1, val_main_v1, val_main_v0]
  have ht : t.val < 27 := lt_of_lt_of_eq t.isLt N_0
  have e0 : (((View.whole main_v3).slice ((win0 2).rect t)).emb y 0).val = (y 0).val := by blk_simp [idx t]
  have e1 : (((View.whole main_v3).slice ((win0 2).rect t)).emb y 1).val = t.val * 384 + (y 1).val := by blk_simp [idx t]
  have h1 : (y 1).val < 384 := (y 1).isLt
  have hb : t.val * 384 + (y 1).val < 10368 := by omega
  split
  · rename_i h
    rw [e1] at h
    refine Fin.sum_fin_congr fun x => ?_

    refine congrArg₂ (· * ·) ((b_u m c t _ _).trans ?_) ((b_w m c t _ _ hb).trans ((dif_pos (by omega)).trans ?_))
    · blk_ext [idx t]
    · blk_ext [idx t]
  · rename_i h
    rw [e1] at h
    refine (Finset.sum_eq_zero fun x _ => ?_).trans ?_
    · rw [(b_w m c t _ _ hb).trans (dif_neg (by omega))]
      exact mul_zero _
    · pointwise [val_main_call0_v0]
      exact zero_int.symm

theorem final (c : Dev nD) : (dats m 0 c).arrAt 2 (cfgs 0).N
    = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel12Ideal.Products
end
-- ==== Proof.FfnOut.lean ====
module
public import proofs.«01_k».proof.Proof.Gen.Kernel11Ideal.Frame
public import proofs.«01_k».proof.Proof.Gen.Reference11Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel11Ideal.Products
open Cert.Kernel11Ideal Cert.Kernel11Ideal.Gen Cert.Reference11Ideal.Read

/-! `ffn_out_fwd`: `act @ w_down`, the contraction cut into the eight devices' columns, two devices a grid point, and summed across grid points. -/

variable (m : (ℓ : Loc nD τ sig) → Buf (Elt Ideal) ℓ)

theorem idx : ∀ t : Fin cfg0.N, win0_0.index t = ![t.val % 4, 0, t.val / 8, 0] ∧ win0_1.index t = ![t.val % 4, 0, 0, t.val / 4 % 2] ∧ win0_2.index t = ![t.val / 8, t.val / 4 % 2] :=
  (by decide +kernel : ∀ t : Fin grid0.N, _)

theorem v_x (c : Dev nD) (a : Fin 4) (s : Fin 2) (r : Fin 2304) (b : Fin 704) (l : Fin 5632) (hl : l.val = (a.val * 2 + s.val) * 704 + b.val) :
    (V m c main_v5 : FVec Ideal S4x2x2304x704 .bf16) (ix4 a s r b) = m ((c : Thread nD τ).loc main_arg0) (ix2 r l) := by
  entry_read
  pointwise
  exact congrArg _ (congrArg₂ ix2 rfl (Fin.ext (by dsimp only; omega)))

theorem v_w (c : Dev nD) (a : Fin 4) (s : Fin 2) (b : Fin 704) (d : Fin 2048) (l : Fin 5632) (hl : l.val = (a.val * 2 + s.val) * 704 + b.val) :
    (V m c main_v6 : FVec Ideal S4x2x704x2048 .bf16) (ix4 a s b d) = m ((c : Thread nD τ).loc main_arg1) (ix2 l d) := by
  entry_read
  pointwise
  exact congrArg _ (congrArg₂ ix2 (Fin.ext (by dsimp only; omega)) rfl)

theorem b_x (c : Dev nD) (t : Fin cfg0.N) (s : Fin 2) (r : Fin 1152) (k : Fin 704) (R : Fin 2304) (l : Fin 5632) (hr : R.val = t.val / 8 * 1152 + r.val) (hk : l.val = (t.val % 4 * 2 + s.val) * 704 + k.val) :
    (iblk m c 0 t : FVec Ideal S1x2x1152x704 .bf16) (ix4 0 s r k) = m ((c : Thread nD τ).loc main_arg0) (ix2 R l) := by
  refine Eq.trans ?_ (v_x m c ⟨t.val % 4, by omega⟩ s R k l hk)
  blk_ext [iblk, idx t]

theorem b_w (c : Dev nD) (t : Fin cfg0.N) (s : Fin 2) (k : Fin 704) (d : Fin 1024) (D : Fin 2048) (l : Fin 5632) (hd : D.val = t.val / 4 % 2 * 1024 + d.val) (hk : l.val = (t.val % 4 * 2 + s.val) * 704 + k.val) :
    (iblk m c 1 t : FVec Ideal S1x2x704x1024 .bf16) (ix4 0 s k d) = m ((c : Thread nD τ).loc main_arg1) (ix2 l D) := by
  have e : ∀ Z : FVec Ideal S4x2x704x2048 .bf16, (((cfg0.win 1).blk t).view.read (Elt Ideal) Z) (ix4 0 s k d) = Z (ix4 (⟨t.val % 4, by omega⟩ : Fin 4) s k D) := by
    intro Z
    blk_ext [idx t]
  exact (e _).trans (v_w m c ⟨t.val % 4, by omega⟩ s k D l hk)

def pr (x : Vec Ideal S1x2x1152x704 .bf16) (w : Vec Ideal S1x2x704x1024 .bf16) (r : Fin 1152) (d : Fin 1024) (p : Fin 2) (k : Fin 704) : EReal :=
  (x (ix4 0 p r k) * w (ix4 0 p k d) : EReal)

/-- A sum over stretches, each in two halves, as the sum over the whole axis. -/
theorem sum_pairs {F : Fin 4 → Fin 2 → Fin 704 → EReal} {f : Fin 5632 → EReal}
    (h : ∀ (s : Fin 4) (p : Fin 2) (k : Fin 704) (hl : (s.val * 2 + p.val) * 704 + k.val < 5632), F s p k = f ⟨(s.val * 2 + p.val) * 704 + k.val, hl⟩) :
    ∑ s : Fin 4, ((∑ k : Fin 704, F s 0 k) + ∑ k : Fin 704, F s 1 k) = ∑ l : Fin 5632, f l := by
  refine Eq.trans ?_ (Fin.sum_mul_add_fin 8 704 f)
  refine Eq.trans ?_ (Fin.sum_mul_add_fin 4 2 fun q : Fin 8 => ∑ k : Fin 704, f ⟨q.val * 704 + k.val, by omega⟩)
  refine Finset.sum_congr rfl fun s _ => ?_
  rw [Fin.sum_univ_two]
  exact congrArg₂ (· + ·) (Finset.sum_congr rfl fun k _ => h s 0 k _) (Finset.sum_congr rfl fun k _ => h s 1 k _)

/-- What the two blocks of a point add to the block of the result. -/
def block (x : Vec Ideal S1x2x1152x704 .bf16) (w : Vec Ideal S1x2x704x1024 .bf16) (j : S1152x1024.Idx) : EReal :=
  ((∑ k : Fin 704, x (ix4 0 0 (j 0) k) * w (ix4 0 0 k (j 1))) + (∑ k : Fin 704, x (ix4 0 1 (j 0) k) * w (ix4 0 1 k (j 1))) : EReal)

def part (c : Dev nD) (t : Fin cfg0.N) (j : S1152x1024.Idx) : EReal :=
  block (iblk m c 0 t) (iblk m c 1 t) j

theorem pay1 (j) : k0_pay1 (F := Ideal) j = (0 : EReal) := by
  pointwise [k0_pay1]

theorem pay2 (a) (x : Vec Ideal S1x2x1152x704 .bf16) (w : Vec Ideal S1x2x704x1024 .bf16) (j) : k0_pay2 (F := Ideal) a (View.ld x (Rect.unit (s := S1x2x1152x704) ![0, 0, 0, 0] S1x1x1152x704.size inb_S1x2x1152x704_S1x1x1152x704_0_0_0_0)) (View.ld w (Rect.unit (s := S1x2x704x1024) ![0, 0, 0, 0] S1x1x704x1024.size inb_S1x2x704x1024_S1x1x704x1024_0_0_0_0)) (View.ld x (Rect.unit (s := S1x2x1152x704) ![0, 1, 0, 0] S1x1x1152x704.size inb_S1x2x1152x704_S1x1x1152x704_0_1_0_0)) (View.ld w (Rect.unit (s := S1x2x704x1024) ![0, 1, 0, 0] S1x1x704x1024.size inb_S1x2x704x1024_S1x1x704x1024_0_1_0_0)) j = (a j + block x w j : EReal) := by
  unfold block
  pointwise [k0_pay2]

theorem last (c : Dev nD) (t : Fin cfg0.N) (h : t.val % 4 = 3) : (outsAt0 m c t.val t.isLt).1 = (outsAt0 m c t.val t.isLt).2 := by
  rw [outsAt0_C m c t (by omega) h]
  frame_out

/-- At the last point of a run the accumulator holds the sum over the run's points. -/
theorem sum_run (c : Dev nD) (t : Fin cfg0.N) (h : t.val % 4 = 4 - 1) (j : S1152x1024.Idx) :
    ((outsAt0 m c t.val t.isLt).2 j : EReal) = ∑ s : Fin 4, part m c ⟨4 * (t.val / 4) + s.val, Pipeline.run_point_lt_of_flush t h s⟩ j := by
  refine (Pipeline.eq_sum_fin_of_reset_step_apply_of_flush (M := EReal) (fun n h => (outsAt0 m c n h).2) 4 (fun _ => 0) (part m c)
    (fun t h j => ?_) (fun t h j => ?_) t h j).trans (zero_add _)
  · rw [outsAt0_A m c t h (by omega)]
    frame_out
    rw [pay2, pay1]
    rfl
  · by_cases h1 : t.val % 4 = 3
    · rw [outsAt0_C m c t h h1]
      frame_out
      rw [pay2, read_unread_whole]
      rfl
    · rw [outsAt0_B m c t h h1]
      frame_out
      rw [pay2, read_unread_whole]
      rfl

theorem final (c : Dev nD) : (dats m 0 c).arrAt 2 (cfgs 0).N
    = val_main_v0 (F := Ideal) (m ((c : Thread nD τ).loc main_arg0)) (m ((c : Thread nD τ).loc main_arg1)) := by
  refine (dats m 0 c).arrAt_eq_of_covers 2 _ (by decide +kernel) fun t hf y => ?_
  have hl : t.val % 4 = 3 := (flush0_2 t).mp hf
  have ht : t.val < 16 := lt_of_lt_of_eq t.isLt N_0
  have e0 : (((View.whole main_v7).slice (win0_2.rect t)).emb y 0).val = t.val / 8 * 1152 + (y 0).val := by blk_simp [idx t]
  have e1 : (((View.whole main_v7).slice (win0_2.rect t)).emb y 1).val = t.val / 4 % 2 * 1024 + (y 1).val := by blk_simp [idx t]
  have y0 : (y 0).val < 1152 := (y 0).isLt
  have y1 : (y 1).val < 1024 := (y 1).isLt
  blk_simp
  rw [after0_2, last m c t hl]
  refine (sum_run m c t hl _).trans ?_
  pointwise [val_main_v0]
  unfold part block
  refine sum_pairs (F := fun s p k => pr (iblk m c 0 ⟨4 * (t.val / 4) + s.val, Pipeline.run_point_lt_of_flush t hl s⟩)
    (iblk m c 1 ⟨4 * (t.val / 4) + s.val, Pipeline.run_point_lt_of_flush t hl s⟩) (y 0) (y 1) p k) fun s p k hk => ?_
  have hs : s.val < 4 := s.isLt
  have hp : p.val < 2 := p.isLt
  have k0 : k.val < 704 := k.isLt
  have q0 : (4 * (t.val / 4) + s.val) / 8 = t.val / 8 := by omega
  have q1 : (4 * (t.val / 4) + s.val) / 4 % 2 = t.val / 4 % 2 := by omega
  have q2 : (4 * (t.val / 4) + s.val) % 4 = s.val := by omega
  have r0 : (((View.whole main_v7).slice (win0_2.rect t)).emb y 0).val = (4 * (t.val / 4) + s.val) / 8 * 1152 + (y 0).val := by rw [e0, q0]
  have r1 : (((View.whole main_v7).slice (win0_2.rect t)).emb y 1).val = (4 * (t.val / 4) + s.val) / 4 % 2 * 1024 + (y 1).val := by rw [e1, q1]
  have r2 : (s.val * 2 + p.val) * 704 + k.val = ((4 * (t.val / 4) + s.val) % 4 * 2 + p.val) * 704 + k.val := by rw [q2]
  exact congrArg₂ (· * ·) (b_x m c ⟨4 * (t.val / 4) + s.val, _⟩ p (y 0) k _ ⟨(s.val * 2 + p.val) * 704 + k.val, hk⟩ r0 r2) (b_w m c ⟨4 * (t.val / 4) + s.val, _⟩ p k (y 1) _ ⟨(s.val * 2 + p.val) * 704 + k.val, hk⟩ r1 r2)

end Cert.Kernel11Ideal.Products
end
-- ==== Proof.FfnIn.lean ====
module
public import proofs.«01_k».proof.Proof.Gen.Kernel10Ideal.Frame
public import proofs.«01_k».proof.Proof.Gen.Reference10Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel10Ideal.Products
open Cert.Kernel10Ideal Cert.Kernel10Ideal.Gen Cert.Reference10Ideal.Read

/-! `ffn_in_fwd`: each grid point writes one device's columns of `u @ w_gate` or of `u @ w_up`. -/

variable (m : (ℓ : Loc nD τ sig) → Buf (Elt Ideal) ℓ)

theorem idx : ∀ t : Fin cfg0.N, win0_0.index t = ![0, 0] ∧ win0_1.index t = ![t.val / 2, t.val % 2, 0, 0] ∧ win0_2.index t = ![t.val / 2, t.val % 2, 0, 0] :=
  (by decide +kernel : ∀ t : Fin grid0.N, _)

theorem v_u (c : Dev nD) (r : Fin 2304) (d : Fin 2048) :
    (V m c main_v0 : FVec Ideal S2304x2048 .bf16) (ix2 r d) = m ((c : Thread nD τ).loc main_arg0) (ix2 r d) := by
  entry_read
  pointwise

theorem v_w (c : Dev nD) (a : Fin 8) (s : Fin 2) (d : Fin 2048) (b : Fin 704) :
    (V m c main_v8 : FVec Ideal S8x2x2048x704 .bf16) (ix4 a s d b) = if s.val = 0 then m ((c : Thread nD τ).loc main_arg1) (ix2 d ⟨a.val * 704 + b.val, by omega⟩) else m ((c : Thread nD τ).loc main_arg2) (ix2 d ⟨a.val * 704 + b.val, by omega⟩) := by
  entry_read
  pointwise
  split <;> split <;> first | rfl | (exfalso; omega)

theorem b_u (c : Dev nD) (t : Fin cfg0.N) (r : Fin 2304) (d : Fin 2048) :
    (iblk m c 0 t : FVec Ideal S2304x2048 .bf16) (ix2 r d) = m ((c : Thread nD τ).loc main_arg0) (ix2 r d) := by
  refine Eq.trans ?_ (v_u m c r d)
  blk_ext [iblk, idx t]

theorem b_w (c : Dev nD) (t : Fin cfg0.N) (d : Fin 2048) (b : Fin 704) (h : t.val / 2 * 704 + b.val < 5632) :
    (iblk m c 1 t : FVec Ideal S1x1x2048x704 .bf16) (ix4 0 0 d b) = if t.val % 2 = 0 then m ((c : Thread nD τ).loc main_arg1) (ix2 d ⟨t.val / 2 * 704 + b.val, h⟩) else m ((c : Thread nD τ).loc main_arg2) (ix2 d ⟨t.val / 2 * 704 + b.val, h⟩) := by
  refine Eq.trans ?_ (v_w m c ⟨t.val / 2, by omega⟩ ⟨t.val % 2, by omega⟩ d b)
  blk_ext [iblk, idx t]

theorem point (c : Dev nD) (t : Fin cfg0.N) (y) : k0_pay1 (F := Ideal) (iblk m c 0 t) (iblk m c 1 t) y
    = val_main_v9 (F := Ideal) (m ((c : Thread nD τ).loc main_arg0)) (m ((c : Thread nD τ).loc main_arg1)) (m ((c : Thread nD τ).loc main_arg2)) (((cfg0.win 2).blk t).view.emb y) := by
  pointwise [k0_pay1, val_main_v9, val_main_v8, val_main_v7, val_main_v6, val_main_v5, val_main_v4, val_main_v3, val_main_v2, val_main_v1, val_main_v0]
  have ht : t.val < 16 := lt_of_lt_of_eq t.isLt N_0
  have e0 : (((View.whole main_v9).slice ((win0 2).rect t)).emb y 0).val = t.val / 2 := by blk_simp [idx t]
  have e1 : (((View.whole main_v9).slice ((win0 2).rect t)).emb y 1).val = t.val % 2 := by blk_simp [idx t]
  have h3 : (y 3).val < 704 := (y 3).isLt
  have hb : t.val / 2 * 704 + (y 3).val < 5632 := by omega
  split
  · rename_i h
    rw [e1] at h
    refine Fin.sum_fin_congr fun x => ?_

    refine congrArg₂ (· * ·) ((b_u m c t _ _).trans ?_) ((b_w m c t _ _ hb).trans ((if_pos (by omega)).trans ?_))
    · blk_ext [idx t]
    · blk_ext [idx t]
  · rename_i h
    rw [e1] at h
    refine Fin.sum_fin_congr fun x => ?_

    refine congrArg₂ (· * ·) ((b_u m c t _ _).trans ?_) ((b_w m c t _ _ hb).trans ((if_neg (by omega)).trans ?_))
    · blk_ext [idx t]
    · blk_ext [idx t]

theorem final (c : Dev nD) : (dats m 0 c).arrAt 2 (cfgs 0).N
    = val_main_v9 (F := Ideal) (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

end Cert.Kernel10Ideal.Products
end
-- ==== Proof.SsdInBwdX.lean ====
module
public import proofs.«01_k».proof.Proof.Gen.Kernel9Ideal.Frame
public import proofs.«01_k».proof.Proof.Gen.Reference9Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel9Ideal.Products
open Cert.Kernel9Ideal Cert.Kernel9Ideal.Gen Cert.Reference9Ideal.Read

/-! `ssd_in_bwd_x`: the gradient of `u @ w_in` with respect to `u`, the contraction over the weight's columns, filled up by 64 zero columns, cut into nine stretches of 1152 summed across grid points. -/

variable (m : (ℓ : Loc nD τ sig) → Buf (Elt Ideal) ℓ)

theorem zero_int : FloatOps.sitofp (F := Ideal) FTy.f32 (0#32) = (0 : EReal) := by
  show (((0#32 : BitVec 32).toInt : ℝ) : EReal) = 0
  simp

theorem idx : ∀ t : Fin cfg0.N, win0_0.index t = ![t.val / 18, t.val % 9] ∧ win0_1.index t = ![t.val / 9 % 2, t.val % 9] ∧ win0_2.index t = ![t.val / 18, t.val / 9 % 2] :=
  (by decide +kernel : ∀ t : Fin grid0.N, _)

theorem v_x (c : Dev nD) (r : Fin 2304) (b : Fin 10368) :
    (V m c main_v1 : FVec Ideal S2304x10368 .bf16) (ix2 r b) = if h : b.val < 10304 then m ((c : Thread nD τ).loc main_arg2) (ix2 r ⟨b.val, h⟩) else (0 : EReal) := by
  unfold V
  simp only [hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise
  split
  · rfl
  · exact zero_int

theorem v_w (c : Dev nD) (r : Fin 2048) (b : Fin 10368) :
    (V m c main_v3 : FVec Ideal S2048x10368 .bf16) (ix2 r b) = if h : b.val < 10304 then m ((c : Thread nD τ).loc main_arg1) (ix2 r ⟨b.val, h⟩) else (0 : EReal) := by
  unfold V
  simp only [hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise
  split
  · rfl
  · exact zero_int

theorem b_x (c : Dev nD) (t : Fin cfg0.N) (r : Fin 1152) (k : Fin 1152) (R : Fin 2304) (l : Fin 10304) (hr : R.val = t.val / 18 * 1152 + r.val) (hk : l.val = t.val % 9 * 1152 + k.val) :
    (iblk m c 0 t : FVec Ideal S1152x1152 .bf16) (ix2 r k) = m ((c : Thread nD τ).loc main_arg2) (ix2 R l) := by
  refine Eq.trans ?_ ((v_x m c R ⟨l.val, by omega⟩).trans (dif_pos l.isLt))
  blk_ext [iblk, idx t]

theorem b_w (c : Dev nD) (t : Fin cfg0.N) (d : Fin 1024) (k : Fin 1152) (D : Fin 2048) (l : Fin 10304) (hd : D.val = t.val / 9 % 2 * 1024 + d.val) (hk : l.val = t.val % 9 * 1152 + k.val) :
    (iblk m c 1 t : FVec Ideal S1024x1152 .bf16) (ix2 d k) = m ((c : Thread nD τ).loc main_arg1) (ix2 D l) := by
  refine Eq.trans ?_ ((v_w m c D ⟨l.val, by omega⟩).trans (dif_pos l.isLt))
  blk_ext [iblk, idx t]

theorem b_w_zero (c : Dev nD) (t : Fin cfg0.N) (d : Fin 1024) (k : Fin 1152) (D : Fin 2048) (l : Fin 10368) (hd : D.val = t.val / 9 % 2 * 1024 + d.val) (hk : l.val = t.val % 9 * 1152 + k.val) (h : ¬ l.val < 10304) :
    (iblk m c 1 t : FVec Ideal S1024x1152 .bf16) (ix2 d k) = (0 : EReal) := by
  refine Eq.trans ?_ ((v_w m c D l).trans (dif_neg h))
  blk_ext [iblk, idx t]

/-- A sum over the filled-up axis whose terms past the array's own are zero. -/
theorem sum_filled (f : Fin 10304 → EReal) : ∑ l : Fin 10368, (if h : l.val < 10304 then f ⟨l.val, h⟩ else 0) = ∑ l : Fin 10304, f l := by
  refine (Fin.sum_univ_add (a := 10304) (b := 64) fun l : Fin (10304 + 64) => if h : l.val < 10304 then f ⟨l.val, h⟩ else 0).trans ?_
  have h1 : ∀ i : Fin 64, (if h : (Fin.natAdd 10304 i).val < 10304 then f ⟨(Fin.natAdd 10304 i).val, h⟩ else 0) = 0 := fun i =>
    dif_neg (by rw [Fin.val_natAdd]; omega)
  rw [Finset.sum_congr rfl fun i _ => h1 i, Finset.sum_const_zero, add_zero]
  exact Finset.sum_congr rfl fun i _ => dif_pos i.isLt

/-- What the two blocks of a point add to the block of the result. -/
def block (x : Vec Ideal S1152x1152 .bf16) (w : Vec Ideal S1024x1152 .bf16) (j : S1152x1024.Idx) : EReal :=
  (∑ k : Fin 1152, x (ix2 (j 0) k) * w (ix2 (j 1) k) : EReal)

def part (c : Dev nD) (t : Fin cfg0.N) (j : S1152x1024.Idx) : EReal :=
  block (iblk m c 0 t) (iblk m c 1 t) j

theorem pay1 (j) : k0_pay1 (F := Ideal) j = (0 : EReal) := by
  pointwise [k0_pay1]

theorem pay2 (a x w) (j) : k0_pay2 (F := Ideal) a x w j = (a j + block x w j : EReal) := by
  unfold block
  pointwise [k0_pay2]

theorem last (c : Dev nD) (t : Fin cfg0.N) (h : t.val % 9 = 8) : (outsAt0 m c t.val t.isLt).1 = (outsAt0 m c t.val t.isLt).2 := by
  rw [outsAt0_C m c t (by omega) h]
  frame_out

/-- At the last point of a run the accumulator holds the sum over the run's points. -/
theorem sum_run (c : Dev nD) (t : Fin cfg0.N) (h : t.val % 9 = 9 - 1) (j : S1152x1024.Idx) :
    ((outsAt0 m c t.val t.isLt).2 j : EReal) = ∑ s : Fin 9, part m c ⟨9 * (t.val / 9) + s.val, Pipeline.run_point_lt_of_flush t h s⟩ j := by
  refine (Pipeline.eq_sum_fin_of_reset_step_apply_of_flush (M := EReal) (fun n h => (outsAt0 m c n h).2) 9 (fun _ => 0) (part m c)
    (fun t h j => ?_) (fun t h j => ?_) t h j).trans (zero_add _)
  · rw [outsAt0_A m c t h (by omega)]
    frame_out
    rw [pay2, pay1]
    rfl
  · by_cases h1 : t.val % 9 = 8
    · rw [outsAt0_C m c t h h1]
      frame_out
      rw [pay2, read_unread_whole]
      rfl
    · rw [outsAt0_B m c t h h1]
      frame_out
      rw [pay2, read_unread_whole]
      rfl

theorem final (c : Dev nD) : (dats m 0 c).arrAt 2 (cfgs 0).N
    = val_main_v1 (F := Ideal) (m ((c : Thread nD τ).loc main_arg1)) (m ((c : Thread nD τ).loc main_arg2)) := by
  refine (dats m 0 c).arrAt_eq_of_covers 2 _ (by decide +kernel) fun t hf y => ?_
  have hl : t.val % 9 = 8 := (flush0_2 t).mp hf
  have ht : t.val < 36 := lt_of_lt_of_eq t.isLt N_0
  have e0 : (((View.whole main_v4).slice (win0_2.rect t)).emb y 0).val = t.val / 18 * 1152 + (y 0).val := by blk_simp [idx t]
  have e1 : (((View.whole main_v4).slice (win0_2.rect t)).emb y 1).val = t.val / 9 % 2 * 1024 + (y 1).val := by blk_simp [idx t]
  have y0 : (y 0).val < 1152 := (y 0).isLt
  have y1 : (y 1).val < 1024 := (y 1).isLt
  blk_simp
  rw [after0_2, last m c t hl]
  refine (sum_run m c t hl _).trans ?_
  pointwise [val_main_v1]
  unfold part block
  refine Eq.trans ?_ (sum_filled _)
  refine Fin.sum_mul_add_congr fun s k hk => ?_
  have hs : s.val < 9 := s.isLt
  have k0 : k.val < 1152 := k.isLt
  have q0 : (9 * (t.val / 9) + s.val) / 18 = t.val / 18 := by omega
  have q1 : (9 * (t.val / 9) + s.val) / 9 % 2 = t.val / 9 % 2 := by omega
  have q2 : (9 * (t.val / 9) + s.val) % 9 = s.val := by omega
  have r0 : (((View.whole main_v4).slice (win0_2.rect t)).emb y 0).val = (9 * (t.val / 9) + s.val) / 18 * 1152 + (y 0).val := by rw [e0, q0]
  have r1 : (((View.whole main_v4).slice (win0_2.rect t)).emb y 1).val = (9 * (t.val / 9) + s.val) / 9 % 2 * 1024 + (y 1).val := by rw [e1, q1]
  have r2 : s.val * 1152 + k.val = (9 * (t.val / 9) + s.val) % 9 * 1152 + k.val := by rw [q2]
  by_cases h : s.val * 1152 + k.val < 10304
  · rw [dif_pos h]
    exact congrArg₂ (· * ·) (b_x m c ⟨9 * (t.val / 9) + s.val, _⟩ (y 0) k _ ⟨s.val * 1152 + k.val, h⟩ r0 r2) (b_w m c ⟨9 * (t.val / 9) + s.val, _⟩ (y 1) k _ ⟨s.val * 1152 + k.val, h⟩ r1 r2)
  · rw [dif_neg h]
    rw [b_w_zero m c ⟨9 * (t.val / 9) + s.val, Pipeline.run_point_lt_of_flush t hl s⟩ (y 1) k _ ⟨s.val * 1152 + k.val, hk⟩ r1 r2 h]
    exact mul_zero _

end Cert.Kernel9Ideal.Products
end
-- ==== Proof.SsdInBwdW.lean ====
module
public import proofs.«01_k».proof.Proof.Gen.Kernel8Ideal.Frame
public import proofs.«01_k».proof.Proof.Gen.Reference8Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel8Ideal.Products
open Cert.Kernel8Ideal Cert.Kernel8Ideal.Gen Cert.Reference8Ideal.Read

/-! `ssd_in_bwd_w`: each grid point writes 384 columns of the gradient of `u @ w_in` with respect to `w_in`; the last 64 columns, past the weight's own, hold zero. -/

variable (m : (ℓ : Loc nD τ sig) → Buf (Elt Ideal) ℓ)

theorem zero_int : FloatOps.sitofp (F := Ideal) FTy.f32 (0#32) = (0 : EReal) := by
  show (((0#32 : BitVec 32).toInt : ℝ) : EReal) = 0
  simp

theorem idx : ∀ t : Fin cfg0.N, win0_0.index t = ![0, 0] ∧ win0_1.index t = ![0, t.val] ∧ win0_2.index t = ![0, t.val] :=
  (by decide +kernel : ∀ t : Fin grid0.N, _)

theorem v_u (c : Dev nD) (a : Fin 2048) (r : Fin 2304) :
    (V m c main_v1 : FVec Ideal S2048x2304 .bf16) (ix2 a r) = m ((c : Thread nD τ).loc main_arg0) (ix2 r a) := by
  unfold V
  simp only [hostOps0, hostOps0_1, hostOps0_2, List.flatten_cons, List.flatten_nil, List.append_nil, List.cons_append, List.nil_append]
  entry_read
  pointwise
  blk_ext

theorem v_g (c : Dev nD) (r : Fin 2304) (b : Fin 10368) :
    (V m c main_v3 : FVec Ideal S2304x10368 .bf16) (ix2 r b) = if h : b.val < 10304 then m ((c : Thread nD τ).loc main_arg2) (ix2 r ⟨b.val, h⟩) else (0 : EReal) := by
  unfold V
  simp only [hostOps0, hostOps0_1, hostOps0_2, List.flatten_cons, List.flatten_nil, List.append_nil, List.cons_append, List.nil_append]
  entry_read
  simp only [StableHlo.TRef.toBuf, StableHlo.TRef.ofBuf, cast_eq]
  pointwise
  split
  · rfl
  · exact zero_int

theorem b_u (c : Dev nD) (t : Fin cfg0.N) (a : Fin 2048) (r : Fin 2304) :
    (iblk m c 0 t : FVec Ideal S2048x2304 .bf16) (ix2 a r) = m ((c : Thread nD τ).loc main_arg0) (ix2 r a) := by
  refine Eq.trans ?_ (v_u m c a r)
  blk_ext [iblk, idx t]

theorem b_g (c : Dev nD) (t : Fin cfg0.N) (r : Fin 2304) (b : Fin 384) (h : t.val * 384 + b.val < 10368) :
    (iblk m c 1 t : FVec Ideal S2304x384 .bf16) (ix2 r b) = if h : t.val * 384 + b.val < 10304 then m ((c : Thread nD τ).loc main_arg2) (ix2 r ⟨t.val * 384 + b.val, h⟩) else (0 : EReal) := by
  refine Eq.trans ?_ (v_g m c r ⟨t.val * 384 + b.val, h⟩)
  blk_ext [iblk, idx t]

theorem point (c : Dev nD) (t : Fin cfg0.N) (y) : k0_pay1 (F := Ideal) (iblk m c 0 t) (iblk m c 1 t) y
    = val_main_v4 (F := Ideal) (m ((c : Thread nD τ).loc main_arg0)) (m ((c : Thread nD τ).loc main_arg2)) (((cfg0.win 2).blk t).view.emb y) := by
  pointwise [k0_pay1, val_main_v4, val_main_v3, val_main_v2, val_main_v1]
  have ht : t.val < 27 := lt_of_lt_of_eq t.isLt N_0
  have e0 : (((View.whole main_v4).slice ((win0 2).rect t)).emb y 0).val = (y 0).val := by blk_simp [idx t]
  have e1 : (((View.whole main_v4).slice ((win0 2).rect t)).emb y 1).val = t.val * 384 + (y 1).val := by blk_simp [idx t]
  have h1 : (y 1).val < 384 := (y 1).isLt
  have hb : t.val * 384 + (y 1).val < 10368 := by omega
  split
  · rename_i h
    rw [e1] at h
    refine Fin.sum_fin_congr fun x => ?_
    rw [mul_comm]
    refine congrArg₂ (· * ·) ((b_g m c t _ _ hb).trans ((dif_pos (by omega)).trans ?_)) ((b_u m c t _ _).trans ?_)
    · blk_ext [idx t]
    · blk_ext [idx t]
  · rename_i h
    rw [e1] at h
    refine (Finset.sum_eq_zero fun x _ => ?_).trans ?_
    · rw [(b_g m c t _ _ hb).trans (dif_neg (by omega))]
      exact mul_zero _
    · pointwise [val_main_call0_v0]
      exact zero_int.symm

theorem final (c : Dev nD) : (dats m 0 c).arrAt 2 (cfgs 0).N
    = val_main_v4 (F := Ideal) (m ((c : Thread nD τ).loc main_arg0)) (m ((c : Thread nD τ).loc main_arg2)) := by
  refine (dats m 0 c).arrAt_eq_of_covers 2 _ (by decide +kernel) fun t _ y => ?_
  blk_simp
  rw [after0_2]; frame_out
  exact point m c t y

end Cert.Kernel8Ideal.Products
end
-- ==== Proof.SsdOutBwdW.lean ====
module
public import proofs.«01_k».proof.Proof.Gen.Kernel7Ideal.Frame
public import proofs.«01_k».proof.Proof.Gen.Reference7Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel7Ideal.Products
open Cert.Kernel7Ideal Cert.Kernel7Ideal.Gen Cert.Reference7Ideal.Read

/-! `ssd_out_bwd_w`: each grid point writes 512 rows of the gradient of `yn @ w_out` with respect to `w_out`. -/

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem v_df (c : Dev nD) (r : Fin 2304) (d : Fin 2048) :
    (V m c main_v2 : FVec Ideal S2304x2048 .bf16) (ix2 r d) = m ((c : Thread nD τ).loc main_arg2) (ix2 r d) := by
  entry_read
  pointwise

theorem v_a (c : Dev nD) (a : Fin 4096) (r : Fin 2304) :
    (V m c main_v1 : FVec Ideal S4096x2304 .bf16) (ix2 a r) = m ((c : Thread nD τ).loc main_arg0) (ix2 r a) := by
  entry_read
  pointwise
  blk_ext

theorem b_df (c : Dev nD) (t : Fin cfg0.N) (r : Fin 2304) (d : Fin 2048) :
    (iblk m c 1 t : FVec Ideal S2304x2048 .bf16) (ix2 r d) = m ((c : Thread nD τ).loc main_arg2) (ix2 r d) := by
  refine Eq.trans ?_ (v_df m c r d)
  blk_ext [iblk, idx t]

theorem b_a (c : Dev nD) (t : Fin cfg0.N) (b : Fin 512) (r : Fin 2304) (h : t.val * 512 + b.val < 4096) :
    (iblk m c 0 t : FVec Ideal S512x2304 .bf16) (ix2 b r) = m ((c : Thread nD τ).loc main_arg0) (ix2 r ⟨t.val * 512 + b.val, h⟩) := by
  refine Eq.trans ?_ (v_a m c ⟨t.val * 512 + b.val, h⟩ r)
  blk_ext [iblk, idx t]

theorem point (c : Dev nD) (t : Fin cfg0.N) (y) : k0_pay1 (F := Ideal) (iblk m c 0 t) (iblk m c 1 t) y
    = val_main_v3 (F := Ideal) (m ((c : Thread nD τ).loc main_arg0)) (m ((c : Thread nD τ).loc main_arg2)) (((cfg0.win 2).blk t).view.emb y) := by
  pointwise [k0_pay1, val_main_v3, val_main_v2, val_main_v1]
  refine Fin.sum_fin_congr fun x => ?_
  rw [mul_comm]
  refine congrArg₂ (· * ·) ((b_df m c t _ _).trans ?_) ((b_a m c t _ _ ?_).trans ?_)
  · blk_ext [idx t]
  · have h1 : t.val < 8 := lt_of_lt_of_eq t.isLt N_0
    have h2 : (y 0).val < 512 := (y 0).isLt
    omega
  · blk_ext [idx t]

theorem final (c : Dev nD) : (dats m 0 c).arrAt 2 (cfgs 0).N
    = val_main_v3 (F := Ideal) (m ((c : Thread nD τ).loc main_arg0)) (m ((c : Thread nD τ).loc main_arg2)) := by
  refine (dats m 0 c).arrAt_eq_of_covers 2 _ (by decide +kernel) fun t _ y => ?_
  blk_simp
  rw [after0_2]; frame_out
  exact point m c t y

end Cert.Kernel7Ideal.Products
end
-- ==== Proof.SsdOutBwdX.lean ====
module
public import proofs.«01_k».proof.Proof.Gen.Kernel6Ideal.Frame
public import proofs.«01_k».proof.Proof.Gen.Reference6Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel6Ideal.Products
open Cert.Kernel6Ideal Cert.Kernel6Ideal.Gen Cert.Reference6Ideal.Read

/-! `ssd_out_bwd_x`: each grid point writes 512 columns of the gradient of `yn @ w_out` with respect to `yn`. -/

variable (m : (ℓ : Loc nD τ sig) → Buf (Elt Ideal) ℓ)

theorem idx : ∀ t : Fin cfg0.N, win0_0.index t = ![0, 0] ∧ win0_1.index t = ![t.val, 0] ∧ win0_2.index t = ![0, t.val] :=
  (by decide +kernel : ∀ t : Fin grid0.N, _)

theorem v_df (c : Dev nD) (r : Fin 2304) (d : Fin 2048) :
    (V m c main_v0 : FVec Ideal S2304x2048 .bf16) (ix2 r d) = m ((c : Thread nD τ).loc main_arg2) (ix2 r d) := by
  entry_read
  pointwise

theorem v_w (c : Dev nD) (a : Fin 4096) (d : Fin 2048) :
    (V m c main_v1 : FVec Ideal S4096x2048 .bf16) (ix2 a d) = m ((c : Thread nD τ).loc main_arg1) (ix2 a d) := by
  entry_read
  pointwise

theorem b_df (c : Dev nD) (t : Fin cfg0.N) (r : Fin 2304) (d : Fin 2048) :
    (iblk m c 0 t : FVec Ideal S2304x2048 .bf16) (ix2 r d) = m ((c : Thread nD τ).loc main_arg2) (ix2 r d) := by
  refine Eq.trans ?_ (v_df m c r d)
  blk_ext [iblk, idx t]

theorem b_w (c : Dev nD) (t : Fin cfg0.N) (b : Fin 512) (d : Fin 2048) (h : t.val * 512 + b.val < 4096) :
    (iblk m c 1 t : FVec Ideal S512x2048 .bf16) (ix2 b d) = m ((c : Thread nD τ).loc main_arg1) (ix2 ⟨t.val * 512 + b.val, h⟩ d) := by
  refine Eq.trans ?_ (v_w m c ⟨t.val * 512 + b.val, h⟩ d)
  blk_ext [iblk, idx t]

theorem point (c : Dev nD) (t : Fin cfg0.N) (y) : k0_pay1 (F := Ideal) (iblk m c 0 t) (iblk m c 1 t) y
    = val_main_v1 (F := Ideal) (m ((c : Thread nD τ).loc main_arg1)) (m ((c : Thread nD τ).loc main_arg2)) (((cfg0.win 2).blk t).view.emb y) := by
  pointwise [k0_pay1, val_main_v1]
  refine Fin.sum_fin_congr fun x => ?_
  refine congrArg₂ (· * ·) ((b_df m c t _ _).trans ?_) ((b_w m c t _ _ ?_).trans ?_)
  · blk_ext [idx t]
  · have h1 : t.val < 8 := lt_of_lt_of_eq t.isLt N_0
    have h2 : (y 1).val < 512 := (y 1).isLt
    omega
  · blk_ext [idx t]

theorem final (c : Dev nD) : (dats m 0 c).arrAt 2 (cfgs 0).N
    = val_main_v1 (F := Ideal) (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

end Cert.Kernel6Ideal.Products
end
-- ==== Proof.FfnInBwdX.lean ====
module
public import proofs.«01_k».proof.Proof.Gen.Kernel5Ideal.Frame
public import proofs.«01_k».proof.Proof.Gen.Reference5Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel5Ideal.Products
open Cert.Kernel5Ideal Cert.Kernel5Ideal.Gen Cert.Reference5Ideal.Read

/-! `ffn_in_bwd_x`: the gradient of the two products `u @ w_gate`, `u @ w_up` with respect to `u`, both contractions cut into the eight devices' columns and summed across grid points. -/

variable (m : (ℓ : Loc nD τ sig) → Buf (Elt Ideal) ℓ)

theorem idx : ∀ t : Fin cfg0.N, win0_0.index t = ![t.val % 8, 0, t.val / 16, 0] ∧ win0_1.index t = ![t.val % 8, 0, t.val / 8 % 2, 0] ∧ win0_2.index t = ![t.val / 16, t.val / 8 % 2] :=
  (by decide +kernel : ∀ t : Fin grid0.N, _)

theorem v_x (c : Dev nD) (a : Fin 8) (s : Fin 2) (r : Fin 2304) (b : Fin 704) :
    (V m c main_v7 : FVec Ideal S8x2x2304x704 .bf16) (ix4 a s r b) = if s.val = 0 then m ((c : Thread nD τ).loc main_arg3) (ix2 r ⟨a.val * 704 + b.val, by omega⟩) else m ((c : Thread nD τ).loc main_arg4) (ix2 r ⟨a.val * 704 + b.val, by omega⟩) := by
  entry_read
  pointwise
  split <;> split <;> first | rfl | (exfalso; omega)

theorem v_w (c : Dev nD) (a : Fin 8) (s : Fin 2) (r : Fin 2048) (b : Fin 704) :
    (V m c main_v15 : FVec Ideal S8x2x2048x704 .bf16) (ix4 a s r b) = if s.val = 0 then m ((c : Thread nD τ).loc main_arg1) (ix2 r ⟨a.val * 704 + b.val, by omega⟩) else m ((c : Thread nD τ).loc main_arg2) (ix2 r ⟨a.val * 704 + b.val, by omega⟩) := by
  entry_read
  pointwise
  split <;> split <;> first | rfl | (exfalso; omega)

theorem b_x0 (c : Dev nD) (t : Fin cfg0.N) (r : Fin 1152) (k : Fin 704) (hr : t.val / 16 * 1152 + r.val < 2304) (hk : t.val % 8 * 704 + k.val < 5632) :
    (iblk m c 0 t : FVec Ideal S1x2x1152x704 .bf16) (ix4 0 0 r k) = m ((c : Thread nD τ).loc main_arg3) (ix2 ⟨t.val / 16 * 1152 + r.val, hr⟩ ⟨t.val % 8 * 704 + k.val, hk⟩) := by
  refine Eq.trans ?_ ((v_x m c ⟨t.val % 8, by omega⟩ 0 ⟨t.val / 16 * 1152 + r.val, hr⟩ k).trans (if_pos rfl))
  blk_ext [iblk, idx t]

theorem b_x1 (c : Dev nD) (t : Fin cfg0.N) (r : Fin 1152) (k : Fin 704) (hr : t.val / 16 * 1152 + r.val < 2304) (hk : t.val % 8 * 704 + k.val < 5632) :
    (iblk m c 0 t : FVec Ideal S1x2x1152x704 .bf16) (ix4 0 1 r k) = m ((c : Thread nD τ).loc main_arg4) (ix2 ⟨t.val / 16 * 1152 + r.val, hr⟩ ⟨t.val % 8 * 704 + k.val, hk⟩) := by
  refine Eq.trans ?_ ((v_x m c ⟨t.val % 8, by omega⟩ 1 ⟨t.val / 16 * 1152 + r.val, hr⟩ k).trans (if_neg (by decide)))
  blk_ext [iblk, idx t]

theorem b_w0 (c : Dev nD) (t : Fin cfg0.N) (r : Fin 1024) (k : Fin 704) (hr : t.val / 8 % 2 * 1024 + r.val < 2048) (hk : t.val % 8 * 704 + k.val < 5632) :
    (iblk m c 1 t : FVec Ideal S1x2x1024x704 .bf16) (ix4 0 0 r k) = m ((c : Thread nD τ).loc main_arg1) (ix2 ⟨t.val / 8 % 2 * 1024 + r.val, hr⟩ ⟨t.val % 8 * 704 + k.val, hk⟩) := by
  refine Eq.trans ?_ ((v_w m c ⟨t.val % 8, by omega⟩ 0 ⟨t.val / 8 % 2 * 1024 + r.val, hr⟩ k).trans (if_pos rfl))
  blk_ext [iblk, idx t]

theorem b_w1 (c : Dev nD) (t : Fin cfg0.N) (r : Fin 1024) (k : Fin 704) (hr : t.val / 8 % 2 * 1024 + r.val < 2048) (hk : t.val % 8 * 704 + k.val < 5632) :
    (iblk m c 1 t : FVec Ideal S1x2x1024x704 .bf16) (ix4 0 1 r k) = m ((c : Thread nD τ).loc main_arg2) (ix2 ⟨t.val / 8 % 2 * 1024 + r.val, hr⟩ ⟨t.val % 8 * 704 + k.val, hk⟩) := by
  refine Eq.trans ?_ ((v_w m c ⟨t.val % 8, by omega⟩ 1 ⟨t.val / 8 % 2 * 1024 + r.val, hr⟩ k).trans (if_neg (by decide)))
  blk_ext [iblk, idx t]

/-- What the two blocks of a point add to the block of the result. -/
def block (x : Vec Ideal S1x2x1152x704 .bf16) (w : Vec Ideal S1x2x1024x704 .bf16) (j : S1152x1024.Idx) : EReal :=
  ((∑ k : Fin 704, x (ix4 0 0 (j 0) k) * w (ix4 0 0 (j 1) k)) + (∑ k : Fin 704, x (ix4 0 1 (j 0) k) * w (ix4 0 1 (j 1) k)) : EReal)

def part (c : Dev nD) (t : Fin cfg0.N) (j : S1152x1024.Idx) : EReal :=
  block (iblk m c 0 t) (iblk m c 1 t) j

theorem pay1 (j) : k0_pay1 (F := Ideal) j = (0 : EReal) := by
  pointwise [k0_pay1]

theorem pay2 (a) (x : Vec Ideal S1x2x1152x704 .bf16) (w : Vec Ideal S1x2x1024x704 .bf16) (j) : k0_pay2 (F := Ideal) a (View.ld x (Rect.unit (s := S1x2x1152x704) ![0, 0, 0, 0] S1x1x1152x704.size inb_S1x2x1152x704_S1x1x1152x704_0_0_0_0)) (View.ld w (Rect.unit (s := S1x2x1024x704) ![0, 0, 0, 0] S1x1x1024x704.size inb_S1x2x1024x704_S1x1x1024x704_0_0_0_0)) (View.ld x (Rect.unit (s := S1x2x1152x704) ![0, 1, 0, 0] S1x1x1152x704.size inb_S1x2x1152x704_S1x1x1152x704_0_1_0_0)) (View.ld w (Rect.unit (s := S1x2x1024x704) ![0, 1, 0, 0] S1x1x1024x704.size inb_S1x2x1024x704_S1x1x1024x704_0_1_0_0)) j = (a j + block x w j : EReal) := by
  unfold block
  pointwise [k0_pay2]

theorem last (c : Dev nD) (t : Fin cfg0.N) (h : t.val % 8 = 7) : (outsAt0 m c t.val t.isLt).1 = (outsAt0 m c t.val t.isLt).2 := by
  rw [outsAt0_C m c t (by omega) h]
  frame_out

/-- At the last point of a run the accumulator holds the sum over the run's points. -/
theorem sum_run (c : Dev nD) (t : Fin cfg0.N) (h : t.val % 8 = 8 - 1) (j : S1152x1024.Idx) :
    ((outsAt0 m c t.val t.isLt).2 j : EReal) = ∑ s : Fin 8, part m c ⟨8 * (t.val / 8) + s.val, Pipeline.run_point_lt_of_flush t h s⟩ j := by
  refine (Pipeline.eq_sum_fin_of_reset_step_apply_of_flush (M := EReal) (fun n h => (outsAt0 m c n h).2) 8 (fun _ => 0) (part m c)
    (fun t h j => ?_) (fun t h j => ?_) t h j).trans (zero_add _)
  · rw [outsAt0_A m c t h (by omega)]
    frame_out
    rw [pay2, pay1]
    rfl
  · by_cases h1 : t.val % 8 = 7
    · rw [outsAt0_C m c t h h1]
      frame_out
      rw [pay2, read_unread_whole]
      rfl
    · rw [outsAt0_B m c t h h1]
      frame_out
      rw [pay2, read_unread_whole]
      rfl

theorem final (c : Dev nD) : (dats m 0 c).arrAt 2 (cfgs 0).N
    = val_main_v4 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 2 _ (by decide +kernel) fun t hf y => ?_
  have hl : t.val % 8 = 7 := (flush0_2 t).mp hf
  have ht : t.val < 32 := lt_of_lt_of_eq t.isLt N_0
  have e0 : (((View.whole main_v16).slice (win0_2.rect t)).emb y 0).val = t.val / 16 * 1152 + (y 0).val := by blk_simp [idx t]
  have e1 : (((View.whole main_v16).slice (win0_2.rect t)).emb y 1).val = t.val / 8 % 2 * 1024 + (y 1).val := by blk_simp [idx t]
  have y0 : (y 0).val < 1152 := (y 0).isLt
  have y1 : (y 1).val < 1024 := (y 1).isLt
  blk_simp
  rw [after0_2, last m c t hl]
  refine (sum_run m c t hl _).trans ?_
  pointwise [val_main_v4, val_main_v3, val_main_v2]
  unfold part block
  refine Finset.sum_add_distrib.trans ((add_comm _ _).trans ?_)
  refine congrArg₂ (· + ·) ?_ ?_
  · refine Fin.sum_mul_add_congr fun s k hk => ?_
    have hs : s.val < 8 := s.isLt
    have k0 : k.val < 704 := k.isLt
    have q0 : (8 * (t.val / 8) + s.val) / 16 = t.val / 16 := by omega
    have q1 : (8 * (t.val / 8) + s.val) / 8 % 2 = t.val / 8 % 2 := by omega
    have q2 : (8 * (t.val / 8) + s.val) % 8 = s.val := by omega
    refine congrArg₂ (· * ·) ((b_x1 m c _ _ _ ?_ ?_).trans (congrArg _ ?_)) ((b_w1 m c _ _ _ ?_ ?_).trans (congrArg _ ?_))
    · dsimp only; rw [q0]; omega
    · dsimp only; rw [q2]; omega
    · refine congrArg₂ ix2 (Fin.ext ?_) (Fin.ext ?_)
      · dsimp only; rw [e0, q0]
      · dsimp only; rw [q2]
    · dsimp only; rw [q1]; omega
    · dsimp only; rw [q2]; omega
    · refine congrArg₂ ix2 (Fin.ext ?_) (Fin.ext ?_)
      · dsimp only; rw [e1, q1]
      · dsimp only; rw [q2]
  · refine Fin.sum_mul_add_congr fun s k hk => ?_
    have hs : s.val < 8 := s.isLt
    have k0 : k.val < 704 := k.isLt
    have q0 : (8 * (t.val / 8) + s.val) / 16 = t.val / 16 := by omega
    have q1 : (8 * (t.val / 8) + s.val) / 8 % 2 = t.val / 8 % 2 := by omega
    have q2 : (8 * (t.val / 8) + s.val) % 8 = s.val := by omega
    refine congrArg₂ (· * ·) ((b_x0 m c _ _ _ ?_ ?_).trans (congrArg _ ?_)) ((b_w0 m c _ _ _ ?_ ?_).trans (congrArg _ ?_))
    · dsimp only; rw [q0]; omega
    · dsimp only; rw [q2]; omega
    · refine congrArg₂ ix2 (Fin.ext ?_) (Fin.ext ?_)
      · dsimp only; rw [e0, q0]
      · dsimp only; rw [q2]
    · dsimp only; rw [q1]; omega
    · dsimp only; rw [q2]; omega
    · refine congrArg₂ ix2 (Fin.ext ?_) (Fin.ext ?_)
      · dsimp only; rw [e1, q1]
      · dsimp only; rw [q2]

end Cert.Kernel5Ideal.Products
end
-- ==== Proof.FfnInBwdW.lean ====
module
public import proofs.«01_k».proof.Proof.Gen.Kernel4Ideal.Frame
public import proofs.«01_k».proof.Proof.Gen.Reference4Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel4Ideal.Products
open Cert.Kernel4Ideal Cert.Kernel4Ideal.Gen Cert.Reference4Ideal.Read

/-! `ffn_in_bwd_w`: each grid point writes one device's columns of the gradient of one of the two products `u @ w_gate`, `u @ w_up` with respect to its weight. -/

variable (m : (ℓ : Loc nD τ sig) → Buf (Elt Ideal) ℓ)

theorem idx : ∀ t : Fin cfg0.N, win0_0.index t = ![0, 0] ∧ win0_1.index t = ![t.val / 2, t.val % 2, 0, 0] ∧ win0_2.index t = ![t.val / 2, t.val % 2, 0, 0] :=
  (by decide +kernel : ∀ t : Fin grid0.N, _)

theorem v_u (c : Dev nD) (a : Fin 2048) (r : Fin 2304) :
    (V m c main_v1 : FVec Ideal S2048x2304 .bf16) (ix2 a r) = m ((c : Thread nD τ).loc main_arg0) (ix2 r a) := by
  entry_read
  pointwise
  blk_ext

theorem v_g (c : Dev nD) (a : Fin 8) (s : Fin 2) (r : Fin 2304) (b : Fin 704) :
    (V m c main_v9 : FVec Ideal S8x2x2304x704 .bf16) (ix4 a s r b) = if s.val = 0 then m ((c : Thread nD τ).loc main_arg3) (ix2 r ⟨a.val * 704 + b.val, by omega⟩) else m ((c : Thread nD τ).loc main_arg4) (ix2 r ⟨a.val * 704 + b.val, by omega⟩) := by
  entry_read
  pointwise
  split <;> split <;> first | rfl | (exfalso; omega)

theorem b_u (c : Dev nD) (t : Fin cfg0.N) (a : Fin 2048) (r : Fin 2304) :
    (iblk m c 0 t : FVec Ideal S2048x2304 .bf16) (ix2 a r) = m ((c : Thread nD τ).loc main_arg0) (ix2 r a) := by
  refine Eq.trans ?_ (v_u m c a r)
  blk_ext [iblk, idx t]

theorem b_g (c : Dev nD) (t : Fin cfg0.N) (r : Fin 2304) (b : Fin 704) (h : t.val / 2 * 704 + b.val < 5632) :
    (iblk m c 1 t : FVec Ideal S1x1x2304x704 .bf16) (ix4 0 0 r b) = if t.val % 2 = 0 then m ((c : Thread nD τ).loc main_arg3) (ix2 r ⟨t.val / 2 * 704 + b.val, h⟩) else m ((c : Thread nD τ).loc main_arg4) (ix2 r ⟨t.val / 2 * 704 + b.val, h⟩) := by
  refine Eq.trans ?_ (v_g m c ⟨t.val / 2, by omega⟩ ⟨t.val % 2, by omega⟩ r b)
  blk_ext [iblk, idx t]

theorem point (c : Dev nD) (t : Fin cfg0.N) (y) : k0_pay1 (F := Ideal) (iblk m c 0 t) (iblk m c 1 t) y
    = val_main_v13 (F := Ideal) (m ((c : Thread nD τ).loc main_arg0)) (m ((c : Thread nD τ).loc main_arg3)) (m ((c : Thread nD τ).loc main_arg4)) (((cfg0.win 2).blk t).view.emb y) := by
  pointwise [k0_pay1, val_main_v13, val_main_v12, val_main_v11, val_main_v10, val_main_v9, val_main_v8, val_main_v7, val_main_v6, val_main_v5, val_main_v4, val_main_v3, val_main_v2]
  have ht : t.val < 16 := lt_of_lt_of_eq t.isLt N_0
  have e0 : (((View.whole main_v10).slice ((win0 2).rect t)).emb y 0).val = t.val / 2 := by blk_simp [idx t]
  have e1 : (((View.whole main_v10).slice ((win0 2).rect t)).emb y 1).val = t.val % 2 := by blk_simp [idx t]
  have h3 : (y 3).val < 704 := (y 3).isLt
  have hb : t.val / 2 * 704 + (y 3).val < 5632 := by omega
  split
  · rename_i h
    rw [e1] at h
    refine Fin.sum_fin_congr fun x => ?_
    rw [mul_comm]
    refine congrArg₂ (· * ·) ((b_g m c t _ _ hb).trans ((if_pos (by omega)).trans ?_)) ((b_u m c t _ _).trans ?_)
    · blk_ext [idx t]
    · blk_ext [idx t]
  · rename_i h
    rw [e1] at h
    refine Fin.sum_fin_congr fun x => ?_
    rw [mul_comm]
    refine congrArg₂ (· * ·) ((b_g m c t _ _ hb).trans ((if_neg (by omega)).trans ?_)) ((b_u m c t _ _).trans ?_)
    · blk_ext [idx t]
    · blk_ext [idx t]

theorem final (c : Dev nD) : (dats m 0 c).arrAt 2 (cfgs 0).N
    = val_main_v13 (F := Ideal) (m ((c : Thread nD τ).loc main_arg0)) (m ((c : Thread nD τ).loc main_arg3)) (m ((c : Thread nD τ).loc main_arg4)) := by
  refine (dats m 0 c).arrAt_eq_of_covers 2 _ (by decide +kernel) fun t _ y => ?_
  blk_simp
  rw [after0_2]; frame_out
  exact point m c t y

end Cert.Kernel4Ideal.Products
end
-- ==== Proof.FfnOutBwdW.lean ====
module
public import proofs.«01_k».proof.Proof.Gen.Kernel3Ideal.Frame
public import proofs.«01_k».proof.Proof.Gen.Reference3Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel3Ideal.Products
open Cert.Kernel3Ideal Cert.Kernel3Ideal.Gen Cert.Reference3Ideal.Read

/-! `ffn_out_bwd_w`: each grid point writes one device's rows of the gradient of `act @ w_down` with respect to `w_down`. -/

variable (m : (ℓ : Loc nD τ sig) → Buf (Elt Ideal) ℓ)

theorem idx : ∀ t : Fin cfg0.N, win0_0.index t = ![t.val, 0, 0] ∧ win0_1.index t = ![0, 0] ∧ win0_2.index t = ![t.val, 0, 0] :=
  (by decide +kernel : ∀ t : Fin grid0.N, _)

theorem v_df (c : Dev nD) (r : Fin 2304) (d : Fin 2048) :
    (V m c main_v4 : FVec Ideal S2304x2048 .bf16) (ix2 r d) = m ((c : Thread nD τ).loc main_arg2) (ix2 r d) := by
  entry_read
  pointwise

theorem v_a (c : Dev nD) (a : Fin 8) (b : Fin 704) (r : Fin 2304) :
    (V m c main_v3 : FVec Ideal S8x704x2304 .bf16) (ix3 a b r) = m ((c : Thread nD τ).loc main_arg0) (ix2 r ⟨a.val * 704 + b.val, by omega⟩) := by
  entry_read
  pointwise
  blk_ext

theorem b_df (c : Dev nD) (t : Fin cfg0.N) (r : Fin 2304) (d : Fin 2048) :
    (iblk m c 1 t : FVec Ideal S2304x2048 .bf16) (ix2 r d) = m ((c : Thread nD τ).loc main_arg2) (ix2 r d) := by
  refine Eq.trans ?_ (v_df m c r d)
  blk_ext [iblk, idx t]

theorem b_a (c : Dev nD) (t : Fin cfg0.N) (b : Fin 704) (r : Fin 2304) (h : t.val * 704 + b.val < 5632) :
    (iblk m c 0 t : FVec Ideal S1x704x2304 .bf16) (ix3 0 b r) = m ((c : Thread nD τ).loc main_arg0) (ix2 r ⟨t.val * 704 + b.val, h⟩) := by
  refine Eq.trans ?_ (v_a m c ⟨t.val, by omega⟩ b r)
  blk_ext [iblk, idx t]

theorem point (c : Dev nD) (t : Fin cfg0.N) (y) : k0_pay1 (F := Ideal) (iblk m c 0 t) (iblk m c 1 t) y
    = val_main_v4 (F := Ideal) (m ((c : Thread nD τ).loc main_arg0)) (m ((c : Thread nD τ).loc main_arg2)) (((cfg0.win 2).blk t).view.emb y) := by
  pointwise [k0_pay1, val_main_v4, val_main_v3, val_main_v2, val_main_v1]
  refine Fin.sum_fin_congr fun x => ?_
  rw [mul_comm]
  refine congrArg₂ (· * ·) ((b_df m c t _ _).trans ?_) ((b_a m c t _ _ ?_).trans ?_)
  · blk_ext [idx t]
  · have h1 : t.val < 8 := lt_of_lt_of_eq t.isLt N_0
    have h2 : (y 1).val < 704 := (y 1).isLt
    omega
  · blk_ext [idx t]

theorem final (c : Dev nD) : (dats m 0 c).arrAt 2 (cfgs 0).N
    = val_main_v4 (F := Ideal) (m ((c : Thread nD τ).loc main_arg0)) (m ((c : Thread nD τ).loc main_arg2)) := by
  refine (dats m 0 c).arrAt_eq_of_covers 2 _ (by decide +kernel) fun t _ y => ?_
  blk_simp
  rw [after0_2]; frame_out
  exact point m c t y

end Cert.Kernel3Ideal.Products
end
-- ==== Proof.FfnOutBwdX.lean ====
module
public import proofs.«01_k».proof.Proof.Gen.Kernel2Ideal.Frame
public import proofs.«01_k».proof.Proof.Gen.Reference2Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel2Ideal.Products
open Cert.Kernel2Ideal Cert.Kernel2Ideal.Gen Cert.Reference2Ideal.Read

/-! `ffn_out_bwd_x`: each grid point writes one device's columns of the gradient of `act @ w_down` with respect to `act`. -/

variable (m : (ℓ : Loc nD τ sig) → Buf (Elt Ideal) ℓ)

theorem idx : ∀ t : Fin cfg0.N, win0_0.index t = ![0, 0] ∧ win0_1.index t = ![t.val, 0, 0] ∧ win0_2.index t = ![t.val, 0, 0] :=
  (by decide +kernel : ∀ t : Fin grid0.N, _)

theorem v_df (c : Dev nD) (r : Fin 2304) (d : Fin 2048) :
    (V m c main_v0 : FVec Ideal S2304x2048 .bf16) (ix2 r d) = m ((c : Thread nD τ).loc main_arg2) (ix2 r d) := by
  entry_read
  pointwise

theorem v_w (c : Dev nD) (a : Fin 8) (b : Fin 704) (d : Fin 2048) :
    (V m c main_v2 : FVec Ideal S8x704x2048 .bf16) (ix3 a b d) = m ((c : Thread nD τ).loc main_arg1) (ix2 ⟨a.val * 704 + b.val, by omega⟩ d) := by
  entry_read
  pointwise
  blk_ext

theorem b_df (c : Dev nD) (t : Fin cfg0.N) (r : Fin 2304) (d : Fin 2048) :
    (iblk m c 0 t : FVec Ideal S2304x2048 .bf16) (ix2 r d) = m ((c : Thread nD τ).loc main_arg2) (ix2 r d) := by
  refine Eq.trans ?_ (v_df m c r d)
  blk_ext [iblk, idx t]

theorem b_w (c : Dev nD) (t : Fin cfg0.N) (b : Fin 704) (d : Fin 2048) (h : t.val * 704 + b.val < 5632) :
    (iblk m c 1 t : FVec Ideal S1x704x2048 .bf16) (ix3 0 b d) = m ((c : Thread nD τ).loc main_arg1) (ix2 ⟨t.val * 704 + b.val, h⟩ d) := by
  refine Eq.trans ?_ (v_w m c ⟨t.val, by omega⟩ b d)
  blk_ext [iblk, idx t]

theorem point (c : Dev nD) (t : Fin cfg0.N) (y) : k0_pay1 (F := Ideal) (iblk m c 0 t) (iblk m c 1 t) y
    = val_main_v3 (F := Ideal) (m ((c : Thread nD τ).loc main_arg1)) (m ((c : Thread nD τ).loc main_arg2)) (((cfg0.win 2).blk t).view.emb y) := by
  pointwise [k0_pay1, val_main_v3, val_main_v2, val_main_v1]
  refine Fin.sum_fin_congr fun x => ?_
  refine congrArg₂ (· * ·) ((b_df m c t _ _).trans ?_) ((b_w m c t _ _ ?_).trans ?_)
  · blk_ext [idx t]
  · have h1 : t.val < 8 := lt_of_lt_of_eq t.isLt N_0
    have h2 : (y 2).val < 704 := (y 2).isLt
    omega
  · blk_ext [idx t]

theorem final (c : Dev nD) : (dats m 0 c).arrAt 2 (cfgs 0).N
    = val_main_v3 (F := Ideal) (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

end Cert.Kernel2Ideal.Products
end
-- ==== Proof.lean ====
module

public import proofs.«01_k».proof.Proof.Conv
public import proofs.«01_k».proof.Proof.DtBwd
public import proofs.«01_k».proof.Proof.Gen.Reference32Ideal.Run
public import proofs.«01_k».proof.Proof.Gen.Reference32Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Reference31Ideal.Run
public import proofs.«01_k».proof.Proof.Gen.Reference31Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.PoolProjBwd
public import proofs.«01_k».proof.Proof.Gen.Reference30Ideal.Run
public import proofs.«01_k».proof.Proof.Gen.Reference30Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Reference29Ideal.Run
public import proofs.«01_k».proof.Proof.Gen.Reference29Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Reference28Ideal.Run
public import proofs.«01_k».proof.Proof.Gen.Reference28Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Reference27Ideal.Run
public import proofs.«01_k».proof.Proof.Gen.Reference27Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Reference26Ideal.Run
public import proofs.«01_k».proof.Proof.Gen.Reference26Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Reference25Ideal.Run
public import proofs.«01_k».proof.Proof.Gen.Reference25Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Reference24Ideal.Run
public import proofs.«01_k».proof.Proof.Gen.Reference24Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Reference23Ideal.Run
public import proofs.«01_k».proof.Proof.Gen.Reference23Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.PoolProj
public import proofs.«01_k».proof.Proof.Gate
public import proofs.«01_k».proof.Proof.Dt
public import proofs.«01_k».proof.Proof.NormPre
public import proofs.«01_k».proof.Proof.NormAdd
public import proofs.«01_k».proof.Proof.Swiglu
public import proofs.«01_k».proof.Proof.SwigluBwd
public import proofs.«01_k».proof.Proof.Gen.ReferenceIdeal
public import proofs.«01_k».proof.Proof.Gen.KernelIdeal.Value
public import proofs.«01_k».proof.Proof.Gen.ReferenceIdeal.Read
public import proofs.«01_k».proof.Proof.Gen.ReferenceIdeal.Run
public import proofs.«01_k».proof.Proof.Scan
public import proofs.«01_k».proof.Proof.NormBwd
public import proofs.«01_k».proof.Proof.LossHead
public import proofs.«01_k».proof.Proof.AdamSmall
public import proofs.«01_k».proof.Proof.AdamIn
public import proofs.«01_k».proof.Proof.AdamOut
public import proofs.«01_k».proof.Proof.AdamPool
public import proofs.«01_k».proof.Proof.AdamDown
public import proofs.«01_k».proof.Proof.AdamUp
public import proofs.«01_k».proof.Proof.AdamGate
public import proofs.«01_k».proof.Proof.SsdOut
public import proofs.«01_k».proof.Proof.SsdIn
public import proofs.«01_k».proof.Proof.FfnOut
public import proofs.«01_k».proof.Proof.FfnIn
public import proofs.«01_k».proof.Proof.SsdInBwdX
public import proofs.«01_k».proof.Proof.SsdInBwdW
public import proofs.«01_k».proof.Proof.SsdOutBwdW
public import proofs.«01_k».proof.Proof.SsdOutBwdX
public import proofs.«01_k».proof.Proof.FfnInBwdX
public import proofs.«01_k».proof.Proof.FfnInBwdW
public import proofs.«01_k».proof.Proof.FfnOutBwdW
public import proofs.«01_k».proof.Proof.FfnOutBwdX
public import proofs.«01_k».proof.Proof.Gen.Reference22Ideal.Run
public import proofs.«01_k».proof.Proof.Gen.Reference22Ideal.Read
public import proofs.«01_k».proof.Proof.Gen.Reference21Ideal.Run
public import proofs.«01_k».proof.Proof.Gen.Reference21Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel2Ideal.Value
public import proofs.«01_k».proof.Proof.Gen.Reference2Ideal.Run
public import proofs.«01_k».proof.Proof.Gen.Reference2Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import Idealize.ShloMosaic.Adequacy
public import Idealize.ShloMosaic.Init

@[expose] public section

noncomputable section

namespace Cert.Proof

open Idealize.ShloMosaic Idealize.SL.Sem Cert.Kernel

theorem frame_ReferenceIdeal : quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run m ρ)

theorem frame_Reference2Ideal : quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run m ρ)

theorem frame_Reference3Ideal : quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run m ρ)

theorem frame_Reference4Ideal : quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run m ρ)

theorem frame_Reference5Ideal : quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run m ρ)

theorem frame_Reference6Ideal : quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run m ρ)

theorem frame_Reference7Ideal : quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run m ρ)

theorem frame_Reference8Ideal : quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run m ρ)

theorem frame_Reference9Ideal : quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run m ρ)

theorem frame_Reference10Ideal : quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run m ρ)

theorem frame_Reference11Ideal : quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run m ρ)

theorem frame_Reference12Ideal : quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run m ρ)

theorem frame_Reference13Ideal : quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run m ρ)

theorem frame_Reference14Ideal : quiescent_Reference14Ideal := fun m ρ _ =>
  (θ_run Cert.Reference14Ideal.defs _ _).mono (fun r h => ⟨fun c => (h c).2.2.2.2,
      Idealize.ShloMosaic.sem_eq_zero_of_no_sems (by decide) r.2⟩)
    (Cert.Reference14Ideal.Value.run m ρ)

theorem frame_Reference15Ideal : quiescent_Reference15Ideal := fun m ρ _ =>
  (θ_run Cert.Reference15Ideal.defs _ _).mono (fun r h => ⟨fun c => (h c).2.2.2.2,
      Idealize.ShloMosaic.sem_eq_zero_of_no_sems (by decide) r.2⟩)
    (Cert.Reference15Ideal.Value.run m ρ)

theorem frame_Reference16Ideal : quiescent_Reference16Ideal := fun m ρ _ =>
  (θ_run Cert.Reference16Ideal.defs _ _).mono (fun r h => ⟨fun c => (h c).2.2.2.2,
      Idealize.ShloMosaic.sem_eq_zero_of_no_sems (by decide) r.2⟩)
    (Cert.Reference16Ideal.Value.run m ρ)

theorem frame_Reference17Ideal : quiescent_Reference17Ideal := fun m ρ _ =>
  (θ_run Cert.Reference17Ideal.defs _ _).mono (fun r h => ⟨fun c => (h c).2.2.2.2,
      Idealize.ShloMosaic.sem_eq_zero_of_no_sems (by decide) r.2⟩)
    (Cert.Reference17Ideal.Value.run m ρ)

theorem frame_Reference18Ideal : quiescent_Reference18Ideal := fun m ρ _ =>
  (θ_run Cert.Reference18Ideal.defs _ _).mono (fun r h => ⟨fun c => (h c).2.2.2.2,
      Idealize.ShloMosaic.sem_eq_zero_of_no_sems (by decide) r.2⟩)
    (Cert.Reference18Ideal.Value.run m ρ)

theorem frame_Reference19Ideal : quiescent_Reference19Ideal := fun m ρ _ =>
  (θ_run Cert.Reference19Ideal.defs _ _).mono (fun r h => ⟨fun c => (h c).2.2.2.2,
      Idealize.ShloMosaic.sem_eq_zero_of_no_sems (by decide) r.2⟩)
    (Cert.Reference19Ideal.Value.run m ρ)

theorem frame_Reference20Ideal : quiescent_Reference20Ideal := fun m ρ _ =>
  (θ_run Cert.Reference20Ideal.defs _ _).mono (fun r h => ⟨fun c => (h c).2.2.2.2,
      Idealize.ShloMosaic.sem_eq_zero_of_no_sems (by decide) r.2⟩)
    (Cert.Reference20Ideal.Value.run m ρ)

theorem frame_Reference21Ideal : quiescent_Reference21Ideal := fun m ρ _ =>
  (θ_run Cert.Reference21Ideal.defs _ _).mono (fun r h => ⟨fun c => (h c).2.2,
      Idealize.ShloMosaic.sem_eq_zero_of_no_sems (by decide) r.2⟩)
    (Cert.Reference21Ideal.Value.run m ρ)

theorem frame_Reference22Ideal : quiescent_Reference22Ideal := fun m ρ _ =>
  (θ_run Cert.Reference22Ideal.defs _ _).mono (fun r h => ⟨fun c => (h c).2.2,
      Idealize.ShloMosaic.sem_eq_zero_of_no_sems (by decide) r.2⟩)
    (Cert.Reference22Ideal.Value.run m ρ)

theorem frame_Reference23Ideal : quiescent_Reference23Ideal := fun m ρ _ =>
  (θ_run Cert.Reference23Ideal.defs _ _).mono (fun r h => ⟨fun c => (h c).2,
      Idealize.ShloMosaic.sem_eq_zero_of_no_sems (by decide) r.2⟩)
    (Cert.Reference23Ideal.Value.run m ρ)

theorem frame_Reference24Ideal : quiescent_Reference24Ideal := fun m ρ _ =>
  (θ_run Cert.Reference24Ideal.defs _ _).mono (fun r h => ⟨fun c => (h c).2.2,
      Idealize.ShloMosaic.sem_eq_zero_of_no_sems (by decide) r.2⟩)
    (Cert.Reference24Ideal.Value.run m ρ)

theorem frame_Reference25Ideal : quiescent_Reference25Ideal := fun m ρ _ =>
  (θ_run Cert.Reference25Ideal.defs _ _).mono (fun r h => ⟨fun c => (h c).2,
      Idealize.ShloMosaic.sem_eq_zero_of_no_sems (by decide) r.2⟩)
    (Cert.Reference25Ideal.Value.run m ρ)

theorem frame_Reference26Ideal : quiescent_Reference26Ideal := fun m ρ _ =>
  (θ_run Cert.Reference26Ideal.defs _ _).mono (fun r h => ⟨fun c => (h c).2.2,
      Idealize.ShloMosaic.sem_eq_zero_of_no_sems (by decide) r.2⟩)
    (Cert.Reference26Ideal.Value.run m ρ)

theorem frame_Reference27Ideal : quiescent_Reference27Ideal := fun m ρ _ =>
  (θ_run Cert.Reference27Ideal.defs _ _).mono (fun r h => ⟨fun c => (h c).2,
      Idealize.ShloMosaic.sem_eq_zero_of_no_sems (by decide) r.2⟩)
    (Cert.Reference27Ideal.Value.run m ρ)

theorem frame_Reference28Ideal : quiescent_Reference28Ideal := fun m ρ _ =>
  (θ_run Cert.Reference28Ideal.defs _ _).mono (fun r h => ⟨fun c => (h c).2.2,
      Idealize.ShloMosaic.sem_eq_zero_of_no_sems (by decide) r.2⟩)
    (Cert.Reference28Ideal.Value.run m ρ)

theorem frame_Reference29Ideal : quiescent_Reference29Ideal := fun m ρ _ =>
  (θ_run Cert.Reference29Ideal.defs _ _).mono (fun r h => ⟨fun c => (h c).2.2,
      Idealize.ShloMosaic.sem_eq_zero_of_no_sems (by decide) r.2⟩)
    (Cert.Reference29Ideal.Value.run m ρ)

theorem frame_Reference30Ideal : quiescent_Reference30Ideal := fun m ρ _ =>
  (θ_run Cert.Reference30Ideal.defs _ _).mono (fun r h => ⟨fun c => (h c).2.2.2.2,
      Idealize.ShloMosaic.sem_eq_zero_of_no_sems (by decide) r.2⟩)
    (Cert.Reference30Ideal.Value.run m ρ)

theorem frame_Reference31Ideal : quiescent_Reference31Ideal := fun m ρ _ =>
  (θ_run Cert.Reference31Ideal.defs _ _).mono (fun r h => ⟨fun c => (h c).2.2,
      Idealize.ShloMosaic.sem_eq_zero_of_no_sems (by decide) r.2⟩)
    (Cert.Reference31Ideal.Value.run m ρ)

theorem frame_Reference32Ideal : quiescent_Reference32Ideal := fun m ρ _ =>
  (θ_run Cert.Reference32Ideal.defs _ _).mono (fun r h => ⟨fun c => (h c).2,
      Idealize.ShloMosaic.sem_eq_zero_of_no_sems (by decide) r.2⟩)
    (Cert.Reference32Ideal.Value.run m ρ)

theorem algebraic : algebraic_KernelIdeal_ReferenceIdeal_pre_finite_decay := by
  intro m g m' g' hpre hagree
  refine ⟨fun c => (Cert.KernelIdeal.Gen.dats m 0 c).arrAt 12 (Cert.KernelIdeal.cfgs 0).N,
    (θ_run _ _ _).mono (fun r h c => ⟨(h.1 c).1 12, h.2.1 c⟩)
      (θ_run_and (Cert.KernelIdeal.Gen.run_main m g) (Cert.KernelIdeal.Gen.frame m g)), ?_⟩
  refine (θ_run _ _ _).mono (fun r h c => ?_) (Cert.ReferenceIdeal.Value.run m' g')
  obtain ⟨h0, kept⟩ := h c
  obtain ⟨a0, a1, a2, a3, a4, a5⟩ := hagree c
  refine ⟨?_, kept⟩
  refine h0.trans ((Cert.ReferenceIdeal.Read.val_main_v66_eq _ _).trans ?_)
  rw [a0, a1, a2, a4, a5]
  exact (Cert.KernelIdeal.Scan.final m c (Cert.KernelIdeal.Scan.finite_of_pre _ _ _ _ _ _ (hpre c))).symm

theorem algebraic2 : algebraic_Kernel2Ideal_Reference2Ideal := by
  intro m g m' g' _ hagree
  refine ⟨fun c => (Cert.Kernel2Ideal.Gen.dats m 0 c).arrAt 2 (Cert.Kernel2Ideal.cfgs 0).N,
    (θ_run _ _ _).mono (fun r h c => ⟨(h.1 c).1 2, h.2.1 c⟩)
      (θ_run_and (Cert.Kernel2Ideal.Gen.run_main m g) (Cert.Kernel2Ideal.Gen.frame m g)), ?_⟩
  refine (θ_run _ _ _).mono (fun r h c => ?_) (Cert.Reference2Ideal.Value.run m' g')
  obtain ⟨h0, kept⟩ := h c
  obtain ⟨a0, a1, a2⟩ := hagree c
  refine ⟨?_, kept⟩
  · refine h0.trans ((Cert.Reference2Ideal.Read.val_main_v3_eq _ _).trans ?_)
    rw [a1, a2]
    exact (Cert.Kernel2Ideal.Products.final m c).symm

theorem algebraic3 : algebraic_Kernel3Ideal_Reference3Ideal := by
  intro m g m' g' _ hagree
  refine ⟨fun c => (Cert.Kernel3Ideal.Gen.dats m 0 c).arrAt 2 (Cert.Kernel3Ideal.cfgs 0).N,
    (θ_run _ _ _).mono (fun r h c => ⟨(h.1 c).1 2, h.2.1 c⟩)
      (θ_run_and (Cert.Kernel3Ideal.Gen.run_main m g) (Cert.Kernel3Ideal.Gen.frame m g)), ?_⟩
  refine (θ_run _ _ _).mono (fun r h c => ?_) (Cert.Reference3Ideal.Value.run m' g')
  obtain ⟨h0, kept⟩ := h c
  obtain ⟨a0, a1, a2⟩ := hagree c
  refine ⟨?_, kept⟩
  · refine h0.trans ((Cert.Reference3Ideal.Read.val_main_v4_eq _ _).trans ?_)
    rw [a0, a2]
    exact (Cert.Kernel3Ideal.Products.final m c).symm

theorem algebraic4 : algebraic_Kernel4Ideal_Reference4Ideal := by
  intro m g m' g' _ hagree
  refine ⟨fun c => (Cert.Kernel4Ideal.Gen.dats m 0 c).arrAt 2 (Cert.Kernel4Ideal.cfgs 0).N,
    (θ_run _ _ _).mono (fun r h c => ⟨(h.1 c).1 2, h.2.1 c⟩)
      (θ_run_and (Cert.Kernel4Ideal.Gen.run_main m g) (Cert.Kernel4Ideal.Gen.frame m g)), ?_⟩
  refine (θ_run _ _ _).mono (fun r h c => ?_) (Cert.Reference4Ideal.Value.run m' g')
  obtain ⟨h0, kept⟩ := h c
  obtain ⟨a0, a1, a2, a3, a4⟩ := hagree c
  refine ⟨?_, kept⟩
  · refine h0.trans ((Cert.Reference4Ideal.Read.val_main_v13_eq _ _ _).trans ?_)
    rw [a0, a3, a4]
    exact (Cert.Kernel4Ideal.Products.final m c).symm

theorem algebraic5 : algebraic_Kernel5Ideal_Reference5Ideal := by
  intro m g m' g' _ hagree
  refine ⟨fun c => (Cert.Kernel5Ideal.Gen.dats m 0 c).arrAt 2 (Cert.Kernel5Ideal.cfgs 0).N,
    (θ_run _ _ _).mono (fun r h c => ⟨(h.1 c).1 2, h.2.1 c⟩)
      (θ_run_and (Cert.Kernel5Ideal.Gen.run_main m g) (Cert.Kernel5Ideal.Gen.frame m g)), ?_⟩
  refine (θ_run _ _ _).mono (fun r h c => ?_) (Cert.Reference5Ideal.Value.run m' g')
  obtain ⟨h0, kept⟩ := h c
  obtain ⟨a0, a1, a2, a3, a4⟩ := hagree c
  refine ⟨?_, kept⟩
  · refine h0.trans ((Cert.Reference5Ideal.Read.val_main_v4_eq _ _ _ _).trans ?_)
    rw [a1, a2, a3, a4]
    exact (Cert.Kernel5Ideal.Products.final m c).symm

theorem algebraic6 : algebraic_Kernel6Ideal_Reference6Ideal := by
  intro m g m' g' _ hagree
  refine ⟨fun c => (Cert.Kernel6Ideal.Gen.dats m 0 c).arrAt 2 (Cert.Kernel6Ideal.cfgs 0).N,
    (θ_run _ _ _).mono (fun r h c => ⟨(h.1 c).1 2, h.2.1 c⟩)
      (θ_run_and (Cert.Kernel6Ideal.Gen.run_main m g) (Cert.Kernel6Ideal.Gen.frame m g)), ?_⟩
  refine (θ_run _ _ _).mono (fun r h c => ?_) (Cert.Reference6Ideal.Value.run m' g')
  obtain ⟨h0, kept⟩ := h c
  obtain ⟨a0, a1, a2⟩ := hagree c
  refine ⟨?_, kept⟩
  · refine h0.trans ((Cert.Reference6Ideal.Read.val_main_v1_eq _ _).trans ?_)
    rw [a1, a2]
    exact (Cert.Kernel6Ideal.Products.final m c).symm

theorem algebraic7 : algebraic_Kernel7Ideal_Reference7Ideal := by
  intro m g m' g' _ hagree
  refine ⟨fun c => (Cert.Kernel7Ideal.Gen.dats m 0 c).arrAt 2 (Cert.Kernel7Ideal.cfgs 0).N,
    (θ_run _ _ _).mono (fun r h c => ⟨(h.1 c).1 2, h.2.1 c⟩)
      (θ_run_and (Cert.Kernel7Ideal.Gen.run_main m g) (Cert.Kernel7Ideal.Gen.frame m g)), ?_⟩
  refine (θ_run _ _ _).mono (fun r h c => ?_) (Cert.Reference7Ideal.Value.run m' g')
  obtain ⟨h0, kept⟩ := h c
  obtain ⟨a0, a1, a2⟩ := hagree c
  refine ⟨?_, kept⟩
  · refine h0.trans ((Cert.Reference7Ideal.Read.val_main_v3_eq _ _).trans ?_)
    rw [a0, a2]
    exact (Cert.Kernel7Ideal.Products.final m c).symm

theorem algebraic8 : algebraic_Kernel8Ideal_Reference8Ideal := by
  intro m g m' g' _ hagree
  refine ⟨fun c => (Cert.Kernel8Ideal.Gen.dats m 0 c).arrAt 2 (Cert.Kernel8Ideal.cfgs 0).N,
    (θ_run _ _ _).mono (fun r h c => ⟨(h.1 c).1 2, h.2.1 c⟩)
      (θ_run_and (Cert.Kernel8Ideal.Gen.run_main m g) (Cert.Kernel8Ideal.Gen.frame m g)), ?_⟩
  refine (θ_run _ _ _).mono (fun r h c => ?_) (Cert.Reference8Ideal.Value.run m' g')
  obtain ⟨h0, kept⟩ := h c
  obtain ⟨a0, a1, a2⟩ := hagree c
  refine ⟨?_, kept⟩
  · refine h0.trans ((Cert.Reference8Ideal.Read.val_main_v4_eq _ _).trans ?_)
    rw [a0, a2]
    exact (Cert.Kernel8Ideal.Products.final m c).symm

theorem algebraic9 : algebraic_Kernel9Ideal_Reference9Ideal := by
  intro m g m' g' _ hagree
  refine ⟨fun c => (Cert.Kernel9Ideal.Gen.dats m 0 c).arrAt 2 (Cert.Kernel9Ideal.cfgs 0).N,
    (θ_run _ _ _).mono (fun r h c => ⟨(h.1 c).1 2, h.2.1 c⟩)
      (θ_run_and (Cert.Kernel9Ideal.Gen.run_main m g) (Cert.Kernel9Ideal.Gen.frame m g)), ?_⟩
  refine (θ_run _ _ _).mono (fun r h c => ?_) (Cert.Reference9Ideal.Value.run m' g')
  obtain ⟨h0, kept⟩ := h c
  obtain ⟨a0, a1, a2⟩ := hagree c
  refine ⟨?_, kept⟩
  · refine h0.trans ((Cert.Reference9Ideal.Read.val_main_v1_eq _ _).trans ?_)
    rw [a1, a2]
    exact (Cert.Kernel9Ideal.Products.final m c).symm

theorem algebraic10 : algebraic_Kernel10Ideal_Reference10Ideal := by
  intro m g m' g' _ hagree
  refine ⟨fun c => (Cert.Kernel10Ideal.Gen.dats m 0 c).arrAt 2 (Cert.Kernel10Ideal.cfgs 0).N,
    (θ_run _ _ _).mono (fun r h c => ⟨(h.1 c).1 2, h.2.1 c⟩)
      (θ_run_and (Cert.Kernel10Ideal.Gen.run_main m g) (Cert.Kernel10Ideal.Gen.frame m g)), ?_⟩
  refine (θ_run _ _ _).mono (fun r h c => ?_) (Cert.Reference10Ideal.Value.run m' g')
  obtain ⟨h0, kept⟩ := h c
  obtain ⟨a0, a1, a2⟩ := hagree c
  refine ⟨?_, kept⟩
  · refine h0.trans ((Cert.Reference10Ideal.Read.val_main_v9_eq _ _ _).trans ?_)
    rw [a0, a1, a2]
    exact (Cert.Kernel10Ideal.Products.final m c).symm

theorem algebraic11 : algebraic_Kernel11Ideal_Reference11Ideal := by
  intro m g m' g' _ hagree
  refine ⟨fun c => (Cert.Kernel11Ideal.Gen.dats m 0 c).arrAt 2 (Cert.Kernel11Ideal.cfgs 0).N,
    (θ_run _ _ _).mono (fun r h c => ⟨(h.1 c).1 2, h.2.1 c⟩)
      (θ_run_and (Cert.Kernel11Ideal.Gen.run_main m g) (Cert.Kernel11Ideal.Gen.frame m g)), ?_⟩
  refine (θ_run _ _ _).mono (fun r h c => ?_) (Cert.Reference11Ideal.Value.run m' g')
  obtain ⟨h0, kept⟩ := h c
  obtain ⟨a0, a1⟩ := hagree c
  refine ⟨?_, kept⟩
  · refine h0.trans ((Cert.Reference11Ideal.Read.val_main_v0_eq _ _).trans ?_)
    rw [a0, a1]
    exact (Cert.Kernel11Ideal.Products.final m c).symm

theorem algebraic12 : algebraic_Kernel12Ideal_Reference12Ideal := by
  intro m g m' g' _ hagree
  refine ⟨fun c => (Cert.Kernel12Ideal.Gen.dats m 0 c).arrAt 2 (Cert.Kernel12Ideal.cfgs 0).N,
    (θ_run _ _ _).mono (fun r h c => ⟨(h.1 c).1 2, h.2.1 c⟩)
      (θ_run_and (Cert.Kernel12Ideal.Gen.run_main m g) (Cert.Kernel12Ideal.Gen.frame m g)), ?_⟩
  refine (θ_run _ _ _).mono (fun r h c => ?_) (Cert.Reference12Ideal.Value.run m' g')
  obtain ⟨h0, kept⟩ := h c
  obtain ⟨a0, a1⟩ := hagree c
  refine ⟨?_, kept⟩
  · refine h0.trans ((Cert.Reference12Ideal.Read.val_main_v1_eq _ _).trans ?_)
    rw [a0, a1]
    exact (Cert.Kernel12Ideal.Products.final m c).symm

theorem algebraic13 : algebraic_Kernel13Ideal_Reference13Ideal := by
  intro m g m' g' _ hagree
  refine ⟨fun c => (Cert.Kernel13Ideal.Gen.dats m 0 c).arrAt 2 (Cert.Kernel13Ideal.cfgs 0).N,
    (θ_run _ _ _).mono (fun r h c => ⟨(h.1 c).1 2, h.2.1 c⟩)
      (θ_run_and (Cert.Kernel13Ideal.Gen.run_main m g) (Cert.Kernel13Ideal.Gen.frame m g)), ?_⟩
  refine (θ_run _ _ _).mono (fun r h c => ?_) (Cert.Reference13Ideal.Value.run m' g')
  obtain ⟨h0, kept⟩ := h c
  obtain ⟨a0, a1⟩ := hagree c
  refine ⟨?_, kept⟩
  · refine h0.trans ((Cert.Reference13Ideal.Read.val_main_v0_eq _ _).trans ?_)
    rw [a0, a1]
    exact (Cert.Kernel13Ideal.Products.final m c).symm

theorem algebraic14 : algebraic_Kernel14Ideal_Reference14Ideal := by
  intro m g m' g' _ hagree
  refine ⟨fun c => (Cert.Kernel14Ideal.Gen.dats m 0 c).arrAt 4 (Cert.Kernel14Ideal.cfgs 0).N, fun c => (Cert.Kernel14Ideal.Gen.dats m 0 c).arrAt 5 (Cert.Kernel14Ideal.cfgs 0).N, fun c => (Cert.Kernel14Ideal.Gen.dats m 0 c).arrAt 6 (Cert.Kernel14Ideal.cfgs 0).N, fun c => (Cert.Kernel14Ideal.Gen.dats m 0 c).arrAt 7 (Cert.Kernel14Ideal.cfgs 0).N,
    (θ_run _ _ _).mono (fun r h c => ⟨(h.1 c).1 4, (h.1 c).1 5, (h.1 c).1 6, (h.1 c).1 7, h.2.1 c⟩)
      (θ_run_and (Cert.Kernel14Ideal.Gen.run_main m g) (Cert.Kernel14Ideal.Gen.frame m g)), ?_⟩
  refine (θ_run _ _ _).mono (fun r h c => ?_) (Cert.Reference14Ideal.Value.run m' g')
  obtain ⟨h0, h1, h2, h3, kept⟩ := h c
  obtain ⟨a0, a1, a2, a3⟩ := hagree c
  refine ⟨?_, ?_, ?_, ?_, kept⟩
  · refine h0.trans ((Cert.Reference14Ideal.Read.val_main_v28_eq _).trans ?_)
    rw [a0]
    exact (Cert.Kernel14Ideal.Update.final4 m c).symm
  · refine h1.trans ((Cert.Reference14Ideal.Read.val_main_v29_eq _ _ _ _).trans ?_)
    rw [a0, a1, a2, a3]
    exact (Cert.Kernel14Ideal.Update.final5 m c).symm
  · refine h2.trans ((Cert.Reference14Ideal.Read.val_main_v30_eq _ _).trans ?_)
    rw [a0, a2]
    exact (Cert.Kernel14Ideal.Update.final6 m c).symm
  · refine h3.trans ((Cert.Reference14Ideal.Read.val_main_v31_eq _ _).trans ?_)
    rw [a0, a3]
    exact (Cert.Kernel14Ideal.Update.final7 m c).symm

theorem algebraic15 : algebraic_Kernel15Ideal_Reference15Ideal := by
  intro m g m' g' _ hagree
  refine ⟨fun c => (Cert.Kernel15Ideal.Gen.dats m 0 c).arrAt 4 (Cert.Kernel15Ideal.cfgs 0).N, fun c => (Cert.Kernel15Ideal.Gen.dats m 0 c).arrAt 5 (Cert.Kernel15Ideal.cfgs 0).N, fun c => (Cert.Kernel15Ideal.Gen.dats m 0 c).arrAt 6 (Cert.Kernel15Ideal.cfgs 0).N, fun c => (Cert.Kernel15Ideal.Gen.dats m 0 c).arrAt 7 (Cert.Kernel15Ideal.cfgs 0).N,
    (θ_run _ _ _).mono (fun r h c => ⟨(h.1 c).1 4, (h.1 c).1 5, (h.1 c).1 6, (h.1 c).1 7, h.2.1 c⟩)
      (θ_run_and (Cert.Kernel15Ideal.Gen.run_main m g) (Cert.Kernel15Ideal.Gen.frame m g)), ?_⟩
  refine (θ_run _ _ _).mono (fun r h c => ?_) (Cert.Reference15Ideal.Value.run m' g')
  obtain ⟨h0, h1, h2, h3, kept⟩ := h c
  obtain ⟨a0, a1, a2, a3⟩ := hagree c
  refine ⟨?_, ?_, ?_, ?_, kept⟩
  · refine h0.trans ((Cert.Reference15Ideal.Read.val_main_v28_eq _).trans ?_)
    rw [a0]
    exact (Cert.Kernel15Ideal.Update.final4 m c).symm
  · refine h1.trans ((Cert.Reference15Ideal.Read.val_main_v29_eq _ _ _ _).trans ?_)
    rw [a0, a1, a2, a3]
    exact (Cert.Kernel15Ideal.Update.final5 m c).symm
  · refine h2.trans ((Cert.Reference15Ideal.Read.val_main_v30_eq _ _).trans ?_)
    rw [a0, a2]
    exact (Cert.Kernel15Ideal.Update.final6 m c).symm
  · refine h3.trans ((Cert.Reference15Ideal.Read.val_main_v31_eq _ _).trans ?_)
    rw [a0, a3]
    exact (Cert.Kernel15Ideal.Update.final7 m c).symm

theorem algebraic16 : algebraic_Kernel16Ideal_Reference16Ideal := by
  intro m g m' g' _ hagree
  refine ⟨fun c => (Cert.Kernel16Ideal.Gen.dats m 0 c).arrAt 4 (Cert.Kernel16Ideal.cfgs 0).N, fun c => (Cert.Kernel16Ideal.Gen.dats m 0 c).arrAt 5 (Cert.Kernel16Ideal.cfgs 0).N, fun c => (Cert.Kernel16Ideal.Gen.dats m 0 c).arrAt 6 (Cert.Kernel16Ideal.cfgs 0).N, fun c => (Cert.Kernel16Ideal.Gen.dats m 0 c).arrAt 7 (Cert.Kernel16Ideal.cfgs 0).N,
    (θ_run _ _ _).mono (fun r h c => ⟨(h.1 c).1 4, (h.1 c).1 5, (h.1 c).1 6, (h.1 c).1 7, h.2.1 c⟩)
      (θ_run_and (Cert.Kernel16Ideal.Gen.run_main m g) (Cert.Kernel16Ideal.Gen.frame m g)), ?_⟩
  refine (θ_run _ _ _).mono (fun r h c => ?_) (Cert.Reference16Ideal.Value.run m' g')
  obtain ⟨h0, h1, h2, h3, kept⟩ := h c
  obtain ⟨a0, a1, a2, a3⟩ := hagree c
  refine ⟨?_, ?_, ?_, ?_, kept⟩
  · refine h0.trans ((Cert.Reference16Ideal.Read.val_main_v26_eq _).trans ?_)
    rw [a0]
    exact (Cert.Kernel16Ideal.Update.final4 m c).symm
  · refine h1.trans ((Cert.Reference16Ideal.Read.val_main_v27_eq _ _ _ _).trans ?_)
    rw [a0, a1, a2, a3]
    exact (Cert.Kernel16Ideal.Update.final5 m c).symm
  · refine h2.trans ((Cert.Reference16Ideal.Read.val_main_v28_eq _ _).trans ?_)
    rw [a0, a2]
    exact (Cert.Kernel16Ideal.Update.final6 m c).symm
  · refine h3.trans ((Cert.Reference16Ideal.Read.val_main_v29_eq _ _).trans ?_)
    rw [a0, a3]
    exact (Cert.Kernel16Ideal.Update.final7 m c).symm

theorem algebraic17 : algebraic_Kernel17Ideal_Reference17Ideal := by
  intro m g m' g' _ hagree
  refine ⟨fun c => (Cert.Kernel17Ideal.Gen.dats m 0 c).arrAt 4 (Cert.Kernel17Ideal.cfgs 0).N, fun c => (Cert.Kernel17Ideal.Gen.dats m 0 c).arrAt 5 (Cert.Kernel17Ideal.cfgs 0).N, fun c => (Cert.Kernel17Ideal.Gen.dats m 0 c).arrAt 6 (Cert.Kernel17Ideal.cfgs 0).N, fun c => (Cert.Kernel17Ideal.Gen.dats m 0 c).arrAt 7 (Cert.Kernel17Ideal.cfgs 0).N,
    (θ_run _ _ _).mono (fun r h c => ⟨(h.1 c).1 4, (h.1 c).1 5, (h.1 c).1 6, (h.1 c).1 7, h.2.1 c⟩)
      (θ_run_and (Cert.Kernel17Ideal.Gen.run_main m g) (Cert.Kernel17Ideal.Gen.frame m g)), ?_⟩
  refine (θ_run _ _ _).mono (fun r h c => ?_) (Cert.Reference17Ideal.Value.run m' g')
  obtain ⟨h0, h1, h2, h3, kept⟩ := h c
  obtain ⟨a0, a1, a2, a3⟩ := hagree c
  refine ⟨?_, ?_, ?_, ?_, kept⟩
  · refine h0.trans ((Cert.Reference17Ideal.Read.val_main_v26_eq _).trans ?_)
    rw [a0]
    exact (Cert.Kernel17Ideal.Update.final4 m c).symm
  · refine h1.trans ((Cert.Reference17Ideal.Read.val_main_v27_eq _ _ _ _).trans ?_)
    rw [a0, a1, a2, a3]
    exact (Cert.Kernel17Ideal.Update.final5 m c).symm
  · refine h2.trans ((Cert.Reference17Ideal.Read.val_main_v28_eq _ _).trans ?_)
    rw [a0, a2]
    exact (Cert.Kernel17Ideal.Update.final6 m c).symm
  · refine h3.trans ((Cert.Reference17Ideal.Read.val_main_v29_eq _ _).trans ?_)
    rw [a0, a3]
    exact (Cert.Kernel17Ideal.Update.final7 m c).symm

theorem algebraic18 : algebraic_Kernel18Ideal_Reference18Ideal := by
  intro m g m' g' _ hagree
  refine ⟨fun c => (Cert.Kernel18Ideal.Gen.dats m 0 c).arrAt 4 (Cert.Kernel18Ideal.cfgs 0).N, fun c => (Cert.Kernel18Ideal.Gen.dats m 0 c).arrAt 5 (Cert.Kernel18Ideal.cfgs 0).N, fun c => (Cert.Kernel18Ideal.Gen.dats m 0 c).arrAt 6 (Cert.Kernel18Ideal.cfgs 0).N, fun c => (Cert.Kernel18Ideal.Gen.dats m 0 c).arrAt 7 (Cert.Kernel18Ideal.cfgs 0).N,
    (θ_run _ _ _).mono (fun r h c => ⟨(h.1 c).1 4, (h.1 c).1 5, (h.1 c).1 6, (h.1 c).1 7, h.2.1 c⟩)
      (θ_run_and (Cert.Kernel18Ideal.Gen.run_main m g) (Cert.Kernel18Ideal.Gen.frame m g)), ?_⟩
  refine (θ_run _ _ _).mono (fun r h c => ?_) (Cert.Reference18Ideal.Value.run m' g')
  obtain ⟨h0, h1, h2, h3, kept⟩ := h c
  obtain ⟨a0, a1, a2, a3⟩ := hagree c
  refine ⟨?_, ?_, ?_, ?_, kept⟩
  · refine h0.trans ((Cert.Reference18Ideal.Read.val_main_v26_eq _).trans ?_)
    rw [a0]
    exact (Cert.Kernel18Ideal.Update.final4 m c).symm
  · refine h1.trans ((Cert.Reference18Ideal.Read.val_main_v27_eq _ _ _ _).trans ?_)
    rw [a0, a1, a2, a3]
    exact (Cert.Kernel18Ideal.Update.final5 m c).symm
  · refine h2.trans ((Cert.Reference18Ideal.Read.val_main_v28_eq _ _).trans ?_)
    rw [a0, a2]
    exact (Cert.Kernel18Ideal.Update.final6 m c).symm
  · refine h3.trans ((Cert.Reference18Ideal.Read.val_main_v29_eq _ _).trans ?_)
    rw [a0, a3]
    exact (Cert.Kernel18Ideal.Update.final7 m c).symm

theorem algebraic19 : algebraic_Kernel19Ideal_Reference19Ideal := by
  intro m g m' g' _ hagree
  refine ⟨fun c => (Cert.Kernel19Ideal.Gen.dats m 0 c).arrAt 4 (Cert.Kernel19Ideal.cfgs 0).N, fun c => (Cert.Kernel19Ideal.Gen.dats m 0 c).arrAt 5 (Cert.Kernel19Ideal.cfgs 0).N, fun c => (Cert.Kernel19Ideal.Gen.dats m 0 c).arrAt 6 (Cert.Kernel19Ideal.cfgs 0).N, fun c => (Cert.Kernel19Ideal.Gen.dats m 0 c).arrAt 7 (Cert.Kernel19Ideal.cfgs 0).N,
    (θ_run _ _ _).mono (fun r h c => ⟨(h.1 c).1 4, (h.1 c).1 5, (h.1 c).1 6, (h.1 c).1 7, h.2.1 c⟩)
      (θ_run_and (Cert.Kernel19Ideal.Gen.run_main m g) (Cert.Kernel19Ideal.Gen.frame m g)), ?_⟩
  refine (θ_run _ _ _).mono (fun r h c => ?_) (Cert.Reference19Ideal.Value.run m' g')
  obtain ⟨h0, h1, h2, h3, kept⟩ := h c
  obtain ⟨a0, a1, a2, a3⟩ := hagree c
  refine ⟨?_, ?_, ?_, ?_, kept⟩
  · refine h0.trans ((Cert.Reference19Ideal.Read.val_main_v26_eq _).trans ?_)
    rw [a0]
    exact (Cert.Kernel19Ideal.Update.final4 m c).symm
  · refine h1.trans ((Cert.Reference19Ideal.Read.val_main_v27_eq _ _ _ _).trans ?_)
    rw [a0, a1, a2, a3]
    exact (Cert.Kernel19Ideal.Update.final5 m c).symm
  · refine h2.trans ((Cert.Reference19Ideal.Read.val_main_v28_eq _ _).trans ?_)
    rw [a0, a2]
    exact (Cert.Kernel19Ideal.Update.final6 m c).symm
  · refine h3.trans ((Cert.Reference19Ideal.Read.val_main_v29_eq _ _).trans ?_)
    rw [a0, a3]
    exact (Cert.Kernel19Ideal.Update.final7 m c).symm

theorem algebraic20 : algebraic_Kernel20Ideal_Reference20Ideal := by
  intro m g m' g' _ hagree
  refine ⟨fun c => (Cert.Kernel20Ideal.Gen.dats m 0 c).arrAt 4 (Cert.Kernel20Ideal.cfgs 0).N, fun c => (Cert.Kernel20Ideal.Gen.dats m 0 c).arrAt 5 (Cert.Kernel20Ideal.cfgs 0).N, fun c => (Cert.Kernel20Ideal.Gen.dats m 0 c).arrAt 6 (Cert.Kernel20Ideal.cfgs 0).N, fun c => (Cert.Kernel20Ideal.Gen.dats m 0 c).arrAt 7 (Cert.Kernel20Ideal.cfgs 0).N,
    (θ_run _ _ _).mono (fun r h c => ⟨(h.1 c).1 4, (h.1 c).1 5, (h.1 c).1 6, (h.1 c).1 7, h.2.1 c⟩)
      (θ_run_and (Cert.Kernel20Ideal.Gen.run_main m g) (Cert.Kernel20Ideal.Gen.frame m g)), ?_⟩
  refine (θ_run _ _ _).mono (fun r h c => ?_) (Cert.Reference20Ideal.Value.run m' g')
  obtain ⟨h0, h1, h2, h3, kept⟩ := h c
  obtain ⟨a0, a1, a2, a3⟩ := hagree c
  refine ⟨?_, ?_, ?_, ?_, kept⟩
  · refine h0.trans ((Cert.Reference20Ideal.Read.val_main_v0_eq _).trans ?_)
    rw [a0]
    exact (Cert.Kernel20Ideal.Update.final4 m c).symm
  · refine h1.trans ((Cert.Reference20Ideal.Read.val_main_v24_eq _ _ _ _).trans ?_)
    rw [a0, a1, a2, a3]
    exact (Cert.Kernel20Ideal.Update.final5 m c).symm
  · refine h2.trans ((Cert.Reference20Ideal.Read.val_main_v5_eq _ _).trans ?_)
    rw [a0, a2]
    exact (Cert.Kernel20Ideal.Update.final6 m c).symm
  · refine h3.trans ((Cert.Reference20Ideal.Read.val_main_v11_eq _ _).trans ?_)
    rw [a0, a3]
    exact (Cert.Kernel20Ideal.Update.final7 m c).symm

theorem algebraic21 : algebraic_Kernel21Ideal_Reference21Ideal := by
  intro m g m' g' _ hagree
  refine ⟨fun c => (Cert.Kernel21Ideal.Gen.dats m 0 c).arrAt 2 (Cert.Kernel21Ideal.cfgs 0).N, fun c => Pipeline.afterTail₀ Cert.Kernel21Ideal.cfgs (Cert.Kernel21Ideal.Gen.dats m) 0 (Cert.Kernel21Ideal.Gen.V0 m) [Cert.Kernel21Ideal.Gen.hostOps1] c Cert.Kernel21Ideal.main_v2,
    (θ_run _ _ _).mono (fun r h c => ⟨(h.1 c).1 2, (h.1 c).2 Cert.Kernel21Ideal.main_v2 (by decide), h.2.1 c⟩)
      (θ_run_and (Cert.Kernel21Ideal.Gen.run_main m g) (Cert.Kernel21Ideal.Gen.frame m g)), ?_⟩
  refine (θ_run _ _ _).mono (fun r h c => ?_) (Cert.Reference21Ideal.Value.run m' g')
  obtain ⟨h0, h1, kept⟩ := h c
  obtain ⟨a0, a1⟩ := hagree c
  refine ⟨?_, ?_, kept⟩
  · refine h0.trans ((Cert.Reference21Ideal.Read.val_main_v16_eq _ _).trans ?_)
    rw [a0, a1]
    exact (Cert.Kernel21Ideal.Head.final2 m c).symm
  · refine h1.trans ((Cert.Reference21Ideal.Read.val_main_v9_eq _ _).trans ?_)
    rw [a0, a1]
    exact (Cert.Kernel21Ideal.Head.result m c).symm

theorem algebraic22 : algebraic_Kernel22Ideal_Reference22Ideal := by
  intro m g m' g' _ hagree
  refine ⟨fun c => (Cert.Kernel22Ideal.Gen.dats m 0 c).arrAt 4 (Cert.Kernel22Ideal.cfgs 0).N, fun c => Pipeline.afterTail₀ Cert.Kernel22Ideal.cfgs (Cert.Kernel22Ideal.Gen.dats m) 0 (Cert.Kernel22Ideal.Gen.V0 m) [Cert.Kernel22Ideal.Gen.hostOps1] c Cert.Kernel22Ideal.main_v2,
    (θ_run _ _ _).mono (fun r h c => ⟨(h.1 c).1 4, (h.1 c).2 Cert.Kernel22Ideal.main_v2 (by decide), h.2.1 c⟩)
      (θ_run_and (Cert.Kernel22Ideal.Gen.run_main m g) (Cert.Kernel22Ideal.Gen.frame m g)), ?_⟩
  refine (θ_run _ _ _).mono (fun r h c => ?_) (Cert.Reference22Ideal.Value.run m' g')
  obtain ⟨h0, h1, kept⟩ := h c
  obtain ⟨a0, a1, a2, a3⟩ := hagree c
  refine ⟨?_, ?_, kept⟩
  · refine h0.trans ((Cert.Reference22Ideal.Read.val_main_v36_eq _ _ _ _).trans ?_)
    rw [a0, a1, a2, a3]
    exact (Cert.Kernel22Ideal.Norm.final4 m c).symm
  · refine h1.trans ((Cert.Reference22Ideal.Read.val_main_v21_eq _ _).trans ?_)
    rw [a0, a2]
    exact (Cert.Kernel22Ideal.Norm.result m c).symm

theorem algebraic23 : algebraic_Kernel23Ideal_Reference23Ideal_pre_finite_product := by
  intro m g m' g' hpre hagree
  refine ⟨fun c => (Cert.Kernel23Ideal.Gen.dats m 0 c).arrAt 2 (Cert.Kernel23Ideal.cfgs 0).N,
    (θ_run _ _ _).mono (fun r h c => ⟨(h.1 c).1 2, h.2.1 c⟩)
      (θ_run_and (Cert.Kernel23Ideal.Gen.run_main m g) (Cert.Kernel23Ideal.Gen.frame m g)), ?_⟩
  refine (θ_run _ _ _).mono (fun r h c => ?_) (Cert.Reference23Ideal.Value.run m' g')
  obtain ⟨h0, kept⟩ := h c
  obtain ⟨a0, a1⟩ := hagree c
  refine ⟨?_, kept⟩
  · refine h0.trans ((Cert.Reference23Ideal.Read.val_main_v14_eq _ _).trans ?_)
    rw [a0, a1]
    exact (Cert.Kernel23Ideal.Extra.final2 m c (Cert.Kernel23Ideal.Extra.finite_of_pre _ _ (hpre c))).symm

theorem algebraic24 : algebraic_Kernel24Ideal_Reference24Ideal := by
  intro m g m' g' _ hagree
  refine ⟨fun c => (Cert.Kernel24Ideal.Gen.dats m 0 c).arrAt 1 (Cert.Kernel24Ideal.cfgs 0).N, fun c => (Cert.Kernel24Ideal.Gen.dats m 0 c).arrAt 2 (Cert.Kernel24Ideal.cfgs 0).N,
    (θ_run _ _ _).mono (fun r h c => ⟨(h.1 c).1 1, (h.1 c).1 2, h.2.1 c⟩)
      (θ_run_and (Cert.Kernel24Ideal.Gen.run_main m g) (Cert.Kernel24Ideal.Gen.frame m g)), ?_⟩
  refine (θ_run _ _ _).mono (fun r h c => ?_) (Cert.Reference24Ideal.Value.run m' g')
  obtain ⟨h0, h1, kept⟩ := h c
  have a0 := hagree c
  refine ⟨?_, ?_, kept⟩
  · refine h0.trans ((Cert.Reference24Ideal.Read.val_main_v8_eq _).trans ?_)
    rw [a0]
    exact (Cert.Kernel24Ideal.Extra.final1 m c).symm
  · refine h1.trans ((Cert.Reference24Ideal.Read.val_main_v9_eq _).trans ?_)
    rw [a0]
    exact (Cert.Kernel24Ideal.Extra.final2 m c).symm

theorem algebraic25 : algebraic_Kernel25Ideal_Reference25Ideal := by
  intro m g m' g' _ hagree
  refine ⟨fun c => (Cert.Kernel25Ideal.Gen.dats m 0 c).arrAt 3 (Cert.Kernel25Ideal.cfgs 0).N,
    (θ_run _ _ _).mono (fun r h c => ⟨(h.1 c).1 3, h.2.1 c⟩)
      (θ_run_and (Cert.Kernel25Ideal.Gen.run_main m g) (Cert.Kernel25Ideal.Gen.frame m g)), ?_⟩
  refine (θ_run _ _ _).mono (fun r h c => ?_) (Cert.Reference25Ideal.Value.run m' g')
  obtain ⟨h0, kept⟩ := h c
  obtain ⟨a0, a1, a2⟩ := hagree c
  refine ⟨?_, kept⟩
  · refine h0.trans ((Cert.Reference25Ideal.Read.val_main_v13_eq _ _ _).trans ?_)
    rw [a0, a1, a2]
    exact (Cert.Kernel25Ideal.Extra.final3 m c).symm

theorem algebraic26 : algebraic_Kernel26Ideal_Reference26Ideal := by
  intro m g m' g' _ hagree
  refine ⟨fun c => (Cert.Kernel26Ideal.Gen.dats m 0 c).arrAt 2 (Cert.Kernel26Ideal.cfgs 0).N, fun c => (Cert.Kernel26Ideal.Gen.dats m 0 c).arrAt 3 (Cert.Kernel26Ideal.cfgs 0).N,
    (θ_run _ _ _).mono (fun r h c => ⟨(h.1 c).1 2, (h.1 c).1 3, h.2.1 c⟩)
      (θ_run_and (Cert.Kernel26Ideal.Gen.run_main m g) (Cert.Kernel26Ideal.Gen.frame m g)), ?_⟩
  refine (θ_run _ _ _).mono (fun r h c => ?_) (Cert.Reference26Ideal.Value.run m' g')
  obtain ⟨h0, h1, kept⟩ := h c
  obtain ⟨a0, a1⟩ := hagree c
  refine ⟨?_, ?_, kept⟩
  · refine h0.trans ((Cert.Reference26Ideal.Read.val_main_v13_eq _ _).trans ?_)
    rw [a0, a1]
    exact (Cert.Kernel26Ideal.Extra.final2 m c).symm
  · refine h1.trans ((Cert.Reference26Ideal.Read.val_main_v14_eq _ _).trans ?_)
    rw [a0, a1]
    exact (Cert.Kernel26Ideal.Extra.final3 m c).symm

theorem algebraic27 : algebraic_Kernel27Ideal_Reference27Ideal := by
  intro m g m' g' _ hagree
  refine ⟨fun c => (Cert.Kernel27Ideal.Gen.dats m 0 c).arrAt 2 (Cert.Kernel27Ideal.cfgs 0).N,
    (θ_run _ _ _).mono (fun r h c => ⟨(h.1 c).1 2, h.2.1 c⟩)
      (θ_run_and (Cert.Kernel27Ideal.Gen.run_main m g) (Cert.Kernel27Ideal.Gen.frame m g)), ?_⟩
  refine (θ_run _ _ _).mono (fun r h c => ?_) (Cert.Reference27Ideal.Value.run m' g')
  obtain ⟨h0, kept⟩ := h c
  obtain ⟨a0, a1⟩ := hagree c
  refine ⟨?_, kept⟩
  · refine h0.trans ((Cert.Reference27Ideal.Read.val_main_v8_eq _ _).trans ?_)
    rw [a0, a1]
    exact (Cert.Kernel27Ideal.Extra.final2 m c).symm

theorem algebraic28 : algebraic_Kernel28Ideal_Reference28Ideal := by
  intro m g m' g' _ hagree
  refine ⟨fun c => (Cert.Kernel28Ideal.Gen.dats m 0 c).arrAt 3 (Cert.Kernel28Ideal.cfgs 0).N, fun c => (Cert.Kernel28Ideal.Gen.dats m 0 c).arrAt 4 (Cert.Kernel28Ideal.cfgs 0).N,
    (θ_run _ _ _).mono (fun r h c => ⟨(h.1 c).1 3, (h.1 c).1 4, h.2.1 c⟩)
      (θ_run_and (Cert.Kernel28Ideal.Gen.run_main m g) (Cert.Kernel28Ideal.Gen.frame m g)), ?_⟩
  refine (θ_run _ _ _).mono (fun r h c => ?_) (Cert.Reference28Ideal.Value.run m' g')
  obtain ⟨h0, h1, kept⟩ := h c
  obtain ⟨a0, a1, a2⟩ := hagree c
  refine ⟨?_, ?_, kept⟩
  · refine h0.trans ((Cert.Reference28Ideal.Read.val_main_v18_eq _ _ _).trans ?_)
    rw [a0, a1, a2]
    exact (Cert.Kernel28Ideal.Extra.final3 m c).symm
  · refine h1.trans ((Cert.Reference28Ideal.Read.val_main_v19_eq _ _ _).trans ?_)
    rw [a0, a1, a2]
    exact (Cert.Kernel28Ideal.Extra.final4 m c).symm

theorem algebraic29 : algebraic_Kernel29Ideal_Reference29Ideal := by
  intro m g m' g' _ hagree
  refine ⟨fun c => (Cert.Kernel29Ideal.Gen.dats m 0 c).arrAt 4 (Cert.Kernel29Ideal.cfgs 0).N, fun c => (Cert.Kernel29Ideal.Gen.dats m 0 c).arrAt 5 (Cert.Kernel29Ideal.cfgs 0).N,
    (θ_run _ _ _).mono (fun r h c => ⟨(h.1 c).1 4, (h.1 c).1 5, h.2.1 c⟩)
      (θ_run_and (Cert.Kernel29Ideal.Gen.run_main m g) (Cert.Kernel29Ideal.Gen.frame m g)), ?_⟩
  refine (θ_run _ _ _).mono (fun r h c => ?_) (Cert.Reference29Ideal.Value.run m' g')
  obtain ⟨h0, h1, kept⟩ := h c
  obtain ⟨a0, a1, a2, a3⟩ := hagree c
  refine ⟨?_, ?_, kept⟩
  · refine h0.trans ((Cert.Reference29Ideal.Read.val_main_v7_eq _ _ _).trans ?_)
    rw [a0, a1, a2]
    exact (Cert.Kernel29Ideal.Extra.final4 m c).symm
  · refine h1.trans ((Cert.Reference29Ideal.Read.val_main_v15_eq _ _ _ _).trans ?_)
    rw [a0, a1, a2, a3]
    exact (Cert.Kernel29Ideal.Extra.final5 m c).symm

theorem algebraic30 : algebraic_Kernel30Ideal_Reference30Ideal := by
  intro m g m' g' _ hagree
  refine ⟨fun c => (Cert.Kernel30Ideal.Gen.dats m 0 c).arrAt 5 (Cert.Kernel30Ideal.cfgs 0).N, fun c => (Cert.Kernel30Ideal.Gen.dats m 0 c).arrAt 6 (Cert.Kernel30Ideal.cfgs 0).N, fun c => (Cert.Kernel30Ideal.Gen.dats m 0 c).arrAt 7 (Cert.Kernel30Ideal.cfgs 0).N, fun c => (Cert.Kernel30Ideal.Gen.dats m 0 c).arrAt 8 (Cert.Kernel30Ideal.cfgs 0).N,
    (θ_run _ _ _).mono (fun r h c => ⟨(h.1 c).1 5, (h.1 c).1 6, (h.1 c).1 7, (h.1 c).1 8, h.2.1 c⟩)
      (θ_run_and (Cert.Kernel30Ideal.Gen.run_main m g) (Cert.Kernel30Ideal.Gen.frame m g)), ?_⟩
  refine (θ_run _ _ _).mono (fun r h c => ?_) (Cert.Reference30Ideal.Value.run m' g')
  obtain ⟨h0, h1, h2, h3, kept⟩ := h c
  obtain ⟨a0, a1, a2, a3, a4⟩ := hagree c
  refine ⟨?_, ?_, ?_, ?_, kept⟩
  · refine h0.trans ((Cert.Reference30Ideal.Read.val_main_v36_eq _ _ _).trans ?_)
    rw [a0, a3, a4]
    exact (Cert.Kernel30Ideal.Extra.final5 m c).symm
  · refine h1.trans ((Cert.Reference30Ideal.Read.val_main_v35_eq _ _ _).trans ?_)
    rw [a0, a2, a4]
    exact (Cert.Kernel30Ideal.Extra.final6 m c).symm
  · refine h2.trans ((Cert.Reference30Ideal.Read.val_main_v37_eq _ _).trans ?_)
    rw [a0, a4]
    exact (Cert.Kernel30Ideal.Extra.final7 m c).symm
  · refine h3.trans ((Cert.Reference30Ideal.Read.val_main_v38_eq _ _).trans ?_)
    rw [a0, a1]
    exact (Cert.Kernel30Ideal.Extra.final8 m c).symm

theorem algebraic31 : algebraic_Kernel31Ideal_Reference31Ideal := by
  intro m g m' g' _ hagree
  refine ⟨fun c => (Cert.Kernel31Ideal.Gen.dats m 0 c).arrAt 3 (Cert.Kernel31Ideal.cfgs 0).N, fun c => (Cert.Kernel31Ideal.Gen.dats m 0 c).arrAt 4 (Cert.Kernel31Ideal.cfgs 0).N,
    (θ_run _ _ _).mono (fun r h c => ⟨(h.1 c).1 3, (h.1 c).1 4, h.2.1 c⟩)
      (θ_run_and (Cert.Kernel31Ideal.Gen.run_main m g) (Cert.Kernel31Ideal.Gen.frame m g)), ?_⟩
  refine (θ_run _ _ _).mono (fun r h c => ?_) (Cert.Reference31Ideal.Value.run m' g')
  obtain ⟨h0, h1, kept⟩ := h c
  obtain ⟨a0, a1, a2⟩ := hagree c
  refine ⟨?_, ?_, kept⟩
  · refine h0.trans ((Cert.Reference31Ideal.Read.val_main_v15_eq _ _).trans ?_)
    rw [a0, a1, a2]
    exact (Cert.Kernel31Ideal.Extra.final3 m c).symm
  · refine h1.trans ((Cert.Reference31Ideal.Read.val_main_v12_eq _ _).trans ?_)
    rw [a0, a1, a2]
    exact (Cert.Kernel31Ideal.Extra.final4 m c).symm

theorem algebraic32 : algebraic_Kernel32Ideal_Reference32Ideal := by
  intro m g m' g' _ hagree
  refine ⟨fun c => (Cert.Kernel32Ideal.Gen.dats m 0 c).arrAt 3 (Cert.Kernel32Ideal.cfgs 0).N,
    (θ_run _ _ _).mono (fun r h c => ⟨(h.1 c).1 3, h.2.1 c⟩)
      (θ_run_and (Cert.Kernel32Ideal.Gen.run_main m g) (Cert.Kernel32Ideal.Gen.frame m g)), ?_⟩
  refine (θ_run _ _ _).mono (fun r h c => ?_) (Cert.Reference32Ideal.Value.run m' g')
  obtain ⟨h0, kept⟩ := h c
  obtain ⟨a0, a1, a2⟩ := hagree c
  refine ⟨?_, kept⟩
  · refine h0.trans ((Cert.Reference32Ideal.Read.val_main_v37_eq _ _).trans ?_)
    rw [a0, a1, a2]
    exact (Cert.Kernel32Ideal.Extra.final3 m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.KernelIdeal.Scan.pre_facts, Cert.Kernel23Ideal.Extra.pre_facts,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  fun m ρ _ => Cert.Kernel2.Gen.frame m ρ,
  fun m ρ _ => Cert.Kernel2Ideal.Gen.frame m ρ,
  frame_Reference2Ideal,
  fun m ρ _ => Cert.Kernel3.Gen.frame m ρ,
  fun m ρ _ => Cert.Kernel3Ideal.Gen.frame m ρ,
  frame_Reference3Ideal,
  fun m ρ _ => Cert.Kernel4.Gen.frame m ρ,
  fun m ρ _ => Cert.Kernel4Ideal.Gen.frame m ρ,
  frame_Reference4Ideal,
  fun m ρ _ => Cert.Kernel5.Gen.frame m ρ,
  fun m ρ _ => Cert.Kernel5Ideal.Gen.frame m ρ,
  frame_Reference5Ideal,
  fun m ρ _ => Cert.Kernel6.Gen.frame m ρ,
  fun m ρ _ => Cert.Kernel6Ideal.Gen.frame m ρ,
  frame_Reference6Ideal,
  fun m ρ _ => Cert.Kernel7.Gen.frame m ρ,
  fun m ρ _ => Cert.Kernel7Ideal.Gen.frame m ρ,
  frame_Reference7Ideal,
  fun m ρ _ => Cert.Kernel8.Gen.frame m ρ,
  fun m ρ _ => Cert.Kernel8Ideal.Gen.frame m ρ,
  frame_Reference8Ideal,
  fun m ρ _ => Cert.Kernel9.Gen.frame m ρ,
  fun m ρ _ => Cert.Kernel9Ideal.Gen.frame m ρ,
  frame_Reference9Ideal,
  fun m ρ _ => Cert.Kernel10.Gen.frame m ρ,
  fun m ρ _ => Cert.Kernel10Ideal.Gen.frame m ρ,
  frame_Reference10Ideal,
  fun m ρ _ => Cert.Kernel11.Gen.frame m ρ,
  fun m ρ _ => Cert.Kernel11Ideal.Gen.frame m ρ,
  frame_Reference11Ideal,
  fun m ρ _ => Cert.Kernel12.Gen.frame m ρ,
  fun m ρ _ => Cert.Kernel12Ideal.Gen.frame m ρ,
  frame_Reference12Ideal,
  fun m ρ _ => Cert.Kernel13.Gen.frame m ρ,
  fun m ρ _ => Cert.Kernel13Ideal.Gen.frame m ρ,
  frame_Reference13Ideal,
  fun m ρ _ => Cert.Kernel14.Gen.frame m ρ,
  fun m ρ _ => Cert.Kernel14Ideal.Gen.frame m ρ,
  frame_Reference14Ideal,
  fun m ρ _ => Cert.Kernel15.Gen.frame m ρ,
  fun m ρ _ => Cert.Kernel15Ideal.Gen.frame m ρ,
  frame_Reference15Ideal,
  fun m ρ _ => Cert.Kernel16.Gen.frame m ρ,
  fun m ρ _ => Cert.Kernel16Ideal.Gen.frame m ρ,
  frame_Reference16Ideal,
  fun m ρ _ => Cert.Kernel17.Gen.frame m ρ,
  fun m ρ _ => Cert.Kernel17Ideal.Gen.frame m ρ,
  frame_Reference17Ideal,
  fun m ρ _ => Cert.Kernel18.Gen.frame m ρ,
  fun m ρ _ => Cert.Kernel18Ideal.Gen.frame m ρ,
  frame_Reference18Ideal,
  fun m ρ _ => Cert.Kernel19.Gen.frame m ρ,
  fun m ρ _ => Cert.Kernel19Ideal.Gen.frame m ρ,
  frame_Reference19Ideal,
  fun m ρ _ => Cert.Kernel20.Gen.frame m ρ,
  fun m ρ _ => Cert.Kernel20Ideal.Gen.frame m ρ,
  frame_Reference20Ideal,
  fun m ρ _ => Cert.Kernel21.Gen.frame m ρ,
  fun m ρ _ => Cert.Kernel21Ideal.Gen.frame m ρ,
  frame_Reference21Ideal,
  fun m ρ _ => Cert.Kernel22.Gen.frame m ρ,
  fun m ρ _ => Cert.Kernel22Ideal.Gen.frame m ρ,
  frame_Reference22Ideal,
  fun m ρ _ => Cert.Kernel23.Gen.frame m ρ,
  fun m ρ _ => Cert.Kernel23Ideal.Gen.frame m ρ,
  fun m ρ _ => Cert.Kernel23Ideal.Gen.frame m ρ,
  frame_Reference23Ideal,
  fun m ρ _ => frame_Reference23Ideal m ρ trivial,
  fun m ρ _ => Cert.Kernel24.Gen.frame m ρ,
  fun m ρ _ => Cert.Kernel24Ideal.Gen.frame m ρ,
  frame_Reference24Ideal,
  fun m ρ _ => Cert.Kernel25.Gen.frame m ρ,
  fun m ρ _ => Cert.Kernel25Ideal.Gen.frame m ρ,
  frame_Reference25Ideal,
  fun m ρ _ => Cert.Kernel26.Gen.frame m ρ,
  fun m ρ _ => Cert.Kernel26Ideal.Gen.frame m ρ,
  frame_Reference26Ideal,
  fun m ρ _ => Cert.Kernel27.Gen.frame m ρ,
  fun m ρ _ => Cert.Kernel27Ideal.Gen.frame m ρ,
  frame_Reference27Ideal,
  fun m ρ _ => Cert.Kernel28.Gen.frame m ρ,
  fun m ρ _ => Cert.Kernel28Ideal.Gen.frame m ρ,
  frame_Reference28Ideal,
  fun m ρ _ => Cert.Kernel29.Gen.frame m ρ,
  fun m ρ _ => Cert.Kernel29Ideal.Gen.frame m ρ,
  frame_Reference29Ideal,
  fun m ρ _ => Cert.Kernel30.Gen.frame m ρ,
  fun m ρ _ => Cert.Kernel30Ideal.Gen.frame m ρ,
  frame_Reference30Ideal,
  fun m ρ _ => Cert.Kernel31.Gen.frame m ρ,
  fun m ρ _ => Cert.Kernel31Ideal.Gen.frame m ρ,
  frame_Reference31Ideal,
  fun m ρ _ => Cert.Kernel32.Gen.frame m ρ,
  fun m ρ _ => Cert.Kernel32Ideal.Gen.frame m ρ,
  frame_Reference32Ideal,
  trivial,
  algebraic,
  trivial,
  algebraic2,
  trivial,
  algebraic3,
  trivial,
  algebraic4,
  trivial,
  algebraic5,
  trivial,
  algebraic6,
  trivial,
  algebraic7,
  trivial,
  algebraic8,
  trivial,
  algebraic9,
  trivial,
  algebraic10,
  trivial,
  algebraic11,
  trivial,
  algebraic12,
  trivial,
  algebraic13,
  trivial,
  algebraic14,
  trivial,
  algebraic15,
  trivial,
  algebraic16,
  trivial,
  algebraic17,
  trivial,
  algebraic18,
  trivial,
  algebraic19,
  trivial,
  algebraic20,
  trivial,
  algebraic21,
  trivial,
  algebraic22,
  trivial,
  algebraic23,
  trivial,
  algebraic24,
  trivial,
  algebraic25,
  trivial,
  algebraic26,
  trivial,
  algebraic27,
  trivial,
  algebraic28,
  trivial,
  algebraic29,
  trivial,
  algebraic30,
  trivial,
  algebraic31,
  trivial,
  algebraic32⟩

end Cert.Proof

end
